-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_well_formed [hPre_well_formed : Cert.Pre_well_formed.Facts] (m : (ℓ : Loc Cert.KernelIdeal.nD Cert.KernelIdeal.τ Cert.KernelIdeal.sig) → Buf (Elt Ideal) ℓ) : Prop :=
  ∀ c : Dev Cert.KernelIdeal.nD,
    (Cert.Pre_well_formed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_well_formed [hPre_well_formed : Cert.Pre_well_formed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_well_formed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_well_formed [hKernelIdeal : Cert.KernelIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_well_formed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_well_formed [hReferenceIdeal : Cert.ReferenceIdeal.Facts] [hPre_well_formed : Cert.Pre_well_formed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_well_formed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_well_formed [hKernelIdeal : Cert.KernelIdeal.Facts] [hReferenceIdeal : Cert.ReferenceIdeal.Facts] [hPre_well_formed : Cert.Pre_well_formed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_well_formed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_well_formed : Cert.Pre_well_formed.Facts),
    quiescent_Kernel (hKernel := hKernel)
    ∧ quiescent_KernelIdeal (hKernelIdeal := hKernelIdeal)
    ∧ quiescent_KernelIdeal_pre_well_formed (hKernelIdeal := hKernelIdeal) (hPre_well_formed := hPre_well_formed)
    ∧ quiescent_ReferenceIdeal (hReferenceIdeal := hReferenceIdeal)
    ∧ quiescent_ReferenceIdeal_pre_well_formed (hReferenceIdeal := hReferenceIdeal) (hPre_well_formed := hPre_well_formed)
    ∧ preserves_Kernel_KernelIdeal
    ∧ algebraic_KernelIdeal_ReferenceIdeal_pre_well_formed (hKernelIdeal := hKernelIdeal) (hReferenceIdeal := hReferenceIdeal) (hPre_well_formed := hPre_well_formed)
-- ==== Pre_well_formed.lean ====
abbrev S5000x6 : Shape := ⟨2, ![5000, 6]⟩
abbrev S2000x5 : Shape := ⟨2, ![2000, 5]⟩
abbrev S5000x1 : Shape := ⟨2, ![5000, 1]⟩
abbrev S5000 : Shape := ⟨1, ![5000]⟩
abbrev S2000x1 : Shape := ⟨2, ![2000, 1]⟩
abbrev S2000 : Shape := ⟨1, ![2000]⟩
abbrev S_ : Shape := ⟨0, ![]⟩

class Facts : Prop where
  slices_S5000x6_S5000x1_0_5 : S5000x6.Slices ![0, 5] S5000x1
  shapeCasts_S5000x1_S5000 : S5000x1.ShapeCasts S5000
  slices_S2000x5_S2000x1_0_4 : S2000x5.Slices ![0, 4] S2000x1
  shapeCasts_S2000x1_S2000 : S2000x1.ShapeCasts S2000
  slices_S5000x6_S5000x1_0_4 : S5000x6.Slices ![0, 4] S5000x1
  bcast_S_S5000 : S_.BroadcastsInDim S5000 (![] : Fin 0 → Fin S5000.rank)
  reducesTo_S5000_S_d0 : S5000.ReducesTo [0] S_
  h_S_ : 0 < S_.numel
  bcast_S_S2000 : S_.BroadcastsInDim S2000 (![] : Fin 0 → Fin S2000.rank)
  reducesTo_S2000_S_d0 : S2000.ReducesTo [0] S_

variable [Facts]

def fn_part1 {F : FTy → Type} [FloatOps F] (main_v3 : FVec F S2000 .f32) (main_v18 : IVec S_ 1) : IVec S_ 1 :=
  let main_cst_3 : FVec F S_ .f32 := constant S_ .f32 0x00000000#32
  let main_v19 : FVec F S2000 .f32 := broadcastInDim S2000 ![] bcast_S_S2000 main_cst_3
  let main_v20 : IVec S2000 1 := cmpf .oge main_v3 main_v19
  let main_cst_4 : FVec F S_ .f32 := constant S_ .f32 0x42A00000#32
  let main_v21 : FVec F S2000 .f32 := broadcastInDim S2000 ![] bcast_S_S2000 main_cst_4
  let main_v22 : IVec S2000 1 := cmpf .olt main_v3 main_v21
  let main_v23 : IVec S2000 1 := andi main_v20 main_v22
  let main_v24 : FVec F S2000 .f32 := Host.floor main_v3
  let main_v25 : IVec S2000 1 := cmpf .oeq main_v24 main_v3
  let main_v26 : IVec S2000 1 := andi main_v23 main_v25
  let main_c_5 : IVec S_ 1 := constantI S_ 1 1#1
  let main_v27 : IVec S_ 1 := (fun x v => Host.reduce IntOp.andi x v reducesTo_S2000_S_d0 h_S_) main_v26 main_c_5
  let main_v28 : IVec S_ 1 := andi main_v18 main_v27
  main_v28

def fn {F : FTy → Type} [FloatOps F] (main_arg0 : FVec F S5000x6 .f32) (main_arg1 : FVec F S2000x5 .f32) : IVec S_ 1 :=
  let main_v0 : FVec F S5000x1 .f32 := (extractStridedSlice S5000x1 ![0, 5] · slices_S5000x6_S5000x1_0_5) main_arg0
  let main_v1 : FVec F S5000 .f32 := shapeCast S5000 main_v0 shapeCasts_S5000x1_S5000
  let main_v2 : FVec F S2000x1 .f32 := (extractStridedSlice S2000x1 ![0, 4] · slices_S2000x5_S2000x1_0_4) main_arg1
  let main_v3 : FVec F S2000 .f32 := shapeCast S2000 main_v2 shapeCasts_S2000x1_S2000
  let main_v4 : FVec F S5000x1 .f32 := (extractStridedSlice S5000x1 ![0, 4] · slices_S5000x6_S5000x1_0_4) main_arg0
  let main_v5 : FVec F S5000 .f32 := shapeCast S5000 main_v4 shapeCasts_S5000x1_S5000
  let main_cst : FVec F S_ .f32 := constant S_ .f32 0x00000000#32
  let main_v6 : FVec F S5000 .f32 := broadcastInDim S5000 ![] bcast_S_S5000 main_cst
  let main_v7 : IVec S5000 1 := cmpf .ogt main_v5 main_v6
  let main_c : IVec S_ 1 := constantI S_ 1 1#1
  let main_v8 : IVec S_ 1 := (fun x v => Host.reduce IntOp.andi x v reducesTo_S5000_S_d0 h_S_) main_v7 main_c
  let main_cst_0 : FVec F S_ .f32 := constant S_ .f32 0x00000000#32
  let main_v9 : FVec F S5000 .f32 := broadcastInDim S5000 ![] bcast_S_S5000 main_cst_0
  let main_v10 : IVec S5000 1 := cmpf .oge main_v1 main_v9
  let main_cst_1 : FVec F S_ .f32 := constant S_ .f32 0x42A00000#32
  let main_v11 : FVec F S5000 .f32 := broadcastInDim S5000 ![] bcast_S_S5000 main_cst_1
  let main_v12 : IVec S5000 1 := cmpf .olt main_v1 main_v11
  let main_v13 : IVec S5000 1 := andi main_v10 main_v12
  let main_v14 : FVec F S5000 .f32 := Host.floor main_v1
  let main_v15 : IVec S5000 1 := cmpf .oeq main_v14 main_v1
  let main_v16 : IVec S5000 1 := andi main_v13 main_v15
  let main_c_2 : IVec S_ 1 := constantI S_ 1 1#1
  let main_v17 : IVec S_ 1 := (fun x v => Host.reduce IntOp.andi x v reducesTo_S5000_S_d0 h_S_) main_v16 main_c_2
  let main_v18 : IVec S_ 1 := andi main_v8 main_v17
  fn_part1 (F := F) main_v3 main_v18
-- ==== Kernel.lean ====
abbrev S5000x6 : Shape := ⟨2, ![5000, 6]⟩
abbrev S2000x5 : Shape := ⟨2, ![2000, 5]⟩
abbrev S_ : Shape := ⟨0, ![]⟩
abbrev S5120x8 : Shape := ⟨2, ![5120, 8]⟩
abbrev S1 : Shape := ⟨1, ![1]⟩
abbrev S2 : Shape := ⟨1, ![2]⟩
abbrev S8x5120 : Shape := ⟨2, ![8, 5120]⟩
abbrev S6x5000 : Shape := ⟨2, ![6, 5000]⟩
abbrev S8x2048 : Shape := ⟨2, ![8, 2048]⟩
abbrev S5x2000 : Shape := ⟨2, ![5, 2000]⟩
abbrev S2048x8 : Shape := ⟨2, ![2048, 8]⟩
abbrev S512x8 : Shape := ⟨2, ![512, 8]⟩
abbrev S512x1 : Shape := ⟨2, ![512, 1]⟩
abbrev S1x2048 : Shape := ⟨2, ![1, 2048]⟩
abbrev S512x2048 : Shape := ⟨2, ![512, 2048]⟩
abbrev S512 : Shape := ⟨1, ![512]⟩
abbrev S2048 : Shape := ⟨1, ![2048]⟩
abbrev S512x5 : Shape := ⟨2, ![512, 5]⟩
abbrev S8x128 : Shape := ⟨2, ![8, 128]⟩
abbrev S1x5120 : Shape := ⟨2, ![1, 5120]⟩
abbrev S1x1x5120 : Shape := ⟨3, ![1, 1, 5120]⟩
abbrev S1x1x1 : Shape := ⟨3, ![1, 1, 1]⟩
abbrev S1x1x2048 : Shape := ⟨3, ![1, 1, 2048]⟩
abbrev S1x1 : Shape := ⟨2, ![1, 1]⟩

abbrev nBuf : Space → Nat
  | .hbm => 42
  | .vmem => 11
  | .smem => 0
  | _ => 0

abbrev bufTy : (tb : Table) → Fin (tcTables nBuf tb) → BufTy
  | .hbm, ⟨0, _⟩ => ⟨S5000x6, .f32⟩
  | .hbm, ⟨1, _⟩ => ⟨S2000x5, .f32⟩
  | .hbm, ⟨2, _⟩ => ⟨S_, .f32⟩
  | .hbm, ⟨3, _⟩ => ⟨S5120x8, .f32⟩
  | .hbm, ⟨4, _⟩ => ⟨S_, .i32⟩
  | .hbm, ⟨5, _⟩ => ⟨S1, .i32⟩
  | .hbm, ⟨6, _⟩ => ⟨S_, .i32⟩
  | .hbm, ⟨7, _⟩ => ⟨S1, .i32⟩
  | .hbm, ⟨8, _⟩ => ⟨S2, .i32⟩
  | .hbm, ⟨9, _⟩ => ⟨S5120x8, .f32⟩
  | .hbm, ⟨10, _⟩ => ⟨S_, .f32⟩
  | .hbm, ⟨11, _⟩ => ⟨S8x5120, .f32⟩
  | .hbm, ⟨12, _⟩ => ⟨S6x5000, .f32⟩
  | .hbm, ⟨13, _⟩ => ⟨S_, .i32⟩
  | .hbm, ⟨14, _⟩ => ⟨S1, .i32⟩
  | .hbm, ⟨15, _⟩ => ⟨S_, .i32⟩
  | .hbm, ⟨16, _⟩ => ⟨S1, .i32⟩
  | .hbm, ⟨17, _⟩ => ⟨S2, .i32⟩
  | .hbm, ⟨18, _⟩ => ⟨S8x5120, .f32⟩
  | .hbm, ⟨19, _⟩ => ⟨S_, .f32⟩
  | .hbm, ⟨20, _⟩ => ⟨S8x2048, .f32⟩
  | .hbm, ⟨21, _⟩ => ⟨S5x2000, .f32⟩
  | .hbm, ⟨22, _⟩ => ⟨S_, .i32⟩
  | .hbm, ⟨23, _⟩ => ⟨S1, .i32⟩
  | .hbm, ⟨24, _⟩ => ⟨S_, .i32⟩
  | .hbm, ⟨25, _⟩ => ⟨S1, .i32⟩
  | .hbm, ⟨26, _⟩ => ⟨S2, .i32⟩
  | .hbm, ⟨27, _⟩ => ⟨S8x2048, .f32⟩
  | .hbm, ⟨28, _⟩ => ⟨S_, .f32⟩
  | .hbm, ⟨29, _⟩ => ⟨S2048x8, .f32⟩
  | .hbm, ⟨30, _⟩ => ⟨S_, .i32⟩
  | .hbm, ⟨31, _⟩ => ⟨S1, .i32⟩
  | .hbm, ⟨32, _⟩ => ⟨S_, .i32⟩
  | .hbm, ⟨33, _⟩ => ⟨S1, .i32⟩
  | .hbm, ⟨34, _⟩ => ⟨S2, .i32⟩
  | .hbm, ⟨35, _⟩ => ⟨S2048x8, .f32⟩
  | .hbm, ⟨36, _⟩ => ⟨S5120x8, .f32⟩
  | .hbm, ⟨37, _⟩ => ⟨S8x2048, .f32⟩
  | .hbm, ⟨38, _⟩ => ⟨S8x5120, .f32⟩
  | .hbm, ⟨39, _⟩ => ⟨S8x128, .f32⟩
  | .hbm, ⟨40, _⟩ => ⟨S1x1, .f32⟩
  | .hbm, ⟨41, _⟩ => ⟨S_, .f32⟩
  | .local _ .vmem, ⟨0, _⟩ => ⟨S512x8, .f32⟩
  | .local _ .vmem, ⟨1, _⟩ => ⟨S512x8, .f32⟩
  | .local _ .vmem, ⟨2, _⟩ => ⟨S8x2048, .f32⟩
  | .local _ .vmem, ⟨3, _⟩ => ⟨S2048x8, .f32⟩
  | .local _ .vmem, ⟨4, _⟩ => ⟨S512x8, .f32⟩
  | .local _ .vmem, ⟨5, _⟩ => ⟨S512x8, .f32⟩
  | .local _ .vmem, ⟨6, _⟩ => ⟨S8x2048, .f32⟩
  | .local _ .vmem, ⟨7, _⟩ => ⟨S8x5120, .f32⟩
  | .local _ .vmem, ⟨8, _⟩ => ⟨S8x5120, .f32⟩
  | .local _ .vmem, ⟨9, _⟩ => ⟨S8x2048, .f32⟩
  | .local _ .vmem, ⟨10, _⟩ => ⟨S8x128, .f32⟩
  | _, _ => ⟨S5000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_c_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_c_2 : Ref sig .tc := ⟨.hbm, 13, rfl⟩
abbrev main_v7 : Ref sig .tc := ⟨.hbm, 14, rfl⟩
abbrev main_c_3 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_4 : Ref sig .tc := ⟨.hbm, 19, rfl⟩
abbrev main_v11 : Ref sig .tc := ⟨.hbm, 20, rfl⟩
abbrev main_v12 : Ref sig .tc := ⟨.hbm, 21, rfl⟩
abbrev main_c_5 : Ref sig .tc := ⟨.hbm, 22, rfl⟩
abbrev main_v13 : Ref sig .tc := ⟨.hbm, 23, rfl⟩
abbrev main_c_6 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_7 : Ref sig .tc := ⟨.hbm, 28, rfl⟩
abbrev main_v17 : Ref sig .tc := ⟨.hbm, 29, rfl⟩
abbrev main_c_8 : Ref sig .tc := ⟨.hbm, 30, rfl⟩
abbrev main_v18 : Ref sig .tc := ⟨.hbm, 31, rfl⟩
abbrev main_c_9 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22_0 : Ref sig .tc := ⟨.hbm, 36, rfl⟩
abbrev main_v22_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := .none

abbrev stage1_0 : Fin 1 → Memref sig .tc .vmem S8x5120 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S8x5120 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S8x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S8x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S5000x6 : Shape := ⟨2, ![5000, 6]⟩
abbrev S2000x5 : Shape := ⟨2, ![2000, 5]⟩
abbrev S5000x4 : Shape := ⟨2, ![5000, 4]⟩
abbrev S5000x1 : Shape := ⟨2, ![5000, 1]⟩
abbrev S5000 : Shape := ⟨1, ![5000]⟩
abbrev S2000x4 : Shape := ⟨2, ![2000, 4]⟩
abbrev S2000x1 : Shape := ⟨2, ![2000, 1]⟩
abbrev S2000 : Shape := ⟨1, ![2000]⟩
abbrev S5000x2 : Shape := ⟨2, ![5000, 2]⟩
abbrev S5000x1x2 : Shape := ⟨3, ![5000, 1, 2]⟩
abbrev S2000x2 : Shape := ⟨2, ![2000, 2]⟩
abbrev S1x2000x2 : Shape := ⟨3, ![1, 2000, 2]⟩
abbrev S5000x2000x2 : Shape := ⟨3, ![5000, 2000, 2]⟩
abbrev S_ : Shape := ⟨0, ![]⟩
abbrev S5000x2000x1 : Shape := ⟨3, ![5000, 2000, 1]⟩
abbrev S5000x2000 : Shape := ⟨2, ![5000, 2000]⟩
abbrev S1x2000 : Shape := ⟨2, ![1, 2000]⟩
abbrev S5000x80 : Shape := ⟨2, ![5000, 80]⟩

abbrev nBuf : Space → Nat
  | .hbm => 308
  | .vmem => 0
  | .smem => 0
  | _ => 0

abbrev hbmTy0_0 (i : Nat) : BufTy := match i % 128 with
  | 0 => ⟨S5000x6, .f32⟩
  | 1 => ⟨S2000x5, .f32⟩
  | 2 => ⟨S5000x4, .f32⟩
  | 3 => ⟨S5000x1, .f32⟩
  | 4 => ⟨S5000, .f32⟩
  | 5 => ⟨S5000x1, .f32⟩
  | 6 => ⟨S5000, .f32⟩
  | 7 => ⟨S5000, .i32⟩
  | 8 => ⟨S2000x4, .f32⟩
  | 9 => ⟨S2000x1, .f32⟩
  | 10 => ⟨S2000, .f32⟩
  | 11 => ⟨S2000, .i32⟩
  | 12 => ⟨S5000x1, .f32⟩
  | 13 => ⟨S5000, .f32⟩
  | 14 => ⟨S5000x1, .f32⟩
  | 15 => ⟨S5000, .f32⟩
  | 16 => ⟨S5000, .f32⟩
  | 17 => ⟨S5000x1, .f32⟩
  | 18 => ⟨S5000, .f32⟩
  | 19 => ⟨S5000x1, .f32⟩
  | 20 => ⟨S5000, .f32⟩
  | 21 => ⟨S5000, .f32⟩
  | 22 => ⟨S5000, .f32⟩
  | 23 => ⟨S2000x1, .f32⟩
  | 24 => ⟨S2000, .f32⟩
  | 25 => ⟨S2000x1, .f32⟩
  | 26 => ⟨S2000, .f32⟩
  | 27 => ⟨S2000, .f32⟩
  | 28 => ⟨S2000x1, .f32⟩
  | 29 => ⟨S2000, .f32⟩
  | 30 => ⟨S2000x1, .f32⟩
  | 31 => ⟨S2000, .f32⟩
  | 32 => ⟨S2000, .f32⟩
  | 33 => ⟨S2000, .f32⟩
  | 34 => ⟨S5000x2, .f32⟩
  | 35 => ⟨S5000x1x2, .f32⟩
  | 36 => ⟨S2000x2, .f32⟩
  | 37 => ⟨S1x2000x2, .f32⟩
  | 38 => ⟨S5000x2000x2, .f32⟩
  | 39 => ⟨S5000x2000x2, .f32⟩
  | 40 => ⟨S5000x2000x2, .f32⟩
  | 41 => ⟨S5000x2, .f32⟩
  | 42 => ⟨S5000x1x2, .f32⟩
  | 43 => ⟨S2000x2, .f32⟩
  | 44 => ⟨S1x2000x2, .f32⟩
  | 45 => ⟨S5000x2000x2, .f32⟩
  | 46 => ⟨S5000x2000x2, .f32⟩
  | 47 => ⟨S5000x2000x2, .f32⟩
  | 48 => ⟨S5000x2000x2, .f32⟩
  | 49 => ⟨S_, .f32⟩
  | 50 => ⟨S_, .f32⟩
  | 51 => ⟨S5000x2000x2, .f32⟩
  | 52 => ⟨S5000x2000x2, .f32⟩
  | 53 => ⟨S5000x2000x1, .f32⟩
  | 54 => ⟨S5000x2000, .f32⟩
  | 55 => ⟨S5000x2000x1, .f32⟩
  | 56 => ⟨S5000x2000, .f32⟩
  | 57 => ⟨S5000x2000, .f32⟩
  | 58 => ⟨S5000x1, .f32⟩
  | 59 => ⟨S1x2000, .f32⟩
  | 60 => ⟨S5000x2000, .f32⟩
  | 61 => ⟨S5000x2000, .f32⟩
  | 62 => ⟨S5000x2000, .f32⟩
  | 63 => ⟨S5000x2000, .f32⟩
  | 64 => ⟨S_, .f32⟩
  | 65 => ⟨S5000x2000, .f32⟩
  | 66 => ⟨S5000x2000, .f32⟩
  | 67 => ⟨S5000x2000, .f32⟩
  | 68 => ⟨S_, .f32⟩
  | 69 => ⟨S5000, .f32⟩
  | 70 => ⟨S5000x2000, .i32⟩
  | 71 => ⟨S_, .f32⟩
  | 72 => ⟨S_, .i32⟩
  | 73 => ⟨S5000, .f32⟩
  | 74 => ⟨S5000, .i32⟩
  | 75 => ⟨S_, .f32⟩
  | 76 => ⟨S5000, .f32⟩
  | 77 => ⟨S5000, .i1⟩
  | 78 => ⟨S5000, .f32⟩
  | 79 => ⟨S_, .f32⟩
  | 80 => ⟨S_, .f32⟩
  | 81 => ⟨S_, .f32⟩
  | 82 => ⟨S_, .f32⟩
  | 83 => ⟨S_, .i32⟩
  | 84 => ⟨S5000, .i32⟩
  | 85 => ⟨S5000, .i1⟩
  | 86 => ⟨S_, .i32⟩
  | 87 => ⟨S5000, .i32⟩
  | 88 => ⟨S5000, .i32⟩
  | 89 => ⟨S5000, .i32⟩
  | 90 => ⟨S5000x1, .i32⟩
  | 91 => ⟨S5000x4, .f32⟩
  | 92 => ⟨S_, .i32⟩
  | 93 => ⟨S5000, .i32⟩
  | 94 => ⟨S5000, .i1⟩
  | 95 => ⟨S_, .i32⟩
  | 96 => ⟨S5000, .i32⟩
  | 97 => ⟨S5000, .i32⟩
  | 98 => ⟨S5000, .i32⟩
  | 99 => ⟨S5000x1, .i32⟩
  | 100 => ⟨S5000, .i32⟩
  | 101 => ⟨S5000, .i32⟩
  | 102 => ⟨S_, .f32⟩
  | 103 => ⟨S5000x80, .f32⟩
  | 104 => ⟨S5000, .f32⟩
  | 105 => ⟨S_, .i32⟩
  | 106 => ⟨S5000, .i32⟩
  | 107 => ⟨S5000, .i1⟩
  | 108 => ⟨S_, .i32⟩
  | 109 => ⟨S5000, .i32⟩
  | 110 => ⟨S5000, .i32⟩
  | 111 => ⟨S5000, .i32⟩
  | 112 => ⟨S_, .i32⟩
  | 113 => ⟨S5000, .i32⟩
  | 114 => ⟨S5000, .i1⟩
  | 115 => ⟨S_, .i32⟩
  | 116 => ⟨S5000, .i32⟩
  | 117 => ⟨S5000, .i32⟩
  | 118 => ⟨S5000, .i32⟩
  | 119 => ⟨S5000x1, .i32⟩
  | 120 => ⟨S5000x1, .i32⟩
  | 121 => ⟨S5000x2, .i32⟩
  | 122 => ⟨S5000x80, .f32⟩
  | 123 => ⟨S_, .f32⟩
  | 124 => ⟨S5000x80, .f32⟩
  | 125 => ⟨S_, .i32⟩
  | 126 => ⟨S5000, .i32⟩
  | 127 => ⟨S5000, .i1⟩
  | _ => ⟨S5000x6, .f32⟩

abbrev hbmTy0_1 (i : Nat) : BufTy := match i % 128 with
  | 0 => ⟨S_, .i32⟩
  | 1 => ⟨S5000, .i32⟩
  | 2 => ⟨S5000, .i32⟩
  | 3 => ⟨S5000, .i32⟩
  | 4 => ⟨S_, .i32⟩
  | 5 => ⟨S5000, .i32⟩
  | 6 => ⟨S5000, .i1⟩
  | 7 => ⟨S_, .i32⟩
  | 8 => ⟨S5000, .i32⟩
  | 9 => ⟨S5000, .i32⟩
  | 10 => ⟨S5000, .i32⟩
  | 11 => ⟨S5000x1, .i32⟩
  | 12 => ⟨S5000x1, .i32⟩
  | 13 => ⟨S5000x2, .i32⟩
  | 14 => ⟨S5000x80, .f32⟩
  | 15 => ⟨S_, .f32⟩
  | 16 => ⟨S5000x80, .f32⟩
  | 17 => ⟨S5000x80, .i1⟩
  | 18 => ⟨S_, .f32⟩
  | 19 => ⟨S_, .f32⟩
  | 20 => ⟨S5000x80, .f32⟩
  | 21 => ⟨S5000x80, .f32⟩
  | 22 => ⟨S_, .f32⟩
  | 23 => ⟨S5000x80, .f32⟩
  | 24 => ⟨S5000x80, .i1⟩
  | 25 => ⟨S5000x80, .f32⟩
  | 26 => ⟨S_, .f32⟩
  | 27 => ⟨S_, .f32⟩
  | 28 => ⟨S5000x80, .f32⟩
  | 29 => ⟨S5000x80, .f32⟩
  | 30 => ⟨S5000x80, .f32⟩
  | 31 => ⟨S5000x80, .f32⟩
  | 32 => ⟨S_, .f32⟩
  | 33 => ⟨S5000x80, .f32⟩
  | 34 => ⟨S5000x80, .f32⟩
  | 35 => ⟨S5000x80, .f32⟩
  | 36 => ⟨S_, .f32⟩
  | 37 => ⟨S5000x80, .f32⟩
  | 38 => ⟨S5000x80, .f32⟩
  | 39 => ⟨S5000x80, .f32⟩
  | 40 => ⟨S5000x80, .f32⟩
  | 41 => ⟨S5000x80, .f32⟩
  | 42 => ⟨S_, .f32⟩
  | 43 => ⟨S_, .f32⟩
  | 44 => ⟨S_, .f32⟩
  | 45 => ⟨S_, .f32⟩
  | 46 => ⟨S_, .f32⟩
  | 47 => ⟨S5000, .i1⟩
  | 48 => ⟨S5000, .f32⟩
  | 49 => ⟨S_, .f32⟩
  | 50 => ⟨S_, .f32⟩
  | 51 => ⟨S5000, .f32⟩
  | 52 => ⟨S5000, .f32⟩
  | 53 => ⟨S_, .f32⟩
  | 54 => ⟨S_, .f32⟩
  | 55 => ⟨S_, .f32⟩
  | 56 => ⟨S_, .f32⟩
  | 57 => ⟨S2000, .f32⟩
  | 58 => ⟨S_, .i32⟩
  | 59 => ⟨S5000, .i32⟩
  | 60 => ⟨S5000, .i1⟩
  | 61 => ⟨S_, .i32⟩
  | 62 => ⟨S5000, .i32⟩
  | 63 => ⟨S5000, .i32⟩
  | 64 => ⟨S5000, .i32⟩
  | 65 => ⟨S5000x1, .i32⟩
  | 66 => ⟨S2000, .f32⟩
  | 67 => ⟨S_, .f32⟩
  | 68 => ⟨S2000, .f32⟩
  | 69 => ⟨S2000, .i1⟩
  | 70 => ⟨S2000, .i32⟩
  | 71 => ⟨S_, .i32⟩
  | 72 => ⟨S_, .i32⟩
  | 73 => ⟨S_, .i32⟩
  | 74 => ⟨S_, .i32⟩
  | 75 => ⟨S_, .f32⟩
  | 76 => ⟨S_, .f32⟩
  | 77 => ⟨S5000x1, .f32⟩
  | 78 => ⟨S5000, .f32⟩
  | 79 => ⟨S5000x1, .f32⟩
  | 80 => ⟨S5000, .f32⟩
  | 81 => ⟨S5000x1, .f32⟩
  | 82 => ⟨S5000, .f32⟩
  | 83 => ⟨S5000x1, .f32⟩
  | 84 => ⟨S5000, .f32⟩
  | 85 => ⟨S5000x1, .f32⟩
  | 86 => ⟨S5000, .f32⟩
  | 87 => ⟨S5000x1, .f32⟩
  | 88 => ⟨S5000, .f32⟩
  | 89 => ⟨S5000x1, .f32⟩
  | 90 => ⟨S5000, .f32⟩
  | 91 => ⟨S5000x1, .f32⟩
  | 92 => ⟨S5000, .f32⟩
  | 93 => ⟨S5000, .f32⟩
  | 94 => ⟨S5000, .f32⟩
  | 95 => ⟨S_, .f32⟩
  | 96 => ⟨S5000, .f32⟩
  | 97 => ⟨S5000, .f32⟩
  | 98 => ⟨S5000, .f32⟩
  | 99 => ⟨S5000, .f32⟩
  | 100 => ⟨S_, .f32⟩
  | 101 => ⟨S5000, .f32⟩
  | 102 => ⟨S5000, .f32⟩
  | 103 => ⟨S5000, .f32⟩
  | 104 => ⟨S5000, .f32⟩
  | 105 => ⟨S5000, .f32⟩
  | 106 => ⟨S_, .f32⟩
  | 107 => ⟨S_, .f32⟩
  | 108 => ⟨S5000, .f32⟩
  | 109 => ⟨S5000, .f32⟩
  | 110 => ⟨S5000, .f32⟩
  | 111 => ⟨S5000, .f32⟩
  | 112 => ⟨S5000, .f32⟩
  | 113 => ⟨S_, .f32⟩
  | 114 => ⟨S_, .f32⟩
  | 115 => ⟨S5000, .f32⟩
  | 116 => ⟨S5000, .f32⟩
  | 117 => ⟨S5000, .f32⟩
  | 118 => ⟨S5000, .f32⟩
  | 119 => ⟨S5000, .f32⟩
  | 120 => ⟨S5000, .f32⟩
  | 121 => ⟨S5000, .f32⟩
  | 122 => ⟨S_, .f32⟩
  | 123 => ⟨S5000, .f32⟩
  | 124 => ⟨S5000, .f32⟩
  | 125 => ⟨S5000, .f32⟩
  | 126 => ⟨S5000, .f32⟩
  | 127 => ⟨S5000, .f32⟩
  | _ => ⟨S5000x6, .f32⟩

abbrev hbmTy0_2 (i : Nat) : BufTy := match i % 128 with
  | 0 => ⟨S5000, .f32⟩
  | 1 => ⟨S5000, .f32⟩
  | 2 => ⟨S5000, .f32⟩
  | 3 => ⟨S5000, .f32⟩
  | 4 => ⟨S5000, .f32⟩
  | 5 => ⟨S5000, .f32⟩
  | 6 => ⟨S5000, .f32⟩
  | 7 => ⟨S_, .f32⟩
  | 8 => ⟨S5000, .f32⟩
  | 9 => ⟨S5000, .f32⟩
  | 10 => ⟨S5000, .f32⟩
  | 11 => ⟨S5000, .f32⟩
  | 12 => ⟨S5000, .f32⟩
  | 13 => ⟨S5000, .f32⟩
  | 14 => ⟨S5000, .f32⟩
  | 15 => ⟨S5000, .f32⟩
  | 16 => ⟨S5000, .f32⟩
  | 17 => ⟨S5000, .f32⟩
  | 18 => ⟨S5000, .f32⟩
  | 19 => ⟨S_, .f32⟩
  | 20 => ⟨S5000, .f32⟩
  | 21 => ⟨S5000, .f32⟩
  | 22 => ⟨S5000, .f32⟩
  | 23 => ⟨S5000, .f32⟩
  | 24 => ⟨S5000, .f32⟩
  | 25 => ⟨S5000, .f32⟩
  | 26 => ⟨S5000, .f32⟩
  | 27 => ⟨S5000, .f32⟩
  | 28 => ⟨S_, .f32⟩
  | 29 => ⟨S5000, .f32⟩
  | 30 => ⟨S5000, .f32⟩
  | 31 => ⟨S5000, .f32⟩
  | 32 => ⟨S_, .f32⟩
  | 33 => ⟨S5000, .f32⟩
  | 34 => ⟨S5000, .f32⟩
  | 35 => ⟨S5000, .f32⟩
  | 36 => ⟨S5000, .f32⟩
  | 37 => ⟨S5000, .f32⟩
  | 38 => ⟨S5000, .f32⟩
  | 39 => ⟨S5000, .f32⟩
  | 40 => ⟨S_, .f32⟩
  | 41 => ⟨S5000, .f32⟩
  | 42 => ⟨S5000, .f32⟩
  | 43 => ⟨S5000, .f32⟩
  | 44 => ⟨S_, .f32⟩
  | 45 => ⟨S_, .f32⟩
  | 46 => ⟨S_, .f32⟩
  | 47 => ⟨S_, .f32⟩
  | 48 => ⟨S_, .f32⟩
  | 49 => ⟨S_, .f32⟩
  | 50 => ⟨S_, .f32⟩
  | 51 => ⟨S_, .f32⟩
  | _ => ⟨S5000x6, .f32⟩

abbrev hbmTy (i : Nat) : BufTy := match i / 128 with
  | 0 => hbmTy0_0 i
  | 1 => hbmTy0_1 i
  | 2 => hbmTy0_2 i
  | _ => ⟨S5000x6, .f32⟩

abbrev bufTy : (tb : Table) → Fin (tcTables nBuf tb) → BufTy
  | .hbm, ⟨i, _⟩ => hbmTy i
  | _, _ => ⟨S5000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_v19 : Ref sig .tc := ⟨.hbm, 21, rfl⟩
abbrev main_v20 : Ref sig .tc := ⟨.hbm, 22, rfl⟩
abbrev main_v21 : Ref sig .tc := ⟨.hbm, 23, rfl⟩
abbrev main_v22 : Ref sig .tc := ⟨.hbm, 24, rfl⟩
abbrev main_v23 : Ref sig .tc := ⟨.hbm, 25, rfl⟩
abbrev main_v24 : Ref sig .tc := ⟨.hbm, 26, rfl⟩
abbrev main_v25 : Ref sig .tc := ⟨.hbm, 27, rfl⟩
abbrev main_v26 : Ref sig .tc := ⟨.hbm, 28, rfl⟩
abbrev main_v27 : Ref sig .tc := ⟨.hbm, 29, rfl⟩
abbrev main_v28 : Ref sig .tc := ⟨.hbm, 30, rfl⟩
abbrev main_v29 : Ref sig .tc := ⟨.hbm, 31, rfl⟩
abbrev main_v30 : Ref sig .tc := ⟨.hbm, 32, rfl⟩
abbrev main_v31 : Ref sig .tc := ⟨.hbm, 33, rfl⟩
abbrev main_v32 : Ref sig .tc := ⟨.hbm, 34, rfl⟩
abbrev main_v33 : Ref sig .tc := ⟨.hbm, 35, rfl⟩
abbrev main_v34 : Ref sig .tc := ⟨.hbm, 36, rfl⟩
abbrev main_v35 : Ref sig .tc := ⟨.hbm, 37, rfl⟩
abbrev main_v36 : Ref sig .tc := ⟨.hbm, 38, rfl⟩
abbrev main_v37 : Ref sig .tc := ⟨.hbm, 39, rfl⟩
abbrev main_v38 : Ref sig .tc := ⟨.hbm, 40, rfl⟩
abbrev main_v39 : Ref sig .tc := ⟨.hbm, 41, rfl⟩
abbrev main_v40 : Ref sig .tc := ⟨.hbm, 42, rfl⟩
abbrev main_v41 : Ref sig .tc := ⟨.hbm, 43, rfl⟩
abbrev main_v42 : Ref sig .tc := ⟨.hbm, 44, rfl⟩
abbrev main_v43 : Ref sig .tc := ⟨.hbm, 45, rfl⟩
abbrev main_v44 : Ref sig .tc := ⟨.hbm, 46, rfl⟩
abbrev main_v45 : Ref sig .tc := ⟨.hbm, 47, rfl⟩
abbrev main_v46 : Ref sig .tc := ⟨.hbm, 48, rfl⟩
abbrev main_cst : Ref sig .tc := ⟨.hbm, 49, rfl⟩
abbrev main_call0_v0 : Ref sig .tc := ⟨.hbm, 50, rfl⟩
abbrev main_call0_v1 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_cst_0 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_cst_1 : Ref sig .tc := ⟨.hbm, 68, rfl⟩
abbrev main_v62 : Ref sig .tc := ⟨.hbm, 69, rfl⟩
abbrev main_call1_v0 : Ref sig .tc := ⟨.hbm, 70, rfl⟩
abbrev main_call1_cst : Ref sig .tc := ⟨.hbm, 71, rfl⟩
abbrev main_call1_c : Ref sig .tc := ⟨.hbm, 72, rfl⟩
abbrev main_call1_v1_0 : Ref sig .tc := ⟨.hbm, 73, rfl⟩
abbrev main_v63 : Ref sig .tc := ⟨.hbm, 74, rfl⟩
abbrev main_cst_2 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_3 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_c : Ref sig .tc := ⟨.hbm, 83, rfl⟩
abbrev main_v69 : Ref sig .tc := ⟨.hbm, 84, rfl⟩
abbrev main_v70 : Ref sig .tc := ⟨.hbm, 85, rfl⟩
abbrev main_c_5 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_c_6 : Ref sig .tc := ⟨.hbm, 92, rfl⟩
abbrev main_v76 : Ref sig .tc := ⟨.hbm, 93, rfl⟩
abbrev main_v77 : Ref sig .tc := ⟨.hbm, 94, rfl⟩
abbrev main_c_7 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_cst_8 : Ref sig .tc := ⟨.hbm, 102, rfl⟩
abbrev main_v84 : Ref sig .tc := ⟨.hbm, 103, rfl⟩
abbrev main_v85 : Ref sig .tc := ⟨.hbm, 104, rfl⟩
abbrev main_c_9 : Ref sig .tc := ⟨.hbm, 105, rfl⟩
abbrev main_v86 : Ref sig .tc := ⟨.hbm, 106, rfl⟩
abbrev main_v87 : Ref sig .tc := ⟨.hbm, 107, rfl⟩
abbrev main_c_10 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_c_11 : Ref sig .tc := ⟨.hbm, 112, rfl⟩
abbrev main_v91 : Ref sig .tc := ⟨.hbm, 113, rfl⟩
abbrev main_v92 : Ref sig .tc := ⟨.hbm, 114, rfl⟩
abbrev main_c_12 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_cst_13 : Ref sig .tc := ⟨.hbm, 123, rfl⟩
abbrev main_v100 : Ref sig .tc := ⟨.hbm, 124, rfl⟩
abbrev main_c_14 : Ref sig .tc := ⟨.hbm, 125, rfl⟩
abbrev main_v101 : Ref sig .tc := ⟨.hbm, 126, rfl⟩
abbrev main_v102 : Ref sig .tc := ⟨.hbm, 127, rfl⟩
abbrev main_c_15 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_c_16 : Ref sig .tc := ⟨.hbm, 132, rfl⟩
abbrev main_v106 : Ref sig .tc := ⟨.hbm, 133, rfl⟩
abbrev main_v107 : Ref sig .tc := ⟨.hbm, 134, rfl⟩
abbrev main_c_17 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩
abbrev main_v112 : Ref sig .tc := ⟨.hbm, 140, rfl⟩
abbrev main_v113 : Ref sig .tc := ⟨.hbm, 141, rfl⟩
abbrev main_v114 : Ref sig .tc := ⟨.hbm, 142, rfl⟩
abbrev main_cst_18 : Ref sig .tc := ⟨.hbm, 143, rfl⟩
abbrev main_v115 : Ref sig .tc := ⟨.hbm, 144, rfl⟩
abbrev main_v116 : Ref sig .tc := ⟨.hbm, 145, rfl⟩
abbrev main_cst_19 : Ref sig .tc := ⟨.hbm, 146, rfl⟩
abbrev main_call2_v0 : Ref sig .tc := ⟨.hbm, 147, rfl⟩
abbrev main_call2_v1 : Ref sig .tc := ⟨.hbm, 148, rfl⟩
abbrev main_v117 : Ref sig .tc := ⟨.hbm, 149, rfl⟩
abbrev main_cst_20 : Ref sig .tc := ⟨.hbm, 150, rfl⟩
abbrev main_v118 : Ref sig .tc := ⟨.hbm, 151, rfl⟩
abbrev main_v119 : Ref sig .tc := ⟨.hbm, 152, rfl⟩
abbrev main_v120 : Ref sig .tc := ⟨.hbm, 153, rfl⟩
abbrev main_cst_21 : Ref sig .tc := ⟨.hbm, 154, rfl⟩
abbrev main_call3_v0 : Ref sig .tc := ⟨.hbm, 155, rfl⟩
abbrev main_call3_v1 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩
abbrev main_cst_22 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_23 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_cst_24 : Ref sig .tc := ⟨.hbm, 170, rfl⟩
abbrev main_v132 : Ref sig .tc := ⟨.hbm, 171, rfl⟩
abbrev main_cst_25 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_cst_26 : Ref sig .tc := ⟨.hbm, 177, rfl⟩
abbrev main_call4_v0 : Ref sig .tc := ⟨.hbm, 178, rfl⟩
abbrev main_call4_v1 : Ref sig .tc := ⟨.hbm, 179, rfl⟩
abbrev main_v137 : Ref sig .tc := ⟨.hbm, 180, rfl⟩
abbrev main_cst_27 : Ref sig .tc := ⟨.hbm, 181, rfl⟩
abbrev main_v138 : Ref sig .tc := ⟨.hbm, 182, rfl⟩
abbrev main_v139 : Ref sig .tc := ⟨.hbm, 183, rfl⟩
abbrev main_cst_28 : Ref sig .tc := ⟨.hbm, 184, rfl⟩
abbrev main_v140 : Ref sig .tc := ⟨.hbm, 185, rfl⟩
abbrev main_c_29 : Ref sig .tc := ⟨.hbm, 186, rfl⟩
abbrev main_v141 : Ref sig .tc := ⟨.hbm, 187, rfl⟩
abbrev main_v142 : Ref sig .tc := ⟨.hbm, 188, rfl⟩
abbrev main_c_30 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_cst_31 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_c_32 : Ref sig .tc := ⟨.hbm, 199, rfl⟩
abbrev main_v151 : Ref sig .tc := ⟨.hbm, 200, rfl⟩
abbrev main_c_33 : Ref sig .tc := ⟨.hbm, 201, rfl⟩
abbrev main_v152 : Ref sig .tc := ⟨.hbm, 202, rfl⟩
abbrev main_v153 : Ref sig .tc := ⟨.hbm, 203, rfl⟩
abbrev main_v154 : Ref sig .tc := ⟨.hbm, 204, rfl⟩
abbrev main_v155 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩
abbrev main_cst_34 : Ref sig .tc := ⟨.hbm, 223, rfl⟩
abbrev main_v173 : Ref sig .tc := ⟨.hbm, 224, rfl⟩
abbrev main_v174 : Ref sig .tc := ⟨.hbm, 225, rfl⟩
abbrev main_v175 : Ref sig .tc := ⟨.hbm, 226, rfl⟩
abbrev main_v176 : Ref sig .tc := ⟨.hbm, 227, rfl⟩
abbrev main_cst_35 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_v181 : Ref sig .tc := ⟨.hbm, 233, rfl⟩
abbrev main_cst_36 : Ref sig .tc := ⟨.hbm, 234, rfl⟩
abbrev main_call5_v0 : Ref sig .tc := ⟨.hbm, 235, rfl⟩
abbrev main_call5_v1 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_cst_37 : Ref sig .tc := ⟨.hbm, 241, rfl⟩
abbrev main_call6_v0 : Ref sig .tc := ⟨.hbm, 242, rfl⟩
abbrev main_call6_v1 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_38 : Ref sig .tc := ⟨.hbm, 250, rfl⟩
abbrev main_v192 : Ref sig .tc := ⟨.hbm, 251, rfl⟩
abbrev main_v193 : Ref sig .tc := ⟨.hbm, 252, rfl⟩
abbrev main_v194 : Ref sig .tc := ⟨.hbm, 253, rfl⟩
abbrev main_v195 : Ref sig .tc := ⟨.hbm, 254, rfl⟩
abbrev main_v196 : Ref sig .tc := ⟨.hbm, 255, rfl⟩
abbrev main_v197 : Ref sig .tc := ⟨.hbm, 256, rfl⟩
abbrev main_v198 : Ref sig .tc := ⟨.hbm, 257, rfl⟩
abbrev main_v199 : Ref sig .tc := ⟨.hbm, 258, rfl⟩
abbrev main_v200 : Ref sig .tc := ⟨.hbm, 259, rfl⟩
abbrev main_v201 : Ref sig .tc := ⟨.hbm, 260, rfl⟩
abbrev main_v202 : Ref sig .tc := ⟨.hbm, 261, rfl⟩
abbrev main_v203 : Ref sig .tc := ⟨.hbm, 262, rfl⟩
abbrev main_cst_39 : Ref sig .tc := ⟨.hbm, 263, rfl⟩
abbrev main_v204 : Ref sig .tc := ⟨.hbm, 264, rfl⟩
abbrev main_v205 : Ref sig .tc := ⟨.hbm, 265, rfl⟩
abbrev main_v206 : Ref sig .tc := ⟨.hbm, 266, rfl⟩
abbrev main_v207 : Ref sig .tc := ⟨.hbm, 267, rfl⟩
abbrev main_v208 : Ref sig .tc := ⟨.hbm, 268, rfl⟩
abbrev main_v209 : Ref sig .tc := ⟨.hbm, 269, rfl⟩
abbrev main_v210 : Ref sig .tc := ⟨.hbm, 270, rfl⟩
abbrev main_v211 : Ref sig .tc := ⟨.hbm, 271, rfl⟩
abbrev main_v212 : Ref sig .tc := ⟨.hbm, 272, rfl⟩
abbrev main_v213 : Ref sig .tc := ⟨.hbm, 273, rfl⟩
abbrev main_v214 : Ref sig .tc := ⟨.hbm, 274, rfl⟩
abbrev main_cst_40 : Ref sig .tc := ⟨.hbm, 275, rfl⟩
abbrev main_v215 : Ref sig .tc := ⟨.hbm, 276, rfl⟩
abbrev main_v216 : Ref sig .tc := ⟨.hbm, 277, rfl⟩
abbrev main_v217 : Ref sig .tc := ⟨.hbm, 278, rfl⟩
abbrev main_v218 : Ref sig .tc := ⟨.hbm, 279, rfl⟩
abbrev main_v219 : Ref sig .tc := ⟨.hbm, 280, rfl⟩
abbrev main_v220 : Ref sig .tc := ⟨.hbm, 281, rfl⟩
abbrev main_v221 : Ref sig .tc := ⟨.hbm, 282, rfl⟩
abbrev main_v222 : Ref sig .tc := ⟨.hbm, 283, rfl⟩
abbrev main_cst_41 : Ref sig .tc := ⟨.hbm, 284, rfl⟩
abbrev main_v223 : Ref sig .tc := ⟨.hbm, 285, rfl⟩
abbrev main_v224 : Ref sig .tc := ⟨.hbm, 286, rfl⟩
abbrev main_v225 : Ref sig .tc := ⟨.hbm, 287, rfl⟩
abbrev main_cst_42 : Ref sig .tc := ⟨.hbm, 288, rfl⟩
abbrev main_v226 : Ref sig .tc := ⟨.hbm, 289, rfl⟩
abbrev main_v227 : Ref sig .tc := ⟨.hbm, 290, rfl⟩
abbrev main_v228 : Ref sig .tc := ⟨.hbm, 291, rfl⟩
abbrev main_v229 : Ref sig .tc := ⟨.hbm, 292, rfl⟩
abbrev main_v230 : Ref sig .tc := ⟨.hbm, 293, rfl⟩
abbrev main_v231 : Ref sig .tc := ⟨.hbm, 294, rfl⟩
abbrev main_v232 : Ref sig .tc := ⟨.hbm, 295, rfl⟩
abbrev main_cst_43 : Ref sig .tc := ⟨.hbm, 296, rfl⟩
abbrev main_v233 : Ref sig .tc := ⟨.hbm, 297, rfl⟩
abbrev main_v234 : Ref sig .tc := ⟨.hbm, 298, rfl⟩
abbrev main_v235 : Ref sig .tc := ⟨.hbm, 299, rfl⟩
abbrev main_cst_44 : Ref sig .tc := ⟨.hbm, 300, rfl⟩
abbrev main_v236 : Ref sig .tc := ⟨.hbm, 301, rfl⟩
abbrev main_v237 : Ref sig .tc := ⟨.hbm, 302, rfl⟩
abbrev main_cst_45 : Ref sig .tc := ⟨.hbm, 303, rfl⟩
abbrev main_v238 : Ref sig .tc := ⟨.hbm, 304, rfl⟩
abbrev main_cst_46 : Ref sig .tc := ⟨.hbm, 305, rfl⟩
abbrev main_v239 : Ref sig .tc := ⟨.hbm, 306, rfl⟩
abbrev main_v240 : Ref sig .tc := ⟨.hbm, 307, rfl⟩

abbrev nD : Nat := 1
abbrev τ : Topo := Topo.v7x

variable {F : FTy → Type} [FloatOps F]
-- ==== Proof.KRun.lean ====
/- The kernel program's run, with its result buffer read: after the last host operation it holds what the fold of
   the buffer contents through the program says (`W5`). -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The kernel program runs to the end, its result is what the fold says, and its arguments are unchanged. -/
theorem run : θ_run defs (onTc (τ := τ) (main (F := F))) ⟨m, fun _ => 0, ρ⟩ (fun r => (∀ c : Dev nD,
      r.2.mem ((c.tc : Thread nD τ).loc main_v26) = W5 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => ⟨(fun c =>
      ⟨h c _ (mem_uc main_v26 (by decide)),
       (h c _ (mem_uc main_arg0 (by decide))).trans (W5_main_arg0 m ρ c),
       (h c _ (mem_uc main_arg1 (by decide))).trans (W5_main_arg1 m ρ c)⟩), funext fun g => hz g (.inr (no_unscoped g.2))⟩)

end Cert.KernelIdeal.Gen
end
end
-- ==== Proof.RefOps.lean ====
/- The reference's host operations as one list, and the program as that list. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v98`, named. It packs its operands into a list of dependent pairs
    whose shapes a later argument's type mentions, so `simp` cannot rewrite an operand where it stands; applied by
    name, the operands are plain arguments, which the window lemmas below rewrite before the name unfolds. -/
def fn_main_v98 : (⟨S5000x1, .i32⟩ : BufTy).Contents (Elt F) → (⟨S5000x1, .i32⟩ : BufTy).Contents (Elt F) → (⟨S5000x2, .i32⟩ : BufTy).Contents (Elt F) :=
  (fun a b => concatenate S5000x2 1 [⟨S5000x1, a⟩, ⟨S5000x1, b⟩] concatenates_S5000x1_S5000x1_S5000x2_d1)

/-- The function of the operation that writes `main_v113`, named. It packs its operands into a list of dependent pairs
    whose shapes a later argument's type mentions, so `simp` cannot rewrite an operand where it stands; applied by
    name, the operands are plain arguments, which the window lemmas below rewrite before the name unfolds. -/
def fn_main_v113 : (⟨S5000x1, .i32⟩ : BufTy).Contents (Elt F) → (⟨S5000x1, .i32⟩ : BufTy).Contents (Elt F) → (⟨S5000x2, .i32⟩ : BufTy).Contents (Elt F) :=
  (fun a b => concatenate S5000x2 1 [⟨S5000x1, a⟩, ⟨S5000x1, b⟩] concatenates_S5000x1_S5000x1_S5000x2_d1)

/-- @main's operations 1 … 30 of 306 (window `main_part0`). -/
abbrev ops_part0_0 : List (HloOp τ sig (Elt F)) :=
  [ unary main_arg0 main_v0 ((extractStridedSlice S5000x4 ![0, 0] · slices_S5000x6_S5000x4_0_0) : (⟨S5000x6, .f32⟩ : BufTy).Contents (Elt F) → (⟨S5000x4, .f32⟩ : BufTy).Contents (Elt F)),
    unary main_arg0 main_v1 ((extractStridedSlice S5000x1 ![0, 4] · slices_S5000x6_S5000x1_0_4) : (⟨S5000x6, .f32⟩ : BufTy).Contents (Elt F) → (⟨S5000x1, .f32⟩ : BufTy).Contents (Elt F)),
    reshape main_v1 main_v2 (rfl : (.f32 : EltTy) = .f32) shapeCasts_S5000x1_S5000,
    unary main_arg0 main_v3 ((extractStridedSlice S5000x1 ![0, 5] · slices_S5000x6_S5000x1_0_5) : (⟨S5000x6, .f32⟩ : BufTy).Contents (Elt F) → (⟨S5000x1, .f32⟩ : BufTy).Contents (Elt F)),
    reshape main_v3 main_v4 (rfl : (.f32 : EltTy) = .f32) shapeCasts_S5000x1_S5000,
    unary main_v4 main_v5 (fptosi 32 : (⟨S5000, .f32⟩ : BufTy).Contents (Elt F) → (⟨S5000, .i32⟩ : BufTy).Contents (Elt F)),
    unary main_arg1 main_v6 ((extractStridedSlice S2000x4 ![0, 0] · slices_S2000x5_S2000x4_0_0) : (⟨S2000x5, .f32⟩ : BufTy).Contents (Elt F) → (⟨S2000x4, .f32⟩ : BufTy).Contents (Elt F)),
    unary main_arg1 main_v7 ((extractStridedSlice S2000x1 ![0, 4] · slices_S2000x5_S2000x1_0_4) : (⟨S2000x5, .f32⟩ : BufTy).Contents (Elt F) → (⟨S2000x1, .f32⟩ : BufTy).Contents (Elt F)),
    reshape main_v7 main_v8 (rfl : (.f32 : EltTy) = .f32) shapeCasts_S2000x1_S2000,
    unary main_v8 main_v9 (fptosi 32 : (⟨S2000, .f32⟩ : BufTy).Contents (Elt F) → (⟨S2000, .i32⟩ : BufTy).Contents (Elt F)),
    unary main_v0 main_v10 ((extractStridedSlice S5000x1 ![0, 2] · slices_S5000x4_S5000x1_0_2) : (⟨S5000x4, .f32⟩ : BufTy).Contents (Elt F) → (⟨S5000x1, .f32⟩ : BufTy).Contents (Elt F)),
    reshape main_v10 main_v11 (rfl : (.f32 : EltTy) = .f32) shapeCasts_S5000x1_S5000,
    unary main_v0 main_v12 ((extractStridedSlice S5000x1 ![0, 0] · slices_S5000x4_S5000x1_0_0) : (⟨S5000x4, .f32⟩ : BufTy).Contents (Elt F) → (⟨S5000x1, .f32⟩ : BufTy).Contents (Elt F)),
    reshape main_v12 main_v13 (rfl : (.f32 : EltTy) = .f32) shapeCasts_S5000x1_S5000,
    binary main_v11 main_v13 main_v14 (subf : (⟨S5000, .f32⟩ : BufTy).Contents (Elt F) → (⟨S5000, .f32⟩ : BufTy).Contents (Elt F) → (⟨S5000, .f32⟩ : BufTy).Contents (Elt F)),
    unary main_v0 main_v15 ((extractStridedSlice S5000x1 ![0, 3] · slices_S5000x4_S5000x1_0_3) : (⟨S5000x4, .f32⟩ : BufTy).Contents (Elt F) → (⟨S5000x1, .f32⟩ : BufTy).Contents (Elt F)),
    reshape main_v15 main_v16 (rfl : (.f32 : EltTy) = .f32) shapeCasts_S5000x1_S5000,
    unary main_v0 main_v17 ((extractStridedSlice S5000x1 ![0, 1] · slices_S5000x4_S5000x1_0_1) : (⟨S5000x4, .f32⟩ : BufTy).Contents (Elt F) → (⟨S5000x1, .f32⟩ : BufTy).Contents (Elt F)),
    reshape main_v17 main_v18 (rfl : (.f32 : EltTy) = .f32) shapeCasts_S5000x1_S5000,
    binary main_v16 main_v18 main_v19 (subf : (⟨S5000, .f32⟩ : BufTy).Contents (Elt F) → (⟨S5000, .f32⟩ : BufTy).Contents (Elt F) → (⟨S5000, .f32⟩ : BufTy).Contents (Elt F)),
    binary main_v14 main_v19 main_v20 (mulf : (⟨S5000, .f32⟩ : BufTy).Contents (Elt F) → (⟨S5000, .f32⟩ : BufTy).Contents (Elt F) → (⟨S5000, .f32⟩ : BufTy).Contents (Elt F)),
    unary main_v6 main_v21 ((extractStridedSlice S2000x1 ![0, 2] · slices_S2000x4_S2000x1_0_2) : (⟨S2000x4, .f32⟩ : BufTy).Contents (Elt F) → (⟨S2000x1, .f32⟩ : BufTy).Contents (Elt F)),
    reshape main_v21 main_v22 (rfl : (.f32 : EltTy) = .f32) shapeCasts_S2000x1_S2000,
    unary main_v6 main_v23 ((extractStridedSlice S2000x1 ![0, 0] · slices_S2000x4_S2000x1_0_0) : (⟨S2000x4, .f32⟩ : BufTy).Contents (Elt F) → (⟨S2000x1, .f32⟩ : BufTy).Contents (Elt F)),
    reshape main_v23 main_v24 (rfl : (.f32 : EltTy) = .f32) shapeCasts_S2000x1_S2000,
    binary main_v22 main_v24 main_v25 (subf : (⟨S2000, .f32⟩ : BufTy).Contents (Elt F) → (⟨S2000, .f32⟩ : BufTy).Contents (Elt F) → (⟨S2000, .f32⟩ : BufTy).Contents (Elt F)),
    unary main_v6 main_v26 ((extractStridedSlice S2000x1 ![0, 3] · slices_S2000x4_S2000x1_0_3) : (⟨S2000x4, .f32⟩ : BufTy).Contents (Elt F) → (⟨S2000x1, .f32⟩ : BufTy).Contents (Elt F)),
    reshape main_v26 main_v27 (rfl : (.f32 : EltTy) = .f32) shapeCasts_S2000x1_S2000,
    unary main_v6 main_v28 ((extractStridedSlice S2000x1 ![0, 1] · slices_S2000x4_S2000x1_0_1) : (⟨S2000x4, .f32⟩ : BufTy).Contents (Elt F) → (⟨S2000x1, .f32⟩ : BufTy).Contents (Elt F)),
    reshape main_v28 main_v29 (rfl : (.f32 : EltTy) = .f32) shapeCasts_S2000x1_S2000 ]

/-- @main's operations 31 … 60 of 306 (window `main_part0`). -/
abbrev ops_part0_1 : List (HloOp τ sig (Elt F)) :=
  [ binary main_v27 main_v29 main_v30 (subf : (⟨S2000, .f32⟩ : BufTy).Contents (Elt F) → (⟨S2000, .f32⟩ : BufTy).Contents (Elt F) → (⟨S2000, .f32⟩ : BufTy).Contents (Elt F)),
    binary main_v25 main_v30 main_v31 (mulf : (⟨S2000, .f32⟩ : BufTy).Contents (Elt F) → (⟨S2000, .f32⟩ : BufTy).Contents (Elt F) → (⟨S2000, .f32⟩ : BufTy).Contents (Elt F)),
    unary main_v0 main_v32 ((extractStridedSlice S5000x2 ![0, 0] · slices_S5000x4_S5000x2_0_0) : (⟨S5000x4, .f32⟩ : BufTy).Contents (Elt F) → (⟨S5000x2, .f32⟩ : BufTy).Contents (Elt F)),
    unary main_v32 main_v33 (broadcastInDim S5000x1x2 ![0, 2] bcast_S5000x2_S5000x1x2_0_2 : (⟨S5000x2, .f32⟩ : BufTy).Contents (Elt F) → (⟨S5000x1x2, .f32⟩ : BufTy).Contents (Elt F)),
    unary main_v6 main_v34 ((extractStridedSlice S2000x2 ![0, 0] · slices_S2000x4_S2000x2_0_0) : (⟨S2000x4, .f32⟩ : BufTy).Contents (Elt F) → (⟨S2000x2, .f32⟩ : BufTy).Contents (Elt F)),
    unary main_v34 main_v35 (broadcastInDim S1x2000x2 ![1, 2] bcast_S2000x2_S1x2000x2_1_2 : (⟨S2000x2, .f32⟩ : BufTy).Contents (Elt F) → (⟨S1x2000x2, .f32⟩ : BufTy).Contents (Elt F)),
    unary main_v33 main_v36 (broadcastInDim S5000x2000x2 ![0, 1, 2] bcast_S5000x1x2_S5000x2000x2_0_1_2 : (⟨S5000x1x2, .f32⟩ : BufTy).Contents (Elt F) → (⟨S5000x2000x2, .f32⟩ : BufTy).Contents (Elt F)),
    unary main_v35 main_v37 (broadcastInDim S5000x2000x2 ![0, 1, 2] bcast_S1x2000x2_S5000x2000x2_0_1_2 : (⟨S1x2000x2, .f32⟩ : BufTy).Contents (Elt F) → (⟨S5000x2000x2, .f32⟩ : BufTy).Contents (Elt F)),
    binary main_v36 main_v37 main_v38 (maximumf : (⟨S5000x2000x2, .f32⟩ : BufTy).Contents (Elt F) → (⟨S5000x2000x2, .f32⟩ : BufTy).Contents (Elt F) → (⟨S5000x2000x2, .f32⟩ : BufTy).Contents (Elt F)),
    unary main_v0 main_v39 ((extractStridedSlice S5000x2 ![0, 2] · slices_S5000x4_S5000x2_0_2) : (⟨S5000x4, .f32⟩ : BufTy).Contents (Elt F) → (⟨S5000x2, .f32⟩ : BufTy).Contents (Elt F)),
    unary main_v39 main_v40 (broadcastInDim S5000x1x2 ![0, 2] bcast_S5000x2_S5000x1x2_0_2 : (⟨S5000x2, .f32⟩ : BufTy).Contents (Elt F) → (⟨S5000x1x2, .f32⟩ : BufTy).Contents (Elt F)),
    unary main_v6 main_v41 ((extractStridedSlice S2000x2 ![0, 2] · slices_S2000x4_S2000x2_0_2) : (⟨S2000x4, .f32⟩ : BufTy).Contents (Elt F) → (⟨S2000x2, .f32⟩ : BufTy).Contents (Elt F)),
    unary main_v41 main_v42 (broadcastInDim S1x2000x2 ![1, 2] bcast_S2000x2_S1x2000x2_1_2 : (⟨S2000x2, .f32⟩ : BufTy).Contents (Elt F) → (⟨S1x2000x2, .f32⟩ : BufTy).Contents (Elt F)),
    unary main_v40 main_v43 (broadcastInDim S5000x2000x2 ![0, 1, 2] bcast_S5000x1x2_S5000x2000x2_0_1_2 : (⟨S5000x1x2, .f32⟩ : BufTy).Contents (Elt F) → (⟨S5000x2000x2, .f32⟩ : BufTy).Contents (Elt F)),
    unary main_v42 main_v44 (broadcastInDim S5000x2000x2 ![0, 1, 2] bcast_S1x2000x2_S5000x2000x2_0_1_2 : (⟨S1x2000x2, .f32⟩ : BufTy).Contents (Elt F) → (⟨S5000x2000x2, .f32⟩ : BufTy).Contents (Elt F)),
    binary main_v43 main_v44 main_v45 (minimumf : (⟨S5000x2000x2, .f32⟩ : BufTy).Contents (Elt F) → (⟨S5000x2000x2, .f32⟩ : BufTy).Contents (Elt F) → (⟨S5000x2000x2, .f32⟩ : BufTy).Contents (Elt F)),
    binary main_v45 main_v38 main_v46 (subf : (⟨S5000x2000x2, .f32⟩ : BufTy).Contents (Elt F) → (⟨S5000x2000x2, .f32⟩ : BufTy).Contents (Elt F) → (⟨S5000x2000x2, .f32⟩ : BufTy).Contents (Elt F)),
    nullary main_cst (constant S_ .f32 0x00000000#32),
    TRef.unary (TRef.of (T := ⟨S_, .f32⟩) main_cst) (TRef.of (T := ⟨S_, .f32⟩) main_call0_v0) id,
    TRef.unary (TRef.of (T := ⟨S_, .f32⟩) main_call0_v0) (TRef.of (T := ⟨S5000x2000x2, .f32⟩) main_call0_v1) (broadcastInDim S5000x2000x2 ![] bcast_S_S5000x2000x2),
    TRef.binary (TRef.of (T := ⟨S5000x2000x2, .f32⟩) main_call0_v1) (TRef.of (T := ⟨S5000x2000x2, .f32⟩) main_v46) (TRef.of (T := ⟨S5000x2000x2, .f32⟩) main_v47) maximumf,
    unary main_v47 main_v48 ((extractStridedSlice S5000x2000x1 ![0, 0, 0] · slices_S5000x2000x2_S5000x2000x1_0_0_0) : (⟨S5000x2000x2, .f32⟩ : BufTy).Contents (Elt F) → (⟨S5000x2000x1, .f32⟩ : BufTy).Contents (Elt F)),
    reshape main_v48 main_v49 (rfl : (.f32 : EltTy) = .f32) shapeCasts_S5000x2000x1_S5000x2000,
    unary main_v47 main_v50 ((extractStridedSlice S5000x2000x1 ![0, 0, 1] · slices_S5000x2000x2_S5000x2000x1_0_0_1) : (⟨S5000x2000x2, .f32⟩ : BufTy).Contents (Elt F) → (⟨S5000x2000x1, .f32⟩ : BufTy).Contents (Elt F)),
    reshape main_v50 main_v51 (rfl : (.f32 : EltTy) = .f32) shapeCasts_S5000x2000x1_S5000x2000,
    binary main_v49 main_v51 main_v52 (mulf : (⟨S5000x2000, .f32⟩ : BufTy).Contents (Elt F) → (⟨S5000x2000, .f32⟩ : BufTy).Contents (Elt F) → (⟨S5000x2000, .f32⟩ : BufTy).Contents (Elt F)),
    unary main_v20 main_v53 (broadcastInDim S5000x1 ![0] bcast_S5000_S5000x1_0 : (⟨S5000, .f32⟩ : BufTy).Contents (Elt F) → (⟨S5000x1, .f32⟩ : BufTy).Contents (Elt F)),
    unary main_v31 main_v54 (broadcastInDim S1x2000 ![1] bcast_S2000_S1x2000_1 : (⟨S2000, .f32⟩ : BufTy).Contents (Elt F) → (⟨S1x2000, .f32⟩ : BufTy).Contents (Elt F)),
    unary main_v53 main_v55 (broadcastInDim S5000x2000 ![0, 1] bcast_S5000x1_S5000x2000_0_1 : (⟨S5000x1, .f32⟩ : BufTy).Contents (Elt F) → (⟨S5000x2000, .f32⟩ : BufTy).Contents (Elt F)),
    unary main_v54 main_v56 (broadcastInDim S5000x2000 ![0, 1] bcast_S1x2000_S5000x2000_0_1 : (⟨S1x2000, .f32⟩ : BufTy).Contents (Elt F) → (⟨S5000x2000, .f32⟩ : BufTy).Contents (Elt F)) ]

/-- @main's operations 61 … 62 of 306 (window `main_part0`). -/
abbrev ops_part0_2 : List (HloOp τ sig (Elt F)) :=
  [ binary main_v55 main_v56 main_v57 (addf : (⟨S5000x2000, .f32⟩ : BufTy).Contents (Elt F) → (⟨S5000x2000, .f32⟩ : BufTy).Contents (Elt F) → (⟨S5000x2000, .f32⟩ : BufTy).Contents (Elt F)),
    binary main_v57 main_v52 main_v58 (subf : (⟨S5000x2000, .f32⟩ : BufTy).Contents (Elt F) → (⟨S5000x2000, .f32⟩ : BufTy).Contents (Elt F) → (⟨S5000x2000, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 63 … 92 of 306 (window `main_part1`). -/
abbrev ops_part1_0 : List (HloOp τ sig (Elt F)) :=
  [ nullary main_cst_0 (constant S_ .f32 0x33D6BF95#32),
    unary main_cst_0 main_v59 (broadcastInDim S5000x2000 ![] bcast_S_S5000x2000 : (⟨S_, .f32⟩ : BufTy).Contents (Elt F) → (⟨S5000x2000, .f32⟩ : BufTy).Contents (Elt F)),
    binary main_v58 main_v59 main_v60 (addf : (⟨S5000x2000, .f32⟩ : BufTy).Contents (Elt F) → (⟨S5000x2000, .f32⟩ : BufTy).Contents (Elt F) → (⟨S5000x2000, .f32⟩ : BufTy).Contents (Elt F)),
    binary main_v52 main_v60 main_v61 (Host.divf : (⟨S5000x2000, .f32⟩ : BufTy).Contents (Elt F) → (⟨S5000x2000, .f32⟩ : BufTy).Contents (Elt F) → (⟨S5000x2000, .f32⟩ : BufTy).Contents (Elt F)),
    nullary main_cst_1 (constant S_ .f32 0xFF800000#32),
    binary main_v61 main_cst_1 main_v62 ((fun x v => Host.reduce FloatOps.maximumf x v reducesTo_S5000x2000_S5000_d1 h_S_) : (⟨S5000x2000, .f32⟩ : BufTy).Contents (Elt F) → (⟨S_, .f32⟩ : BufTy).Contents (Elt F) → (⟨S5000, .f32⟩ : BufTy).Contents (Elt F)),
    TRef.nullary (TRef.of (T := ⟨S5000x2000, .i32⟩) main_call1_v0) (iotaInDim S5000x2000 32 1),
    TRef.nullary (TRef.of (T := ⟨S_, .f32⟩) main_call1_cst) (constant S_ .f32 0xFF800000#32),
    TRef.nullary (TRef.of (T := ⟨S_, .i32⟩) main_call1_c) (constantI S_ 32 0#32),
    TRef.quaternary (TRef.of (T := ⟨S5000x2000, .f32⟩) main_v61) (TRef.of (T := ⟨S5000x2000, .i32⟩) main_call1_v0) (TRef.of (T := ⟨S_, .f32⟩) main_call1_cst) (TRef.of (T := ⟨S_, .i32⟩) main_call1_c) (TRef.of (T := ⟨S5000, .f32⟩) main_call1_v1_0) (fun x y u v => (fun j => (Host.argReduce reducer_argmax_f32_i32 x y u v reducesTo_S5000x2000_S5000_d1 h_S_ j).1)),
    TRef.quaternary (TRef.of (T := ⟨S5000x2000, .f32⟩) main_v61) (TRef.of (T := ⟨S5000x2000, .i32⟩) main_call1_v0) (TRef.of (T := ⟨S_, .f32⟩) main_call1_cst) (TRef.of (T := ⟨S_, .i32⟩) main_call1_c) (TRef.of (T := ⟨S5000, .i32⟩) main_v63) (fun x y u v => (fun j => (Host.argReduce reducer_argmax_f32_i32 x y u v reducesTo_S5000x2000_S5000_d1 h_S_ j).2)),
    nullary main_cst_2 (constant S_ .f32 0x3EE66666#32),
    unary main_cst_2 main_v64 (broadcastInDim S5000 ![] bcast_S_S5000 : (⟨S_, .f32⟩ : BufTy).Contents (Elt F) → (⟨S5000, .f32⟩ : BufTy).Contents (Elt F)),
    binary main_v62 main_v64 main_v65 (cmpf .ogt : (⟨S5000, .f32⟩ : BufTy).Contents (Elt F) → (⟨S5000, .f32⟩ : BufTy).Contents (Elt F) → (⟨S5000, .i1⟩ : BufTy).Contents (Elt F)),
    unary main_v65 main_v66 (uitofp .f32 : (⟨S5000, .i1⟩ : BufTy).Contents (Elt F) → (⟨S5000, .f32⟩ : BufTy).Contents (Elt F)),
    nullary main_cst_3 (constant S_ .f32 0x00000000#32),
    binary main_v66 main_cst_3 main_v67 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    nullary main_cst_4 (constant S_ .f32 0x3F800000#32),
    binary main_v67 main_cst_4 main_v68 (maximumf : (⟨S_, .f32⟩ : BufTy).Contents (Elt F) → (⟨S_, .f32⟩ : BufTy).Contents (Elt F) → (⟨S_, .f32⟩ : BufTy).Contents (Elt F)),
    nullary main_c (constantI S_ 32 0#32),
    unary main_c main_v69 (broadcastInDim S5000 ![] bcast_S_S5000 : (⟨S_, .i32⟩ : BufTy).Contents (Elt F) → (⟨S5000, .i32⟩ : BufTy).Contents (Elt F)),
    binary main_v63 main_v69 main_v70 (cmpi .slt : (⟨S5000, .i32⟩ : BufTy).Contents (Elt F) → (⟨S5000, .i32⟩ : BufTy).Contents (Elt F) → (⟨S5000, .i1⟩ : BufTy).Contents (Elt F)),
    nullary main_c_5 (constantI S_ 32 2000#32),
    unary main_c_5 main_v71 (broadcastInDim S5000 ![] bcast_S_S5000 : (⟨S_, .i32⟩ : BufTy).Contents (Elt F) → (⟨S5000, .i32⟩ : BufTy).Contents (Elt F)),
    binary main_v63 main_v71 main_v72 (addi : (⟨S5000, .i32⟩ : BufTy).Contents (Elt F) → (⟨S5000, .i32⟩ : BufTy).Contents (Elt F) → (⟨S5000, .i32⟩ : BufTy).Contents (Elt F)),
    ternary main_v70 main_v72 main_v63 main_v73 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v73 main_v74 (broadcastInDim S5000x1 ![0] bcast_S5000_S5000x1_0 : (⟨S5000, .i32⟩ : BufTy).Contents (Elt F) → (⟨S5000x1, .i32⟩ : BufTy).Contents (Elt F)),
    binary main_v6 main_v74 main_v75 ((fun x i => Host.gather gather_S2000x4_S5000x1_S5000x4_1_0_n_n_0_1_14 x i) : (⟨S2000x4, .f32⟩ : BufTy).Contents (Elt F) → (⟨S5000x1, .i32⟩ : BufTy).Contents (Elt F) → (⟨S5000x4, .f32⟩ : BufTy).Contents (Elt F)),
    nullary main_c_6 (constantI S_ 32 0#32),
    unary main_c_6 main_v76 (broadcastInDim S5000 ![] bcast_S_S5000 : (⟨S_, .i32⟩ : BufTy).Contents (Elt F) → (⟨S5000, .i32⟩ : BufTy).Contents (Elt F)) ]

/-- @main's operations 93 … 122 of 306 (window `main_part1`). -/
abbrev ops_part1_1 : List (HloOp τ sig (Elt F)) :=
  [ binary main_v63 main_v76 main_v77 (cmpi .slt : (⟨S5000, .i32⟩ : BufTy).Contents (Elt F) → (⟨S5000, .i32⟩ : BufTy).Contents (Elt F) → (⟨S5000, .i1⟩ : BufTy).Contents (Elt F)),
    nullary main_c_7 (constantI S_ 32 2000#32),
    unary main_c_7 main_v78 (broadcastInDim S5000 ![] bcast_S_S5000 : (⟨S_, .i32⟩ : BufTy).Contents (Elt F) → (⟨S5000, .i32⟩ : BufTy).Contents (Elt F)),
    binary main_v63 main_v78 main_v79 (addi : (⟨S5000, .i32⟩ : BufTy).Contents (Elt F) → (⟨S5000, .i32⟩ : BufTy).Contents (Elt F) → (⟨S5000, .i32⟩ : BufTy).Contents (Elt F)),
    ternary main_v77 main_v79 main_v63 main_v80 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v80 main_v81 (broadcastInDim S5000x1 ![0] bcast_S5000_S5000x1_0 : (⟨S5000, .i32⟩ : BufTy).Contents (Elt F) → (⟨S5000x1, .i32⟩ : BufTy).Contents (Elt F)),
    binary main_v9 main_v81 main_v82 ((fun x i => Host.gather gather_S2000_S5000x1_S5000_n_0_n_n_0_1_1 x i) : (⟨S2000, .i32⟩ : BufTy).Contents (Elt F) → (⟨S5000x1, .i32⟩ : BufTy).Contents (Elt F) → (⟨S5000, .i32⟩ : BufTy).Contents (Elt F)),
    nullary main_v83 (iotaInDim S5000 32 0),
    nullary main_cst_8 (constant S_ .f32 0x00000000#32),
    unary main_cst_8 main_v84 (broadcastInDim S5000x80 ![] bcast_S_S5000x80 : (⟨S_, .f32⟩ : BufTy).Contents (Elt F) → (⟨S5000x80, .f32⟩ : BufTy).Contents (Elt F)),
    binary main_v2 main_v66 main_v85 (mulf : (⟨S5000, .f32⟩ : BufTy).Contents (Elt F) → (⟨S5000, .f32⟩ : BufTy).Contents (Elt F) → (⟨S5000, .f32⟩ : BufTy).Contents (Elt F)),
    nullary main_c_9 (constantI S_ 32 0#32),
    unary main_c_9 main_v86 (broadcastInDim S5000 ![] bcast_S_S5000 : (⟨S_, .i32⟩ : BufTy).Contents (Elt F) → (⟨S5000, .i32⟩ : BufTy).Contents (Elt F)),
    binary main_v83 main_v86 main_v87 (cmpi .slt : (⟨S5000, .i32⟩ : BufTy).Contents (Elt F) → (⟨S5000, .i32⟩ : BufTy).Contents (Elt F) → (⟨S5000, .i1⟩ : BufTy).Contents (Elt F)),
    nullary main_c_10 (constantI S_ 32 5000#32),
    unary main_c_10 main_v88 (broadcastInDim S5000 ![] bcast_S_S5000 : (⟨S_, .i32⟩ : BufTy).Contents (Elt F) → (⟨S5000, .i32⟩ : BufTy).Contents (Elt F)),
    binary main_v83 main_v88 main_v89 (addi : (⟨S5000, .i32⟩ : BufTy).Contents (Elt F) → (⟨S5000, .i32⟩ : BufTy).Contents (Elt F) → (⟨S5000, .i32⟩ : BufTy).Contents (Elt F)),
    ternary main_v87 main_v89 main_v83 main_v90 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    nullary main_c_11 (constantI S_ 32 0#32),
    unary main_c_11 main_v91 (broadcastInDim S5000 ![] bcast_S_S5000 : (⟨S_, .i32⟩ : BufTy).Contents (Elt F) → (⟨S5000, .i32⟩ : BufTy).Contents (Elt F)),
    binary main_v5 main_v91 main_v92 (cmpi .slt : (⟨S5000, .i32⟩ : BufTy).Contents (Elt F) → (⟨S5000, .i32⟩ : BufTy).Contents (Elt F) → (⟨S5000, .i1⟩ : BufTy).Contents (Elt F)),
    nullary main_c_12 (constantI S_ 32 80#32),
    unary main_c_12 main_v93 (broadcastInDim S5000 ![] bcast_S_S5000 : (⟨S_, .i32⟩ : BufTy).Contents (Elt F) → (⟨S5000, .i32⟩ : BufTy).Contents (Elt F)),
    binary main_v5 main_v93 main_v94 (addi : (⟨S5000, .i32⟩ : BufTy).Contents (Elt F) → (⟨S5000, .i32⟩ : BufTy).Contents (Elt F) → (⟨S5000, .i32⟩ : BufTy).Contents (Elt F)),
    ternary main_v92 main_v94 main_v5 main_v95 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v90 main_v96 (broadcastInDim S5000x1 ![0] bcast_S5000_S5000x1_0 : (⟨S5000, .i32⟩ : BufTy).Contents (Elt F) → (⟨S5000x1, .i32⟩ : BufTy).Contents (Elt F)),
    unary main_v95 main_v97 (broadcastInDim S5000x1 ![0] bcast_S5000_S5000x1_0 : (⟨S5000, .i32⟩ : BufTy).Contents (Elt F) → (⟨S5000x1, .i32⟩ : BufTy).Contents (Elt F)),
    binary main_v96 main_v97 main_v98 (fn_main_v98 (F := F)),
    ternary main_v84 main_v98 main_v85 main_v99 ((fun x i u => Host.scatter scatter_S5000x80_S5000x2_S5000_n_01_01_1 (fun _ b => b) x i u) : (⟨S5000x80, .f32⟩ : BufTy).Contents (Elt F) → (⟨S5000x2, .i32⟩ : BufTy).Contents (Elt F) → (⟨S5000, .f32⟩ : BufTy).Contents (Elt F) → (⟨S5000x80, .f32⟩ : BufTy).Contents (Elt F)),
    nullary main_cst_13 (constant S_ .f32 0x00000000#32) ]

/-- @main's operations 123 … 126 of 306 (window `main_part1`). -/
abbrev ops_part1_2 : List (HloOp τ sig (Elt F)) :=
  [ unary main_cst_13 main_v100 (broadcastInDim S5000x80 ![] bcast_S_S5000x80 : (⟨S_, .f32⟩ : BufTy).Contents (Elt F) → (⟨S5000x80, .f32⟩ : BufTy).Contents (Elt F)),
    nullary main_c_14 (constantI S_ 32 0#32),
    unary main_c_14 main_v101 (broadcastInDim S5000 ![] bcast_S_S5000 : (⟨S_, .i32⟩ : BufTy).Contents (Elt F) → (⟨S5000, .i32⟩ : BufTy).Contents (Elt F)),
    binary main_v83 main_v101 main_v102 (cmpi .slt : (⟨S5000, .i32⟩ : BufTy).Contents (Elt F) → (⟨S5000, .i32⟩ : BufTy).Contents (Elt F) → (⟨S5000, .i1⟩ : BufTy).Contents (Elt F)) ]

/-- Window `main_part1`'s operations. Not an abbreviation: `main_eq` below splits `ops` into the windows and no further. -/
def ops_part1 : List (HloOp τ sig (Elt F)) :=
  ops_part1_0 ++ (ops_part1_1 ++ (ops_part1_2))

/-- @main's operations 127 … 156 of 306 (window `main_part2`). -/
abbrev ops_part2_0 : List (HloOp τ sig (Elt F)) :=
  [ nullary main_c_15 (constantI S_ 32 5000#32),
    unary main_c_15 main_v103 (broadcastInDim S5000 ![] bcast_S_S5000 : (⟨S_, .i32⟩ : BufTy).Contents (Elt F) → (⟨S5000, .i32⟩ : BufTy).Contents (Elt F)),
    binary main_v83 main_v103 main_v104 (addi : (⟨S5000, .i32⟩ : BufTy).Contents (Elt F) → (⟨S5000, .i32⟩ : BufTy).Contents (Elt F) → (⟨S5000, .i32⟩ : BufTy).Contents (Elt F)),
    ternary main_v102 main_v104 main_v83 main_v105 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    nullary main_c_16 (constantI S_ 32 0#32),
    unary main_c_16 main_v106 (broadcastInDim S5000 ![] bcast_S_S5000 : (⟨S_, .i32⟩ : BufTy).Contents (Elt F) → (⟨S5000, .i32⟩ : BufTy).Contents (Elt F)),
    binary main_v82 main_v106 main_v107 (cmpi .slt : (⟨S5000, .i32⟩ : BufTy).Contents (Elt F) → (⟨S5000, .i32⟩ : BufTy).Contents (Elt F) → (⟨S5000, .i1⟩ : BufTy).Contents (Elt F)),
    nullary main_c_17 (constantI S_ 32 80#32),
    unary main_c_17 main_v108 (broadcastInDim S5000 ![] bcast_S_S5000 : (⟨S_, .i32⟩ : BufTy).Contents (Elt F) → (⟨S5000, .i32⟩ : BufTy).Contents (Elt F)),
    binary main_v82 main_v108 main_v109 (addi : (⟨S5000, .i32⟩ : BufTy).Contents (Elt F) → (⟨S5000, .i32⟩ : BufTy).Contents (Elt F) → (⟨S5000, .i32⟩ : BufTy).Contents (Elt F)),
    ternary main_v107 main_v109 main_v82 main_v110 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v105 main_v111 (broadcastInDim S5000x1 ![0] bcast_S5000_S5000x1_0 : (⟨S5000, .i32⟩ : BufTy).Contents (Elt F) → (⟨S5000x1, .i32⟩ : BufTy).Contents (Elt F)),
    unary main_v110 main_v112 (broadcastInDim S5000x1 ![0] bcast_S5000_S5000x1_0 : (⟨S5000, .i32⟩ : BufTy).Contents (Elt F) → (⟨S5000x1, .i32⟩ : BufTy).Contents (Elt F)),
    binary main_v111 main_v112 main_v113 (fn_main_v113 (F := F)),
    ternary main_v100 main_v113 main_v66 main_v114 ((fun x i u => Host.scatter scatter_S5000x80_S5000x2_S5000_n_01_01_1 (fun _ b => b) x i u) : (⟨S5000x80, .f32⟩ : BufTy).Contents (Elt F) → (⟨S5000x2, .i32⟩ : BufTy).Contents (Elt F) → (⟨S5000, .f32⟩ : BufTy).Contents (Elt F) → (⟨S5000x80, .f32⟩ : BufTy).Contents (Elt F)),
    nullary main_cst_18 (constant S_ .f32 0x00000000#32),
    unary main_cst_18 main_v115 (broadcastInDim S5000x80 ![] bcast_S_S5000x80 : (⟨S_, .f32⟩ : BufTy).Contents (Elt F) → (⟨S5000x80, .f32⟩ : BufTy).Contents (Elt F)),
    binary main_v99 main_v115 main_v116 (cmpf .ogt : (⟨S5000x80, .f32⟩ : BufTy).Contents (Elt F) → (⟨S5000x80, .f32⟩ : BufTy).Contents (Elt F) → (⟨S5000x80, .i1⟩ : BufTy).Contents (Elt F)),
    nullary main_cst_19 (constant S_ .f32 0x3F800000#32),
    TRef.unary (TRef.of (T := ⟨S_, .f32⟩) main_cst_19) (TRef.of (T := ⟨S_, .f32⟩) main_call2_v0) id,
    TRef.unary (TRef.of (T := ⟨S_, .f32⟩) main_call2_v0) (TRef.of (T := ⟨S5000x80, .f32⟩) main_call2_v1) (broadcastInDim S5000x80 ![] bcast_S_S5000x80),
    TRef.ternary (TRef.of (T := ⟨S5000x80, .i1⟩) main_v116) (TRef.of (T := ⟨S5000x80, .f32⟩) main_v99) (TRef.of (T := ⟨S5000x80, .f32⟩) main_call2_v1) (TRef.of (T := ⟨S5000x80, .f32⟩) main_v117) select,
    nullary main_cst_20 (constant S_ .f32 0x00000000#32),
    unary main_cst_20 main_v118 (broadcastInDim S5000x80 ![] bcast_S_S5000x80 : (⟨S_, .f32⟩ : BufTy).Contents (Elt F) → (⟨S5000x80, .f32⟩ : BufTy).Contents (Elt F)),
    binary main_v99 main_v118 main_v119 (cmpf .ogt : (⟨S5000x80, .f32⟩ : BufTy).Contents (Elt F) → (⟨S5000x80, .f32⟩ : BufTy).Contents (Elt F) → (⟨S5000x80, .i1⟩ : BufTy).Contents (Elt F)),
    unary main_v117 main_v120 (Host.log : (⟨S5000x80, .f32⟩ : BufTy).Contents (Elt F) → (⟨S5000x80, .f32⟩ : BufTy).Contents (Elt F)),
    nullary main_cst_21 (constant S_ .f32 0xC2C80000#32),
    TRef.unary (TRef.of (T := ⟨S_, .f32⟩) main_cst_21) (TRef.of (T := ⟨S_, .f32⟩) main_call3_v0) id,
    TRef.unary (TRef.of (T := ⟨S_, .f32⟩) main_call3_v0) (TRef.of (T := ⟨S5000x80, .f32⟩) main_call3_v1) (broadcastInDim S5000x80 ![] bcast_S_S5000x80),
    TRef.ternary (TRef.of (T := ⟨S5000x80, .i1⟩) main_v119) (TRef.of (T := ⟨S5000x80, .f32⟩) main_v120) (TRef.of (T := ⟨S5000x80, .f32⟩) main_call3_v1) (TRef.of (T := ⟨S5000x80, .f32⟩) main_v121) select ]

/-- @main's operations 157 … 186 of 306 (window `main_part2`). -/
abbrev ops_part2_1 : List (HloOp τ sig (Elt F)) :=
  [ unary main_v99 main_v122 (Host.negf : (⟨S5000x80, .f32⟩ : BufTy).Contents (Elt F) → (⟨S5000x80, .f32⟩ : BufTy).Contents (Elt F)),
    unary main_v122 main_v123 (Host.log1p : (⟨S5000x80, .f32⟩ : BufTy).Contents (Elt F) → (⟨S5000x80, .f32⟩ : BufTy).Contents (Elt F)),
    nullary main_cst_22 (constant S_ .f32 0xC2C80000#32),
    unary main_cst_22 main_v124 (broadcastInDim S5000x80 ![] bcast_S_S5000x80 : (⟨S_, .f32⟩ : BufTy).Contents (Elt F) → (⟨S5000x80, .f32⟩ : BufTy).Contents (Elt F)),
    binary main_v123 main_v124 main_v125 (maximumf : (⟨S5000x80, .f32⟩ : BufTy).Contents (Elt F) → (⟨S5000x80, .f32⟩ : BufTy).Contents (Elt F) → (⟨S5000x80, .f32⟩ : BufTy).Contents (Elt F)),
    binary main_v114 main_v121 main_v126 (mulf : (⟨S5000x80, .f32⟩ : BufTy).Contents (Elt F) → (⟨S5000x80, .f32⟩ : BufTy).Contents (Elt F) → (⟨S5000x80, .f32⟩ : BufTy).Contents (Elt F)),
    nullary main_cst_23 (constant S_ .f32 0x3F800000#32),
    unary main_cst_23 main_v127 (broadcastInDim S5000x80 ![] bcast_S_S5000x80 : (⟨S_, .f32⟩ : BufTy).Contents (Elt F) → (⟨S5000x80, .f32⟩ : BufTy).Contents (Elt F)),
    binary main_v127 main_v114 main_v128 (subf : (⟨S5000x80, .f32⟩ : BufTy).Contents (Elt F) → (⟨S5000x80, .f32⟩ : BufTy).Contents (Elt F) → (⟨S5000x80, .f32⟩ : BufTy).Contents (Elt F)),
    binary main_v128 main_v125 main_v129 (mulf : (⟨S5000x80, .f32⟩ : BufTy).Contents (Elt F) → (⟨S5000x80, .f32⟩ : BufTy).Contents (Elt F) → (⟨S5000x80, .f32⟩ : BufTy).Contents (Elt F)),
    binary main_v126 main_v129 main_v130 (addf : (⟨S5000x80, .f32⟩ : BufTy).Contents (Elt F) → (⟨S5000x80, .f32⟩ : BufTy).Contents (Elt F) → (⟨S5000x80, .f32⟩ : BufTy).Contents (Elt F)),
    unary main_v130 main_v131 (Host.negf : (⟨S5000x80, .f32⟩ : BufTy).Contents (Elt F) → (⟨S5000x80, .f32⟩ : BufTy).Contents (Elt F)),
    nullary main_cst_24 (constant S_ .f32 0x00000000#32),
    binary main_v131 main_cst_24 main_v132 ((fun x v => Host.reduceAdd x v reducesTo_S5000x80_S_d0_1 h_S_) : (⟨S5000x80, .f32⟩ : BufTy).Contents (Elt F) → (⟨S_, .f32⟩ : BufTy).Contents (Elt F) → (⟨S_, .f32⟩ : BufTy).Contents (Elt F)),
    nullary main_cst_25 (constant S_ .f32 0x42A00000#32),
    binary main_v68 main_cst_25 main_v133 (mulf : (⟨S_, .f32⟩ : BufTy).Contents (Elt F) → (⟨S_, .f32⟩ : BufTy).Contents (Elt F) → (⟨S_, .f32⟩ : BufTy).Contents (Elt F)),
    binary main_v132 main_v133 main_v134 (Host.divf : (⟨S_, .f32⟩ : BufTy).Contents (Elt F) → (⟨S_, .f32⟩ : BufTy).Contents (Elt F) → (⟨S_, .f32⟩ : BufTy).Contents (Elt F)),
    unary main_v65 main_v135 (noti : (⟨S5000, .i1⟩ : BufTy).Contents (Elt F) → (⟨S5000, .i1⟩ : BufTy).Contents (Elt F)),
    unary main_v2 main_v136 (Host.log : (⟨S5000, .f32⟩ : BufTy).Contents (Elt F) → (⟨S5000, .f32⟩ : BufTy).Contents (Elt F)),
    nullary main_cst_26 (constant S_ .f32 0x00000000#32),
    TRef.unary (TRef.of (T := ⟨S_, .f32⟩) main_cst_26) (TRef.of (T := ⟨S_, .f32⟩) main_call4_v0) id,
    TRef.unary (TRef.of (T := ⟨S_, .f32⟩) main_call4_v0) (TRef.of (T := ⟨S5000, .f32⟩) main_call4_v1) (broadcastInDim S5000 ![] bcast_S_S5000),
    TRef.ternary (TRef.of (T := ⟨S5000, .i1⟩) main_v135) (TRef.of (T := ⟨S5000, .f32⟩) main_v136) (TRef.of (T := ⟨S5000, .f32⟩) main_call4_v1) (TRef.of (T := ⟨S5000, .f32⟩) main_v137) select,
    nullary main_cst_27 (constant S_ .f32 0x00000000#32),
    binary main_v137 main_cst_27 main_v138 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    binary main_v134 main_v138 main_v139 (subf : (⟨S_, .f32⟩ : BufTy).Contents (Elt F) → (⟨S_, .f32⟩ : BufTy).Contents (Elt F) → (⟨S_, .f32⟩ : BufTy).Contents (Elt F)),
    nullary main_cst_28 (constant S_ .f32 0x00000000#32),
    unary main_cst_28 main_v140 (broadcastInDim S2000 ![] bcast_S_S2000 : (⟨S_, .f32⟩ : BufTy).Contents (Elt F) → (⟨S2000, .f32⟩ : BufTy).Contents (Elt F)),
    nullary main_c_29 (constantI S_ 32 0#32),
    unary main_c_29 main_v141 (broadcastInDim S5000 ![] bcast_S_S5000 : (⟨S_, .i32⟩ : BufTy).Contents (Elt F) → (⟨S5000, .i32⟩ : BufTy).Contents (Elt F)) ]

/-- @main's operations 187 … 192 of 306 (window `main_part2`). -/
abbrev ops_part2_2 : List (HloOp τ sig (Elt F)) :=
  [ binary main_v63 main_v141 main_v142 (cmpi .slt : (⟨S5000, .i32⟩ : BufTy).Contents (Elt F) → (⟨S5000, .i32⟩ : BufTy).Contents (Elt F) → (⟨S5000, .i1⟩ : BufTy).Contents (Elt F)),
    nullary main_c_30 (constantI S_ 32 2000#32),
    unary main_c_30 main_v143 (broadcastInDim S5000 ![] bcast_S_S5000 : (⟨S_, .i32⟩ : BufTy).Contents (Elt F) → (⟨S5000, .i32⟩ : BufTy).Contents (Elt F)),
    binary main_v63 main_v143 main_v144 (addi : (⟨S5000, .i32⟩ : BufTy).Contents (Elt F) → (⟨S5000, .i32⟩ : BufTy).Contents (Elt F) → (⟨S5000, .i32⟩ : BufTy).Contents (Elt F)),
    ternary main_v142 main_v144 main_v63 main_v145 (select : (⟨S5000, .i1⟩ : BufTy).Contents (Elt F) → (⟨S5000, .i32⟩ : BufTy).Contents (Elt F) → (⟨S5000, .i32⟩ : BufTy).Contents (Elt F) → (⟨S5000, .i32⟩ : BufTy).Contents (Elt F)),
    unary main_v145 main_v146 (broadcastInDim S5000x1 ![0] bcast_S5000_S5000x1_0 : (⟨S5000, .i32⟩ : BufTy).Contents (Elt F) → (⟨S5000x1, .i32⟩ : BufTy).Contents (Elt F)) ]

/-- Window `main_part2`'s operations. Not an abbreviation: `main_eq` below splits `ops` into the windows and no further. -/
def ops_part2 : List (HloOp τ sig (Elt F)) :=
  ops_part2_0 ++ (ops_part2_1 ++ (ops_part2_2))

/-- @main's operations 193 … 222 of 306 (window `main_part3`). -/
abbrev ops_part3_0 : List (HloOp τ sig (Elt F)) :=
  [ ternary main_v140 main_v146 main_v66 main_v147 ((fun x i u => Host.scatterAdd scatter_S2000_S5000x1_S5000_n_0_0_1 x i u) : (⟨S2000, .f32⟩ : BufTy).Contents (Elt F) → (⟨S5000x1, .i32⟩ : BufTy).Contents (Elt F) → (⟨S5000, .f32⟩ : BufTy).Contents (Elt F) → (⟨S2000, .f32⟩ : BufTy).Contents (Elt F)),
    nullary main_cst_31 (constant S_ .f32 0x00000000#32),
    unary main_cst_31 main_v148 (broadcastInDim S2000 ![] bcast_S_S2000 : (⟨S_, .f32⟩ : BufTy).Contents (Elt F) → (⟨S2000, .f32⟩ : BufTy).Contents (Elt F)),
    binary main_v147 main_v148 main_v149 (cmpf .ogt : (⟨S2000, .f32⟩ : BufTy).Contents (Elt F) → (⟨S2000, .f32⟩ : BufTy).Contents (Elt F) → (⟨S2000, .i1⟩ : BufTy).Contents (Elt F)),
    unary main_v149 main_v150 ((extui 32 · natLt_1_32) : (⟨S2000, .i1⟩ : BufTy).Contents (Elt F) → (⟨S2000, .i32⟩ : BufTy).Contents (Elt F)),
    nullary main_c_32 (constantI S_ 32 0#32),
    binary main_v150 main_c_32 main_v151 ((fun x v => Host.reduce IntOp.addi x v reducesTo_S2000_S_d0 h_S_) : (⟨S2000, .i32⟩ : BufTy).Contents (Elt F) → (⟨S_, .i32⟩ : BufTy).Contents (Elt F) → (⟨S_, .i32⟩ : BufTy).Contents (Elt F)),
    nullary main_c_33 (constantI S_ 32 2000#32),
    binary main_c_33 main_v151 main_v152 (subi : (⟨S_, .i32⟩ : BufTy).Contents (Elt F) → (⟨S_, .i32⟩ : BufTy).Contents (Elt F) → (⟨S_, .i32⟩ : BufTy).Contents (Elt F)),
    unary main_v152 main_v153 (sitofp .f32 : (⟨S_, .i32⟩ : BufTy).Contents (Elt F) → (⟨S_, .f32⟩ : BufTy).Contents (Elt F)),
    binary main_v139 main_v153 main_v154 (addf : (⟨S_, .f32⟩ : BufTy).Contents (Elt F) → (⟨S_, .f32⟩ : BufTy).Contents (Elt F) → (⟨S_, .f32⟩ : BufTy).Contents (Elt F)),
    unary main_v0 main_v155 ((extractStridedSlice S5000x1 ![0, 0] · slices_S5000x4_S5000x1_0_0) : (⟨S5000x4, .f32⟩ : BufTy).Contents (Elt F) → (⟨S5000x1, .f32⟩ : BufTy).Contents (Elt F)),
    reshape main_v155 main_v156 (rfl : (.f32 : EltTy) = .f32) shapeCasts_S5000x1_S5000,
    unary main_v0 main_v157 ((extractStridedSlice S5000x1 ![0, 1] · slices_S5000x4_S5000x1_0_1) : (⟨S5000x4, .f32⟩ : BufTy).Contents (Elt F) → (⟨S5000x1, .f32⟩ : BufTy).Contents (Elt F)),
    reshape main_v157 main_v158 (rfl : (.f32 : EltTy) = .f32) shapeCasts_S5000x1_S5000,
    unary main_v0 main_v159 ((extractStridedSlice S5000x1 ![0, 2] · slices_S5000x4_S5000x1_0_2) : (⟨S5000x4, .f32⟩ : BufTy).Contents (Elt F) → (⟨S5000x1, .f32⟩ : BufTy).Contents (Elt F)),
    reshape main_v159 main_v160 (rfl : (.f32 : EltTy) = .f32) shapeCasts_S5000x1_S5000,
    unary main_v0 main_v161 ((extractStridedSlice S5000x1 ![0, 3] · slices_S5000x4_S5000x1_0_3) : (⟨S5000x4, .f32⟩ : BufTy).Contents (Elt F) → (⟨S5000x1, .f32⟩ : BufTy).Contents (Elt F)),
    reshape main_v161 main_v162 (rfl : (.f32 : EltTy) = .f32) shapeCasts_S5000x1_S5000,
    unary main_v75 main_v163 ((extractStridedSlice S5000x1 ![0, 0] · slices_S5000x4_S5000x1_0_0) : (⟨S5000x4, .f32⟩ : BufTy).Contents (Elt F) → (⟨S5000x1, .f32⟩ : BufTy).Contents (Elt F)),
    reshape main_v163 main_v164 (rfl : (.f32 : EltTy) = .f32) shapeCasts_S5000x1_S5000,
    unary main_v75 main_v165 ((extractStridedSlice S5000x1 ![0, 1] · slices_S5000x4_S5000x1_0_1) : (⟨S5000x4, .f32⟩ : BufTy).Contents (Elt F) → (⟨S5000x1, .f32⟩ : BufTy).Contents (Elt F)),
    reshape main_v165 main_v166 (rfl : (.f32 : EltTy) = .f32) shapeCasts_S5000x1_S5000,
    unary main_v75 main_v167 ((extractStridedSlice S5000x1 ![0, 2] · slices_S5000x4_S5000x1_0_2) : (⟨S5000x4, .f32⟩ : BufTy).Contents (Elt F) → (⟨S5000x1, .f32⟩ : BufTy).Contents (Elt F)),
    reshape main_v167 main_v168 (rfl : (.f32 : EltTy) = .f32) shapeCasts_S5000x1_S5000,
    unary main_v75 main_v169 ((extractStridedSlice S5000x1 ![0, 3] · slices_S5000x4_S5000x1_0_3) : (⟨S5000x4, .f32⟩ : BufTy).Contents (Elt F) → (⟨S5000x1, .f32⟩ : BufTy).Contents (Elt F)),
    reshape main_v169 main_v170 (rfl : (.f32 : EltTy) = .f32) shapeCasts_S5000x1_S5000,
    binary main_v160 main_v156 main_v171 (subf : (⟨S5000, .f32⟩ : BufTy).Contents (Elt F) → (⟨S5000, .f32⟩ : BufTy).Contents (Elt F) → (⟨S5000, .f32⟩ : BufTy).Contents (Elt F)),
    binary main_v162 main_v158 main_v172 (subf : (⟨S5000, .f32⟩ : BufTy).Contents (Elt F) → (⟨S5000, .f32⟩ : BufTy).Contents (Elt F) → (⟨S5000, .f32⟩ : BufTy).Contents (Elt F)),
    nullary main_cst_34 (constant S_ .f32 0x33D6BF95#32) ]

/-- @main's operations 223 … 252 of 306 (window `main_part3`). -/
abbrev ops_part3_1 : List (HloOp τ sig (Elt F)) :=
  [ unary main_cst_34 main_v173 (broadcastInDim S5000 ![] bcast_S_S5000 : (⟨S_, .f32⟩ : BufTy).Contents (Elt F) → (⟨S5000, .f32⟩ : BufTy).Contents (Elt F)),
    binary main_v172 main_v173 main_v174 (addf : (⟨S5000, .f32⟩ : BufTy).Contents (Elt F) → (⟨S5000, .f32⟩ : BufTy).Contents (Elt F) → (⟨S5000, .f32⟩ : BufTy).Contents (Elt F)),
    binary main_v168 main_v164 main_v175 (subf : (⟨S5000, .f32⟩ : BufTy).Contents (Elt F) → (⟨S5000, .f32⟩ : BufTy).Contents (Elt F) → (⟨S5000, .f32⟩ : BufTy).Contents (Elt F)),
    binary main_v170 main_v166 main_v176 (subf : (⟨S5000, .f32⟩ : BufTy).Contents (Elt F) → (⟨S5000, .f32⟩ : BufTy).Contents (Elt F) → (⟨S5000, .f32⟩ : BufTy).Contents (Elt F)),
    nullary main_cst_35 (constant S_ .f32 0x33D6BF95#32),
    unary main_cst_35 main_v177 (broadcastInDim S5000 ![] bcast_S_S5000 : (⟨S_, .f32⟩ : BufTy).Contents (Elt F) → (⟨S5000, .f32⟩ : BufTy).Contents (Elt F)),
    binary main_v176 main_v177 main_v178 (addf : (⟨S5000, .f32⟩ : BufTy).Contents (Elt F) → (⟨S5000, .f32⟩ : BufTy).Contents (Elt F) → (⟨S5000, .f32⟩ : BufTy).Contents (Elt F)),
    binary main_v160 main_v168 main_v179 (minimumf : (⟨S5000, .f32⟩ : BufTy).Contents (Elt F) → (⟨S5000, .f32⟩ : BufTy).Contents (Elt F) → (⟨S5000, .f32⟩ : BufTy).Contents (Elt F)),
    binary main_v156 main_v164 main_v180 (maximumf : (⟨S5000, .f32⟩ : BufTy).Contents (Elt F) → (⟨S5000, .f32⟩ : BufTy).Contents (Elt F) → (⟨S5000, .f32⟩ : BufTy).Contents (Elt F)),
    binary main_v179 main_v180 main_v181 (subf : (⟨S5000, .f32⟩ : BufTy).Contents (Elt F) → (⟨S5000, .f32⟩ : BufTy).Contents (Elt F) → (⟨S5000, .f32⟩ : BufTy).Contents (Elt F)),
    nullary main_cst_36 (constant S_ .f32 0x00000000#32),
    TRef.unary (TRef.of (T := ⟨S_, .f32⟩) main_cst_36) (TRef.of (T := ⟨S_, .f32⟩) main_call5_v0) id,
    TRef.unary (TRef.of (T := ⟨S_, .f32⟩) main_call5_v0) (TRef.of (T := ⟨S5000, .f32⟩) main_call5_v1) (broadcastInDim S5000 ![] bcast_S_S5000),
    TRef.binary (TRef.of (T := ⟨S5000, .f32⟩) main_call5_v1) (TRef.of (T := ⟨S5000, .f32⟩) main_v181) (TRef.of (T := ⟨S5000, .f32⟩) main_v182) maximumf,
    binary main_v162 main_v170 main_v183 (minimumf : (⟨S5000, .f32⟩ : BufTy).Contents (Elt F) → (⟨S5000, .f32⟩ : BufTy).Contents (Elt F) → (⟨S5000, .f32⟩ : BufTy).Contents (Elt F)),
    binary main_v158 main_v166 main_v184 (maximumf : (⟨S5000, .f32⟩ : BufTy).Contents (Elt F) → (⟨S5000, .f32⟩ : BufTy).Contents (Elt F) → (⟨S5000, .f32⟩ : BufTy).Contents (Elt F)),
    binary main_v183 main_v184 main_v185 (subf : (⟨S5000, .f32⟩ : BufTy).Contents (Elt F) → (⟨S5000, .f32⟩ : BufTy).Contents (Elt F) → (⟨S5000, .f32⟩ : BufTy).Contents (Elt F)),
    nullary main_cst_37 (constant S_ .f32 0x00000000#32),
    TRef.unary (TRef.of (T := ⟨S_, .f32⟩) main_cst_37) (TRef.of (T := ⟨S_, .f32⟩) main_call6_v0) id,
    TRef.unary (TRef.of (T := ⟨S_, .f32⟩) main_call6_v0) (TRef.of (T := ⟨S5000, .f32⟩) main_call6_v1) (broadcastInDim S5000 ![] bcast_S_S5000),
    TRef.binary (TRef.of (T := ⟨S5000, .f32⟩) main_call6_v1) (TRef.of (T := ⟨S5000, .f32⟩) main_v185) (TRef.of (T := ⟨S5000, .f32⟩) main_v186) maximumf,
    binary main_v182 main_v186 main_v187 (mulf : (⟨S5000, .f32⟩ : BufTy).Contents (Elt F) → (⟨S5000, .f32⟩ : BufTy).Contents (Elt F) → (⟨S5000, .f32⟩ : BufTy).Contents (Elt F)),
    binary main_v171 main_v174 main_v188 (mulf : (⟨S5000, .f32⟩ : BufTy).Contents (Elt F) → (⟨S5000, .f32⟩ : BufTy).Contents (Elt F) → (⟨S5000, .f32⟩ : BufTy).Contents (Elt F)),
    binary main_v175 main_v178 main_v189 (mulf : (⟨S5000, .f32⟩ : BufTy).Contents (Elt F) → (⟨S5000, .f32⟩ : BufTy).Contents (Elt F) → (⟨S5000, .f32⟩ : BufTy).Contents (Elt F)),
    binary main_v188 main_v189 main_v190 (addf : (⟨S5000, .f32⟩ : BufTy).Contents (Elt F) → (⟨S5000, .f32⟩ : BufTy).Contents (Elt F) → (⟨S5000, .f32⟩ : BufTy).Contents (Elt F)),
    binary main_v190 main_v187 main_v191 (subf : (⟨S5000, .f32⟩ : BufTy).Contents (Elt F) → (⟨S5000, .f32⟩ : BufTy).Contents (Elt F) → (⟨S5000, .f32⟩ : BufTy).Contents (Elt F)),
    nullary main_cst_38 (constant S_ .f32 0x33D6BF95#32),
    unary main_cst_38 main_v192 (broadcastInDim S5000 ![] bcast_S_S5000 : (⟨S_, .f32⟩ : BufTy).Contents (Elt F) → (⟨S5000, .f32⟩ : BufTy).Contents (Elt F)),
    binary main_v191 main_v192 main_v193 (addf : (⟨S5000, .f32⟩ : BufTy).Contents (Elt F) → (⟨S5000, .f32⟩ : BufTy).Contents (Elt F) → (⟨S5000, .f32⟩ : BufTy).Contents (Elt F)),
    binary main_v187 main_v193 main_v194 (Host.divf : (⟨S5000, .f32⟩ : BufTy).Contents (Elt F) → (⟨S5000, .f32⟩ : BufTy).Contents (Elt F) → (⟨S5000, .f32⟩ : BufTy).Contents (Elt F)) ]

/-- @main's operations 253 … 256 of 306 (window `main_part3`). -/
abbrev ops_part3_2 : List (HloOp τ sig (Elt F)) :=
  [ binary main_v160 main_v168 main_v195 (maximumf : (⟨S5000, .f32⟩ : BufTy).Contents (Elt F) → (⟨S5000, .f32⟩ : BufTy).Contents (Elt F) → (⟨S5000, .f32⟩ : BufTy).Contents (Elt F)),
    binary main_v156 main_v164 main_v196 (minimumf : (⟨S5000, .f32⟩ : BufTy).Contents (Elt F) → (⟨S5000, .f32⟩ : BufTy).Contents (Elt F) → (⟨S5000, .f32⟩ : BufTy).Contents (Elt F)),
    binary main_v195 main_v196 main_v197 (subf : (⟨S5000, .f32⟩ : BufTy).Contents (Elt F) → (⟨S5000, .f32⟩ : BufTy).Contents (Elt F) → (⟨S5000, .f32⟩ : BufTy).Contents (Elt F)),
    binary main_v162 main_v170 main_v198 (maximumf : (⟨S5000, .f32⟩ : BufTy).Contents (Elt F) → (⟨S5000, .f32⟩ : BufTy).Contents (Elt F) → (⟨S5000, .f32⟩ : BufTy).Contents (Elt F)) ]

/-- Window `main_part3`'s operations. Not an abbreviation: `main_eq` below splits `ops` into the windows and no further. -/
def ops_part3 : List (HloOp τ sig (Elt F)) :=
  ops_part3_0 ++ (ops_part3_1 ++ (ops_part3_2))

/-- @main's operations 257 … 306 of 306 (window `main_part4`). -/
abbrev ops_part4 : List (HloOp τ sig (Elt F)) :=
  [ binary main_v158 main_v166 main_v199 (minimumf : (⟨S5000, .f32⟩ : BufTy).Contents (Elt F) → (⟨S5000, .f32⟩ : BufTy).Contents (Elt F) → (⟨S5000, .f32⟩ : BufTy).Contents (Elt F)),
    binary main_v198 main_v199 main_v200 (subf : (⟨S5000, .f32⟩ : BufTy).Contents (Elt F) → (⟨S5000, .f32⟩ : BufTy).Contents (Elt F) → (⟨S5000, .f32⟩ : BufTy).Contents (Elt F)),
    binary main_v197 main_v197 main_v201 (mulf : (⟨S5000, .f32⟩ : BufTy).Contents (Elt F) → (⟨S5000, .f32⟩ : BufTy).Contents (Elt F) → (⟨S5000, .f32⟩ : BufTy).Contents (Elt F)),
    binary main_v200 main_v200 main_v202 (mulf : (⟨S5000, .f32⟩ : BufTy).Contents (Elt F) → (⟨S5000, .f32⟩ : BufTy).Contents (Elt F) → (⟨S5000, .f32⟩ : BufTy).Contents (Elt F)),
    binary main_v201 main_v202 main_v203 (addf : (⟨S5000, .f32⟩ : BufTy).Contents (Elt F) → (⟨S5000, .f32⟩ : BufTy).Contents (Elt F) → (⟨S5000, .f32⟩ : BufTy).Contents (Elt F)),
    nullary main_cst_39 (constant S_ .f32 0x33D6BF95#32),
    unary main_cst_39 main_v204 (broadcastInDim S5000 ![] bcast_S_S5000 : (⟨S_, .f32⟩ : BufTy).Contents (Elt F) → (⟨S5000, .f32⟩ : BufTy).Contents (Elt F)),
    binary main_v203 main_v204 main_v205 (addf : (⟨S5000, .f32⟩ : BufTy).Contents (Elt F) → (⟨S5000, .f32⟩ : BufTy).Contents (Elt F) → (⟨S5000, .f32⟩ : BufTy).Contents (Elt F)),
    binary main_v164 main_v168 main_v206 (addf : (⟨S5000, .f32⟩ : BufTy).Contents (Elt F) → (⟨S5000, .f32⟩ : BufTy).Contents (Elt F) → (⟨S5000, .f32⟩ : BufTy).Contents (Elt F)),
    binary main_v206 main_v156 main_v207 (subf : (⟨S5000, .f32⟩ : BufTy).Contents (Elt F) → (⟨S5000, .f32⟩ : BufTy).Contents (Elt F) → (⟨S5000, .f32⟩ : BufTy).Contents (Elt F)),
    binary main_v207 main_v160 main_v208 (subf : (⟨S5000, .f32⟩ : BufTy).Contents (Elt F) → (⟨S5000, .f32⟩ : BufTy).Contents (Elt F) → (⟨S5000, .f32⟩ : BufTy).Contents (Elt F)),
    binary main_v208 main_v208 main_v209 (mulf : (⟨S5000, .f32⟩ : BufTy).Contents (Elt F) → (⟨S5000, .f32⟩ : BufTy).Contents (Elt F) → (⟨S5000, .f32⟩ : BufTy).Contents (Elt F)),
    binary main_v166 main_v170 main_v210 (addf : (⟨S5000, .f32⟩ : BufTy).Contents (Elt F) → (⟨S5000, .f32⟩ : BufTy).Contents (Elt F) → (⟨S5000, .f32⟩ : BufTy).Contents (Elt F)),
    binary main_v210 main_v158 main_v211 (subf : (⟨S5000, .f32⟩ : BufTy).Contents (Elt F) → (⟨S5000, .f32⟩ : BufTy).Contents (Elt F) → (⟨S5000, .f32⟩ : BufTy).Contents (Elt F)),
    binary main_v211 main_v162 main_v212 (subf : (⟨S5000, .f32⟩ : BufTy).Contents (Elt F) → (⟨S5000, .f32⟩ : BufTy).Contents (Elt F) → (⟨S5000, .f32⟩ : BufTy).Contents (Elt F)),
    binary main_v212 main_v212 main_v213 (mulf : (⟨S5000, .f32⟩ : BufTy).Contents (Elt F) → (⟨S5000, .f32⟩ : BufTy).Contents (Elt F) → (⟨S5000, .f32⟩ : BufTy).Contents (Elt F)),
    binary main_v209 main_v213 main_v214 (addf : (⟨S5000, .f32⟩ : BufTy).Contents (Elt F) → (⟨S5000, .f32⟩ : BufTy).Contents (Elt F) → (⟨S5000, .f32⟩ : BufTy).Contents (Elt F)),
    nullary main_cst_40 (constant S_ .f32 0x40800000#32),
    unary main_cst_40 main_v215 (broadcastInDim S5000 ![] bcast_S_S5000 : (⟨S_, .f32⟩ : BufTy).Contents (Elt F) → (⟨S5000, .f32⟩ : BufTy).Contents (Elt F)),
    binary main_v214 main_v215 main_v216 (Host.divf : (⟨S5000, .f32⟩ : BufTy).Contents (Elt F) → (⟨S5000, .f32⟩ : BufTy).Contents (Elt F) → (⟨S5000, .f32⟩ : BufTy).Contents (Elt F)),
    binary main_v175 main_v178 main_v217 (Host.divf : (⟨S5000, .f32⟩ : BufTy).Contents (Elt F) → (⟨S5000, .f32⟩ : BufTy).Contents (Elt F) → (⟨S5000, .f32⟩ : BufTy).Contents (Elt F)),
    unary main_v217 main_v218 (Host.atan : (⟨S5000, .f32⟩ : BufTy).Contents (Elt F) → (⟨S5000, .f32⟩ : BufTy).Contents (Elt F)),
    binary main_v171 main_v174 main_v219 (Host.divf : (⟨S5000, .f32⟩ : BufTy).Contents (Elt F) → (⟨S5000, .f32⟩ : BufTy).Contents (Elt F) → (⟨S5000, .f32⟩ : BufTy).Contents (Elt F)),
    unary main_v219 main_v220 (Host.atan : (⟨S5000, .f32⟩ : BufTy).Contents (Elt F) → (⟨S5000, .f32⟩ : BufTy).Contents (Elt F)),
    binary main_v218 main_v220 main_v221 (subf : (⟨S5000, .f32⟩ : BufTy).Contents (Elt F) → (⟨S5000, .f32⟩ : BufTy).Contents (Elt F) → (⟨S5000, .f32⟩ : BufTy).Contents (Elt F)),
    binary main_v221 main_v221 main_v222 (mulf : (⟨S5000, .f32⟩ : BufTy).Contents (Elt F) → (⟨S5000, .f32⟩ : BufTy).Contents (Elt F) → (⟨S5000, .f32⟩ : BufTy).Contents (Elt F)),
    nullary main_cst_41 (constant S_ .f32 0x3ECF817B#32),
    unary main_cst_41 main_v223 (broadcastInDim S5000 ![] bcast_S_S5000 : (⟨S_, .f32⟩ : BufTy).Contents (Elt F) → (⟨S5000, .f32⟩ : BufTy).Contents (Elt F)),
    binary main_v223 main_v222 main_v224 (mulf : (⟨S5000, .f32⟩ : BufTy).Contents (Elt F) → (⟨S5000, .f32⟩ : BufTy).Contents (Elt F) → (⟨S5000, .f32⟩ : BufTy).Contents (Elt F)),
    binary main_v224 main_v194 main_v225 (subf : (⟨S5000, .f32⟩ : BufTy).Contents (Elt F) → (⟨S5000, .f32⟩ : BufTy).Contents (Elt F) → (⟨S5000, .f32⟩ : BufTy).Contents (Elt F)),
    nullary main_cst_42 (constant S_ .f32 0x3F800001#32),
    unary main_cst_42 main_v226 (broadcastInDim S5000 ![] bcast_S_S5000 : (⟨S_, .f32⟩ : BufTy).Contents (Elt F) → (⟨S5000, .f32⟩ : BufTy).Contents (Elt F)),
    binary main_v225 main_v226 main_v227 (addf : (⟨S5000, .f32⟩ : BufTy).Contents (Elt F) → (⟨S5000, .f32⟩ : BufTy).Contents (Elt F) → (⟨S5000, .f32⟩ : BufTy).Contents (Elt F)),
    binary main_v224 main_v227 main_v228 (Host.divf : (⟨S5000, .f32⟩ : BufTy).Contents (Elt F) → (⟨S5000, .f32⟩ : BufTy).Contents (Elt F) → (⟨S5000, .f32⟩ : BufTy).Contents (Elt F)),
    binary main_v216 main_v205 main_v229 (Host.divf : (⟨S5000, .f32⟩ : BufTy).Contents (Elt F) → (⟨S5000, .f32⟩ : BufTy).Contents (Elt F) → (⟨S5000, .f32⟩ : BufTy).Contents (Elt F)),
    binary main_v224 main_v228 main_v230 (mulf : (⟨S5000, .f32⟩ : BufTy).Contents (Elt F) → (⟨S5000, .f32⟩ : BufTy).Contents (Elt F) → (⟨S5000, .f32⟩ : BufTy).Contents (Elt F)),
    binary main_v229 main_v230 main_v231 (addf : (⟨S5000, .f32⟩ : BufTy).Contents (Elt F) → (⟨S5000, .f32⟩ : BufTy).Contents (Elt F) → (⟨S5000, .f32⟩ : BufTy).Contents (Elt F)),
    binary main_v194 main_v231 main_v232 (subf : (⟨S5000, .f32⟩ : BufTy).Contents (Elt F) → (⟨S5000, .f32⟩ : BufTy).Contents (Elt F) → (⟨S5000, .f32⟩ : BufTy).Contents (Elt F)),
    nullary main_cst_43 (constant S_ .f32 0x3F800000#32),
    unary main_cst_43 main_v233 (broadcastInDim S5000 ![] bcast_S_S5000 : (⟨S_, .f32⟩ : BufTy).Contents (Elt F) → (⟨S5000, .f32⟩ : BufTy).Contents (Elt F)),
    binary main_v233 main_v232 main_v234 (subf : (⟨S5000, .f32⟩ : BufTy).Contents (Elt F) → (⟨S5000, .f32⟩ : BufTy).Contents (Elt F) → (⟨S5000, .f32⟩ : BufTy).Contents (Elt F)),
    binary main_v66 main_v234 main_v235 (mulf : (⟨S5000, .f32⟩ : BufTy).Contents (Elt F) → (⟨S5000, .f32⟩ : BufTy).Contents (Elt F) → (⟨S5000, .f32⟩ : BufTy).Contents (Elt F)),
    nullary main_cst_44 (constant S_ .f32 0x00000000#32),
    binary main_v235 main_cst_44 main_v236 ((fun x v => Host.reduceAdd x v reducesTo_S5000_S_d0 h_S_) : (⟨S5000, .f32⟩ : BufTy).Contents (Elt F) → (⟨S_, .f32⟩ : BufTy).Contents (Elt F) → (⟨S_, .f32⟩ : BufTy).Contents (Elt F)),
    binary main_v236 main_v68 main_v237 (Host.divf : (⟨S_, .f32⟩ : BufTy).Contents (Elt F) → (⟨S_, .f32⟩ : BufTy).Contents (Elt F) → (⟨S_, .f32⟩ : BufTy).Contents (Elt F)),
    nullary main_cst_45 (constant S_ .f32 0x3F000000#32),
    binary main_cst_45 main_v154 main_v238 (mulf : (⟨S_, .f32⟩ : BufTy).Contents (Elt F) → (⟨S_, .f32⟩ : BufTy).Contents (Elt F) → (⟨S_, .f32⟩ : BufTy).Contents (Elt F)),
    nullary main_cst_46 (constant S_ .f32 0x40F00000#32),
    binary main_cst_46 main_v237 main_v239 (mulf : (⟨S_, .f32⟩ : BufTy).Contents (Elt F) → (⟨S_, .f32⟩ : BufTy).Contents (Elt F) → (⟨S_, .f32⟩ : BufTy).Contents (Elt F)),
    binary main_v238 main_v239 main_v240 (addf : (⟨S_, .f32⟩ : BufTy).Contents (Elt F) → (⟨S_, .f32⟩ : BufTy).Contents (Elt F) → (⟨S_, .f32⟩ : BufTy).Contents (Elt F)) ]

/-- @main's 306 operations, in order (a called function's operations stand in its call's place, spelt `TRef.…`). -/
abbrev ops : List (HloOp τ sig (Elt F)) :=
  ops_part0 ++ (ops_part1 ++ (ops_part2 ++ (ops_part3 ++ (ops_part4))))

set_option maxRecDepth 8192 in
set_option maxHeartbeats 4000000 in
theorem main_part0_eq (c : Dev nD) : main_part0 (F := F) c = seq ops_part0 := rfl
set_option maxRecDepth 8192 in
set_option maxHeartbeats 4000000 in
theorem main_part1_eq (c : Dev nD) : main_part1 (F := F) c = seq ops_part1 := rfl
set_option maxRecDepth 8192 in
set_option maxHeartbeats 4000000 in
theorem main_part2_eq (c : Dev nD) : main_part2 (F := F) c = seq ops_part2 := rfl
set_option maxRecDepth 8192 in
set_option maxHeartbeats 4000000 in
theorem main_part3_eq (c : Dev nD) : main_part3 (F := F) c = seq ops_part3 := rfl
set_option maxRecDepth 8192 in
theorem main_part4_eq (c : Dev nD) : main_part4 (F := F) c = seq ops_part4 := rfl
set_option maxRecDepth 8192 in
theorem main_eq (c : Dev nD) : main (F := F) c = seq ops := by
  simp only [ops, seq_append, ← main_part0_eq c, ← main_part1_eq c, ← main_part2_eq c, ← main_part3_eq c, ← main_part4_eq c]
  rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., unary_bufs_sub .., reshape_bufs_sub .., unary_bufs_sub .., reshape_bufs_sub .., unary_bufs_sub .., unary_bufs_sub .., unary_bufs_sub .., reshape_bufs_sub .., unary_bufs_sub .., unary_bufs_sub .., reshape_bufs_sub .., unary_bufs_sub .., reshape_bufs_sub .., binary_bufs_sub .., unary_bufs_sub .., reshape_bufs_sub .., unary_bufs_sub .., reshape_bufs_sub .., binary_bufs_sub .., binary_bufs_sub .., unary_bufs_sub .., reshape_bufs_sub .., unary_bufs_sub .., reshape_bufs_sub .., binary_bufs_sub .., unary_bufs_sub .., reshape_bufs_sub .., unary_bufs_sub .., reshape_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., binary_bufs_sub .., unary_bufs_sub .., unary_bufs_sub .., unary_bufs_sub .., unary_bufs_sub .., unary_bufs_sub .., unary_bufs_sub .., binary_bufs_sub .., unary_bufs_sub .., unary_bufs_sub .., unary_bufs_sub .., unary_bufs_sub .., unary_bufs_sub .., unary_bufs_sub .., binary_bufs_sub .., binary_bufs_sub .., nullary_bufs_sub .., unary_bufs_sub .., unary_bufs_sub .., binary_bufs_sub .., unary_bufs_sub .., reshape_bufs_sub .., unary_bufs_sub .., reshape_bufs_sub .., binary_bufs_sub .., unary_bufs_sub .., unary_bufs_sub .., unary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., binary_bufs_sub ..⟩
set_option maxRecDepth 8192 in
theorem ops_part0_2_fresh : (ops_part0_2 : List (HloOp τ sig (Elt F))).Forall fun op => op.fresh = ∅ :=
  ⟨rfl, rfl⟩
set_option maxRecDepth 8192 in
theorem ops_part1_0_sub : (ops_part1_0 : List (HloOp τ sig (Elt F))).Forall fun op => op.bufs ⊆ tcRefs τ sig :=
  ⟨nullary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., nullary_bufs_sub .., unary_bufs_sub .., binary_bufs_sub .., unary_bufs_sub .., nullary_bufs_sub .., binary_bufs_sub .., nullary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub ..⟩
set_option maxRecDepth 8192 in
theorem ops_part1_0_fresh : (ops_part1_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_1_sub : (ops_part1_1 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub ..⟩
set_option maxRecDepth 8192 in
theorem ops_part1_1_fresh : (ops_part1_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_2_sub : (ops_part1_2 : List (HloOp τ sig (Elt F))).Forall fun op => op.bufs ⊆ tcRefs τ sig :=
  ⟨unary_bufs_sub .., nullary_bufs_sub .., unary_bufs_sub .., binary_bufs_sub ..⟩
set_option maxRecDepth 8192 in
theorem ops_part1_2_fresh : (ops_part1_2 : List (HloOp τ sig (Elt F))).Forall fun op => op.fresh = ∅ :=
  ⟨rfl, rfl, rfl, rfl⟩
set_option maxRecDepth 8192 in
theorem ops_part2_0_sub : (ops_part2_0 : List (HloOp τ sig (Elt F))).Forall fun op => op.bufs ⊆ tcRefs τ sig :=
  ⟨nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub .., nullary_bufs_sub .., unary_bufs_sub .., binary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub ..⟩
set_option maxRecDepth 8192 in
theorem ops_part2_0_fresh : (ops_part2_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_1_sub : (ops_part2_1 : List (HloOp τ sig (Elt F))).Forall fun op => op.bufs ⊆ tcRefs τ sig :=
  ⟨unary_bufs_sub .., unary_bufs_sub .., nullary_bufs_sub .., unary_bufs_sub .., binary_bufs_sub .., binary_bufs_sub .., nullary_bufs_sub .., unary_bufs_sub .., binary_bufs_sub .., binary_bufs_sub .., binary_bufs_sub .., unary_bufs_sub .., nullary_bufs_sub .., binary_bufs_sub .., nullary_bufs_sub .., binary_bufs_sub .., binary_bufs_sub .., unary_bufs_sub .., unary_bufs_sub .., nullary_bufs_sub .., unary_bufs_sub .., unary_bufs_sub .., ternary_bufs_sub .., nullary_bufs_sub .., binary_bufs_sub .., binary_bufs_sub .., nullary_bufs_sub .., unary_bufs_sub .., nullary_bufs_sub .., unary_bufs_sub ..⟩
set_option maxRecDepth 8192 in
theorem ops_part2_1_fresh : (ops_part2_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part2_2_sub : (ops_part2_2 : List (HloOp τ sig (Elt F))).Forall fun op => op.bufs ⊆ tcRefs τ sig :=
  ⟨binary_bufs_sub .., nullary_bufs_sub .., unary_bufs_sub .., binary_bufs_sub .., ternary_bufs_sub .., unary_bufs_sub ..⟩
set_option maxRecDepth 8192 in
theorem ops_part2_2_fresh : (ops_part2_2 : List (HloOp τ sig (Elt F))).Forall fun op => op.fresh = ∅ :=
  ⟨rfl, rfl, rfl, rfl, rfl, rfl⟩
set_option maxRecDepth 8192 in
theorem ops_part3_0_sub : (ops_part3_0 : List (HloOp τ sig (Elt F))).Forall fun op => op.bufs ⊆ tcRefs τ sig :=
  ⟨ternary_bufs_sub .., nullary_bufs_sub .., unary_bufs_sub .., binary_bufs_sub .., unary_bufs_sub .., nullary_bufs_sub .., binary_bufs_sub .., nullary_bufs_sub .., binary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., binary_bufs_sub .., nullary_bufs_sub ..⟩
set_option maxRecDepth 8192 in
theorem ops_part3_0_fresh : (ops_part3_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_1_sub : (ops_part3_1 : List (HloOp τ sig (Elt F))).Forall fun op => op.bufs ⊆ tcRefs τ sig :=
  ⟨unary_bufs_sub .., binary_bufs_sub .., binary_bufs_sub .., binary_bufs_sub .., nullary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., nullary_bufs_sub .., unary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub ..⟩
set_option maxRecDepth 8192 in
theorem ops_part3_1_fresh : (ops_part3_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part3_2_sub : (ops_part3_2 : List (HloOp τ sig (Elt F))).Forall fun op => op.bufs ⊆ tcRefs τ sig :=
  ⟨binary_bufs_sub .., binary_bufs_sub .., binary_bufs_sub .., binary_bufs_sub ..⟩
set_option maxRecDepth 8192 in
theorem ops_part3_2_fresh : (ops_part3_2 : List (HloOp τ sig (Elt F))).Forall fun op => op.fresh = ∅ :=
  ⟨rfl, rfl, rfl, rfl⟩
set_option maxRecDepth 8192 in
theorem ops_part4_sub : (ops_part4 : List (HloOp τ sig (Elt F))).Forall fun op => op.bufs ⊆ tcRefs τ sig :=
  ⟨binary_bufs_sub .., binary_bufs_sub .., binary_bufs_sub .., binary_bufs_sub .., binary_bufs_sub .., nullary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., unary_bufs_sub .., binary_bufs_sub .., binary_bufs_sub .., unary_bufs_sub .., binary_bufs_sub .., unary_bufs_sub .., binary_bufs_sub .., binary_bufs_sub .., nullary_bufs_sub .., unary_bufs_sub .., binary_bufs_sub .., binary_bufs_sub .., nullary_bufs_sub .., unary_bufs_sub .., binary_bufs_sub .., binary_bufs_sub .., binary_bufs_sub .., binary_bufs_sub .., binary_bufs_sub .., binary_bufs_sub .., nullary_bufs_sub .., unary_bufs_sub .., binary_bufs_sub .., binary_bufs_sub .., nullary_bufs_sub .., binary_bufs_sub .., binary_bufs_sub .., nullary_bufs_sub .., binary_bufs_sub .., nullary_bufs_sub .., binary_bufs_sub .., binary_bufs_sub ..⟩
set_option maxRecDepth 8192 in
theorem ops_part4_fresh : (ops_part4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem ops_sub : (ops : List (HloOp τ sig (Elt F))).Forall fun op => op.bufs ⊆ tcRefs τ sig :=
  List.forall_iff_forall_mem.mpr fun op h => by
    simp only [ops, ops_part0, ops_part1, ops_part2, ops_part3, List.mem_append, or_assoc] at h
    rcases h with h | h | h | h | h | h | h | h | h | h | h | h | h
    exacts [List.forall_iff_forall_mem.mp ops_part0_0_sub op h, List.forall_iff_forall_mem.mp ops_part0_1_sub op h, List.forall_iff_forall_mem.mp ops_part0_2_sub op h, List.forall_iff_forall_mem.mp ops_part1_0_sub op h, List.forall_iff_forall_mem.mp ops_part1_1_sub op h, List.forall_iff_forall_mem.mp ops_part1_2_sub op h, List.forall_iff_forall_mem.mp ops_part2_0_sub op h, List.forall_iff_forall_mem.mp ops_part2_1_sub op h, List.forall_iff_forall_mem.mp ops_part2_2_sub op h, List.forall_iff_forall_mem.mp ops_part3_0_sub op h, List.forall_iff_forall_mem.mp ops_part3_1_sub op h, List.forall_iff_forall_mem.mp ops_part3_2_sub op h, List.forall_iff_forall_mem.mp ops_part4_sub op h]
theorem ops_fresh : ∀ op ∈ (ops : List (HloOp τ sig (Elt F))), op.fresh = ∅ := fun op h => by
    simp only [ops, ops_part0, ops_part1, ops_part2, ops_part3, List.mem_append, or_assoc] at h
    rcases h with h | h | h | h | h | h | h | h | h | h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_0_fresh op h, List.forall_iff_forall_mem.mp ops_part1_1_fresh op h, List.forall_iff_forall_mem.mp ops_part1_2_fresh op h, List.forall_iff_forall_mem.mp ops_part2_0_fresh op h, List.forall_iff_forall_mem.mp ops_part2_1_fresh op h, List.forall_iff_forall_mem.mp ops_part2_2_fresh op h, List.forall_iff_forall_mem.mp ops_part3_0_fresh op h, List.forall_iff_forall_mem.mp ops_part3_1_fresh op h, List.forall_iff_forall_mem.mp ops_part3_2_fresh op h, List.forall_iff_forall_mem.mp ops_part4_fresh op h]

end Cert.ReferenceIdeal.Value

end

end
-- ==== Proof.RefRun.lean ====
/- What the reference's buffers hold after its operations, window by window, and its run. -/
module

public import proofs.«01_k».proof.Proof.RefOps
public import Idealize.ShloMosaic.Lib.Quiescent

@[expose] public section

set_option Elab.async false

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
/-- `main_v0`'s composed term of the arguments (named: it is used 10 times). -/
def res_main_v0 (V0 : Valuation τ sig (Elt F)) : (Proc.devRef .tc main_v0 : DevRef τ sig).ty.Contents (Elt F) :=
  extractStridedSlice S5000x4 ![0, 0] (V0 (Proc.devRef .tc main_arg0)) slices_S5000x6_S5000x4_0_0

set_option maxRecDepth 8192 in
/-- `main_v2`'s composed term of the arguments (named: it is used 2 times). -/
def res_main_v2 (V0 : Valuation τ sig (Elt F)) : (Proc.devRef .tc main_v2 : DevRef τ sig).ty.Contents (Elt F) :=
  shapeCast _ (extractStridedSlice S5000x1 ![0, 4] (V0 (Proc.devRef .tc main_arg0)) slices_S5000x6_S5000x1_0_4) shapeCasts_S5000x1_S5000

set_option maxRecDepth 8192 in
/-- `main_v5`'s composed term of the arguments (named: it is used 3 times). -/
def res_main_v5 (V0 : Valuation τ sig (Elt F)) : (Proc.devRef .tc main_v5 : DevRef τ sig).ty.Contents (Elt F) :=
  fptosi 32 (shapeCast _ (extractStridedSlice S5000x1 ![0, 5] (V0 (Proc.devRef .tc main_arg0)) slices_S5000x6_S5000x1_0_5) shapeCasts_S5000x1_S5000)

set_option maxRecDepth 8192 in
/-- `main_v6`'s composed term of the arguments (named: it is used 7 times). -/
def res_main_v6 (V0 : Valuation τ sig (Elt F)) : (Proc.devRef .tc main_v6 : DevRef τ sig).ty.Contents (Elt F) :=
  extractStridedSlice S2000x4 ![0, 0] (V0 (Proc.devRef .tc main_arg1)) slices_S2000x5_S2000x4_0_0

set_option maxRecDepth 8192 in
/-- `main_v47`'s composed term of the arguments (named: it is used 2 times). -/
def res_main_v47 (V0 : Valuation τ sig (Elt F)) : (Proc.devRef .tc main_v47 : DevRef τ sig).ty.Contents (Elt F) :=
  maximumf (broadcastInDim S5000x2000x2 ![] bcast_S_S5000x2000x2 (id (constant S_ .f32 0x00000000#32))) (subf (minimumf (broadcastInDim S5000x2000x2 ![0, 1, 2] bcast_S5000x1x2_S5000x2000x2_0_1_2 (broadcastInDim S5000x1x2 ![0, 2] bcast_S5000x2_S5000x1x2_0_2 (extractStridedSlice S5000x2 ![0, 2] (res_main_v0 V0) slices_S5000x4_S5000x2_0_2))) (broadcastInDim S5000x2000x2 ![0, 1, 2] bcast_S1x2000x2_S5000x2000x2_0_1_2 (broadcastInDim S1x2000x2 ![1, 2] bcast_S2000x2_S1x2000x2_1_2 (extractStridedSlice S2000x2 ![0, 2] (res_main_v6 V0) slices_S2000x4_S2000x2_0_2)))) (maximumf (broadcastInDim S5000x2000x2 ![0, 1, 2] bcast_S5000x1x2_S5000x2000x2_0_1_2 (broadcastInDim S5000x1x2 ![0, 2] bcast_S5000x2_S5000x1x2_0_2 (extractStridedSlice S5000x2 ![0, 0] (res_main_v0 V0) slices_S5000x4_S5000x2_0_0))) (broadcastInDim S5000x2000x2 ![0, 1, 2] bcast_S1x2000x2_S5000x2000x2_0_1_2 (broadcastInDim S1x2000x2 ![1, 2] bcast_S2000x2_S1x2000x2_1_2 (extractStridedSlice S2000x2 ![0, 0] (res_main_v6 V0) slices_S2000x4_S2000x2_0_0)))))

set_option maxRecDepth 8192 in
/-- `main_v52`'s composed term of the arguments (named: it is used 2 times). -/
def res_main_v52 (V0 : Valuation τ sig (Elt F)) : (Proc.devRef .tc main_v52 : DevRef τ sig).ty.Contents (Elt F) :=
  mulf (shapeCast _ (extractStridedSlice S5000x2000x1 ![0, 0, 0] (res_main_v47 V0) slices_S5000x2000x2_S5000x2000x1_0_0_0) shapeCasts_S5000x2000x1_S5000x2000) (shapeCast _ (extractStridedSlice S5000x2000x1 ![0, 0, 1] (res_main_v47 V0) slices_S5000x2000x2_S5000x2000x1_0_0_1) shapeCasts_S5000x2000x1_S5000x2000)

set_option maxRecDepth 8192 in
/-- `main_v61`'s composed term of the arguments (named: it is used 3 times). -/
def res_main_v61 (V0 : Valuation τ sig (Elt F)) : (Proc.devRef .tc main_v61 : DevRef τ sig).ty.Contents (Elt F) :=
  Host.divf (res_main_v52 V0) (addf (subf (addf (broadcastInDim S5000x2000 ![0, 1] bcast_S5000x1_S5000x2000_0_1 (broadcastInDim S5000x1 ![0] bcast_S5000_S5000x1_0 (mulf (subf (shapeCast _ (extractStridedSlice S5000x1 ![0, 2] (res_main_v0 V0) slices_S5000x4_S5000x1_0_2) shapeCasts_S5000x1_S5000) (shapeCast _ (extractStridedSlice S5000x1 ![0, 0] (res_main_v0 V0) slices_S5000x4_S5000x1_0_0) shapeCasts_S5000x1_S5000)) (subf (shapeCast _ (extractStridedSlice S5000x1 ![0, 3] (res_main_v0 V0) slices_S5000x4_S5000x1_0_3) shapeCasts_S5000x1_S5000) (shapeCast _ (extractStridedSlice S5000x1 ![0, 1] (res_main_v0 V0) slices_S5000x4_S5000x1_0_1) shapeCasts_S5000x1_S5000))))) (broadcastInDim S5000x2000 ![0, 1] bcast_S1x2000_S5000x2000_0_1 (broadcastInDim S1x2000 ![1] bcast_S2000_S1x2000_1 (mulf (subf (shapeCast _ (extractStridedSlice S2000x1 ![0, 2] (res_main_v6 V0) slices_S2000x4_S2000x1_0_2) shapeCasts_S2000x1_S2000) (shapeCast _ (extractStridedSlice S2000x1 ![0, 0] (res_main_v6 V0) slices_S2000x4_S2000x1_0_0) shapeCasts_S2000x1_S2000)) (subf (shapeCast _ (extractStridedSlice S2000x1 ![0, 3] (res_main_v6 V0) slices_S2000x4_S2000x1_0_3) shapeCasts_S2000x1_S2000) (shapeCast _ (extractStridedSlice S2000x1 ![0, 1] (res_main_v6 V0) slices_S2000x4_S2000x1_0_1) shapeCasts_S2000x1_S2000)))))) (res_main_v52 V0)) (broadcastInDim S5000x2000 ![] bcast_S_S5000x2000 (constant S_ .f32 0x33D6BF95#32)))

set_option maxRecDepth 8192 in
/-- `main_call1_v0`'s composed term of the arguments (named: it is used 2 times). -/
def res_main_call1_v0 (V0 : Valuation τ sig (Elt F)) : (Proc.devRef .tc main_call1_v0 : DevRef τ sig).ty.Contents (Elt F) :=
  iotaInDim S5000x2000 32 1

set_option maxRecDepth 8192 in
/-- `main_call1_cst`'s composed term of the arguments (named: it is used 2 times). -/
def res_main_call1_cst (V0 : Valuation τ sig (Elt F)) : (Proc.devRef .tc main_call1_cst : DevRef τ sig).ty.Contents (Elt F) :=
  constant S_ .f32 0xFF800000#32

set_option maxRecDepth 8192 in
/-- `main_call1_c`'s composed term of the arguments (named: it is used 2 times). -/
def res_main_call1_c (V0 : Valuation τ sig (Elt F)) : (Proc.devRef .tc main_call1_c : DevRef τ sig).ty.Contents (Elt F) :=
  constantI S_ 32 0#32

set_option maxRecDepth 8192 in
/-- `main_v63`'s composed term of the arguments (named: it is used 9 times). -/
def res_main_v63 (V0 : Valuation τ sig (Elt F)) : (Proc.devRef .tc main_v63 : DevRef τ sig).ty.Contents (Elt F) :=
  (fun j => (Host.argReduce reducer_argmax_f32_i32 (res_main_v61 V0) (res_main_call1_v0 V0) (res_main_call1_cst V0) (res_main_call1_c V0) reducesTo_S5000x2000_S5000_d1 h_S_ j).2)

set_option maxRecDepth 8192 in
/-- `main_v65`'s composed term of the arguments (named: it is used 2 times). -/
def res_main_v65 (V0 : Valuation τ sig (Elt F)) : (Proc.devRef .tc main_v65 : DevRef τ sig).ty.Contents (Elt F) :=
  cmpf .ogt (Host.reduce FloatOps.maximumf (res_main_v61 V0) (constant S_ .f32 0xFF800000#32) reducesTo_S5000x2000_S5000_d1 h_S_) (broadcastInDim S5000 ![] bcast_S_S5000 (constant S_ .f32 0x3EE66666#32))

set_option maxRecDepth 8192 in
/-- `main_v66`'s composed term of the arguments (named: it is used 5 times). -/
def res_main_v66 (V0 : Valuation τ sig (Elt F)) : (Proc.devRef .tc main_v66 : DevRef τ sig).ty.Contents (Elt F) :=
  uitofp .f32 (res_main_v65 V0)

set_option maxRecDepth 8192 in
/-- `main_v68`'s composed term of the arguments (named: it is used 2 times). -/
def res_main_v68 (V0 : Valuation τ sig (Elt F)) : (Proc.devRef .tc main_v68 : DevRef τ sig).ty.Contents (Elt F) :=
  maximumf (Host.reduceAdd (res_main_v66 V0) (constant S_ .f32 0x00000000#32) reducesTo_S5000_S_d0 h_S_) (constant S_ .f32 0x3F800000#32)

set_option maxRecDepth 8192 in
/-- `main_v75`'s composed term of the arguments (named: it is used 4 times). -/
def res_main_v75 (V0 : Valuation τ sig (Elt F)) : (Proc.devRef .tc main_v75 : DevRef τ sig).ty.Contents (Elt F) :=
  Host.gather gather_S2000x4_S5000x1_S5000x4_1_0_n_n_0_1_14 (res_main_v6 V0) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0)))

set_option maxRecDepth 8192 in
/-- `main_v82`'s composed term of the arguments (named: it is used 3 times). -/
def res_main_v82 (V0 : Valuation τ sig (Elt F)) : (Proc.devRef .tc main_v82 : DevRef τ sig).ty.Contents (Elt F) :=
  Host.gather gather_S2000_S5000x1_S5000_n_0_n_n_0_1_1 (fptosi 32 (shapeCast _ (extractStridedSlice S2000x1 ![0, 4] (V0 (Proc.devRef .tc main_arg1)) slices_S2000x5_S2000x1_0_4) shapeCasts_S2000x1_S2000)) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0)))

set_option maxRecDepth 8192 in
/-- `main_v83`'s composed term of the arguments (named: it is used 6 times). -/
def res_main_v83 (V0 : Valuation τ sig (Elt F)) : (Proc.devRef .tc main_v83 : DevRef τ sig).ty.Contents (Elt F) :=
  iotaInDim S5000 32 0

set_option maxRecDepth 8192 in
/-- `main_v99`'s composed term of the arguments (named: it is used 4 times). -/
def res_main_v99 (V0 : Valuation τ sig (Elt F)) : (Proc.devRef .tc main_v99 : DevRef τ sig).ty.Contents (Elt F) :=
  Host.scatter scatter_S5000x80_S5000x2_S5000_n_01_01_1 (fun _ b => b) (broadcastInDim S5000x80 ![] bcast_S_S5000x80 (constant S_ .f32 0x00000000#32)) (concatenate S5000x2 1 [⟨S5000x1, (broadcastInDim S5000x1 ![0] bcast_S5000_S5000x1_0 (select (cmpi .slt (res_main_v83 V0) (broadcastInDim S5000 ![] bcast_S_S5000 (constantI S_ 32 0#32))) (addi (res_main_v83 V0) (broadcastInDim S5000 ![] bcast_S_S5000 (constantI S_ 32 5000#32))) (res_main_v83 V0)))⟩, ⟨S5000x1, (broadcastInDim S5000x1 ![0] bcast_S5000_S5000x1_0 (select (cmpi .slt (res_main_v5 V0) (broadcastInDim S5000 ![] bcast_S_S5000 (constantI S_ 32 0#32))) (addi (res_main_v5 V0) (broadcastInDim S5000 ![] bcast_S_S5000 (constantI S_ 32 80#32))) (res_main_v5 V0)))⟩] concatenates_S5000x1_S5000x1_S5000x2_d1) (mulf (res_main_v2 V0) (res_main_v66 V0))

set_option maxRecDepth 8192 in
/-- `main_v114`'s composed term of the arguments (named: it is used 2 times). -/
def res_main_v114 (V0 : Valuation τ sig (Elt F)) : (Proc.devRef .tc main_v114 : DevRef τ sig).ty.Contents (Elt F) :=
  Host.scatter scatter_S5000x80_S5000x2_S5000_n_01_01_1 (fun _ b => b) (broadcastInDim S5000x80 ![] bcast_S_S5000x80 (constant S_ .f32 0x00000000#32)) (concatenate S5000x2 1 [⟨S5000x1, (broadcastInDim S5000x1 ![0] bcast_S5000_S5000x1_0 (select (cmpi .slt (res_main_v83 V0) (broadcastInDim S5000 ![] bcast_S_S5000 (constantI S_ 32 0#32))) (addi (res_main_v83 V0) (broadcastInDim S5000 ![] bcast_S_S5000 (constantI S_ 32 5000#32))) (res_main_v83 V0)))⟩, ⟨S5000x1, (broadcastInDim S5000x1 ![0] bcast_S5000_S5000x1_0 (select (cmpi .slt (res_main_v82 V0) (broadcastInDim S5000 ![] bcast_S_S5000 (constantI S_ 32 0#32))) (addi (res_main_v82 V0) (broadcastInDim S5000 ![] bcast_S_S5000 (constantI S_ 32 80#32))) (res_main_v82 V0)))⟩] concatenates_S5000x1_S5000x1_S5000x2_d1) (res_main_v66 V0)

set_option maxRecDepth 8192 in
/-- `main_v156`'s composed term of the arguments (named: it is used 4 times). -/
def res_main_v156 (V0 : Valuation τ sig (Elt F)) : (Proc.devRef .tc main_v156 : DevRef τ sig).ty.Contents (Elt F) :=
  shapeCast _ (extractStridedSlice S5000x1 ![0, 0] (res_main_v0 V0) slices_S5000x4_S5000x1_0_0) shapeCasts_S5000x1_S5000

set_option maxRecDepth 8192 in
/-- `main_v158`'s composed term of the arguments (named: it is used 4 times). -/
def res_main_v158 (V0 : Valuation τ sig (Elt F)) : (Proc.devRef .tc main_v158 : DevRef τ sig).ty.Contents (Elt F) :=
  shapeCast _ (extractStridedSlice S5000x1 ![0, 1] (res_main_v0 V0) slices_S5000x4_S5000x1_0_1) shapeCasts_S5000x1_S5000

set_option maxRecDepth 8192 in
/-- `main_v160`'s composed term of the arguments (named: it is used 4 times). -/
def res_main_v160 (V0 : Valuation τ sig (Elt F)) : (Proc.devRef .tc main_v160 : DevRef τ sig).ty.Contents (Elt F) :=
  shapeCast _ (extractStridedSlice S5000x1 ![0, 2] (res_main_v0 V0) slices_S5000x4_S5000x1_0_2) shapeCasts_S5000x1_S5000

set_option maxRecDepth 8192 in
/-- `main_v162`'s composed term of the arguments (named: it is used 4 times). -/
def res_main_v162 (V0 : Valuation τ sig (Elt F)) : (Proc.devRef .tc main_v162 : DevRef τ sig).ty.Contents (Elt F) :=
  shapeCast _ (extractStridedSlice S5000x1 ![0, 3] (res_main_v0 V0) slices_S5000x4_S5000x1_0_3) shapeCasts_S5000x1_S5000

set_option maxRecDepth 8192 in
/-- `main_v164`'s composed term of the arguments (named: it is used 4 times). -/
def res_main_v164 (V0 : Valuation τ sig (Elt F)) : (Proc.devRef .tc main_v164 : DevRef τ sig).ty.Contents (Elt F) :=
  shapeCast _ (extractStridedSlice S5000x1 ![0, 0] (res_main_v75 V0) slices_S5000x4_S5000x1_0_0) shapeCasts_S5000x1_S5000

set_option maxRecDepth 8192 in
/-- `main_v166`'s composed term of the arguments (named: it is used 4 times). -/
def res_main_v166 (V0 : Valuation τ sig (Elt F)) : (Proc.devRef .tc main_v166 : DevRef τ sig).ty.Contents (Elt F) :=
  shapeCast _ (extractStridedSlice S5000x1 ![0, 1] (res_main_v75 V0) slices_S5000x4_S5000x1_0_1) shapeCasts_S5000x1_S5000

set_option maxRecDepth 8192 in
/-- `main_v168`'s composed term of the arguments (named: it is used 4 times). -/
def res_main_v168 (V0 : Valuation τ sig (Elt F)) : (Proc.devRef .tc main_v168 : DevRef τ sig).ty.Contents (Elt F) :=
  shapeCast _ (extractStridedSlice S5000x1 ![0, 2] (res_main_v75 V0) slices_S5000x4_S5000x1_0_2) shapeCasts_S5000x1_S5000

set_option maxRecDepth 8192 in
/-- `main_v170`'s composed term of the arguments (named: it is used 4 times). -/
def res_main_v170 (V0 : Valuation τ sig (Elt F)) : (Proc.devRef .tc main_v170 : DevRef τ sig).ty.Contents (Elt F) :=
  shapeCast _ (extractStridedSlice S5000x1 ![0, 3] (res_main_v75 V0) slices_S5000x4_S5000x1_0_3) shapeCasts_S5000x1_S5000

set_option maxRecDepth 8192 in
/-- `main_v171`'s composed term of the arguments (named: it is used 2 times). -/
def res_main_v171 (V0 : Valuation τ sig (Elt F)) : (Proc.devRef .tc main_v171 : DevRef τ sig).ty.Contents (Elt F) :=
  subf (res_main_v160 V0) (res_main_v156 V0)

set_option maxRecDepth 8192 in
/-- `main_v174`'s composed term of the arguments (named: it is used 2 times). -/
def res_main_v174 (V0 : Valuation τ sig (Elt F)) : (Proc.devRef .tc main_v174 : DevRef τ sig).ty.Contents (Elt F) :=
  addf (subf (res_main_v162 V0) (res_main_v158 V0)) (broadcastInDim S5000 ![] bcast_S_S5000 (constant S_ .f32 0x33D6BF95#32))

set_option maxRecDepth 8192 in
/-- `main_v175`'s composed term of the arguments (named: it is used 2 times). -/
def res_main_v175 (V0 : Valuation τ sig (Elt F)) : (Proc.devRef .tc main_v175 : DevRef τ sig).ty.Contents (Elt F) :=
  subf (res_main_v168 V0) (res_main_v164 V0)

set_option maxRecDepth 8192 in
/-- `main_v178`'s composed term of the arguments (named: it is used 2 times). -/
def res_main_v178 (V0 : Valuation τ sig (Elt F)) : (Proc.devRef .tc main_v178 : DevRef τ sig).ty.Contents (Elt F) :=
  addf (subf (res_main_v170 V0) (res_main_v166 V0)) (broadcastInDim S5000 ![] bcast_S_S5000 (constant S_ .f32 0x33D6BF95#32))

set_option maxRecDepth 8192 in
/-- `main_v187`'s composed term of the arguments (named: it is used 2 times). -/
def res_main_v187 (V0 : Valuation τ sig (Elt F)) : (Proc.devRef .tc main_v187 : DevRef τ sig).ty.Contents (Elt F) :=
  mulf (maximumf (broadcastInDim S5000 ![] bcast_S_S5000 (id (constant S_ .f32 0x00000000#32))) (subf (minimumf (res_main_v160 V0) (res_main_v168 V0)) (maximumf (res_main_v156 V0) (res_main_v164 V0)))) (maximumf (broadcastInDim S5000 ![] bcast_S_S5000 (id (constant S_ .f32 0x00000000#32))) (subf (minimumf (res_main_v162 V0) (res_main_v170 V0)) (maximumf (res_main_v158 V0) (res_main_v166 V0))))

set_option maxRecDepth 8192 in
/-- `main_v194`'s composed term of the arguments (named: it is used 2 times). -/
def res_main_v194 (V0 : Valuation τ sig (Elt F)) : (Proc.devRef .tc main_v194 : DevRef τ sig).ty.Contents (Elt F) :=
  Host.divf (res_main_v187 V0) (addf (subf (addf (mulf (res_main_v171 V0) (res_main_v174 V0)) (mulf (res_main_v175 V0) (res_main_v178 V0))) (res_main_v187 V0)) (broadcastInDim S5000 ![] bcast_S_S5000 (constant S_ .f32 0x33D6BF95#32)))

set_option maxRecDepth 8192 in
/-- `main_v197`'s composed term of the arguments (named: it is used 2 times). -/
def res_main_v197 (V0 : Valuation τ sig (Elt F)) : (Proc.devRef .tc main_v197 : DevRef τ sig).ty.Contents (Elt F) :=
  subf (maximumf (res_main_v160 V0) (res_main_v168 V0)) (minimumf (res_main_v156 V0) (res_main_v164 V0))

set_option maxRecDepth 8192 in
/-- `main_v200`'s composed term of the arguments (named: it is used 2 times). -/
def res_main_v200 (V0 : Valuation τ sig (Elt F)) : (Proc.devRef .tc main_v200 : DevRef τ sig).ty.Contents (Elt F) :=
  subf (maximumf (res_main_v162 V0) (res_main_v170 V0)) (minimumf (res_main_v158 V0) (res_main_v166 V0))

set_option maxRecDepth 8192 in
/-- `main_v208`'s composed term of the arguments (named: it is used 2 times). -/
def res_main_v208 (V0 : Valuation τ sig (Elt F)) : (Proc.devRef .tc main_v208 : DevRef τ sig).ty.Contents (Elt F) :=
  subf (subf (addf (res_main_v164 V0) (res_main_v168 V0)) (res_main_v156 V0)) (res_main_v160 V0)

set_option maxRecDepth 8192 in
/-- `main_v212`'s composed term of the arguments (named: it is used 2 times). -/
def res_main_v212 (V0 : Valuation τ sig (Elt F)) : (Proc.devRef .tc main_v212 : DevRef τ sig).ty.Contents (Elt F) :=
  subf (subf (addf (res_main_v166 V0) (res_main_v170 V0)) (res_main_v158 V0)) (res_main_v162 V0)

set_option maxRecDepth 8192 in
/-- `main_v221`'s composed term of the arguments (named: it is used 2 times). -/
def res_main_v221 (V0 : Valuation τ sig (Elt F)) : (Proc.devRef .tc main_v221 : DevRef τ sig).ty.Contents (Elt F) :=
  subf (Host.atan (Host.divf (res_main_v175 V0) (res_main_v178 V0))) (Host.atan (Host.divf (res_main_v171 V0) (res_main_v174 V0)))

set_option maxRecDepth 8192 in
/-- `main_v224`'s composed term of the arguments (named: it is used 3 times). -/
def res_main_v224 (V0 : Valuation τ sig (Elt F)) : (Proc.devRef .tc main_v224 : DevRef τ sig).ty.Contents (Elt F) :=
  mulf (broadcastInDim S5000 ![] bcast_S_S5000 (constant S_ .f32 0x3ECF817B#32)) (mulf (res_main_v221 V0) (res_main_v221 V0))

/-- The device's buffer contents before @main's first window. -/
def val0 (V0 : Valuation τ sig (Elt F)) : Valuation τ sig (Elt F) := V0
theorem val0_main_arg0 (V0 : Valuation τ sig (Elt F)) : val0 V0 (no_index (Proc.devRef .tc main_arg0)) = V0 (Proc.devRef .tc main_arg0) := rfl
theorem val0_main_arg1 (V0 : Valuation τ sig (Elt F)) : val0 V0 (no_index (Proc.devRef .tc main_arg1)) = V0 (Proc.devRef .tc main_arg1) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
theorem val0_1_main_arg1 (V0 : Valuation τ sig (Elt F)) : val0_1 V0 (no_index (Proc.devRef .tc main_arg1)) = V0 (Proc.devRef .tc main_arg1) :=
  (val0_1_keep V0 main_arg1 (by decide)).trans (val0_main_arg1 V0)
set_option maxRecDepth 8192 in
set_option maxHeartbeats 2000000 in
theorem val0_1_main_v0 (V0 : Valuation τ sig (Elt F)) : val0_1 V0 (no_index (Proc.devRef .tc main_v0)) = res_main_v0 V0 := by
  unfold val0_1
  simp only [ops_part0_0]
  after_results_simp
  simp only [val0_main_arg0] <;> rfl
set_option maxRecDepth 8192 in
set_option maxHeartbeats 2000000 in
theorem val0_1_main_v2 (V0 : Valuation τ sig (Elt F)) : val0_1 V0 (no_index (Proc.devRef .tc main_v2)) = res_main_v2 V0 := by
  unfold val0_1
  simp only [ops_part0_0]
  after_results_simp
  simp only [val0_main_arg0] <;> rfl
set_option maxRecDepth 8192 in
set_option maxHeartbeats 2000000 in
theorem val0_1_main_v5 (V0 : Valuation τ sig (Elt F)) : val0_1 V0 (no_index (Proc.devRef .tc main_v5)) = res_main_v5 V0 := by
  unfold val0_1
  simp only [ops_part0_0]
  after_results_simp
  simp only [val0_main_arg0] <;> rfl
set_option maxRecDepth 8192 in
set_option maxHeartbeats 2000000 in
theorem val0_1_main_v6 (V0 : Valuation τ sig (Elt F)) : val0_1 V0 (no_index (Proc.devRef .tc main_v6)) = res_main_v6 V0 := by
  unfold val0_1
  simp only [ops_part0_0]
  after_results_simp
  simp only [val0_main_arg1] <;> rfl
set_option maxRecDepth 8192 in
set_option maxHeartbeats 2000000 in
theorem val0_1_main_v9 (V0 : Valuation τ sig (Elt F)) : val0_1 V0 (no_index (Proc.devRef .tc main_v9)) = fptosi 32 (shapeCast _ (extractStridedSlice S2000x1 ![0, 4] (V0 (Proc.devRef .tc main_arg1)) slices_S2000x5_S2000x1_0_4) shapeCasts_S2000x1_S2000) := by
  unfold val0_1
  simp only [ops_part0_0]
  after_results_simp
  simp only [val0_main_arg1] <;> rfl
set_option maxRecDepth 8192 in
set_option maxHeartbeats 2000000 in
theorem val0_1_main_v20 (V0 : Valuation τ sig (Elt F)) : val0_1 V0 (no_index (Proc.devRef .tc main_v20)) = mulf (subf (shapeCast _ (extractStridedSlice S5000x1 ![0, 2] (res_main_v0 V0) slices_S5000x4_S5000x1_0_2) shapeCasts_S5000x1_S5000) (shapeCast _ (extractStridedSlice S5000x1 ![0, 0] (res_main_v0 V0) slices_S5000x4_S5000x1_0_0) shapeCasts_S5000x1_S5000)) (subf (shapeCast _ (extractStridedSlice S5000x1 ![0, 3] (res_main_v0 V0) slices_S5000x4_S5000x1_0_3) shapeCasts_S5000x1_S5000) (shapeCast _ (extractStridedSlice S5000x1 ![0, 1] (res_main_v0 V0) slices_S5000x4_S5000x1_0_1) shapeCasts_S5000x1_S5000)) := by
  unfold val0_1
  simp only [ops_part0_0]
  after_results_simp
  simp only [val0_main_arg0] <;> rfl
set_option maxRecDepth 8192 in
set_option maxHeartbeats 2000000 in
theorem val0_1_main_v25 (V0 : Valuation τ sig (Elt F)) : val0_1 V0 (no_index (Proc.devRef .tc main_v25)) = subf (shapeCast _ (extractStridedSlice S2000x1 ![0, 2] (res_main_v6 V0) slices_S2000x4_S2000x1_0_2) shapeCasts_S2000x1_S2000) (shapeCast _ (extractStridedSlice S2000x1 ![0, 0] (res_main_v6 V0) slices_S2000x4_S2000x1_0_0) shapeCasts_S2000x1_S2000) := by
  unfold val0_1
  simp only [ops_part0_0]
  after_results_simp
  simp only [val0_main_arg1] <;> rfl
set_option maxRecDepth 8192 in
set_option maxHeartbeats 2000000 in
theorem val0_1_main_v27 (V0 : Valuation τ sig (Elt F)) : val0_1 V0 (no_index (Proc.devRef .tc main_v27)) = shapeCast _ (extractStridedSlice S2000x1 ![0, 3] (res_main_v6 V0) slices_S2000x4_S2000x1_0_3) shapeCasts_S2000x1_S2000 := by
  unfold val0_1
  simp only [ops_part0_0]
  after_results_simp
  simp only [val0_main_arg1] <;> rfl
set_option maxRecDepth 8192 in
set_option maxHeartbeats 2000000 in
theorem val0_1_main_v29 (V0 : Valuation τ sig (Elt F)) : val0_1 V0 (no_index (Proc.devRef .tc main_v29)) = shapeCast _ (extractStridedSlice S2000x1 ![0, 1] (res_main_v6 V0) slices_S2000x4_S2000x1_0_1) shapeCasts_S2000x1_S2000 := by
  unfold val0_1
  simp only [ops_part0_0]
  after_results_simp
  simp only [val0_main_arg1] <;> rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v30, main_v31, main_v32, main_v33, main_v34, main_v35, main_v36, main_v37, main_v38, main_v39, main_v40, main_v41, main_v42, main_v43, main_v44, main_v45, main_v46, main_cst, main_call0_v0, main_call0_v1, main_v47, main_v48, main_v49, main_v50, main_v51, main_v52, main_v53, main_v54, main_v55, main_v56]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
theorem val0_2_main_arg1 (V0 : Valuation τ sig (Elt F)) : val0_2 V0 (no_index (Proc.devRef .tc main_arg1)) = V0 (Proc.devRef .tc main_arg1) :=
  (val0_2_keep V0 main_arg1 (by decide)).trans (val0_1_main_arg1 V0)
theorem val0_2_main_v0 (V0 : Valuation τ sig (Elt F)) : val0_2 V0 (no_index (Proc.devRef .tc main_v0)) = res_main_v0 V0 :=
  (val0_2_keep V0 main_v0 (by decide)).trans (val0_1_main_v0 V0)
theorem val0_2_main_v2 (V0 : Valuation τ sig (Elt F)) : val0_2 V0 (no_index (Proc.devRef .tc main_v2)) = res_main_v2 V0 :=
  (val0_2_keep V0 main_v2 (by decide)).trans (val0_1_main_v2 V0)
theorem val0_2_main_v5 (V0 : Valuation τ sig (Elt F)) : val0_2 V0 (no_index (Proc.devRef .tc main_v5)) = res_main_v5 V0 :=
  (val0_2_keep V0 main_v5 (by decide)).trans (val0_1_main_v5 V0)
theorem val0_2_main_v6 (V0 : Valuation τ sig (Elt F)) : val0_2 V0 (no_index (Proc.devRef .tc main_v6)) = res_main_v6 V0 :=
  (val0_2_keep V0 main_v6 (by decide)).trans (val0_1_main_v6 V0)
theorem val0_2_main_v9 (V0 : Valuation τ sig (Elt F)) : val0_2 V0 (no_index (Proc.devRef .tc main_v9)) = fptosi 32 (shapeCast _ (extractStridedSlice S2000x1 ![0, 4] (V0 (Proc.devRef .tc main_arg1)) slices_S2000x5_S2000x1_0_4) shapeCasts_S2000x1_S2000) :=
  (val0_2_keep V0 main_v9 (by decide)).trans (val0_1_main_v9 V0)
set_option maxRecDepth 8192 in
set_option maxHeartbeats 2000000 in
theorem val0_2_main_v52 (V0 : Valuation τ sig (Elt F)) : val0_2 V0 (no_index (Proc.devRef .tc main_v52)) = res_main_v52 V0 := by
  unfold val0_2
  simp only [ops_part0_1, TRef.binary, TRef.unary, TRef.toBuf, TRef.ofBuf, cast_eq]
  after_results_simp
  simp only [val0_1_main_v6, val0_1_main_v0] <;> rfl
set_option maxRecDepth 8192 in
set_option maxHeartbeats 2000000 in
theorem val0_2_main_v55 (V0 : Valuation τ sig (Elt F)) : val0_2 V0 (no_index (Proc.devRef .tc main_v55)) = broadcastInDim S5000x2000 ![0, 1] bcast_S5000x1_S5000x2000_0_1 (broadcastInDim S5000x1 ![0] bcast_S5000_S5000x1_0 (mulf (subf (shapeCast _ (extractStridedSlice S5000x1 ![0, 2] (res_main_v0 V0) slices_S5000x4_S5000x1_0_2) shapeCasts_S5000x1_S5000) (shapeCast _ (extractStridedSlice S5000x1 ![0, 0] (res_main_v0 V0) slices_S5000x4_S5000x1_0_0) shapeCasts_S5000x1_S5000)) (subf (shapeCast _ (extractStridedSlice S5000x1 ![0, 3] (res_main_v0 V0) slices_S5000x4_S5000x1_0_3) shapeCasts_S5000x1_S5000) (shapeCast _ (extractStridedSlice S5000x1 ![0, 1] (res_main_v0 V0) slices_S5000x4_S5000x1_0_1) shapeCasts_S5000x1_S5000)))) := by
  unfold val0_2
  simp only [ops_part0_1, TRef.binary, TRef.unary, TRef.toBuf, TRef.ofBuf, cast_eq]
  after_results_simp
  simp only [val0_1_main_v20] <;> rfl
set_option maxRecDepth 8192 in
set_option maxHeartbeats 2000000 in
theorem val0_2_main_v56 (V0 : Valuation τ sig (Elt F)) : val0_2 V0 (no_index (Proc.devRef .tc main_v56)) = broadcastInDim S5000x2000 ![0, 1] bcast_S1x2000_S5000x2000_0_1 (broadcastInDim S1x2000 ![1] bcast_S2000_S1x2000_1 (mulf (subf (shapeCast _ (extractStridedSlice S2000x1 ![0, 2] (res_main_v6 V0) slices_S2000x4_S2000x1_0_2) shapeCasts_S2000x1_S2000) (shapeCast _ (extractStridedSlice S2000x1 ![0, 0] (res_main_v6 V0) slices_S2000x4_S2000x1_0_0) shapeCasts_S2000x1_S2000)) (subf (shapeCast _ (extractStridedSlice S2000x1 ![0, 3] (res_main_v6 V0) slices_S2000x4_S2000x1_0_3) shapeCasts_S2000x1_S2000) (shapeCast _ (extractStridedSlice S2000x1 ![0, 1] (res_main_v6 V0) slices_S2000x4_S2000x1_0_1) shapeCasts_S2000x1_S2000)))) := by
  unfold val0_2
  simp only [ops_part0_1, TRef.binary, TRef.unary, TRef.toBuf, TRef.ofBuf, cast_eq]
  after_results_simp
  simp only [val0_1_main_v29, val0_1_main_v27, val0_1_main_v25] <;> rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v57, main_v58]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
theorem val1_main_arg1 (V0 : Valuation τ sig (Elt F)) : val1 V0 (no_index (Proc.devRef .tc main_arg1)) = V0 (Proc.devRef .tc main_arg1) :=
  (val1_keep V0 main_arg1 (by decide)).trans (val0_2_main_arg1 V0)
theorem val1_main_v0 (V0 : Valuation τ sig (Elt F)) : val1 V0 (no_index (Proc.devRef .tc main_v0)) = res_main_v0 V0 :=
  (val1_keep V0 main_v0 (by decide)).trans (val0_2_main_v0 V0)
theorem val1_main_v2 (V0 : Valuation τ sig (Elt F)) : val1 V0 (no_index (Proc.devRef .tc main_v2)) = res_main_v2 V0 :=
  (val1_keep V0 main_v2 (by decide)).trans (val0_2_main_v2 V0)
theorem val1_main_v5 (V0 : Valuation τ sig (Elt F)) : val1 V0 (no_index (Proc.devRef .tc main_v5)) = res_main_v5 V0 :=
  (val1_keep V0 main_v5 (by decide)).trans (val0_2_main_v5 V0)
theorem val1_main_v6 (V0 : Valuation τ sig (Elt F)) : val1 V0 (no_index (Proc.devRef .tc main_v6)) = res_main_v6 V0 :=
  (val1_keep V0 main_v6 (by decide)).trans (val0_2_main_v6 V0)
theorem val1_main_v9 (V0 : Valuation τ sig (Elt F)) : val1 V0 (no_index (Proc.devRef .tc main_v9)) = fptosi 32 (shapeCast _ (extractStridedSlice S2000x1 ![0, 4] (V0 (Proc.devRef .tc main_arg1)) slices_S2000x5_S2000x1_0_4) shapeCasts_S2000x1_S2000) :=
  (val1_keep V0 main_v9 (by decide)).trans (val0_2_main_v9 V0)
theorem val1_main_v52 (V0 : Valuation τ sig (Elt F)) : val1 V0 (no_index (Proc.devRef .tc main_v52)) = res_main_v52 V0 :=
  (val1_keep V0 main_v52 (by decide)).trans (val0_2_main_v52 V0)
set_option maxRecDepth 8192 in
theorem val1_main_v58 (V0 : Valuation τ sig (Elt F)) : val1 V0 (no_index (Proc.devRef .tc main_v58)) = subf (addf (broadcastInDim S5000x2000 ![0, 1] bcast_S5000x1_S5000x2000_0_1 (broadcastInDim S5000x1 ![0] bcast_S5000_S5000x1_0 (mulf (subf (shapeCast _ (extractStridedSlice S5000x1 ![0, 2] (res_main_v0 V0) slices_S5000x4_S5000x1_0_2) shapeCasts_S5000x1_S5000) (shapeCast _ (extractStridedSlice S5000x1 ![0, 0] (res_main_v0 V0) slices_S5000x4_S5000x1_0_0) shapeCasts_S5000x1_S5000)) (subf (shapeCast _ (extractStridedSlice S5000x1 ![0, 3] (res_main_v0 V0) slices_S5000x4_S5000x1_0_3) shapeCasts_S5000x1_S5000) (shapeCast _ (extractStridedSlice S5000x1 ![0, 1] (res_main_v0 V0) slices_S5000x4_S5000x1_0_1) shapeCasts_S5000x1_S5000))))) (broadcastInDim S5000x2000 ![0, 1] bcast_S1x2000_S5000x2000_0_1 (broadcastInDim S1x2000 ![1] bcast_S2000_S1x2000_1 (mulf (subf (shapeCast _ (extractStridedSlice S2000x1 ![0, 2] (res_main_v6 V0) slices_S2000x4_S2000x1_0_2) shapeCasts_S2000x1_S2000) (shapeCast _ (extractStridedSlice S2000x1 ![0, 0] (res_main_v6 V0) slices_S2000x4_S2000x1_0_0) shapeCasts_S2000x1_S2000)) (subf (shapeCast _ (extractStridedSlice S2000x1 ![0, 3] (res_main_v6 V0) slices_S2000x4_S2000x1_0_3) shapeCasts_S2000x1_S2000) (shapeCast _ (extractStridedSlice S2000x1 ![0, 1] (res_main_v6 V0) slices_S2000x4_S2000x1_0_1) shapeCasts_S2000x1_S2000)))))) (res_main_v52 V0) := by
  unfold val1
  simp only [ops_part0_2]
  after_results_simp
  simp only [val0_2_main_v52, val0_2_main_v56, val0_2_main_v55] <;> rfl

/-- The device's buffer contents after @main's first 92 operations. -/
def val1_1 (V0 : Valuation τ sig (Elt F)) : Valuation τ sig (Elt F) := after ops_part1_0 (val1 V0)
/-- The buffers that window `ops_part1_0`'s operations write. -/
abbrev ops_part1_0_W : List (Ref sig .tc) := [main_cst_0, main_v59, main_v60, main_v61, main_cst_1, main_v62, main_call1_v0, main_call1_cst, main_call1_c, main_call1_v1_0, main_v63, main_cst_2, main_v64, main_v65, main_v66, main_cst_3, main_v67, main_cst_4, main_v68, main_c, main_v69, main_v70, main_c_5, main_v71, main_v72, main_v73, main_v74, main_v75, main_c_6, main_v76]
set_option maxRecDepth 8192 in
theorem ops_part1_0_writes : (ops_part1_0 : List (HloOp τ sig (Elt F))).Forall fun op => op.writes ⊆ (ops_part1_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_0` does not write keeps its contents through it. -/
theorem val1_1_keep (V0 : Valuation τ sig (Elt F)) (r : Ref sig .tc) (h : r ∉ ops_part1_0_W) :
    val1_1 V0 (Proc.devRef .tc r) = val1 V0 (Proc.devRef .tc r) :=
  after_of_writes_sub ops_part1_0 _ ops_part1_0_writes h
theorem val1_1_main_arg0 (V0 : Valuation τ sig (Elt F)) : val1_1 V0 (no_index (Proc.devRef .tc main_arg0)) = V0 (Proc.devRef .tc main_arg0) :=
  (val1_1_keep V0 main_arg0 (by decide)).trans (val1_main_arg0 V0)
theorem val1_1_main_arg1 (V0 : Valuation τ sig (Elt F)) : val1_1 V0 (no_index (Proc.devRef .tc main_arg1)) = V0 (Proc.devRef .tc main_arg1) :=
  (val1_1_keep V0 main_arg1 (by decide)).trans (val1_main_arg1 V0)
theorem val1_1_main_v0 (V0 : Valuation τ sig (Elt F)) : val1_1 V0 (no_index (Proc.devRef .tc main_v0)) = res_main_v0 V0 :=
  (val1_1_keep V0 main_v0 (by decide)).trans (val1_main_v0 V0)
theorem val1_1_main_v2 (V0 : Valuation τ sig (Elt F)) : val1_1 V0 (no_index (Proc.devRef .tc main_v2)) = res_main_v2 V0 :=
  (val1_1_keep V0 main_v2 (by decide)).trans (val1_main_v2 V0)
theorem val1_1_main_v5 (V0 : Valuation τ sig (Elt F)) : val1_1 V0 (no_index (Proc.devRef .tc main_v5)) = res_main_v5 V0 :=
  (val1_1_keep V0 main_v5 (by decide)).trans (val1_main_v5 V0)
theorem val1_1_main_v9 (V0 : Valuation τ sig (Elt F)) : val1_1 V0 (no_index (Proc.devRef .tc main_v9)) = fptosi 32 (shapeCast _ (extractStridedSlice S2000x1 ![0, 4] (V0 (Proc.devRef .tc main_arg1)) slices_S2000x5_S2000x1_0_4) shapeCasts_S2000x1_S2000) :=
  (val1_1_keep V0 main_v9 (by decide)).trans (val1_main_v9 V0)
set_option maxRecDepth 8192 in
set_option maxHeartbeats 2000000 in
theorem val1_1_main_v63 (V0 : Valuation τ sig (Elt F)) : val1_1 V0 (no_index (Proc.devRef .tc main_v63)) = res_main_v63 V0 := by
  unfold val1_1
  simp only [ops_part1_0, TRef.nullary, TRef.quaternary, TRef.toBuf, TRef.ofBuf, cast_eq]
  after_results_simp
  simp only [val1_main_v58, val1_main_v52] <;> rfl
set_option maxRecDepth 8192 in
set_option maxHeartbeats 2000000 in
theorem val1_1_main_v65 (V0 : Valuation τ sig (Elt F)) : val1_1 V0 (no_index (Proc.devRef .tc main_v65)) = res_main_v65 V0 := by
  unfold val1_1
  simp only [ops_part1_0, TRef.nullary, TRef.quaternary, TRef.toBuf, TRef.ofBuf, cast_eq]
  after_results_simp
  simp only [val1_main_v58, val1_main_v52] <;> rfl
set_option maxRecDepth 8192 in
set_option maxHeartbeats 2000000 in
theorem val1_1_main_v66 (V0 : Valuation τ sig (Elt F)) : val1_1 V0 (no_index (Proc.devRef .tc main_v66)) = res_main_v66 V0 := by
  unfold val1_1
  simp only [ops_part1_0, TRef.nullary, TRef.quaternary, TRef.toBuf, TRef.ofBuf, cast_eq]
  after_results_simp
  simp only [val1_main_v58, val1_main_v52] <;> rfl
set_option maxRecDepth 8192 in
set_option maxHeartbeats 2000000 in
theorem val1_1_main_v68 (V0 : Valuation τ sig (Elt F)) : val1_1 V0 (no_index (Proc.devRef .tc main_v68)) = res_main_v68 V0 := by
  unfold val1_1
  simp only [ops_part1_0, TRef.nullary, TRef.quaternary, TRef.toBuf, TRef.ofBuf, cast_eq]
  after_results_simp
  simp only [val1_main_v58, val1_main_v52] <;> rfl
set_option maxRecDepth 8192 in
set_option maxHeartbeats 2000000 in
theorem val1_1_main_v75 (V0 : Valuation τ sig (Elt F)) : val1_1 V0 (no_index (Proc.devRef .tc main_v75)) = res_main_v75 V0 := by
  unfold val1_1
  simp only [ops_part1_0, TRef.nullary, TRef.quaternary, TRef.toBuf, TRef.ofBuf, cast_eq]
  after_results_simp
  simp only [val1_main_v58, val1_main_v52, val1_main_v6] <;> rfl
set_option maxRecDepth 8192 in
set_option maxHeartbeats 2000000 in
theorem val1_1_main_v76 (V0 : Valuation τ sig (Elt F)) : val1_1 V0 (no_index (Proc.devRef .tc main_v76)) = broadcastInDim S5000 ![] bcast_S_S5000 (constantI S_ 32 0#32) := by
  unfold val1_1
  simp only [ops_part1_0, TRef.nullary, TRef.quaternary, TRef.toBuf, TRef.ofBuf, cast_eq]
  after_results_simp
  all_goals rfl

/-- The device's buffer contents after @main's first 122 operations. -/
def val1_2 (V0 : Valuation τ sig (Elt F)) : Valuation τ sig (Elt F) := after ops_part1_1 (val1_1 V0)
/-- The buffers that window `ops_part1_1`'s operations write. -/
abbrev ops_part1_1_W : List (Ref sig .tc) := [main_v77, main_c_7, main_v78, main_v79, main_v80, main_v81, main_v82, main_v83, main_cst_8, main_v84, main_v85, main_c_9, main_v86, main_v87, main_c_10, main_v88, main_v89, main_v90, main_c_11, main_v91, main_v92, main_c_12, main_v93, main_v94, main_v95, main_v96, main_v97, main_v98, main_v99, main_cst_13]
set_option maxRecDepth 8192 in
theorem ops_part1_1_writes : (ops_part1_1 : List (HloOp τ sig (Elt F))).Forall fun op => op.writes ⊆ (ops_part1_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_1` does not write keeps its contents through it. -/
theorem val1_2_keep (V0 : Valuation τ sig (Elt F)) (r : Ref sig .tc) (h : r ∉ ops_part1_1_W) :
    val1_2 V0 (Proc.devRef .tc r) = val1_1 V0 (Proc.devRef .tc r) :=
  after_of_writes_sub ops_part1_1 _ ops_part1_1_writes h
theorem val1_2_main_arg0 (V0 : Valuation τ sig (Elt F)) : val1_2 V0 (no_index (Proc.devRef .tc main_arg0)) = V0 (Proc.devRef .tc main_arg0) :=
  (val1_2_keep V0 main_arg0 (by decide)).trans (val1_1_main_arg0 V0)
theorem val1_2_main_arg1 (V0 : Valuation τ sig (Elt F)) : val1_2 V0 (no_index (Proc.devRef .tc main_arg1)) = V0 (Proc.devRef .tc main_arg1) :=
  (val1_2_keep V0 main_arg1 (by decide)).trans (val1_1_main_arg1 V0)
theorem val1_2_main_v0 (V0 : Valuation τ sig (Elt F)) : val1_2 V0 (no_index (Proc.devRef .tc main_v0)) = res_main_v0 V0 :=
  (val1_2_keep V0 main_v0 (by decide)).trans (val1_1_main_v0 V0)
theorem val1_2_main_v2 (V0 : Valuation τ sig (Elt F)) : val1_2 V0 (no_index (Proc.devRef .tc main_v2)) = res_main_v2 V0 :=
  (val1_2_keep V0 main_v2 (by decide)).trans (val1_1_main_v2 V0)
theorem val1_2_main_v63 (V0 : Valuation τ sig (Elt F)) : val1_2 V0 (no_index (Proc.devRef .tc main_v63)) = res_main_v63 V0 :=
  (val1_2_keep V0 main_v63 (by decide)).trans (val1_1_main_v63 V0)
theorem val1_2_main_v65 (V0 : Valuation τ sig (Elt F)) : val1_2 V0 (no_index (Proc.devRef .tc main_v65)) = res_main_v65 V0 :=
  (val1_2_keep V0 main_v65 (by decide)).trans (val1_1_main_v65 V0)
theorem val1_2_main_v66 (V0 : Valuation τ sig (Elt F)) : val1_2 V0 (no_index (Proc.devRef .tc main_v66)) = res_main_v66 V0 :=
  (val1_2_keep V0 main_v66 (by decide)).trans (val1_1_main_v66 V0)
theorem val1_2_main_v68 (V0 : Valuation τ sig (Elt F)) : val1_2 V0 (no_index (Proc.devRef .tc main_v68)) = res_main_v68 V0 :=
  (val1_2_keep V0 main_v68 (by decide)).trans (val1_1_main_v68 V0)
theorem val1_2_main_v75 (V0 : Valuation τ sig (Elt F)) : val1_2 V0 (no_index (Proc.devRef .tc main_v75)) = res_main_v75 V0 :=
  (val1_2_keep V0 main_v75 (by decide)).trans (val1_1_main_v75 V0)
set_option maxRecDepth 8192 in
set_option maxHeartbeats 2000000 in
theorem val1_2_main_v82 (V0 : Valuation τ sig (Elt F)) : val1_2 V0 (no_index (Proc.devRef .tc main_v82)) = res_main_v82 V0 := by
  unfold val1_2
  simp only [ops_part1_1]
  after_results_simp
  simp only [val1_1_main_v63, val1_1_main_v76, val1_1_main_v9] <;> rfl
set_option maxRecDepth 8192 in
set_option maxHeartbeats 2000000 in
theorem val1_2_main_v83 (V0 : Valuation τ sig (Elt F)) : val1_2 V0 (no_index (Proc.devRef .tc main_v83)) = res_main_v83 V0 := by
  unfold val1_2
  simp only [ops_part1_1]
  after_results_simp
  all_goals rfl
set_option maxRecDepth 8192 in
set_option maxHeartbeats 2000000 in
theorem val1_2_main_v99 (V0 : Valuation τ sig (Elt F)) : val1_2 V0 (no_index (Proc.devRef .tc main_v99)) = res_main_v99 V0 := by
  unfold val1_2
  simp only [ops_part1_1]
  after_results_simp
  simp only [val1_1_main_v66, val1_1_main_v2, val1_1_main_v5] <;> rfl
set_option maxRecDepth 8192 in
set_option maxHeartbeats 2000000 in
theorem val1_2_main_cst_13 (V0 : Valuation τ sig (Elt F)) : val1_2 V0 (no_index (Proc.devRef .tc main_cst_13)) = constant S_ .f32 0x00000000#32 := by
  unfold val1_2
  simp only [ops_part1_1]
  after_results_simp
  all_goals rfl

/-- The device's buffer contents after @main's first 2 windows. -/
def val2 (V0 : Valuation τ sig (Elt F)) : Valuation τ sig (Elt F) := after ops_part1_2 (val1_2 V0)
/-- The buffers that window `ops_part1_2`'s operations write. -/
abbrev ops_part1_2_W : List (Ref sig .tc) := [main_v100, main_c_14, main_v101, main_v102]
set_option maxRecDepth 8192 in
theorem ops_part1_2_writes : (ops_part1_2 : List (HloOp τ sig (Elt F))).Forall fun op => op.writes ⊆ (ops_part1_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part1_2` does not write keeps its contents through it. -/
theorem val2_keep (V0 : Valuation τ sig (Elt F)) (r : Ref sig .tc) (h : r ∉ ops_part1_2_W) :
    val2 V0 (Proc.devRef .tc r) = val1_2 V0 (Proc.devRef .tc r) :=
  after_of_writes_sub ops_part1_2 _ ops_part1_2_writes h
theorem val2_main_arg0 (V0 : Valuation τ sig (Elt F)) : val2 V0 (no_index (Proc.devRef .tc main_arg0)) = V0 (Proc.devRef .tc main_arg0) :=
  (val2_keep V0 main_arg0 (by decide)).trans (val1_2_main_arg0 V0)
theorem val2_main_arg1 (V0 : Valuation τ sig (Elt F)) : val2 V0 (no_index (Proc.devRef .tc main_arg1)) = V0 (Proc.devRef .tc main_arg1) :=
  (val2_keep V0 main_arg1 (by decide)).trans (val1_2_main_arg1 V0)
theorem val2_main_v0 (V0 : Valuation τ sig (Elt F)) : val2 V0 (no_index (Proc.devRef .tc main_v0)) = res_main_v0 V0 :=
  (val2_keep V0 main_v0 (by decide)).trans (val1_2_main_v0 V0)
theorem val2_main_v2 (V0 : Valuation τ sig (Elt F)) : val2 V0 (no_index (Proc.devRef .tc main_v2)) = res_main_v2 V0 :=
  (val2_keep V0 main_v2 (by decide)).trans (val1_2_main_v2 V0)
theorem val2_main_v63 (V0 : Valuation τ sig (Elt F)) : val2 V0 (no_index (Proc.devRef .tc main_v63)) = res_main_v63 V0 :=
  (val2_keep V0 main_v63 (by decide)).trans (val1_2_main_v63 V0)
theorem val2_main_v65 (V0 : Valuation τ sig (Elt F)) : val2 V0 (no_index (Proc.devRef .tc main_v65)) = res_main_v65 V0 :=
  (val2_keep V0 main_v65 (by decide)).trans (val1_2_main_v65 V0)
theorem val2_main_v66 (V0 : Valuation τ sig (Elt F)) : val2 V0 (no_index (Proc.devRef .tc main_v66)) = res_main_v66 V0 :=
  (val2_keep V0 main_v66 (by decide)).trans (val1_2_main_v66 V0)
theorem val2_main_v68 (V0 : Valuation τ sig (Elt F)) : val2 V0 (no_index (Proc.devRef .tc main_v68)) = res_main_v68 V0 :=
  (val2_keep V0 main_v68 (by decide)).trans (val1_2_main_v68 V0)
theorem val2_main_v75 (V0 : Valuation τ sig (Elt F)) : val2 V0 (no_index (Proc.devRef .tc main_v75)) = res_main_v75 V0 :=
  (val2_keep V0 main_v75 (by decide)).trans (val1_2_main_v75 V0)
theorem val2_main_v82 (V0 : Valuation τ sig (Elt F)) : val2 V0 (no_index (Proc.devRef .tc main_v82)) = res_main_v82 V0 :=
  (val2_keep V0 main_v82 (by decide)).trans (val1_2_main_v82 V0)
theorem val2_main_v83 (V0 : Valuation τ sig (Elt F)) : val2 V0 (no_index (Proc.devRef .tc main_v83)) = res_main_v83 V0 :=
  (val2_keep V0 main_v83 (by decide)).trans (val1_2_main_v83 V0)
theorem val2_main_v99 (V0 : Valuation τ sig (Elt F)) : val2 V0 (no_index (Proc.devRef .tc main_v99)) = res_main_v99 V0 :=
  (val2_keep V0 main_v99 (by decide)).trans (val1_2_main_v99 V0)
set_option maxRecDepth 8192 in
theorem val2_main_v100 (V0 : Valuation τ sig (Elt F)) : val2 V0 (no_index (Proc.devRef .tc main_v100)) = broadcastInDim S5000x80 ![] bcast_S_S5000x80 (constant S_ .f32 0x00000000#32) := by
  unfold val2
  simp only [ops_part1_2]
  after_results_simp
  simp only [val1_2_main_cst_13] <;> rfl
set_option maxRecDepth 8192 in
theorem val2_main_v102 (V0 : Valuation τ sig (Elt F)) : val2 V0 (no_index (Proc.devRef .tc main_v102)) = cmpi .slt (res_main_v83 V0) (broadcastInDim S5000 ![] bcast_S_S5000 (constantI S_ 32 0#32)) := by
  unfold val2
  simp only [ops_part1_2]
  after_results_simp
  simp only [val1_2_main_v83] <;> rfl

/-- The device's buffer contents after @main's first 156 operations. -/
def val2_1 (V0 : Valuation τ sig (Elt F)) : Valuation τ sig (Elt F) := after ops_part2_0 (val2 V0)
/-- The buffers that window `ops_part2_0`'s operations write. -/
abbrev ops_part2_0_W : List (Ref sig .tc) := [main_c_15, main_v103, main_v104, main_v105, main_c_16, main_v106, main_v107, main_c_17, main_v108, main_v109, main_v110, main_v111, main_v112, main_v113, main_v114, main_cst_18, main_v115, main_v116, main_cst_19, main_call2_v0, main_call2_v1, main_v117, main_cst_20, main_v118, main_v119, main_v120, main_cst_21, main_call3_v0, main_call3_v1, main_v121]
set_option maxRecDepth 8192 in
theorem ops_part2_0_writes : (ops_part2_0 : List (HloOp τ sig (Elt F))).Forall fun op => op.writes ⊆ (ops_part2_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_0` does not write keeps its contents through it. -/
theorem val2_1_keep (V0 : Valuation τ sig (Elt F)) (r : Ref sig .tc) (h : r ∉ ops_part2_0_W) :
    val2_1 V0 (Proc.devRef .tc r) = val2 V0 (Proc.devRef .tc r) :=
  after_of_writes_sub ops_part2_0 _ ops_part2_0_writes h
theorem val2_1_main_arg0 (V0 : Valuation τ sig (Elt F)) : val2_1 V0 (no_index (Proc.devRef .tc main_arg0)) = V0 (Proc.devRef .tc main_arg0) :=
  (val2_1_keep V0 main_arg0 (by decide)).trans (val2_main_arg0 V0)
theorem val2_1_main_arg1 (V0 : Valuation τ sig (Elt F)) : val2_1 V0 (no_index (Proc.devRef .tc main_arg1)) = V0 (Proc.devRef .tc main_arg1) :=
  (val2_1_keep V0 main_arg1 (by decide)).trans (val2_main_arg1 V0)
theorem val2_1_main_v0 (V0 : Valuation τ sig (Elt F)) : val2_1 V0 (no_index (Proc.devRef .tc main_v0)) = res_main_v0 V0 :=
  (val2_1_keep V0 main_v0 (by decide)).trans (val2_main_v0 V0)
theorem val2_1_main_v2 (V0 : Valuation τ sig (Elt F)) : val2_1 V0 (no_index (Proc.devRef .tc main_v2)) = res_main_v2 V0 :=
  (val2_1_keep V0 main_v2 (by decide)).trans (val2_main_v2 V0)
theorem val2_1_main_v63 (V0 : Valuation τ sig (Elt F)) : val2_1 V0 (no_index (Proc.devRef .tc main_v63)) = res_main_v63 V0 :=
  (val2_1_keep V0 main_v63 (by decide)).trans (val2_main_v63 V0)
theorem val2_1_main_v65 (V0 : Valuation τ sig (Elt F)) : val2_1 V0 (no_index (Proc.devRef .tc main_v65)) = res_main_v65 V0 :=
  (val2_1_keep V0 main_v65 (by decide)).trans (val2_main_v65 V0)
theorem val2_1_main_v66 (V0 : Valuation τ sig (Elt F)) : val2_1 V0 (no_index (Proc.devRef .tc main_v66)) = res_main_v66 V0 :=
  (val2_1_keep V0 main_v66 (by decide)).trans (val2_main_v66 V0)
theorem val2_1_main_v68 (V0 : Valuation τ sig (Elt F)) : val2_1 V0 (no_index (Proc.devRef .tc main_v68)) = res_main_v68 V0 :=
  (val2_1_keep V0 main_v68 (by decide)).trans (val2_main_v68 V0)
theorem val2_1_main_v75 (V0 : Valuation τ sig (Elt F)) : val2_1 V0 (no_index (Proc.devRef .tc main_v75)) = res_main_v75 V0 :=
  (val2_1_keep V0 main_v75 (by decide)).trans (val2_main_v75 V0)
theorem val2_1_main_v99 (V0 : Valuation τ sig (Elt F)) : val2_1 V0 (no_index (Proc.devRef .tc main_v99)) = res_main_v99 V0 :=
  (val2_1_keep V0 main_v99 (by decide)).trans (val2_main_v99 V0)
set_option maxRecDepth 8192 in
set_option maxHeartbeats 2000000 in
theorem val2_1_main_v114 (V0 : Valuation τ sig (Elt F)) : val2_1 V0 (no_index (Proc.devRef .tc main_v114)) = res_main_v114 V0 := by
  unfold val2_1
  simp only [ops_part2_0, TRef.ternary, TRef.unary, TRef.toBuf, TRef.ofBuf, cast_eq]
  after_results_simp
  simp only [val2_main_v66, val2_main_v82, val2_main_v83, val2_main_v102, val2_main_v100] <;> rfl
set_option maxRecDepth 8192 in
set_option maxHeartbeats 2000000 in
theorem val2_1_main_v121 (V0 : Valuation τ sig (Elt F)) : val2_1 V0 (no_index (Proc.devRef .tc main_v121)) = select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))) := by
  unfold val2_1
  simp only [ops_part2_0, TRef.ternary, TRef.unary, TRef.toBuf, TRef.ofBuf, cast_eq]
  after_results_simp
  simp only [val2_main_v99] <;> rfl

/-- The device's buffer contents after @main's first 186 operations. -/
def val2_2 (V0 : Valuation τ sig (Elt F)) : Valuation τ sig (Elt F) := after ops_part2_1 (val2_1 V0)
/-- The buffers that window `ops_part2_1`'s operations write. -/
abbrev ops_part2_1_W : List (Ref sig .tc) := [main_v122, main_v123, main_cst_22, main_v124, main_v125, main_v126, main_cst_23, main_v127, main_v128, main_v129, main_v130, main_v131, main_cst_24, main_v132, main_cst_25, main_v133, main_v134, main_v135, main_v136, main_cst_26, main_call4_v0, main_call4_v1, main_v137, main_cst_27, main_v138, main_v139, main_cst_28, main_v140, main_c_29, main_v141]
set_option maxRecDepth 8192 in
theorem ops_part2_1_writes : (ops_part2_1 : List (HloOp τ sig (Elt F))).Forall fun op => op.writes ⊆ (ops_part2_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_1` does not write keeps its contents through it. -/
theorem val2_2_keep (V0 : Valuation τ sig (Elt F)) (r : Ref sig .tc) (h : r ∉ ops_part2_1_W) :
    val2_2 V0 (Proc.devRef .tc r) = val2_1 V0 (Proc.devRef .tc r) :=
  after_of_writes_sub ops_part2_1 _ ops_part2_1_writes h
theorem val2_2_main_arg0 (V0 : Valuation τ sig (Elt F)) : val2_2 V0 (no_index (Proc.devRef .tc main_arg0)) = V0 (Proc.devRef .tc main_arg0) :=
  (val2_2_keep V0 main_arg0 (by decide)).trans (val2_1_main_arg0 V0)
theorem val2_2_main_arg1 (V0 : Valuation τ sig (Elt F)) : val2_2 V0 (no_index (Proc.devRef .tc main_arg1)) = V0 (Proc.devRef .tc main_arg1) :=
  (val2_2_keep V0 main_arg1 (by decide)).trans (val2_1_main_arg1 V0)
theorem val2_2_main_v0 (V0 : Valuation τ sig (Elt F)) : val2_2 V0 (no_index (Proc.devRef .tc main_v0)) = res_main_v0 V0 :=
  (val2_2_keep V0 main_v0 (by decide)).trans (val2_1_main_v0 V0)
theorem val2_2_main_v63 (V0 : Valuation τ sig (Elt F)) : val2_2 V0 (no_index (Proc.devRef .tc main_v63)) = res_main_v63 V0 :=
  (val2_2_keep V0 main_v63 (by decide)).trans (val2_1_main_v63 V0)
theorem val2_2_main_v66 (V0 : Valuation τ sig (Elt F)) : val2_2 V0 (no_index (Proc.devRef .tc main_v66)) = res_main_v66 V0 :=
  (val2_2_keep V0 main_v66 (by decide)).trans (val2_1_main_v66 V0)
theorem val2_2_main_v68 (V0 : Valuation τ sig (Elt F)) : val2_2 V0 (no_index (Proc.devRef .tc main_v68)) = res_main_v68 V0 :=
  (val2_2_keep V0 main_v68 (by decide)).trans (val2_1_main_v68 V0)
theorem val2_2_main_v75 (V0 : Valuation τ sig (Elt F)) : val2_2 V0 (no_index (Proc.devRef .tc main_v75)) = res_main_v75 V0 :=
  (val2_2_keep V0 main_v75 (by decide)).trans (val2_1_main_v75 V0)
set_option maxRecDepth 8192 in
set_option maxHeartbeats 2000000 in
theorem val2_2_main_v139 (V0 : Valuation τ sig (Elt F)) : val2_2 V0 (no_index (Proc.devRef .tc main_v139)) = subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_) := by
  unfold val2_2
  simp only [ops_part2_1, TRef.ternary, TRef.unary, TRef.toBuf, TRef.ofBuf, cast_eq]
  after_results_simp
  simp only [val2_1_main_v2, val2_1_main_v65, val2_1_main_v68, val2_1_main_v99, val2_1_main_v114, val2_1_main_v121] <;> rfl
set_option maxRecDepth 8192 in
set_option maxHeartbeats 2000000 in
theorem val2_2_main_v140 (V0 : Valuation τ sig (Elt F)) : val2_2 V0 (no_index (Proc.devRef .tc main_v140)) = broadcastInDim S2000 ![] bcast_S_S2000 (constant S_ .f32 0x00000000#32) := by
  unfold val2_2
  simp only [ops_part2_1, TRef.ternary, TRef.unary, TRef.toBuf, TRef.ofBuf, cast_eq]
  after_results_simp
  all_goals rfl
set_option maxRecDepth 8192 in
set_option maxHeartbeats 2000000 in
theorem val2_2_main_v141 (V0 : Valuation τ sig (Elt F)) : val2_2 V0 (no_index (Proc.devRef .tc main_v141)) = broadcastInDim S5000 ![] bcast_S_S5000 (constantI S_ 32 0#32) := by
  unfold val2_2
  simp only [ops_part2_1, TRef.ternary, TRef.unary, TRef.toBuf, TRef.ofBuf, cast_eq]
  after_results_simp
  all_goals rfl

/-- The device's buffer contents after @main's first 3 windows. -/
def val3 (V0 : Valuation τ sig (Elt F)) : Valuation τ sig (Elt F) := after ops_part2_2 (val2_2 V0)
/-- The buffers that window `ops_part2_2`'s operations write. -/
abbrev ops_part2_2_W : List (Ref sig .tc) := [main_v142, main_c_30, main_v143, main_v144, main_v145, main_v146]
set_option maxRecDepth 8192 in
theorem ops_part2_2_writes : (ops_part2_2 : List (HloOp τ sig (Elt F))).Forall fun op => op.writes ⊆ (ops_part2_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part2_2` does not write keeps its contents through it. -/
theorem val3_keep (V0 : Valuation τ sig (Elt F)) (r : Ref sig .tc) (h : r ∉ ops_part2_2_W) :
    val3 V0 (Proc.devRef .tc r) = val2_2 V0 (Proc.devRef .tc r) :=
  after_of_writes_sub ops_part2_2 _ ops_part2_2_writes h
theorem val3_main_arg0 (V0 : Valuation τ sig (Elt F)) : val3 V0 (no_index (Proc.devRef .tc main_arg0)) = V0 (Proc.devRef .tc main_arg0) :=
  (val3_keep V0 main_arg0 (by decide)).trans (val2_2_main_arg0 V0)
theorem val3_main_arg1 (V0 : Valuation τ sig (Elt F)) : val3 V0 (no_index (Proc.devRef .tc main_arg1)) = V0 (Proc.devRef .tc main_arg1) :=
  (val3_keep V0 main_arg1 (by decide)).trans (val2_2_main_arg1 V0)
theorem val3_main_v0 (V0 : Valuation τ sig (Elt F)) : val3 V0 (no_index (Proc.devRef .tc main_v0)) = res_main_v0 V0 :=
  (val3_keep V0 main_v0 (by decide)).trans (val2_2_main_v0 V0)
theorem val3_main_v66 (V0 : Valuation τ sig (Elt F)) : val3 V0 (no_index (Proc.devRef .tc main_v66)) = res_main_v66 V0 :=
  (val3_keep V0 main_v66 (by decide)).trans (val2_2_main_v66 V0)
theorem val3_main_v68 (V0 : Valuation τ sig (Elt F)) : val3 V0 (no_index (Proc.devRef .tc main_v68)) = res_main_v68 V0 :=
  (val3_keep V0 main_v68 (by decide)).trans (val2_2_main_v68 V0)
theorem val3_main_v75 (V0 : Valuation τ sig (Elt F)) : val3 V0 (no_index (Proc.devRef .tc main_v75)) = res_main_v75 V0 :=
  (val3_keep V0 main_v75 (by decide)).trans (val2_2_main_v75 V0)
theorem val3_main_v139 (V0 : Valuation τ sig (Elt F)) : val3 V0 (no_index (Proc.devRef .tc main_v139)) = subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_) :=
  (val3_keep V0 main_v139 (by decide)).trans (val2_2_main_v139 V0)
theorem val3_main_v140 (V0 : Valuation τ sig (Elt F)) : val3 V0 (no_index (Proc.devRef .tc main_v140)) = broadcastInDim S2000 ![] bcast_S_S2000 (constant S_ .f32 0x00000000#32) :=
  (val3_keep V0 main_v140 (by decide)).trans (val2_2_main_v140 V0)
set_option maxRecDepth 8192 in
theorem val3_main_v146 (V0 : Valuation τ sig (Elt F)) : val3 V0 (no_index (Proc.devRef .tc main_v146)) = broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0)) := by
  unfold val3
  simp only [ops_part2_2]
  after_results_simp
  simp only [val2_2_main_v63, val2_2_main_v141] <;> rfl

/-- The device's buffer contents after @main's first 222 operations. -/
def val3_1 (V0 : Valuation τ sig (Elt F)) : Valuation τ sig (Elt F) := after ops_part3_0 (val3 V0)
/-- The buffers that window `ops_part3_0`'s operations write. -/
abbrev ops_part3_0_W : List (Ref sig .tc) := [main_v147, main_cst_31, main_v148, main_v149, main_v150, main_c_32, main_v151, main_c_33, main_v152, main_v153, main_v154, main_v155, main_v156, main_v157, main_v158, main_v159, main_v160, main_v161, main_v162, main_v163, main_v164, main_v165, main_v166, main_v167, main_v168, main_v169, main_v170, main_v171, main_v172, main_cst_34]
set_option maxRecDepth 8192 in
theorem ops_part3_0_writes : (ops_part3_0 : List (HloOp τ sig (Elt F))).Forall fun op => op.writes ⊆ (ops_part3_0_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part3_0` does not write keeps its contents through it. -/
theorem val3_1_keep (V0 : Valuation τ sig (Elt F)) (r : Ref sig .tc) (h : r ∉ ops_part3_0_W) :
    val3_1 V0 (Proc.devRef .tc r) = val3 V0 (Proc.devRef .tc r) :=
  after_of_writes_sub ops_part3_0 _ ops_part3_0_writes h
theorem val3_1_main_arg0 (V0 : Valuation τ sig (Elt F)) : val3_1 V0 (no_index (Proc.devRef .tc main_arg0)) = V0 (Proc.devRef .tc main_arg0) :=
  (val3_1_keep V0 main_arg0 (by decide)).trans (val3_main_arg0 V0)
theorem val3_1_main_arg1 (V0 : Valuation τ sig (Elt F)) : val3_1 V0 (no_index (Proc.devRef .tc main_arg1)) = V0 (Proc.devRef .tc main_arg1) :=
  (val3_1_keep V0 main_arg1 (by decide)).trans (val3_main_arg1 V0)
theorem val3_1_main_v66 (V0 : Valuation τ sig (Elt F)) : val3_1 V0 (no_index (Proc.devRef .tc main_v66)) = res_main_v66 V0 :=
  (val3_1_keep V0 main_v66 (by decide)).trans (val3_main_v66 V0)
theorem val3_1_main_v68 (V0 : Valuation τ sig (Elt F)) : val3_1 V0 (no_index (Proc.devRef .tc main_v68)) = res_main_v68 V0 :=
  (val3_1_keep V0 main_v68 (by decide)).trans (val3_main_v68 V0)
set_option maxRecDepth 8192 in
set_option maxHeartbeats 2000000 in
theorem val3_1_main_v154 (V0 : Valuation τ sig (Elt F)) : val3_1 V0 (no_index (Proc.devRef .tc main_v154)) = addf (subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_)) (sitofp .f32 (subi (constantI S_ 32 2000#32) (Host.reduce IntOp.addi (extui 32 (cmpf .ogt (Host.scatterAdd scatter_S2000_S5000x1_S5000_n_0_0_1 (broadcastInDim S2000 ![] bcast_S_S2000 (constant S_ .f32 0x00000000#32)) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0))) (res_main_v66 V0)) (broadcastInDim S2000 ![] bcast_S_S2000 (constant S_ .f32 0x00000000#32))) natLt_1_32) (constantI S_ 32 0#32) reducesTo_S2000_S_d0 h_S_))) := by
  unfold val3_1
  simp only [ops_part3_0]
  after_results_simp
  simp only [val3_main_v66, val3_main_v146, val3_main_v140, val3_main_v139] <;> rfl
set_option maxRecDepth 8192 in
set_option maxHeartbeats 2000000 in
theorem val3_1_main_v156 (V0 : Valuation τ sig (Elt F)) : val3_1 V0 (no_index (Proc.devRef .tc main_v156)) = res_main_v156 V0 := by
  unfold val3_1
  simp only [ops_part3_0]
  after_results_simp
  simp only [val3_main_v0] <;> rfl
set_option maxRecDepth 8192 in
set_option maxHeartbeats 2000000 in
theorem val3_1_main_v158 (V0 : Valuation τ sig (Elt F)) : val3_1 V0 (no_index (Proc.devRef .tc main_v158)) = res_main_v158 V0 := by
  unfold val3_1
  simp only [ops_part3_0]
  after_results_simp
  simp only [val3_main_v0] <;> rfl
set_option maxRecDepth 8192 in
set_option maxHeartbeats 2000000 in
theorem val3_1_main_v160 (V0 : Valuation τ sig (Elt F)) : val3_1 V0 (no_index (Proc.devRef .tc main_v160)) = res_main_v160 V0 := by
  unfold val3_1
  simp only [ops_part3_0]
  after_results_simp
  simp only [val3_main_v0] <;> rfl
set_option maxRecDepth 8192 in
set_option maxHeartbeats 2000000 in
theorem val3_1_main_v162 (V0 : Valuation τ sig (Elt F)) : val3_1 V0 (no_index (Proc.devRef .tc main_v162)) = res_main_v162 V0 := by
  unfold val3_1
  simp only [ops_part3_0]
  after_results_simp
  simp only [val3_main_v0] <;> rfl
set_option maxRecDepth 8192 in
set_option maxHeartbeats 2000000 in
theorem val3_1_main_v164 (V0 : Valuation τ sig (Elt F)) : val3_1 V0 (no_index (Proc.devRef .tc main_v164)) = res_main_v164 V0 := by
  unfold val3_1
  simp only [ops_part3_0]
  after_results_simp
  simp only [val3_main_v75] <;> rfl
set_option maxRecDepth 8192 in
set_option maxHeartbeats 2000000 in
theorem val3_1_main_v166 (V0 : Valuation τ sig (Elt F)) : val3_1 V0 (no_index (Proc.devRef .tc main_v166)) = res_main_v166 V0 := by
  unfold val3_1
  simp only [ops_part3_0]
  after_results_simp
  simp only [val3_main_v75] <;> rfl
set_option maxRecDepth 8192 in
set_option maxHeartbeats 2000000 in
theorem val3_1_main_v168 (V0 : Valuation τ sig (Elt F)) : val3_1 V0 (no_index (Proc.devRef .tc main_v168)) = res_main_v168 V0 := by
  unfold val3_1
  simp only [ops_part3_0]
  after_results_simp
  simp only [val3_main_v75] <;> rfl
set_option maxRecDepth 8192 in
set_option maxHeartbeats 2000000 in
theorem val3_1_main_v170 (V0 : Valuation τ sig (Elt F)) : val3_1 V0 (no_index (Proc.devRef .tc main_v170)) = res_main_v170 V0 := by
  unfold val3_1
  simp only [ops_part3_0]
  after_results_simp
  simp only [val3_main_v75] <;> rfl
set_option maxRecDepth 8192 in
set_option maxHeartbeats 2000000 in
theorem val3_1_main_v171 (V0 : Valuation τ sig (Elt F)) : val3_1 V0 (no_index (Proc.devRef .tc main_v171)) = res_main_v171 V0 := by
  unfold val3_1
  simp only [ops_part3_0]
  after_results_simp
  simp only [val3_main_v0] <;> rfl
set_option maxRecDepth 8192 in
set_option maxHeartbeats 2000000 in
theorem val3_1_main_v172 (V0 : Valuation τ sig (Elt F)) : val3_1 V0 (no_index (Proc.devRef .tc main_v172)) = subf (res_main_v162 V0) (res_main_v158 V0) := by
  unfold val3_1
  simp only [ops_part3_0]
  after_results_simp
  simp only [val3_main_v0] <;> rfl
set_option maxRecDepth 8192 in
set_option maxHeartbeats 2000000 in
theorem val3_1_main_cst_34 (V0 : Valuation τ sig (Elt F)) : val3_1 V0 (no_index (Proc.devRef .tc main_cst_34)) = constant S_ .f32 0x33D6BF95#32 := by
  unfold val3_1
  simp only [ops_part3_0]
  after_results_simp
  all_goals rfl

/-- The device's buffer contents after @main's first 252 operations. -/
def val3_2 (V0 : Valuation τ sig (Elt F)) : Valuation τ sig (Elt F) := after ops_part3_1 (val3_1 V0)
/-- The buffers that window `ops_part3_1`'s operations write. -/
abbrev ops_part3_1_W : List (Ref sig .tc) := [main_v173, main_v174, main_v175, main_v176, main_cst_35, main_v177, main_v178, main_v179, main_v180, main_v181, main_cst_36, main_call5_v0, main_call5_v1, main_v182, main_v183, main_v184, main_v185, main_cst_37, main_call6_v0, main_call6_v1, main_v186, main_v187, main_v188, main_v189, main_v190, main_v191, main_cst_38, main_v192, main_v193, main_v194]
set_option maxRecDepth 8192 in
theorem ops_part3_1_writes : (ops_part3_1 : List (HloOp τ sig (Elt F))).Forall fun op => op.writes ⊆ (ops_part3_1_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part3_1` does not write keeps its contents through it. -/
theorem val3_2_keep (V0 : Valuation τ sig (Elt F)) (r : Ref sig .tc) (h : r ∉ ops_part3_1_W) :
    val3_2 V0 (Proc.devRef .tc r) = val3_1 V0 (Proc.devRef .tc r) :=
  after_of_writes_sub ops_part3_1 _ ops_part3_1_writes h
theorem val3_2_main_arg0 (V0 : Valuation τ sig (Elt F)) : val3_2 V0 (no_index (Proc.devRef .tc main_arg0)) = V0 (Proc.devRef .tc main_arg0) :=
  (val3_2_keep V0 main_arg0 (by decide)).trans (val3_1_main_arg0 V0)
theorem val3_2_main_arg1 (V0 : Valuation τ sig (Elt F)) : val3_2 V0 (no_index (Proc.devRef .tc main_arg1)) = V0 (Proc.devRef .tc main_arg1) :=
  (val3_2_keep V0 main_arg1 (by decide)).trans (val3_1_main_arg1 V0)
theorem val3_2_main_v66 (V0 : Valuation τ sig (Elt F)) : val3_2 V0 (no_index (Proc.devRef .tc main_v66)) = res_main_v66 V0 :=
  (val3_2_keep V0 main_v66 (by decide)).trans (val3_1_main_v66 V0)
theorem val3_2_main_v68 (V0 : Valuation τ sig (Elt F)) : val3_2 V0 (no_index (Proc.devRef .tc main_v68)) = res_main_v68 V0 :=
  (val3_2_keep V0 main_v68 (by decide)).trans (val3_1_main_v68 V0)
theorem val3_2_main_v154 (V0 : Valuation τ sig (Elt F)) : val3_2 V0 (no_index (Proc.devRef .tc main_v154)) = addf (subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_)) (sitofp .f32 (subi (constantI S_ 32 2000#32) (Host.reduce IntOp.addi (extui 32 (cmpf .ogt (Host.scatterAdd scatter_S2000_S5000x1_S5000_n_0_0_1 (broadcastInDim S2000 ![] bcast_S_S2000 (constant S_ .f32 0x00000000#32)) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0))) (res_main_v66 V0)) (broadcastInDim S2000 ![] bcast_S_S2000 (constant S_ .f32 0x00000000#32))) natLt_1_32) (constantI S_ 32 0#32) reducesTo_S2000_S_d0 h_S_))) :=
  (val3_2_keep V0 main_v154 (by decide)).trans (val3_1_main_v154 V0)
theorem val3_2_main_v156 (V0 : Valuation τ sig (Elt F)) : val3_2 V0 (no_index (Proc.devRef .tc main_v156)) = res_main_v156 V0 :=
  (val3_2_keep V0 main_v156 (by decide)).trans (val3_1_main_v156 V0)
theorem val3_2_main_v158 (V0 : Valuation τ sig (Elt F)) : val3_2 V0 (no_index (Proc.devRef .tc main_v158)) = res_main_v158 V0 :=
  (val3_2_keep V0 main_v158 (by decide)).trans (val3_1_main_v158 V0)
theorem val3_2_main_v160 (V0 : Valuation τ sig (Elt F)) : val3_2 V0 (no_index (Proc.devRef .tc main_v160)) = res_main_v160 V0 :=
  (val3_2_keep V0 main_v160 (by decide)).trans (val3_1_main_v160 V0)
theorem val3_2_main_v162 (V0 : Valuation τ sig (Elt F)) : val3_2 V0 (no_index (Proc.devRef .tc main_v162)) = res_main_v162 V0 :=
  (val3_2_keep V0 main_v162 (by decide)).trans (val3_1_main_v162 V0)
theorem val3_2_main_v164 (V0 : Valuation τ sig (Elt F)) : val3_2 V0 (no_index (Proc.devRef .tc main_v164)) = res_main_v164 V0 :=
  (val3_2_keep V0 main_v164 (by decide)).trans (val3_1_main_v164 V0)
theorem val3_2_main_v166 (V0 : Valuation τ sig (Elt F)) : val3_2 V0 (no_index (Proc.devRef .tc main_v166)) = res_main_v166 V0 :=
  (val3_2_keep V0 main_v166 (by decide)).trans (val3_1_main_v166 V0)
theorem val3_2_main_v168 (V0 : Valuation τ sig (Elt F)) : val3_2 V0 (no_index (Proc.devRef .tc main_v168)) = res_main_v168 V0 :=
  (val3_2_keep V0 main_v168 (by decide)).trans (val3_1_main_v168 V0)
theorem val3_2_main_v170 (V0 : Valuation τ sig (Elt F)) : val3_2 V0 (no_index (Proc.devRef .tc main_v170)) = res_main_v170 V0 :=
  (val3_2_keep V0 main_v170 (by decide)).trans (val3_1_main_v170 V0)
theorem val3_2_main_v171 (V0 : Valuation τ sig (Elt F)) : val3_2 V0 (no_index (Proc.devRef .tc main_v171)) = res_main_v171 V0 :=
  (val3_2_keep V0 main_v171 (by decide)).trans (val3_1_main_v171 V0)
set_option maxRecDepth 8192 in
set_option maxHeartbeats 2000000 in
theorem val3_2_main_v174 (V0 : Valuation τ sig (Elt F)) : val3_2 V0 (no_index (Proc.devRef .tc main_v174)) = res_main_v174 V0 := by
  unfold val3_2
  simp only [ops_part3_1, TRef.binary, TRef.unary, TRef.toBuf, TRef.ofBuf, cast_eq]
  after_results_simp
  simp only [val3_1_main_cst_34, val3_1_main_v172] <;> rfl
set_option maxRecDepth 8192 in
set_option maxHeartbeats 2000000 in
theorem val3_2_main_v175 (V0 : Valuation τ sig (Elt F)) : val3_2 V0 (no_index (Proc.devRef .tc main_v175)) = res_main_v175 V0 := by
  unfold val3_2
  simp only [ops_part3_1, TRef.binary, TRef.unary, TRef.toBuf, TRef.ofBuf, cast_eq]
  after_results_simp
  simp only [val3_1_main_v164, val3_1_main_v168] <;> rfl
set_option maxRecDepth 8192 in
set_option maxHeartbeats 2000000 in
theorem val3_2_main_v178 (V0 : Valuation τ sig (Elt F)) : val3_2 V0 (no_index (Proc.devRef .tc main_v178)) = res_main_v178 V0 := by
  unfold val3_2
  simp only [ops_part3_1, TRef.binary, TRef.unary, TRef.toBuf, TRef.ofBuf, cast_eq]
  after_results_simp
  simp only [val3_1_main_v166, val3_1_main_v170] <;> rfl
set_option maxRecDepth 8192 in
set_option maxHeartbeats 2000000 in
theorem val3_2_main_v194 (V0 : Valuation τ sig (Elt F)) : val3_2 V0 (no_index (Proc.devRef .tc main_v194)) = res_main_v194 V0 := by
  unfold val3_2
  simp only [ops_part3_1, TRef.binary, TRef.unary, TRef.toBuf, TRef.ofBuf, cast_eq]
  after_results_simp
  simp only [val3_1_main_v166, val3_1_main_v170, val3_1_main_v164, val3_1_main_v168, val3_1_main_cst_34, val3_1_main_v172, val3_1_main_v171, val3_1_main_v158, val3_1_main_v162, val3_1_main_v156, val3_1_main_v160] <;> rfl

/-- The device's buffer contents after @main's first 4 windows. -/
def val4 (V0 : Valuation τ sig (Elt F)) : Valuation τ sig (Elt F) := after ops_part3_2 (val3_2 V0)
/-- The buffers that window `ops_part3_2`'s operations write. -/
abbrev ops_part3_2_W : List (Ref sig .tc) := [main_v195, main_v196, main_v197, main_v198]
set_option maxRecDepth 8192 in
theorem ops_part3_2_writes : (ops_part3_2 : List (HloOp τ sig (Elt F))).Forall fun op => op.writes ⊆ (ops_part3_2_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `ops_part3_2` does not write keeps its contents through it. -/
theorem val4_keep (V0 : Valuation τ sig (Elt F)) (r : Ref sig .tc) (h : r ∉ ops_part3_2_W) :
    val4 V0 (Proc.devRef .tc r) = val3_2 V0 (Proc.devRef .tc r) :=
  after_of_writes_sub ops_part3_2 _ ops_part3_2_writes h
theorem val4_main_arg0 (V0 : Valuation τ sig (Elt F)) : val4 V0 (no_index (Proc.devRef .tc main_arg0)) = V0 (Proc.devRef .tc main_arg0) :=
  (val4_keep V0 main_arg0 (by decide)).trans (val3_2_main_arg0 V0)
theorem val4_main_arg1 (V0 : Valuation τ sig (Elt F)) : val4 V0 (no_index (Proc.devRef .tc main_arg1)) = V0 (Proc.devRef .tc main_arg1) :=
  (val4_keep V0 main_arg1 (by decide)).trans (val3_2_main_arg1 V0)
theorem val4_main_v66 (V0 : Valuation τ sig (Elt F)) : val4 V0 (no_index (Proc.devRef .tc main_v66)) = res_main_v66 V0 :=
  (val4_keep V0 main_v66 (by decide)).trans (val3_2_main_v66 V0)
theorem val4_main_v68 (V0 : Valuation τ sig (Elt F)) : val4 V0 (no_index (Proc.devRef .tc main_v68)) = res_main_v68 V0 :=
  (val4_keep V0 main_v68 (by decide)).trans (val3_2_main_v68 V0)
theorem val4_main_v154 (V0 : Valuation τ sig (Elt F)) : val4 V0 (no_index (Proc.devRef .tc main_v154)) = addf (subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_)) (sitofp .f32 (subi (constantI S_ 32 2000#32) (Host.reduce IntOp.addi (extui 32 (cmpf .ogt (Host.scatterAdd scatter_S2000_S5000x1_S5000_n_0_0_1 (broadcastInDim S2000 ![] bcast_S_S2000 (constant S_ .f32 0x00000000#32)) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0))) (res_main_v66 V0)) (broadcastInDim S2000 ![] bcast_S_S2000 (constant S_ .f32 0x00000000#32))) natLt_1_32) (constantI S_ 32 0#32) reducesTo_S2000_S_d0 h_S_))) :=
  (val4_keep V0 main_v154 (by decide)).trans (val3_2_main_v154 V0)
theorem val4_main_v156 (V0 : Valuation τ sig (Elt F)) : val4 V0 (no_index (Proc.devRef .tc main_v156)) = res_main_v156 V0 :=
  (val4_keep V0 main_v156 (by decide)).trans (val3_2_main_v156 V0)
theorem val4_main_v158 (V0 : Valuation τ sig (Elt F)) : val4 V0 (no_index (Proc.devRef .tc main_v158)) = res_main_v158 V0 :=
  (val4_keep V0 main_v158 (by decide)).trans (val3_2_main_v158 V0)
theorem val4_main_v160 (V0 : Valuation τ sig (Elt F)) : val4 V0 (no_index (Proc.devRef .tc main_v160)) = res_main_v160 V0 :=
  (val4_keep V0 main_v160 (by decide)).trans (val3_2_main_v160 V0)
theorem val4_main_v162 (V0 : Valuation τ sig (Elt F)) : val4 V0 (no_index (Proc.devRef .tc main_v162)) = res_main_v162 V0 :=
  (val4_keep V0 main_v162 (by decide)).trans (val3_2_main_v162 V0)
theorem val4_main_v164 (V0 : Valuation τ sig (Elt F)) : val4 V0 (no_index (Proc.devRef .tc main_v164)) = res_main_v164 V0 :=
  (val4_keep V0 main_v164 (by decide)).trans (val3_2_main_v164 V0)
theorem val4_main_v166 (V0 : Valuation τ sig (Elt F)) : val4 V0 (no_index (Proc.devRef .tc main_v166)) = res_main_v166 V0 :=
  (val4_keep V0 main_v166 (by decide)).trans (val3_2_main_v166 V0)
theorem val4_main_v168 (V0 : Valuation τ sig (Elt F)) : val4 V0 (no_index (Proc.devRef .tc main_v168)) = res_main_v168 V0 :=
  (val4_keep V0 main_v168 (by decide)).trans (val3_2_main_v168 V0)
theorem val4_main_v170 (V0 : Valuation τ sig (Elt F)) : val4 V0 (no_index (Proc.devRef .tc main_v170)) = res_main_v170 V0 :=
  (val4_keep V0 main_v170 (by decide)).trans (val3_2_main_v170 V0)
theorem val4_main_v171 (V0 : Valuation τ sig (Elt F)) : val4 V0 (no_index (Proc.devRef .tc main_v171)) = res_main_v171 V0 :=
  (val4_keep V0 main_v171 (by decide)).trans (val3_2_main_v171 V0)
theorem val4_main_v174 (V0 : Valuation τ sig (Elt F)) : val4 V0 (no_index (Proc.devRef .tc main_v174)) = res_main_v174 V0 :=
  (val4_keep V0 main_v174 (by decide)).trans (val3_2_main_v174 V0)
theorem val4_main_v175 (V0 : Valuation τ sig (Elt F)) : val4 V0 (no_index (Proc.devRef .tc main_v175)) = res_main_v175 V0 :=
  (val4_keep V0 main_v175 (by decide)).trans (val3_2_main_v175 V0)
theorem val4_main_v178 (V0 : Valuation τ sig (Elt F)) : val4 V0 (no_index (Proc.devRef .tc main_v178)) = res_main_v178 V0 :=
  (val4_keep V0 main_v178 (by decide)).trans (val3_2_main_v178 V0)
theorem val4_main_v194 (V0 : Valuation τ sig (Elt F)) : val4 V0 (no_index (Proc.devRef .tc main_v194)) = res_main_v194 V0 :=
  (val4_keep V0 main_v194 (by decide)).trans (val3_2_main_v194 V0)
set_option maxRecDepth 8192 in
theorem val4_main_v197 (V0 : Valuation τ sig (Elt F)) : val4 V0 (no_index (Proc.devRef .tc main_v197)) = res_main_v197 V0 := by
  unfold val4
  simp only [ops_part3_2]
  after_results_simp
  simp only [val3_2_main_v164, val3_2_main_v156, val3_2_main_v168, val3_2_main_v160] <;> rfl
set_option maxRecDepth 8192 in
theorem val4_main_v198 (V0 : Valuation τ sig (Elt F)) : val4 V0 (no_index (Proc.devRef .tc main_v198)) = maximumf (res_main_v162 V0) (res_main_v170 V0) := by
  unfold val4
  simp only [ops_part3_2]
  after_results_simp
  simp only [val3_2_main_v170, val3_2_main_v162] <;> rfl

/-- The device's buffer contents after @main's first 5 windows. -/
def val5 (V0 : Valuation τ sig (Elt F)) : Valuation τ sig (Elt F) := after ops_part4 (val4 V0)
/-- The buffers that window `main_part4`'s operations write. -/
abbrev ops_part4_W : List (Ref sig .tc) := [main_v199, main_v200, main_v201, main_v202, main_v203, main_cst_39, main_v204, main_v205, main_v206, main_v207, main_v208, main_v209, main_v210, main_v211, main_v212, main_v213, main_v214, main_cst_40, main_v215, main_v216, main_v217, main_v218, main_v219, main_v220, main_v221, main_v222, main_cst_41, main_v223, main_v224, main_v225, main_cst_42, main_v226, main_v227, main_v228, main_v229, main_v230, main_v231, main_v232, main_cst_43, main_v233, main_v234, main_v235, main_cst_44, main_v236, main_v237, main_cst_45, main_v238, main_cst_46, main_v239, main_v240]
set_option maxRecDepth 8192 in
theorem ops_part4_writes : (ops_part4 : List (HloOp τ sig (Elt F))).Forall fun op => op.writes ⊆ (ops_part4_W.map (Proc.devRef (τ := τ) .tc)).toFinset := by
  simp only [List.Forall]; and_intros <;> (simp only [nullary_writes, unary_writes, binary_writes, ternary_writes, quaternary_writes, reshape_writes, nary_writes, Finset.singleton_subset_iff, List.mem_toFinset]; exact List.mem_map_of_mem (by decide))
/-- A buffer that window `main_part4` does not write keeps its contents through it. -/
theorem val5_keep (V0 : Valuation τ sig (Elt F)) (r : Ref sig .tc) (h : r ∉ ops_part4_W) :
    val5 V0 (Proc.devRef .tc r) = val4 V0 (Proc.devRef .tc r) :=
  after_of_writes_sub ops_part4 _ ops_part4_writes h
theorem val5_main_arg0 (V0 : Valuation τ sig (Elt F)) : val5 V0 (no_index (Proc.devRef .tc main_arg0)) = V0 (Proc.devRef .tc main_arg0) :=
  (val5_keep V0 main_arg0 (by decide)).trans (val4_main_arg0 V0)
theorem val5_main_arg1 (V0 : Valuation τ sig (Elt F)) : val5 V0 (no_index (Proc.devRef .tc main_arg1)) = V0 (Proc.devRef .tc main_arg1) :=
  (val5_keep V0 main_arg1 (by decide)).trans (val4_main_arg1 V0)
set_option maxRecDepth 8192 in
set_option maxHeartbeats 2000000 in
theorem val5_main_v240 (V0 : Valuation τ sig (Elt F)) : val5 V0 (no_index (Proc.devRef .tc main_v240)) = addf (mulf (constant S_ .f32 0x3F000000#32) (addf (subf (Host.divf (Host.reduceAdd (Host.negf (addf (mulf (res_main_v114 V0) (select (cmpf .ogt (res_main_v99 V0) (broadcastInDim S5000x80 ![] bcast_S_S5000x80 (constant S_ .f32 0x00000000#32))) (Host.log (select (cmpf .ogt (res_main_v99 V0) (broadcastInDim S5000x80 ![] bcast_S_S5000x80 (constant S_ .f32 0x00000000#32))) (res_main_v99 V0) (broadcastInDim S5000x80 ![] bcast_S_S5000x80 (id (constant S_ .f32 0x3F800000#32))))) (broadcastInDim S5000x80 ![] bcast_S_S5000x80 (id (constant S_ .f32 0xC2C80000#32))))) (mulf (subf (broadcastInDim S5000x80 ![] bcast_S_S5000x80 (constant S_ .f32 0x3F800000#32)) (res_main_v114 V0)) (maximumf (Host.log1p (Host.negf (res_main_v99 V0))) (broadcastInDim S5000x80 ![] bcast_S_S5000x80 (constant S_ .f32 0xC2C80000#32)))))) (constant S_ .f32 0x00000000#32) reducesTo_S5000x80_S_d0_1 h_S_) (mulf (res_main_v68 V0) (constant S_ .f32 0x42A00000#32))) (Host.reduceAdd (select (noti (res_main_v65 V0)) (Host.log (res_main_v2 V0)) (broadcastInDim S5000 ![] bcast_S_S5000 (id (constant S_ .f32 0x00000000#32)))) (constant S_ .f32 0x00000000#32) reducesTo_S5000_S_d0 h_S_)) (sitofp .f32 (subi (constantI S_ 32 2000#32) (Host.reduce IntOp.addi (extui 32 (cmpf .ogt (Host.scatterAdd scatter_S2000_S5000x1_S5000_n_0_0_1 (broadcastInDim S2000 ![] bcast_S_S2000 (constant S_ .f32 0x00000000#32)) (broadcastInDim S5000x1 ![0] bcast_S5000_S5000x1_0 (select (cmpi .slt (res_main_v63 V0) (broadcastInDim S5000 ![] bcast_S_S5000 (constantI S_ 32 0#32))) (addi (res_main_v63 V0) (broadcastInDim S5000 ![] bcast_S_S5000 (constantI S_ 32 2000#32))) (res_main_v63 V0))) (res_main_v66 V0)) (broadcastInDim S2000 ![] bcast_S_S2000 (constant S_ .f32 0x00000000#32))) natLt_1_32) (constantI S_ 32 0#32) reducesTo_S2000_S_d0 h_S_))))) (mulf (constant S_ .f32 0x40F00000#32) (Host.divf (Host.reduceAdd (mulf (res_main_v66 V0) (subf (broadcastInDim S5000 ![] bcast_S_S5000 (constant S_ .f32 0x3F800000#32)) (subf (res_main_v194 V0) (addf (Host.divf (Host.divf (addf (mulf (res_main_v208 V0) (res_main_v208 V0)) (mulf (res_main_v212 V0) (res_main_v212 V0))) (broadcastInDim S5000 ![] bcast_S_S5000 (constant S_ .f32 0x40800000#32))) (addf (addf (mulf (res_main_v197 V0) (res_main_v197 V0)) (mulf (res_main_v200 V0) (res_main_v200 V0))) (broadcastInDim S5000 ![] bcast_S_S5000 (constant S_ .f32 0x33D6BF95#32)))) (mulf (res_main_v224 V0) (Host.divf (res_main_v224 V0) (addf (subf (res_main_v224 V0) (res_main_v194 V0)) (broadcastInDim S5000 ![] bcast_S_S5000 (constant S_ .f32 0x3F800001#32))))))))) (constant S_ .f32 0x00000000#32) reducesTo_S5000_S_d0 h_S_) (res_main_v68 V0))) := by
  unfold val5
  simp only [ops_part4]
  after_results_simp
  simp only [val4_main_v68, val4_main_v174, val4_main_v171, val4_main_v178, val4_main_v175, val4_main_v166, val4_main_v158, val4_main_v198, val4_main_v197, val4_main_v162, val4_main_v170, val4_main_v160, val4_main_v156, val4_main_v168, val4_main_v164, val4_main_v194, val4_main_v66, val4_main_v154] <;> rfl

theorem after_ops (V0 : Valuation τ sig (Elt F)) : after ops V0 = val5 V0 := by
  simp only [ops, ops_part0, ops_part1, ops_part2, ops_part3, after_append]
  rfl

/-- Every execution ends with the result at what the operations leave of it, the arguments as launched and every
    counter at zero. -/
theorem run (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_v240) = val5 (launchContents m c) (Proc.devRef .tc main_v240)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c main_v240).trans (congrFun (after_ops (launchContents m c)) (Proc.devRef .tc main_v240)),
      (h c main_arg0).trans ((congrFun (after_ops (launchContents m c)) (Proc.devRef .tc main_arg0)).trans (val5_main_arg0 (launchContents m c))),
      (h c main_arg1).trans ((congrFun (after_ops (launchContents m c)) (Proc.devRef .tc main_arg1)).trans (val5_main_arg1 (launchContents m c)))⟩,
      sem_eq_zero_of_no_sems (by decide) _⟩)
    (run_seq scopedRefs_eq scopedSems_eq defs main (fun _ => ops) main_eq (fun _ => ops_sub) m ρ fun _ => ops_fresh)

end Cert.ReferenceIdeal.Value

end

end
-- ==== Proof.Spec.lean ====
/- The loss in plain mathematics over the extended reals: what one pair of boxes gives, what one row of predictions
   gives, and the total. Both programs are shown to compute it. -/
module

public import Idealize.ShloMosaic.PureOps.Ideal.Laws

@[expose] public section

noncomputable section

namespace Cert.Loss

open Idealize.ShloMosaic

/-- The small number the divisions are guarded with. -/
abbrev eps : EReal := Ideal.ofBits .f32 0x33D6BF95#32
/-- The matching threshold. -/
abbrev thr : EReal := Ideal.ofBits .f32 0x3EE66666#32

/-- The area two boxes share. -/
def inter (p0 p1 p2 p3 g0 g1 g2 g3 : EReal) : EReal :=
  max (min p2 g2 - max p0 g0) 0 * max (min p3 g3 - max p1 g1) 0
/-- The intersection over union of two boxes. -/
def iou (p0 p1 p2 p3 g0 g1 g2 g3 : EReal) : EReal :=
  Ideal.div (inter p0 p1 p2 p3 g0 g1 g2 g3)
    ((p2 - p0) * (p3 - p1) + (g2 - g0) * (g3 - g1) - inter p0 p1 p2 p3 g0 g1 g2 g3 + eps)
/-- The same with guarded heights, as the box loss takes it. -/
def iou2 (p0 p1 p2 p3 g0 g1 g2 g3 : EReal) : EReal :=
  Ideal.div (inter p0 p1 p2 p3 g0 g1 g2 g3)
    ((p2 - p0) * (p3 - p1 + eps) + (g2 - g0) * (g3 - g1 + eps) - inter p0 p1 p2 p3 g0 g1 g2 g3 + eps)
/-- The aspect-ratio penalty of two angles. -/
def aspect (x y : EReal) : EReal := Ideal.ofBits .f32 0x3ECF817B#32 * ((x - y) * (x - y))
/-- The distance penalty: squared centre distance over squared diagonal. -/
def apart (p0 p1 p2 p3 g0 g1 g2 g3 : EReal) : EReal :=
  Ideal.div
    (Ideal.div ((g0 + g2 - p0 - p2) * (g0 + g2 - p0 - p2) + (g1 + g3 - p1 - p3) * (g1 + g3 - p1 - p3)) (Ideal.ofBits .f32 0x40800000#32))
    ((max p2 g2 - min p0 g0) * (max p2 g2 - min p0 g0) + (max p3 g3 - min p1 g1) * (max p3 g3 - min p1 g1) + eps)
/-- The box loss of two boxes whose aspect angles are `x` (target) and `y` (prediction). -/
def box (x y p0 p1 p2 p3 g0 g1 g2 g3 : EReal) : EReal :=
  1 - (iou2 p0 p1 p2 p3 g0 g1 g2 g3
    - (apart p0 p1 p2 p3 g0 g1 g2 g3
      + aspect x y * Ideal.div (aspect x y) (aspect x y - iou2 p0 p1 p2 p3 g0 g1 g2 g3 + Ideal.ofBits .f32 0x3F800001#32)))

end Cert.Loss
end
end
-- ==== Proof.Pair.lean ====
/- Matching a row of values to its first best column: the facts both programs' matching comes down to. -/
module

public import proofs.«01_k».proof.Proof.Spec
public import Idealize.ShloMosaic.PureOps.Ideal.Laws
public import Idealize.ShloMosaic.Lib.Pointwise
public import Idealize.ShloMosaic.Lib.IdealHost

@[expose] public section

noncomputable section

namespace Cert.Loss

open Idealize.ShloMosaic

theorem thr_pos : (0 : EReal) < thr := by
  unfold thr
  simp [Ideal.ofBits, Ideal.ieee, -EReal.coe_mul]

theorem low_eq : Ideal.ofBits .f32 0xFF800000#32 = (⊥ : EReal) := by
  simp [Ideal.ofBits, Ideal.ieee]

/-- A target that is all zeros shares nothing with any prediction. -/
theorem iou_zero (p0 p1 p2 p3 : EReal) : iou p0 p1 p2 p3 0 0 0 0 ≤ 0 := by
  have h : ∀ a b : EReal, max (min a 0 - max b 0) 0 = 0 := fun a b =>
    max_eq_right (EReal.sub_nonpos.2 ((min_le_right _ _).trans (le_max_right _ _)))
  have e : inter p0 p1 p2 p3 0 0 0 0 = 0 := by
    unfold inter
    rw [h, h, zero_mul]
  unfold iou
  rw [e]
  unfold Ideal.div
  split_ifs <;> simp_all

/-- The smaller of two words, read as integers. -/
theorem minsi_le {w : ℕ} (x y z : BitVec w) : x.toInt ≤ (IntOp.minsi y z).toInt ↔ x.toInt ≤ y.toInt ∧ x.toInt ≤ z.toInt := by
  unfold IntOp.minsi
  split_ifs with h
  · have := BitVec.slt_iff_toInt_lt.1 h
    omega
  · have := mt BitVec.slt_iff_toInt_lt.2 h
    omega

/-- A least word that occurs is the fold of the smaller. -/
theorem fold_minsi {w : ℕ} {ι : Type} [Fintype ι] (c v : BitVec w) (h : ι → BitVec w) (x : ι) (hx : h x = v) (hc : v.toInt ≤ c.toInt)
    (hv : ∀ y, v.toInt ≤ (h y).toInt) : Finset.fold IntOp.minsi c h Finset.univ = v := by
  have key := fun u : BitVec w => Finset.fold_op_rel_iff_and (op := IntOp.minsi) (r := fun a b : BitVec w => a.toInt ≤ b.toInt)
    (fun {x y z} => minsi_le x y z) (b := c) (s := Finset.univ) (f := h) (c := u)
  refine BitVec.eq_of_toInt_eq (le_antisymm ?_ ?_)
  · have := ((key (Finset.fold IntOp.minsi c h Finset.univ)).1 le_rfl).2 x (Finset.mem_univ x)
    rwa [hx] at this
  · exact (key v).2 ⟨hc, fun y _ => hv y⟩

theorem toInt_small (n : ℕ) (h : n < 2 ^ 31) : (BitVec.ofNat 32 n).toInt = n := by
  have e : (BitVec.ofNat 32 n).toNat = n := by
    rw [BitVec.toNat_ofNat, Nat.mod_eq_of_lt (by omega)]
  rw [BitVec.toInt_eq_toNat_of_lt (by rw [e]; omega), e]

/-- A row of values over the padded columns, its real columns `g` and a first best real column `b`. -/
structure Row (g : Fin 2000 → EReal) (f : Fin 2048 → EReal) (b : Fin 2000) : Prop where
  real : ∀ j : Fin 2000, f ⟨j.val, by omega⟩ = g j
  pad : ∀ j : Fin 2048, 2000 ≤ j.val → f j ≤ 0
  top : ∀ j, g j ≤ g b
  first : ∀ j, g j = g b → b.val ≤ j.val

variable {g : Fin 2000 → EReal} {f : Fin 2048 → EReal} {b : Fin 2000}

/-- The row passes the threshold exactly when its best real column does. -/
theorem Row.passes (h : Row g f b) : thr < Finset.fold max (Ideal.ofBits .f32 0xFF800000#32) f Finset.univ ↔ thr < g b := by
  rw [low_eq, Finset.lt_fold_max]
  constructor
  · rintro (h' | ⟨j, -, hj⟩)
    · exact absurd h' not_lt_bot
    · by_cases hr : j.val < 2000
      · exact lt_of_lt_of_le hj ((h.real ⟨j.val, hr⟩).le.trans (h.top _))
      · exact absurd (hj.trans_le (h.pad j (by omega))) (not_lt.2 thr_pos.le)
  · exact fun h' => Or.inr ⟨⟨b.val, by omega⟩, Finset.mem_univ _, (h.real b).symm ▸ h'⟩

/-- Then its greatest value is that column's, -/
theorem Row.max_eq (h : Row g f b) (hb : thr < g b) : Finset.fold max (Ideal.ofBits .f32 0xFF800000#32) f Finset.univ = g b := by
  rw [low_eq]
  refine le_antisymm ((Finset.fold_max_le _).2 ⟨bot_le, fun j _ => ?_⟩) ?_
  · by_cases hr : j.val < 2000
    · exact (h.real ⟨j.val, hr⟩).le.trans (h.top _)
    · exact (h.pad j (by omega)).trans (thr_pos.le.trans hb.le)
  · exact (Finset.le_fold_max _).2 (Or.inr ⟨⟨b.val, by omega⟩, Finset.mem_univ _, (h.real b).ge⟩)

/-- and the least column word where it is met is that column's. -/
theorem Row.arg_eq (h : Row g f b) (hb : thr < g b) :
    Finset.fold IntOp.minsi 2147483647#32 (fun x : Fin 2048 =>
      if f x = Finset.fold max (Ideal.ofBits .f32 0xFF800000#32) f Finset.univ then BitVec.ofNat 32 x.val else 1073741824#32) Finset.univ
      = BitVec.ofNat 32 b.val := by
  rw [h.max_eq hb]
  have hbl := b.isLt
  have eb := toInt_small b.val (by omega)
  refine fold_minsi _ _ _ ⟨b.val, by omega⟩ (if_pos (h.real b)) ?_ fun j => ?_
  · rw [eb, toInt_small _ (by norm_num)]; omega
  · rw [eb]
    split_ifs with hj
    · rw [toInt_small _ (by omega)]
      by_cases hr : j.val < 2000
      · have := h.first ⟨j.val, hr⟩ ((h.real ⟨j.val, hr⟩).symm.trans hj)
        exact_mod_cast this
      · omega
    · rw [toInt_small _ (by norm_num)]; omega

end Cert.Loss
end
end
-- ==== Proof.Angle.lean ====
/- Matched boxes have finite positive sides, so the two angle forms agree on them. -/
module

public import proofs.«01_k».proof.Proof.Spec
public import proofs.«01_k».proof.Proof.Pair

@[expose] public section

noncomputable section

namespace Cert.Loss

open Idealize.ShloMosaic

theorem eps_pos : ∃ e : ℝ, 0 < e ∧ eps = (e : EReal) := by
  refine ⟨14073749 * 2 ^ (-47 : ℤ), by positivity, ?_⟩
  simp [eps, Ideal.ofBits, Ideal.ieee, -EReal.coe_mul]
  try norm_num

/-- A product of positives that is finite has finite factors. -/
theorem finite_factors {x y : EReal} (hx : 0 < x) (hy : 0 < y) (h : x * y ≠ ⊤) : x ≠ ⊤ ∧ y ≠ ⊤ := by
  refine ⟨fun e => h ?_, fun e => h ?_⟩
  · rw [e, EReal.top_mul_of_pos hy]
  · rw [e, EReal.mul_top_of_pos hx]

theorem pos_of_max {x : EReal} (h : 0 < max x 0) : 0 < x := by
  rcases lt_max_iff.1 h with h | h
  · exact h
  · exact absurd h (lt_irrefl _)

/-- Two intervals that overlap have positive lengths. -/
theorem sides {p0 p2 g0 g2 : EReal} (h : 0 < min p2 g2 - max p0 g0) : 0 < p2 - p0 ∧ 0 < g2 - g0 := by
  have h' := EReal.sub_pos.1 h
  exact ⟨EReal.sub_pos.2 ((le_max_left _ _).trans_lt (h'.trans_le (min_le_left _ _))),
    EReal.sub_pos.2 ((le_max_right _ _).trans_lt (h'.trans_le (min_le_right _ _)))⟩

/-- What a match says of the two boxes. -/
theorem matched {p0 p1 p2 p3 g0 g1 g2 g3 : EReal} (h : thr < iou p0 p1 p2 p3 g0 g1 g2 g3) :
    (0 < p2 - p0 ∧ p2 - p0 ≠ ⊤) ∧ (0 < p3 - p1 ∧ p3 - p1 ≠ ⊤) ∧ (0 < g2 - g0 ∧ g2 - g0 ≠ ⊤) ∧ (0 < g3 - g1 ∧ g3 - g1 ≠ ⊤) := by
  have hpos := thr_pos.trans h
  unfold iou at hpos
  set I := inter p0 p1 p2 p3 g0 g1 g2 g3 with hI
  obtain ⟨e, he, heq⟩ := eps_pos
  have hI0 : 0 ≤ I := mul_nonneg (le_max_right _ _) (le_max_right _ _)
  have hIpos : 0 < I := by
    refine lt_of_le_of_ne hI0 fun q => ?_
    rw [← q] at hpos
    unfold Ideal.div at hpos
    split_ifs at hpos with h1 h2
    · exact absurd h2 (lt_irrefl _)
    · exact absurd hpos (by simp)
    · rw [zero_mul] at hpos
      exact absurd hpos (lt_irrefl _)
  have hf : 0 < max (min p2 g2 - max p0 g0) 0 ∧ 0 < max (min p3 g3 - max p1 g1) 0 := by
    refine ⟨lt_of_le_of_ne (le_max_right _ _) fun q => ?_, lt_of_le_of_ne (le_max_right _ _) fun q => ?_⟩
    · rw [hI, inter, ← q, zero_mul] at hIpos
      exact absurd hIpos (lt_irrefl _)
    · rw [hI, inter, ← q, mul_zero] at hIpos
      exact absurd hIpos (lt_irrefl _)
  obtain ⟨hpx, hgx⟩ := sides (pos_of_max hf.1)
  obtain ⟨hpy, hgy⟩ := sides (pos_of_max hf.2)
  have hap : 0 < (p2 - p0) * (p3 - p1) := EReal.mul_pos hpx hpy
  have hag : 0 < (g2 - g0) * (g3 - g1) := EReal.mul_pos hgx hgy
  set A := (p2 - p0) * (p3 - p1) with hA
  set B := (g2 - g0) * (g3 - g1) with hB
  have hItop : I ≠ ⊤ := by
    intro q
    have : A + B - I + eps = ⊥ := by rw [q, sub_eq_add_neg, EReal.neg_top, EReal.add_bot, EReal.bot_add]
    rw [this, Ideal.div, if_neg (by simp), EReal.inv_bot, mul_zero] at hpos
    exact absurd hpos (lt_irrefl _)
  have hAB : A + B ≠ ⊤ := by
    intro q
    have : A + B - I + eps = ⊤ := by
      rw [q, heq]
      lift I to ℝ using ⟨hItop, fun q' => by rw [q'] at hIpos; exact absurd hIpos (by simp)⟩ with r
      rw [EReal.top_sub_coe, EReal.top_add_coe]
    rw [this, Ideal.div, if_neg (by simp), EReal.inv_top, mul_zero] at hpos
    exact absurd hpos (lt_irrefl _)
  have hAt : A ≠ ⊤ := fun q => hAB (by rw [q]; exact EReal.top_add_of_ne_bot fun q' => by rw [q'] at hag; exact absurd hag (by simp))
  have hBt : B ≠ ⊤ := fun q => hAB (by rw [q]; exact EReal.add_top_of_ne_bot fun q' => by rw [q'] at hap; exact absurd hap (by simp))
  obtain ⟨a1, a2⟩ := finite_factors hpx hpy hAt
  obtain ⟨b1, b2⟩ := finite_factors hgx hgy hBt
  exact ⟨⟨hpx, a1⟩, ⟨hpy, a2⟩, ⟨hgx, b1⟩, ⟨hgy, b2⟩⟩

/-- The angle of a finite positive box by either form. -/
theorem angle {w h : EReal} (hw : 0 < w ∧ w ≠ ⊤) (hh : 0 < h ∧ h ≠ ⊤) : Ideal.atan2 w (h + eps) = Ideal.atan (Ideal.div w (h + eps)) := by
  obtain ⟨e, he, heq⟩ := eps_pos
  rw [heq]
  lift w to ℝ using ⟨hw.2, fun q => by rw [q] at hw; exact absurd hw.1 (by simp)⟩ with w'
  lift h to ℝ using ⟨hh.2, fun q => by rw [q] at hh; exact absurd hh.1 (by simp)⟩ with h'
  have h0 : 0 < h' := by exact_mod_cast hh.1
  have h1 : 0 < h' + e := by linarith
  rw [← EReal.coe_add, Ideal.div_coe (ne_of_gt h1), ← EReal.coe_mul, mul_one_div]
  exact congrArg Real.toEReal (if_pos h1)

end Cert.Loss
end
end
-- ==== Proof.KPay1.lean ====
/- The final pass's block values read at an index. -/
module

public import proofs.«01_k».proof.Proof.Gen.KernelIdeal.Skeleton
public import Idealize.ShloMosaic.Lib.Pipeline.Value
public import Idealize.ShloMosaic.PureOps.Ideal.Laws
public import Idealize.ShloMosaic.Lib.Pointwise
public import proofs.«01_k».proof.Proof.Spec

@[expose] public section

noncomputable section

namespace Cert.KernelIdeal.Gen

open Idealize.ShloMosaic Cert.Loss

/-- A loaded row is the row. -/
theorem fpay2_at (v : Vec Ideal S1x5120 .f32) (b : Fin 5120) :
    k1_pay2 v (ix2 0 b)
      = v (ix2 0 b) := by
  unfold k1_pay2
  pointwise

/-- A loaded row is the row. -/
theorem fpay3_at (v : Vec Ideal S1x5120 .f32) (b : Fin 5120) :
    k1_pay3 v (ix2 0 b)
      = v (ix2 0 b) := by
  unfold k1_pay3
  pointwise

/-- A loaded row is the row. -/
theorem fpay4_at (v : Vec Ideal S1x5120 .f32) (b : Fin 5120) :
    k1_pay4 v (ix2 0 b)
      = v (ix2 0 b) := by
  unfold k1_pay4
  pointwise

/-- A loaded row is the row. -/
theorem fpay5_at (v : Vec Ideal S1x5120 .f32) (b : Fin 5120) :
    k1_pay5 v (ix2 0 b)
      = v (ix2 0 b) := by
  unfold k1_pay5
  pointwise

/-- A loaded row is the row. -/
theorem fpay6_at (v : Vec Ideal S1x5120 .f32) (b : Fin 5120) :
    k1_pay6 v (ix2 0 b)
      = v (ix2 0 b) := by
  unfold k1_pay6
  pointwise

/-- A loaded row is the row. -/
theorem fpay7_at (v : Vec Ideal S1x5120 .f32) (b : Fin 5120) :
    k1_pay7 v (ix2 0 b)
      = v (ix2 0 b) := by
  unfold k1_pay7
  pointwise

/-- A loaded row is the row. -/
theorem fpay8_at (v : Vec Ideal S1x5120 .f32) (b : Fin 5120) :
    k1_pay8 v (ix2 0 b)
      = v (ix2 0 b) := by
  unfold k1_pay8
  pointwise

/-- A loaded row is the row. -/
theorem fpay9_at (v : Vec Ideal S1x5120 .f32) (b : Fin 5120) :
    k1_pay9 v (ix2 0 b)
      = v (ix2 0 b) := by
  unfold k1_pay9
  pointwise

/-- A loaded row is the row. -/
theorem fpay10_at (v : Vec Ideal S1x5120 .f32) (b : Fin 5120) :
    k1_pay10 v (ix2 0 b)
      = v (ix2 0 b) := by
  unfold k1_pay10
  pointwise

/-- A loaded row is the row. -/
theorem fpay11_at (v : Vec Ideal S1x5120 .f32) (b : Fin 5120) :
    k1_pay11 v (ix2 0 b)
      = v (ix2 0 b) := by
  unfold k1_pay11
  pointwise

/-- Whether the row is matched. -/
theorem fpay12_at (v : Vec Ideal S1x5120 .f32) (b : Fin 5120) :
    k1_pay12 v (ix2 0 b)
      = BitVec.ofBool (decide (0 < v (ix2 0 b))) := by
  unfold k1_pay12 k1_pay11
  pointwise

/-- Whether the row is one of the 5000. -/
theorem fpay13_at (b : Fin 5120) :
    k1_pay13 (ix2 0 b)
      = IntOp.cmpi CmpIPredicate.slt (BitVec.ofNat 32 b.val) 5000#32 := by
  unfold k1_pay13
  pointwise

/-- The score of a matched row, one half elsewhere. -/
theorem fpay14_at (v8 v23 : Vec Ideal S1x5120 .f32) (b : Fin 5120) :
    k1_pay14 v8 v23 (ix2 0 b)
      = Scalar.select (k1_pay12 v23 (ix2 0 b)) (v8 (ix2 0 b)) (Ideal.ofBits FTy.f32 0x3F000000#32) := by
  unfold k1_pay14 k1_pay6
  pointwise

/-- Whether the two class words agree. -/
theorem fpay15_at (v10 v20 : Vec Ideal S1x5120 .f32) (b : Fin 5120) :
    k1_pay15 v10 v20 (ix2 0 b)
      = BitVec.ofBool (decide (v10 (ix2 0 b) = Ideal.liftRound Ideal.roundHalfEven (v20 (ix2 0 b)))) := by
  unfold k1_pay15
  pointwise

/-- The classification term of a row. -/
theorem fpay16_at (v24 v31 : FVec Ideal S1x5120 .f32) (v32 : IVec S1x5120 1) (b : Fin 5120) :
    k1_pay16 v24 v31 v32 (ix2 0 b)
      = v24 (ix2 0 b) * Scalar.select (v32 (ix2 0 b)) (0 - Ideal.log (v31 (ix2 0 b)))
        (Ideal.ofBits FTy.f32 0x42C80000#32 - max (Ideal.log1p (0 - v31 (ix2 0 b))) (Ideal.ofBits FTy.f32 0xC2C80000#32)) := by
  unfold k1_pay16
  pointwise

/-- The background term of a row. -/
theorem fpay17_at (v9 : FVec Ideal S1x5120 .f32) (v32 v33 : IVec S1x5120 1) (b : Fin 5120) :
    k1_pay17 v9 v32 v33 (ix2 0 b)
      = Scalar.select (IntOp.andi (v33 (ix2 0 b)) (IntOp.xori (v32 (ix2 0 b)) 1#1))
      (Ideal.log (Scalar.select (IntOp.andi (v33 (ix2 0 b)) (IntOp.xori (v32 (ix2 0 b)) 1#1)) (v9 (ix2 0 b)) (Ideal.ofBits FTy.f32 0x3F000000#32))) 0 := by
  unfold k1_pay17
  pointwise

/-- A width. -/
theorem fpay18_at (v1 v5 : FVec Ideal S1x5120 .f32) (b : Fin 5120) :
    k1_pay18 v1 v5 (ix2 0 b)
      = v5 (ix2 0 b) - v1 (ix2 0 b) := by
  unfold k1_pay18
  pointwise

/-- A guarded height. -/
theorem fpay19_at (v1 v5 : FVec Ideal S1x5120 .f32) (b : Fin 5120) :
    k1_pay19 v1 v5 (ix2 0 b)
      = v5 (ix2 0 b) - v1 (ix2 0 b) + eps := by
  unfold k1_pay19
  pointwise

/-- A width. -/
theorem fpay20_at (v1 v5 : FVec Ideal S1x5120 .f32) (b : Fin 5120) :
    k1_pay20 v1 v5 (ix2 0 b)
      = v5 (ix2 0 b) - v1 (ix2 0 b) := by
  unfold k1_pay20
  pointwise

/-- A guarded height. -/
theorem fpay21_at (v1 v5 : FVec Ideal S1x5120 .f32) (b : Fin 5120) :
    k1_pay21 v1 v5 (ix2 0 b)
      = v5 (ix2 0 b) - v1 (ix2 0 b) + eps := by
  unfold k1_pay21
  pointwise

/-- The guarded intersection over union of the row. -/
theorem fpay22_at (v1 v3 v5 v7 v13 v15 v17 v19 : FVec Ideal S1x5120 .f32) (b : Fin 5120) :
    k1_pay22 v1 v3 v5 v7 v13 v15 v17 v19 (ix2 0 b)
      = iou2 (v1 (ix2 0 b)) (v3 (ix2 0 b)) (v5 (ix2 0 b)) (v7 (ix2 0 b)) (v13 (ix2 0 b)) (v15 (ix2 0 b)) (v17 (ix2 0 b)) (v19 (ix2 0 b)) := by
  unfold k1_pay22
  pointwise
  simp only [fpay18_at, fpay19_at, fpay20_at, fpay21_at, iou2, inter]

/-- The enclosing width. -/
theorem fpay23_at (v1 v5 v13 v17 : FVec Ideal S1x5120 .f32) (b : Fin 5120) :
    k1_pay23 v1 v5 v13 v17 (ix2 0 b)
      = max (v5 (ix2 0 b)) (v17 (ix2 0 b)) - min (v1 (ix2 0 b)) (v13 (ix2 0 b)) := by
  unfold k1_pay23
  pointwise

/-- The total of the matched rows. -/
theorem fpay24_eq (v : FVec Ideal S1x5120 .f32) :
    k1_pay24 v
      = ∑ b : Fin 5120, v (ix2 0 b) := by
  unfold k1_pay24
  pointwise
  simp

/-- The total of the classification terms. -/
theorem fpay25_eq (v : FVec Ideal S1x5120 .f32) :
    k1_pay25 v
      = ∑ b : Fin 5120, v (ix2 0 b) := by
  unfold k1_pay25
  pointwise
  simp

/-- The total of the background terms. -/
theorem fpay26_eq (v : FVec Ideal S1x5120 .f32) :
    k1_pay26 v
      = ∑ b : Fin 5120, v (ix2 0 b) := by
  unfold k1_pay26
  pointwise
  simp

/-- The total of the box losses. -/
theorem fpay27_eq (v1 v3 v5 v7 v13 v15 v17 v19 v24 v52 v55 v56 v59 : FVec Ideal S1x5120 .f32) :
    k1_pay27 v1 v3 v5 v7 v13 v15 v17 v19 v24 v52 v55 v56 v59 (k1_pay22 v1 v3 v5 v7 v13 v15 v17 v19) (k1_pay23 v1 v5 v13 v17) (ix3 0 0 0)
      = ∑ b : Fin 5120, v24 (ix2 0 b) * box (Ideal.atan2 (v56 (ix2 0 b)) (v59 (ix2 0 b))) (Ideal.atan2 (v52 (ix2 0 b)) (v55 (ix2 0 b))) (v1 (ix2 0 b)) (v3 (ix2 0 b)) (v5 (ix2 0 b)) (v7 (ix2 0 b)) (v13 (ix2 0 b)) (v15 (ix2 0 b)) (v17 (ix2 0 b)) (v19 (ix2 0 b)) := by
  unfold k1_pay27
  pointwise
  simp only [fpay22_at, fpay23_at, box, apart, aspect, Finset.univ_unique, Finset.sum_singleton]

/-- The total loss. -/
theorem fpay1_at (v1 v3 v5 : Ideal .f32) (v6 : FVec Ideal S1x1x1 .f32) (v7 : Vec Ideal S1x2048 .f32) :
    k1_pay1 v1 v3 v5 v6 v7 (ix2 0 0)
      = Ideal.ofBits FTy.f32 0x3F000000#32 * (Ideal.div v3 (max v1 1 * Ideal.ofBits FTy.f32 0x42A00000#32) - v5
            + (Ideal.ofBits FTy.f32 0x44FA0000#32
                - ∑ j : Fin 2048, FloatOps.sitofp (F := Ideal) FTy.f32 (BitVec.setWidth 32 (BitVec.ofBool (decide (0 < v7 (ix2 0 j)))))))
          + Ideal.div (Ideal.ofBits FTy.f32 0x40F00000#32 * v6 (ix3 0 0 0)) (max v1 1) := by
  unfold k1_pay1
  pointwise
  simp

end Cert.KernelIdeal.Gen
end
end
-- ==== Proof.KOut1.lean ====
/- What the second pass leaves, as a function of its blocks. -/
module

public import proofs.«01_k».proof.Proof.Gen.KernelIdeal.Frame
public import proofs.«01_k».proof.Proof.KPay1
public import Idealize.ShloMosaic.Lib.Pointwise
public import Idealize.ShloMosaic.Lib.Pipeline.ValueKit
public import Idealize.ShloMosaic.Lib.Pipeline.ReadBack

@[expose] public section

set_option maxRecDepth 16384

noncomputable section

namespace Cert.KernelIdeal.Gen

open Idealize.ShloMosaic Idealize.ShloMosaic.TcCoe
open Idealize.ShloMosaic.Pipeline (Dat)
open Cert.Loss

/-- A row's class term: score, predicted class, target class, matched or not. -/
def bceRow (s pc tc kf : EReal) : EReal :=
  kf * Scalar.select (BitVec.ofBool (decide (pc = Ideal.liftRound Ideal.roundHalfEven tc)))
    (0 - Ideal.log (Scalar.select (BitVec.ofBool (decide (0 < kf))) s (Ideal.ofBits FTy.f32 0x3F000000#32)))
    (Ideal.ofBits FTy.f32 0x42C80000#32
      - max (Ideal.log1p (0 - Scalar.select (BitVec.ofBool (decide (0 < kf))) s (Ideal.ofBits FTy.f32 0x3F000000#32))) (Ideal.ofBits FTy.f32 0xC2C80000#32))
/-- A row's term for being left unmatched, `w` saying whether the row is a prediction. -/
def missRow (w : BitVec 1) (s kf : EReal) : EReal :=
  Scalar.select (IntOp.andi w (IntOp.xori (BitVec.ofBool (decide (0 < kf))) 1#1))
    (Ideal.log (Scalar.select (IntOp.andi w (IntOp.xori (BitVec.ofBool (decide (0 < kf))) 1#1)) s (Ideal.ofBits FTy.f32 0x3F000000#32))) 0
/-- A row's box term. -/
def boxRow (p0 p1 p2 p3 g0 g1 g2 g3 kf : EReal) : EReal :=
  kf * box (Ideal.atan2 (g2 - g0) (g3 - g1 + eps)) (Ideal.atan2 (p2 - p0) (p3 - p1 + eps)) p0 p1 p2 p3 g0 g1 g2 g3
/-- The loss of the sums. -/
def total (n bce u bb miss : EReal) : EReal :=
  Ideal.ofBits FTy.f32 0x3F000000#32 * (Ideal.div bce (max n 1 * Ideal.ofBits FTy.f32 0x42A00000#32) - u
    + (Ideal.ofBits FTy.f32 0x44FA0000#32 - miss)) + Ideal.div (Ideal.ofBits FTy.f32 0x40F00000#32 * bb) (max n 1)

theorem out1_at (x0 x1 : FVec Ideal S8x5120 .f32) (x2 : FVec Ideal S8x2048 .f32) :
    (out1_3 (F := Ideal) x0 x1 x2 : FVec Ideal S8x128 .f32) (ix2 0 0)
      = total (∑ b : Fin 5120, x1 (ix2 6 b))
          (∑ b : Fin 5120, bceRow (x0 (ix2 4 b)) (x0 (ix2 5 b)) (x1 (ix2 4 b)) (x1 (ix2 6 b)))
          (∑ b : Fin 5120, missRow (IntOp.cmpi CmpIPredicate.slt (BitVec.ofNat 32 b.val) 5000#32) (x0 (ix2 4 b)) (x1 (ix2 6 b)))
          (∑ b : Fin 5120, boxRow (x0 (ix2 0 b)) (x0 (ix2 1 b)) (x0 (ix2 2 b)) (x0 (ix2 3 b)) (x1 (ix2 0 b)) (x1 (ix2 1 b)) (x1 (ix2 2 b)) (x1 (ix2 3 b)) (x1 (ix2 6 b)))
          (∑ j : Fin 2048, FloatOps.sitofp (F := Ideal) FTy.f32 (BitVec.setWidth 32 (BitVec.ofBool (decide (0 < x2 (ix2 0 j)))))) := by
  have hz : (![0, 0] : Fin S8x128.rank → Nat) = fun _ => 0 := by funext a; fin_cases a <;> rfl
  unfold_out out1_3
  unfold r1_8
  rw [View.canon_cons_unit_zero hz, fpay1_at, fpay24_eq, fpay25_eq, fpay26_eq, fpay27_eq]
  unfold total
  simp only [fpay16_at, fpay17_at, fpay18_at, fpay19_at, fpay20_at, fpay21_at, fpay2_at, fpay3_at, fpay4_at, fpay5_at, fpay6_at, fpay7_at,
    fpay8_at, fpay9_at, fpay10_at, fpay11_at, fpay12_at, fpay13_at, fpay14_at, fpay15_at]
  unfold bceRow missRow boxRow
  pointwise

end Cert.KernelIdeal.Gen
end
end
-- ==== Proof.RefReadA.lean ====
/- The reference one operation at a time (first part): each operation's value as a function of the arguments, read at an index. -/
module

public import proofs.«01_k».proof.Proof.RefOps
public import Idealize.ShloMosaic.Lib.Pipeline.Value
public import Idealize.ShloMosaic.PureOps.Ideal.Laws

@[expose] public section

set_option Elab.async false

noncomputable section

namespace Cert.ReferenceIdeal.Read

open Cert.ReferenceIdeal Cert.ReferenceIdeal.Gen Idealize.ShloMosaic Idealize.ShloMosaic.TcCoe Idealize.SL.Sem Idealize.ShloMosaic.StableHlo Cert.ReferenceIdeal.Value

variable {F : FTy → Type} [FloatOps F]

def val_main_v0 (x0 : (⟨S5000x6, .f32⟩ : BufTy).Contents (Elt F)) : (⟨S5000x4, .f32⟩ : BufTy).Contents (Elt F) :=
  extractStridedSlice S5000x4 ![0, 0] (x0) slices_S5000x6_S5000x4_0_0
abbrev idx_main_v0 (i : S5000x4.Idx) : S5000x6.Idx := fun a => match a with
  | ⟨0, _⟩ => ⟨(i 0).val, (i 0).isLt⟩
  | ⟨1, _⟩ => ⟨(i 1).val, by have h1 : (i 1).val < 4 := (i 1).isLt; show (i 1).val < 6; omega⟩
theorem val_main_v0_apply (x0 : (⟨S5000x6, .f32⟩ : BufTy).Contents (Elt F)) (i : S5000x4.Idx) :
    val_main_v0 (F := F) x0 i = x0 (idx_main_v0 i) := by
  unfold val_main_v0
  exact extractStridedSlice_apply ![0, 0] x0 slices_S5000x6_S5000x4_0_0 i (idx_main_v0 i) (fun a => match a with
    | ⟨0, _⟩ => by show (i 0).val = 0 + (i 0).val; omega
    | ⟨1, _⟩ => by show (i 1).val = 0 + (i 1).val; omega)

def val_main_v1 (x0 : (⟨S5000x6, .f32⟩ : BufTy).Contents (Elt F)) : (⟨S5000x1, .f32⟩ : BufTy).Contents (Elt F) :=
  extractStridedSlice S5000x1 ![0, 4] (x0) slices_S5000x6_S5000x1_0_4
abbrev idx_main_v1 (i : S5000x1.Idx) : S5000x6.Idx := fun a => match a with
  | ⟨0, _⟩ => ⟨(i 0).val, (i 0).isLt⟩
  | ⟨1, _⟩ => ⟨4 + (i 1).val, by have h1 : (i 1).val < 1 := (i 1).isLt; show 4 + (i 1).val < 6; omega⟩
theorem val_main_v1_apply (x0 : (⟨S5000x6, .f32⟩ : BufTy).Contents (Elt F)) (i : S5000x1.Idx) :
    val_main_v1 (F := F) x0 i = x0 (idx_main_v1 i) := by
  unfold val_main_v1
  exact extractStridedSlice_apply ![0, 4] x0 slices_S5000x6_S5000x1_0_4 i (idx_main_v1 i) (fun a => match a with
    | ⟨0, _⟩ => by show (i 0).val = 0 + (i 0).val; omega
    | ⟨1, _⟩ => by show 4 + (i 1).val = 4 + (i 1).val; omega)

def val_main_v2 (x0 : (⟨S5000x6, .f32⟩ : BufTy).Contents (Elt F)) : (⟨S5000, .f32⟩ : BufTy).Contents (Elt F) :=
  shapeCast _ (val_main_v1 (F := F) x0) shapeCasts_S5000x1_S5000
abbrev idx_main_v2 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v2_apply (x0 : (⟨S5000x6, .f32⟩ : BufTy).Contents (Elt F)) (i : S5000.Idx) :
    val_main_v2 (F := F) x0 i = val_main_v1 (F := F) x0 (idx_main_v2 i) := by
  unfold val_main_v2
  generalize val_main_v1 (F := F) x0 = y
  exact shapeCast_apply y shapeCasts_S5000x1_S5000 i (idx_main_v2 i)
    (by rewrite [Shape.rowMajor_val_two, Shape.rowMajor_val_one]; have h0 : (i 0).val < 5000 := (i 0).isLt; show ((i 0).val) / 1 * 1 + 0 = (i 0).val; omega)

def val_main_v3 (x0 : (⟨S5000x6, .f32⟩ : BufTy).Contents (Elt F)) : (⟨S5000x1, .f32⟩ : BufTy).Contents (Elt F) :=
  extractStridedSlice S5000x1 ![0, 5] (x0) slices_S5000x6_S5000x1_0_5
abbrev idx_main_v3 (i : S5000x1.Idx) : S5000x6.Idx := fun a => match a with
  | ⟨0, _⟩ => ⟨(i 0).val, (i 0).isLt⟩
  | ⟨1, _⟩ => ⟨5 + (i 1).val, by have h1 : (i 1).val < 1 := (i 1).isLt; show 5 + (i 1).val < 6; omega⟩
theorem val_main_v3_apply (x0 : (⟨S5000x6, .f32⟩ : BufTy).Contents (Elt F)) (i : S5000x1.Idx) :
    val_main_v3 (F := F) x0 i = x0 (idx_main_v3 i) := by
  unfold val_main_v3
  exact extractStridedSlice_apply ![0, 5] x0 slices_S5000x6_S5000x1_0_5 i (idx_main_v3 i) (fun a => match a with
    | ⟨0, _⟩ => by show (i 0).val = 0 + (i 0).val; omega
    | ⟨1, _⟩ => by show 5 + (i 1).val = 5 + (i 1).val; omega)

def val_main_v4 (x0 : (⟨S5000x6, .f32⟩ : BufTy).Contents (Elt F)) : (⟨S5000, .f32⟩ : BufTy).Contents (Elt F) :=
  shapeCast _ (val_main_v3 (F := F) x0) shapeCasts_S5000x1_S5000
abbrev idx_main_v4 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v4_apply (x0 : (⟨S5000x6, .f32⟩ : BufTy).Contents (Elt F)) (i : S5000.Idx) :
    val_main_v4 (F := F) x0 i = val_main_v3 (F := F) x0 (idx_main_v4 i) := by
  unfold val_main_v4
  generalize val_main_v3 (F := F) x0 = y
  exact shapeCast_apply y shapeCasts_S5000x1_S5000 i (idx_main_v4 i)
    (by rewrite [Shape.rowMajor_val_two, Shape.rowMajor_val_one]; have h0 : (i 0).val < 5000 := (i 0).isLt; show ((i 0).val) / 1 * 1 + 0 = (i 0).val; omega)

def val_main_v5 (x0 : (⟨S5000x6, .f32⟩ : BufTy).Contents (Elt F)) : (⟨S5000, .i32⟩ : BufTy).Contents (Elt F) :=
  fptosi 32 (val_main_v4 (F := F) x0)
theorem val_main_v5_apply (x0 : (⟨S5000x6, .f32⟩ : BufTy).Contents (Elt F)) (i : S5000.Idx) :
    val_main_v5 (F := F) x0 i = FloatOps.fptosi 32 (val_main_v4 (F := F) x0 i) := rfl

def val_main_v6 (x1 : (⟨S2000x5, .f32⟩ : BufTy).Contents (Elt F)) : (⟨S2000x4, .f32⟩ : BufTy).Contents (Elt F) :=
  extractStridedSlice S2000x4 ![0, 0] (x1) slices_S2000x5_S2000x4_0_0
abbrev idx_main_v6 (i : S2000x4.Idx) : S2000x5.Idx := fun a => match a with
  | ⟨0, _⟩ => ⟨(i 0).val, (i 0).isLt⟩
  | ⟨1, _⟩ => ⟨(i 1).val, by have h1 : (i 1).val < 4 := (i 1).isLt; show (i 1).val < 5; omega⟩
theorem val_main_v6_apply (x1 : (⟨S2000x5, .f32⟩ : BufTy).Contents (Elt F)) (i : S2000x4.Idx) :
    val_main_v6 (F := F) x1 i = x1 (idx_main_v6 i) := by
  unfold val_main_v6
  exact extractStridedSlice_apply ![0, 0] x1 slices_S2000x5_S2000x4_0_0 i (idx_main_v6 i) (fun a => match a with
    | ⟨0, _⟩ => by show (i 0).val = 0 + (i 0).val; omega
    | ⟨1, _⟩ => by show (i 1).val = 0 + (i 1).val; omega)

def val_main_v7 (x1 : (⟨S2000x5, .f32⟩ : BufTy).Contents (Elt F)) : (⟨S2000x1, .f32⟩ : BufTy).Contents (Elt F) :=
  extractStridedSlice S2000x1 ![0, 4] (x1) slices_S2000x5_S2000x1_0_4
abbrev idx_main_v7 (i : S2000x1.Idx) : S2000x5.Idx := fun a => match a with
  | ⟨0, _⟩ => ⟨(i 0).val, (i 0).isLt⟩
  | ⟨1, _⟩ => ⟨4 + (i 1).val, by have h1 : (i 1).val < 1 := (i 1).isLt; show 4 + (i 1).val < 5; omega⟩
theorem val_main_v7_apply (x1 : (⟨S2000x5, .f32⟩ : BufTy).Contents (Elt F)) (i : S2000x1.Idx) :
    val_main_v7 (F := F) x1 i = x1 (idx_main_v7 i) := by
  unfold val_main_v7
  exact extractStridedSlice_apply ![0, 4] x1 slices_S2000x5_S2000x1_0_4 i (idx_main_v7 i) (fun a => match a with
    | ⟨0, _⟩ => by show (i 0).val = 0 + (i 0).val; omega
    | ⟨1, _⟩ => by show 4 + (i 1).val = 4 + (i 1).val; omega)

def val_main_v8 (x1 : (⟨S2000x5, .f32⟩ : BufTy).Contents (Elt F)) : (⟨S2000, .f32⟩ : BufTy).Contents (Elt F) :=
  shapeCast _ (val_main_v7 (F := F) x1) shapeCasts_S2000x1_S2000
abbrev idx_main_v8 (i : S2000.Idx) : S2000x1.Idx := fun a => match a with
  | ⟨0, _⟩ => ⟨((i 0).val) / 1, by have h0 : (i 0).val < 2000 := (i 0).isLt; show ((i 0).val) / 1 < 2000; omega⟩
  | ⟨1, _⟩ => ⟨0, Nat.one_pos⟩
theorem val_main_v8_apply (x1 : (⟨S2000x5, .f32⟩ : BufTy).Contents (Elt F)) (i : S2000.Idx) :
    val_main_v8 (F := F) x1 i = val_main_v7 (F := F) x1 (idx_main_v8 i) := by
  unfold val_main_v8
  generalize val_main_v7 (F := F) x1 = y
  exact shapeCast_apply y shapeCasts_S2000x1_S2000 i (idx_main_v8 i)
    (by rewrite [Shape.rowMajor_val_two, Shape.rowMajor_val_one]; have h0 : (i 0).val < 2000 := (i 0).isLt; show ((i 0).val) / 1 * 1 + 0 = (i 0).val; omega)

def val_main_v9 (x1 : (⟨S2000x5, .f32⟩ : BufTy).Contents (Elt F)) : (⟨S2000, .i32⟩ : BufTy).Contents (Elt F) :=
  fptosi 32 (val_main_v8 (F := F) x1)
theorem val_main_v9_apply (x1 : (⟨S2000x5, .f32⟩ : BufTy).Contents (Elt F)) (i : S2000.Idx) :
    val_main_v9 (F := F) x1 i = FloatOps.fptosi 32 (val_main_v8 (F := F) x1 i) := rfl

def val_main_v10 (x0 : (⟨S5000x6, .f32⟩ : BufTy).Contents (Elt F)) : (⟨S5000x1, .f32⟩ : BufTy).Contents (Elt F) :=
  extractStridedSlice S5000x1 ![0, 2] (val_main_v0 (F := F) x0) slices_S5000x4_S5000x1_0_2
abbrev idx_main_v10 (i : S5000x1.Idx) : S5000x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
theorem val_main_v10_apply (x0 : (⟨S5000x6, .f32⟩ : BufTy).Contents (Elt F)) (i : S5000x1.Idx) :
    val_main_v10 (F := F) x0 i = val_main_v0 (F := F) x0 (idx_main_v10 i) := by
  unfold val_main_v10
  generalize val_main_v0 (F := F) x0 = y
  exact extractStridedSlice_apply ![0, 2] y slices_S5000x4_S5000x1_0_2 i (idx_main_v10 i) (fun a => match a with
    | ⟨0, _⟩ => by show (i 0).val = 0 + (i 0).val; omega
    | ⟨1, _⟩ => by show 2 + (i 1).val = 2 + (i 1).val; omega)

def val_main_v11 (x0 : (⟨S5000x6, .f32⟩ : BufTy).Contents (Elt F)) : (⟨S5000, .f32⟩ : BufTy).Contents (Elt F) :=
  shapeCast _ (val_main_v10 (F := F) x0) shapeCasts_S5000x1_S5000
abbrev idx_main_v11 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v11_apply (x0 : (⟨S5000x6, .f32⟩ : BufTy).Contents (Elt F)) (i : S5000.Idx) :
    val_main_v11 (F := F) x0 i = val_main_v10 (F := F) x0 (idx_main_v11 i) := by
  unfold val_main_v11
  generalize val_main_v10 (F := F) x0 = y
  exact shapeCast_apply y shapeCasts_S5000x1_S5000 i (idx_main_v11 i)
    (by rewrite [Shape.rowMajor_val_two, Shape.rowMajor_val_one]; have h0 : (i 0).val < 5000 := (i 0).isLt; show ((i 0).val) / 1 * 1 + 0 = (i 0).val; omega)

def val_main_v12 (x0 : (⟨S5000x6, .f32⟩ : BufTy).Contents (Elt F)) : (⟨S5000x1, .f32⟩ : BufTy).Contents (Elt F) :=
  extractStridedSlice S5000x1 ![0, 0] (val_main_v0 (F := F) x0) slices_S5000x4_S5000x1_0_0
abbrev idx_main_v12 (i : S5000x1.Idx) : S5000x4.Idx := fun a => match a with
  | ⟨0, _⟩ => ⟨(i 0).val, (i 0).isLt⟩
  | ⟨1, _⟩ => ⟨(i 1).val, by have h1 : (i 1).val < 1 := (i 1).isLt; show (i 1).val < 4; omega⟩
theorem val_main_v12_apply (x0 : (⟨S5000x6, .f32⟩ : BufTy).Contents (Elt F)) (i : S5000x1.Idx) :
    val_main_v12 (F := F) x0 i = val_main_v0 (F := F) x0 (idx_main_v12 i) := by
  unfold val_main_v12
  generalize val_main_v0 (F := F) x0 = y
  exact extractStridedSlice_apply ![0, 0] y slices_S5000x4_S5000x1_0_0 i (idx_main_v12 i) (fun a => match a with
    | ⟨0, _⟩ => by show (i 0).val = 0 + (i 0).val; omega
    | ⟨1, _⟩ => by show (i 1).val = 0 + (i 1).val; omega)

def val_main_v13 (x0 : (⟨S5000x6, .f32⟩ : BufTy).Contents (Elt F)) : (⟨S5000, .f32⟩ : BufTy).Contents (Elt F) :=
  shapeCast _ (val_main_v12 (F := F) x0) shapeCasts_S5000x1_S5000
abbrev idx_main_v13 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v13_apply (x0 : (⟨S5000x6, .f32⟩ : BufTy).Contents (Elt F)) (i : S5000.Idx) :
    val_main_v13 (F := F) x0 i = val_main_v12 (F := F) x0 (idx_main_v13 i) := by
  unfold val_main_v13
  generalize val_main_v12 (F := F) x0 = y
  exact shapeCast_apply y shapeCasts_S5000x1_S5000 i (idx_main_v13 i)
    (by rewrite [Shape.rowMajor_val_two, Shape.rowMajor_val_one]; have h0 : (i 0).val < 5000 := (i 0).isLt; show ((i 0).val) / 1 * 1 + 0 = (i 0).val; omega)

def val_main_v14 (x0 : (⟨S5000x6, .f32⟩ : BufTy).Contents (Elt F)) : (⟨S5000, .f32⟩ : BufTy).Contents (Elt F) :=
  subf (val_main_v11 (F := F) x0) (val_main_v13 (F := F) x0)
theorem val_main_v14_apply (x0 : (⟨S5000x6, .f32⟩ : BufTy).Contents (Elt F)) (i : S5000.Idx) :
    val_main_v14 (F := F) x0 i = FloatOps.subf (val_main_v11 (F := F) x0 i) (val_main_v13 (F := F) x0 i) := rfl

def val_main_v15 (x0 : (⟨S5000x6, .f32⟩ : BufTy).Contents (Elt F)) : (⟨S5000x1, .f32⟩ : BufTy).Contents (Elt F) :=
  extractStridedSlice S5000x1 ![0, 3] (val_main_v0 (F := F) x0) slices_S5000x4_S5000x1_0_3
abbrev idx_main_v15 (i : S5000x1.Idx) : S5000x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
theorem val_main_v15_apply (x0 : (⟨S5000x6, .f32⟩ : BufTy).Contents (Elt F)) (i : S5000x1.Idx) :
    val_main_v15 (F := F) x0 i = val_main_v0 (F := F) x0 (idx_main_v15 i) := by
  unfold val_main_v15
  generalize val_main_v0 (F := F) x0 = y
  exact extractStridedSlice_apply ![0, 3] y slices_S5000x4_S5000x1_0_3 i (idx_main_v15 i) (fun a => match a with
    | ⟨0, _⟩ => by show (i 0).val = 0 + (i 0).val; omega
    | ⟨1, _⟩ => by show 3 + (i 1).val = 3 + (i 1).val; omega)

def val_main_v16 (x0 : (⟨S5000x6, .f32⟩ : BufTy).Contents (Elt F)) : (⟨S5000, .f32⟩ : BufTy).Contents (Elt F) :=
  shapeCast _ (val_main_v15 (F := F) x0) shapeCasts_S5000x1_S5000
abbrev idx_main_v16 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v16_apply (x0 : (⟨S5000x6, .f32⟩ : BufTy).Contents (Elt F)) (i : S5000.Idx) :
    val_main_v16 (F := F) x0 i = val_main_v15 (F := F) x0 (idx_main_v16 i) := by
  unfold val_main_v16
  generalize val_main_v15 (F := F) x0 = y
  exact shapeCast_apply y shapeCasts_S5000x1_S5000 i (idx_main_v16 i)
    (by rewrite [Shape.rowMajor_val_two, Shape.rowMajor_val_one]; have h0 : (i 0).val < 5000 := (i 0).isLt; show ((i 0).val) / 1 * 1 + 0 = (i 0).val; omega)

def val_main_v17 (x0 : (⟨S5000x6, .f32⟩ : BufTy).Contents (Elt F)) : (⟨S5000x1, .f32⟩ : BufTy).Contents (Elt F) :=
  extractStridedSlice S5000x1 ![0, 1] (val_main_v0 (F := F) x0) slices_S5000x4_S5000x1_0_1
abbrev idx_main_v17 (i : S5000x1.Idx) : S5000x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
theorem val_main_v17_apply (x0 : (⟨S5000x6, .f32⟩ : BufTy).Contents (Elt F)) (i : S5000x1.Idx) :
    val_main_v17 (F := F) x0 i = val_main_v0 (F := F) x0 (idx_main_v17 i) := by
  unfold val_main_v17
  generalize val_main_v0 (F := F) x0 = y
  exact extractStridedSlice_apply ![0, 1] y slices_S5000x4_S5000x1_0_1 i (idx_main_v17 i) (fun a => match a with
    | ⟨0, _⟩ => by show (i 0).val = 0 + (i 0).val; omega
    | ⟨1, _⟩ => by show 1 + (i 1).val = 1 + (i 1).val; omega)

def val_main_v18 (x0 : (⟨S5000x6, .f32⟩ : BufTy).Contents (Elt F)) : (⟨S5000, .f32⟩ : BufTy).Contents (Elt F) :=
  shapeCast _ (val_main_v17 (F := F) x0) shapeCasts_S5000x1_S5000
abbrev idx_main_v18 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v18_apply (x0 : (⟨S5000x6, .f32⟩ : BufTy).Contents (Elt F)) (i : S5000.Idx) :
    val_main_v18 (F := F) x0 i = val_main_v17 (F := F) x0 (idx_main_v18 i) := by
  unfold val_main_v18
  generalize val_main_v17 (F := F) x0 = y
  exact shapeCast_apply y shapeCasts_S5000x1_S5000 i (idx_main_v18 i)
    (by rewrite [Shape.rowMajor_val_two, Shape.rowMajor_val_one]; have h0 : (i 0).val < 5000 := (i 0).isLt; show ((i 0).val) / 1 * 1 + 0 = (i 0).val; omega)

def val_main_v19 (x0 : (⟨S5000x6, .f32⟩ : BufTy).Contents (Elt F)) : (⟨S5000, .f32⟩ : BufTy).Contents (Elt F) :=
  subf (val_main_v16 (F := F) x0) (val_main_v18 (F := F) x0)
theorem val_main_v19_apply (x0 : (⟨S5000x6, .f32⟩ : BufTy).Contents (Elt F)) (i : S5000.Idx) :
    val_main_v19 (F := F) x0 i = FloatOps.subf (val_main_v16 (F := F) x0 i) (val_main_v18 (F := F) x0 i) := rfl

def val_main_v20 (x0 : (⟨S5000x6, .f32⟩ : BufTy).Contents (Elt F)) : (⟨S5000, .f32⟩ : BufTy).Contents (Elt F) :=
  mulf (val_main_v14 (F := F) x0) (val_main_v19 (F := F) x0)
theorem val_main_v20_apply (x0 : (⟨S5000x6, .f32⟩ : BufTy).Contents (Elt F)) (i : S5000.Idx) :
    val_main_v20 (F := F) x0 i = FloatOps.mulf (val_main_v14 (F := F) x0 i) (val_main_v19 (F := F) x0 i) := rfl

def val_main_v21 (x1 : (⟨S2000x5, .f32⟩ : BufTy).Contents (Elt F)) : (⟨S2000x1, .f32⟩ : BufTy).Contents (Elt F) :=
  extractStridedSlice S2000x1 ![0, 2] (val_main_v6 (F := F) x1) slices_S2000x4_S2000x1_0_2
abbrev idx_main_v21 (i : S2000x1.Idx) : S2000x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
theorem val_main_v21_apply (x1 : (⟨S2000x5, .f32⟩ : BufTy).Contents (Elt F)) (i : S2000x1.Idx) :
    val_main_v21 (F := F) x1 i = val_main_v6 (F := F) x1 (idx_main_v21 i) := by
  unfold val_main_v21
  generalize val_main_v6 (F := F) x1 = y
  exact extractStridedSlice_apply ![0, 2] y slices_S2000x4_S2000x1_0_2 i (idx_main_v21 i) (fun a => match a with
    | ⟨0, _⟩ => by show (i 0).val = 0 + (i 0).val; omega
    | ⟨1, _⟩ => by show 2 + (i 1).val = 2 + (i 1).val; omega)

def val_main_v22 (x1 : (⟨S2000x5, .f32⟩ : BufTy).Contents (Elt F)) : (⟨S2000, .f32⟩ : BufTy).Contents (Elt F) :=
  shapeCast _ (val_main_v21 (F := F) x1) shapeCasts_S2000x1_S2000
abbrev idx_main_v22 (i : S2000.Idx) : S2000x1.Idx := fun a => match a with
  | ⟨0, _⟩ => ⟨((i 0).val) / 1, by have h0 : (i 0).val < 2000 := (i 0).isLt; show ((i 0).val) / 1 < 2000; omega⟩
  | ⟨1, _⟩ => ⟨0, Nat.one_pos⟩
theorem val_main_v22_apply (x1 : (⟨S2000x5, .f32⟩ : BufTy).Contents (Elt F)) (i : S2000.Idx) :
    val_main_v22 (F := F) x1 i = val_main_v21 (F := F) x1 (idx_main_v22 i) := by
  unfold val_main_v22
  generalize val_main_v21 (F := F) x1 = y
  exact shapeCast_apply y shapeCasts_S2000x1_S2000 i (idx_main_v22 i)
    (by rewrite [Shape.rowMajor_val_two, Shape.rowMajor_val_one]; have h0 : (i 0).val < 2000 := (i 0).isLt; show ((i 0).val) / 1 * 1 + 0 = (i 0).val; omega)

def val_main_v23 (x1 : (⟨S2000x5, .f32⟩ : BufTy).Contents (Elt F)) : (⟨S2000x1, .f32⟩ : BufTy).Contents (Elt F) :=
  extractStridedSlice S2000x1 ![0, 0] (val_main_v6 (F := F) x1) slices_S2000x4_S2000x1_0_0
abbrev idx_main_v23 (i : S2000x1.Idx) : S2000x4.Idx := fun a => match a with
  | ⟨0, _⟩ => ⟨(i 0).val, (i 0).isLt⟩
  | ⟨1, _⟩ => ⟨(i 1).val, by have h1 : (i 1).val < 1 := (i 1).isLt; show (i 1).val < 4; omega⟩
theorem val_main_v23_apply (x1 : (⟨S2000x5, .f32⟩ : BufTy).Contents (Elt F)) (i : S2000x1.Idx) :
    val_main_v23 (F := F) x1 i = val_main_v6 (F := F) x1 (idx_main_v23 i) := by
  unfold val_main_v23
  generalize val_main_v6 (F := F) x1 = y
  exact extractStridedSlice_apply ![0, 0] y slices_S2000x4_S2000x1_0_0 i (idx_main_v23 i) (fun a => match a with
    | ⟨0, _⟩ => by show (i 0).val = 0 + (i 0).val; omega
    | ⟨1, _⟩ => by show (i 1).val = 0 + (i 1).val; omega)

def val_main_v24 (x1 : (⟨S2000x5, .f32⟩ : BufTy).Contents (Elt F)) : (⟨S2000, .f32⟩ : BufTy).Contents (Elt F) :=
  shapeCast _ (val_main_v23 (F := F) x1) shapeCasts_S2000x1_S2000
abbrev idx_main_v24 (i : S2000.Idx) : S2000x1.Idx := fun a => match a with
  | ⟨0, _⟩ => ⟨((i 0).val) / 1, by have h0 : (i 0).val < 2000 := (i 0).isLt; show ((i 0).val) / 1 < 2000; omega⟩
  | ⟨1, _⟩ => ⟨0, Nat.one_pos⟩
theorem val_main_v24_apply (x1 : (⟨S2000x5, .f32⟩ : BufTy).Contents (Elt F)) (i : S2000.Idx) :
    val_main_v24 (F := F) x1 i = val_main_v23 (F := F) x1 (idx_main_v24 i) := by
  unfold val_main_v24
  generalize val_main_v23 (F := F) x1 = y
  exact shapeCast_apply y shapeCasts_S2000x1_S2000 i (idx_main_v24 i)
    (by rewrite [Shape.rowMajor_val_two, Shape.rowMajor_val_one]; have h0 : (i 0).val < 2000 := (i 0).isLt; show ((i 0).val) / 1 * 1 + 0 = (i 0).val; omega)

def val_main_v25 (x1 : (⟨S2000x5, .f32⟩ : BufTy).Contents (Elt F)) : (⟨S2000, .f32⟩ : BufTy).Contents (Elt F) :=
  subf (val_main_v22 (F := F) x1) (val_main_v24 (F := F) x1)
theorem val_main_v25_apply (x1 : (⟨S2000x5, .f32⟩ : BufTy).Contents (Elt F)) (i : S2000.Idx) :
    val_main_v25 (F := F) x1 i = FloatOps.subf (val_main_v22 (F := F) x1 i) (val_main_v24 (F := F) x1 i) := rfl

def val_main_v26 (x1 : (⟨S2000x5, .f32⟩ : BufTy).Contents (Elt F)) : (⟨S2000x1, .f32⟩ : BufTy).Contents (Elt F) :=
  extractStridedSlice S2000x1 ![0, 3] (val_main_v6 (F := F) x1) slices_S2000x4_S2000x1_0_3
abbrev idx_main_v26 (i : S2000x1.Idx) : S2000x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
theorem val_main_v26_apply (x1 : (⟨S2000x5, .f32⟩ : BufTy).Contents (Elt F)) (i : S2000x1.Idx) :
    val_main_v26 (F := F) x1 i = val_main_v6 (F := F) x1 (idx_main_v26 i) := by
  unfold val_main_v26
  generalize val_main_v6 (F := F) x1 = y
  exact extractStridedSlice_apply ![0, 3] y slices_S2000x4_S2000x1_0_3 i (idx_main_v26 i) (fun a => match a with
    | ⟨0, _⟩ => by show (i 0).val = 0 + (i 0).val; omega
    | ⟨1, _⟩ => by show 3 + (i 1).val = 3 + (i 1).val; omega)

def val_main_v27 (x1 : (⟨S2000x5, .f32⟩ : BufTy).Contents (Elt F)) : (⟨S2000, .f32⟩ : BufTy).Contents (Elt F) :=
  shapeCast _ (val_main_v26 (F := F) x1) shapeCasts_S2000x1_S2000
abbrev idx_main_v27 (i : S2000.Idx) : S2000x1.Idx := fun a => match a with
  | ⟨0, _⟩ => ⟨((i 0).val) / 1, by have h0 : (i 0).val < 2000 := (i 0).isLt; show ((i 0).val) / 1 < 2000; omega⟩
  | ⟨1, _⟩ => ⟨0, Nat.one_pos⟩
theorem val_main_v27_apply (x1 : (⟨S2000x5, .f32⟩ : BufTy).Contents (Elt F)) (i : S2000.Idx) :
    val_main_v27 (F := F) x1 i = val_main_v26 (F := F) x1 (idx_main_v27 i) := by
  unfold val_main_v27
  generalize val_main_v26 (F := F) x1 = y
  exact shapeCast_apply y shapeCasts_S2000x1_S2000 i (idx_main_v27 i)
    (by rewrite [Shape.rowMajor_val_two, Shape.rowMajor_val_one]; have h0 : (i 0).val < 2000 := (i 0).isLt; show ((i 0).val) / 1 * 1 + 0 = (i 0).val; omega)

def val_main_v28 (x1 : (⟨S2000x5, .f32⟩ : BufTy).Contents (Elt F)) : (⟨S2000x1, .f32⟩ : BufTy).Contents (Elt F) :=
  extractStridedSlice S2000x1 ![0, 1] (val_main_v6 (F := F) x1) slices_S2000x4_S2000x1_0_1
abbrev idx_main_v28 (i : S2000x1.Idx) : S2000x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
theorem val_main_v28_apply (x1 : (⟨S2000x5, .f32⟩ : BufTy).Contents (Elt F)) (i : S2000x1.Idx) :
    val_main_v28 (F := F) x1 i = val_main_v6 (F := F) x1 (idx_main_v28 i) := by
  unfold val_main_v28
  generalize val_main_v6 (F := F) x1 = y
  exact extractStridedSlice_apply ![0, 1] y slices_S2000x4_S2000x1_0_1 i (idx_main_v28 i) (fun a => match a with
    | ⟨0, _⟩ => by show (i 0).val = 0 + (i 0).val; omega
    | ⟨1, _⟩ => by show 1 + (i 1).val = 1 + (i 1).val; omega)

def val_main_v29 (x1 : (⟨S2000x5, .f32⟩ : BufTy).Contents (Elt F)) : (⟨S2000, .f32⟩ : BufTy).Contents (Elt F) :=
  shapeCast _ (val_main_v28 (F := F) x1) shapeCasts_S2000x1_S2000
abbrev idx_main_v29 (i : S2000.Idx) : S2000x1.Idx := fun a => match a with
  | ⟨0, _⟩ => ⟨((i 0).val) / 1, by have h0 : (i 0).val < 2000 := (i 0).isLt; show ((i 0).val) / 1 < 2000; omega⟩
  | ⟨1, _⟩ => ⟨0, Nat.one_pos⟩
theorem val_main_v29_apply (x1 : (⟨S2000x5, .f32⟩ : BufTy).Contents (Elt F)) (i : S2000.Idx) :
    val_main_v29 (F := F) x1 i = val_main_v28 (F := F) x1 (idx_main_v29 i) := by
  unfold val_main_v29
  generalize val_main_v28 (F := F) x1 = y
  exact shapeCast_apply y shapeCasts_S2000x1_S2000 i (idx_main_v29 i)
    (by rewrite [Shape.rowMajor_val_two, Shape.rowMajor_val_one]; have h0 : (i 0).val < 2000 := (i 0).isLt; show ((i 0).val) / 1 * 1 + 0 = (i 0).val; omega)

def val_main_v30 (x1 : (⟨S2000x5, .f32⟩ : BufTy).Contents (Elt F)) : (⟨S2000, .f32⟩ : BufTy).Contents (Elt F) :=
  subf (val_main_v27 (F := F) x1) (val_main_v29 (F := F) x1)
theorem val_main_v30_apply (x1 : (⟨S2000x5, .f32⟩ : BufTy).Contents (Elt F)) (i : S2000.Idx) :
    val_main_v30 (F := F) x1 i = FloatOps.subf (val_main_v27 (F := F) x1 i) (val_main_v29 (F := F) x1 i) := rfl

def val_main_v31 (x1 : (⟨S2000x5, .f32⟩ : BufTy).Contents (Elt F)) : (⟨S2000, .f32⟩ : BufTy).Contents (Elt F) :=
  mulf (val_main_v25 (F := F) x1) (val_main_v30 (F := F) x1)
theorem val_main_v31_apply (x1 : (⟨S2000x5, .f32⟩ : BufTy).Contents (Elt F)) (i : S2000.Idx) :
    val_main_v31 (F := F) x1 i = FloatOps.mulf (val_main_v25 (F := F) x1 i) (val_main_v30 (F := F) x1 i) := rfl

def val_main_v32 (x0 : (⟨S5000x6, .f32⟩ : BufTy).Contents (Elt F)) : (⟨S5000x2, .f32⟩ : BufTy).Contents (Elt F) :=
  extractStridedSlice S5000x2 ![0, 0] (val_main_v0 (F := F) x0) slices_S5000x4_S5000x2_0_0
abbrev idx_main_v32 (i : S5000x2.Idx) : S5000x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v32_apply (x0 : (⟨S5000x6, .f32⟩ : BufTy).Contents (Elt F)) (i : S5000x2.Idx) :
    val_main_v32 (F := F) x0 i = val_main_v0 (F := F) x0 (idx_main_v32 i) := by
  unfold val_main_v32
  generalize val_main_v0 (F := F) x0 = y
  exact extractStridedSlice_apply ![0, 0] y slices_S5000x4_S5000x2_0_0 i (idx_main_v32 i) (fun a => match a with
    | ⟨0, _⟩ => by show (i 0).val = 0 + (i 0).val; omega
    | ⟨1, _⟩ => by show (i 1).val = 0 + (i 1).val; omega)

def val_main_v33 (x0 : (⟨S5000x6, .f32⟩ : BufTy).Contents (Elt F)) : (⟨S5000x1x2, .f32⟩ : BufTy).Contents (Elt F) :=
  broadcastInDim S5000x1x2 ![0, 2] bcast_S5000x2_S5000x1x2_0_2 (val_main_v32 (F := F) x0)
abbrev idx_main_v33 (i : S5000x1x2.Idx) : S5000x2.Idx := fun a => match a with
  | ⟨0, _⟩ => ⟨(i 0).val, (i 0).isLt⟩
  | ⟨1, _⟩ => ⟨(i 2).val, (i 2).isLt⟩
theorem val_main_v33_apply (x0 : (⟨S5000x6, .f32⟩ : BufTy).Contents (Elt F)) (i : S5000x1x2.Idx) :
    val_main_v33 (F := F) x0 i = val_main_v32 (F := F) x0 (idx_main_v33 i) := by
  unfold val_main_v33
  generalize val_main_v32 (F := F) x0 = y
  exact broadcastInDim_apply _ bcast_S5000x2_S5000x1x2_0_2 y i (idx_main_v33 i) (fun a => match a with
    | ⟨0, _⟩ => by show (i 0).val = if (5000 : Nat) = 1 then 0 else (i 0).val; rw [if_neg (by decide)]
    | ⟨1, _⟩ => by show (i 2).val = if (2 : Nat) = 1 then 0 else (i 2).val; rw [if_neg (by decide)])

def val_main_v34 (x1 : (⟨S2000x5, .f32⟩ : BufTy).Contents (Elt F)) : (⟨S2000x2, .f32⟩ : BufTy).Contents (Elt F) :=
  extractStridedSlice S2000x2 ![0, 0] (val_main_v6 (F := F) x1) slices_S2000x4_S2000x2_0_0
abbrev idx_main_v34 (i : S2000x2.Idx) : S2000x4.Idx := fun a => match a with
  | ⟨0, _⟩ => ⟨(i 0).val, (i 0).isLt⟩
  | ⟨1, _⟩ => ⟨(i 1).val, by have h1 : (i 1).val < 2 := (i 1).isLt; show (i 1).val < 4; omega⟩
theorem val_main_v34_apply (x1 : (⟨S2000x5, .f32⟩ : BufTy).Contents (Elt F)) (i : S2000x2.Idx) :
    val_main_v34 (F := F) x1 i = val_main_v6 (F := F) x1 (idx_main_v34 i) := by
  unfold val_main_v34
  generalize val_main_v6 (F := F) x1 = y
  exact extractStridedSlice_apply ![0, 0] y slices_S2000x4_S2000x2_0_0 i (idx_main_v34 i) (fun a => match a with
    | ⟨0, _⟩ => by show (i 0).val = 0 + (i 0).val; omega
    | ⟨1, _⟩ => by show (i 1).val = 0 + (i 1).val; omega)

def val_main_v35 (x1 : (⟨S2000x5, .f32⟩ : BufTy).Contents (Elt F)) : (⟨S1x2000x2, .f32⟩ : BufTy).Contents (Elt F) :=
  broadcastInDim S1x2000x2 ![1, 2] bcast_S2000x2_S1x2000x2_1_2 (val_main_v34 (F := F) x1)
abbrev idx_main_v35 (i : S1x2000x2.Idx) : S2000x2.Idx := fun a => match a with
  | ⟨0, _⟩ => ⟨(i 1).val, (i 1).isLt⟩
  | ⟨1, _⟩ => ⟨(i 2).val, (i 2).isLt⟩
theorem val_main_v35_apply (x1 : (⟨S2000x5, .f32⟩ : BufTy).Contents (Elt F)) (i : S1x2000x2.Idx) :
    val_main_v35 (F := F) x1 i = val_main_v34 (F := F) x1 (idx_main_v35 i) := by
  unfold val_main_v35
  generalize val_main_v34 (F := F) x1 = y
  exact broadcastInDim_apply _ bcast_S2000x2_S1x2000x2_1_2 y i (idx_main_v35 i) (fun a => match a with
    | ⟨0, _⟩ => by show (i 1).val = if (2000 : Nat) = 1 then 0 else (i 1).val; rw [if_neg (by decide)]
    | ⟨1, _⟩ => by show (i 2).val = if (2 : Nat) = 1 then 0 else (i 2).val; rw [if_neg (by decide)])

def val_main_v36 (x0 : (⟨S5000x6, .f32⟩ : BufTy).Contents (Elt F)) : (⟨S5000x2000x2, .f32⟩ : BufTy).Contents (Elt F) :=
  broadcastInDim S5000x2000x2 ![0, 1, 2] bcast_S5000x1x2_S5000x2000x2_0_1_2 (val_main_v33 (F := F) x0)
abbrev idx_main_v36 (i : S5000x2000x2.Idx) : S5000x1x2.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v36_apply (x0 : (⟨S5000x6, .f32⟩ : BufTy).Contents (Elt F)) (i : S5000x2000x2.Idx) :
    val_main_v36 (F := F) x0 i = val_main_v33 (F := F) x0 (idx_main_v36 i) := by
  unfold val_main_v36
  generalize val_main_v33 (F := F) x0 = y
  exact broadcastInDim_apply _ bcast_S5000x1x2_S5000x2000x2_0_1_2 y i (idx_main_v36 i) (fun a => match a with
    | ⟨0, _⟩ => by show (i 0).val = if (5000 : Nat) = 1 then 0 else (i 0).val; rw [if_neg (by decide)]
    | ⟨1, _⟩ => by show 0 = if (1 : Nat) = 1 then 0 else (i 1).val; rw [if_pos rfl]
    | ⟨2, _⟩ => by show (i 2).val = if (2 : Nat) = 1 then 0 else (i 2).val; rw [if_neg (by decide)])

def val_main_v37 (x1 : (⟨S2000x5, .f32⟩ : BufTy).Contents (Elt F)) : (⟨S5000x2000x2, .f32⟩ : BufTy).Contents (Elt F) :=
  broadcastInDim S5000x2000x2 ![0, 1, 2] bcast_S1x2000x2_S5000x2000x2_0_1_2 (val_main_v35 (F := F) x1)
abbrev idx_main_v37 (i : S5000x2000x2.Idx) : S1x2000x2.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v37_apply (x1 : (⟨S2000x5, .f32⟩ : BufTy).Contents (Elt F)) (i : S5000x2000x2.Idx) :
    val_main_v37 (F := F) x1 i = val_main_v35 (F := F) x1 (idx_main_v37 i) := by
  unfold val_main_v37
  generalize val_main_v35 (F := F) x1 = y
  exact broadcastInDim_apply _ bcast_S1x2000x2_S5000x2000x2_0_1_2 y i (idx_main_v37 i) (fun a => match a with
    | ⟨0, _⟩ => by show 0 = if (1 : Nat) = 1 then 0 else (i 0).val; rw [if_pos rfl]
    | ⟨1, _⟩ => by show (i 1).val = if (2000 : Nat) = 1 then 0 else (i 1).val; rw [if_neg (by decide)]
    | ⟨2, _⟩ => by show (i 2).val = if (2 : Nat) = 1 then 0 else (i 2).val; rw [if_neg (by decide)])

def val_main_v38 (x0 : (⟨S5000x6, .f32⟩ : BufTy).Contents (Elt F)) (x1 : (⟨S2000x5, .f32⟩ : BufTy).Contents (Elt F)) : (⟨S5000x2000x2, .f32⟩ : BufTy).Contents (Elt F) :=
  maximumf (val_main_v36 (F := F) x0) (val_main_v37 (F := F) x1)
theorem val_main_v38_apply (x0 : (⟨S5000x6, .f32⟩ : BufTy).Contents (Elt F)) (x1 : (⟨S2000x5, .f32⟩ : BufTy).Contents (Elt F)) (i : S5000x2000x2.Idx) :
    val_main_v38 (F := F) x0 x1 i = FloatOps.maximumf (val_main_v36 (F := F) x0 i) (val_main_v37 (F := F) x1 i) := rfl

def val_main_v39 (x0 : (⟨S5000x6, .f32⟩ : BufTy).Contents (Elt F)) : (⟨S5000x2, .f32⟩ : BufTy).Contents (Elt F) :=
  extractStridedSlice S5000x2 ![0, 2] (val_main_v0 (F := F) x0) slices_S5000x4_S5000x2_0_2
abbrev idx_main_v39 (i : S5000x2.Idx) : S5000x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v39_apply (x0 : (⟨S5000x6, .f32⟩ : BufTy).Contents (Elt F)) (i : S5000x2.Idx) :
    val_main_v39 (F := F) x0 i = val_main_v0 (F := F) x0 (idx_main_v39 i) := by
  unfold val_main_v39
  generalize val_main_v0 (F := F) x0 = y
  exact extractStridedSlice_apply ![0, 2] y slices_S5000x4_S5000x2_0_2 i (idx_main_v39 i) (fun a => match a with
    | ⟨0, _⟩ => by show (i 0).val = 0 + (i 0).val; omega
    | ⟨1, _⟩ => by show 2 + (i 1).val = 2 + (i 1).val; omega)

def val_main_v40 (x0 : (⟨S5000x6, .f32⟩ : BufTy).Contents (Elt F)) : (⟨S5000x1x2, .f32⟩ : BufTy).Contents (Elt F) :=
  broadcastInDim S5000x1x2 ![0, 2] bcast_S5000x2_S5000x1x2_0_2 (val_main_v39 (F := F) x0)
abbrev idx_main_v40 (i : S5000x1x2.Idx) : S5000x2.Idx := fun a => match a with
  | ⟨0, _⟩ => ⟨(i 0).val, (i 0).isLt⟩
  | ⟨1, _⟩ => ⟨(i 2).val, (i 2).isLt⟩
theorem val_main_v40_apply (x0 : (⟨S5000x6, .f32⟩ : BufTy).Contents (Elt F)) (i : S5000x1x2.Idx) :
    val_main_v40 (F := F) x0 i = val_main_v39 (F := F) x0 (idx_main_v40 i) := by
  unfold val_main_v40
  generalize val_main_v39 (F := F) x0 = y
  exact broadcastInDim_apply _ bcast_S5000x2_S5000x1x2_0_2 y i (idx_main_v40 i) (fun a => match a with
    | ⟨0, _⟩ => by show (i 0).val = if (5000 : Nat) = 1 then 0 else (i 0).val; rw [if_neg (by decide)]
    | ⟨1, _⟩ => by show (i 2).val = if (2 : Nat) = 1 then 0 else (i 2).val; rw [if_neg (by decide)])

def val_main_v41 (x1 : (⟨S2000x5, .f32⟩ : BufTy).Contents (Elt F)) : (⟨S2000x2, .f32⟩ : BufTy).Contents (Elt F) :=
  extractStridedSlice S2000x2 ![0, 2] (val_main_v6 (F := F) x1) slices_S2000x4_S2000x2_0_2
abbrev idx_main_v41 (i : S2000x2.Idx) : S2000x4.Idx := fun a => match a with
  | ⟨0, _⟩ => ⟨(i 0).val, (i 0).isLt⟩
  | ⟨1, _⟩ => ⟨2 + (i 1).val, by have h1 : (i 1).val < 2 := (i 1).isLt; show 2 + (i 1).val < 4; omega⟩
theorem val_main_v41_apply (x1 : (⟨S2000x5, .f32⟩ : BufTy).Contents (Elt F)) (i : S2000x2.Idx) :
    val_main_v41 (F := F) x1 i = val_main_v6 (F := F) x1 (idx_main_v41 i) := by
  unfold val_main_v41
  generalize val_main_v6 (F := F) x1 = y
  exact extractStridedSlice_apply ![0, 2] y slices_S2000x4_S2000x2_0_2 i (idx_main_v41 i) (fun a => match a with
    | ⟨0, _⟩ => by show (i 0).val = 0 + (i 0).val; omega
    | ⟨1, _⟩ => by show 2 + (i 1).val = 2 + (i 1).val; omega)

def val_main_v42 (x1 : (⟨S2000x5, .f32⟩ : BufTy).Contents (Elt F)) : (⟨S1x2000x2, .f32⟩ : BufTy).Contents (Elt F) :=
  broadcastInDim S1x2000x2 ![1, 2] bcast_S2000x2_S1x2000x2_1_2 (val_main_v41 (F := F) x1)
abbrev idx_main_v42 (i : S1x2000x2.Idx) : S2000x2.Idx := fun a => match a with
  | ⟨0, _⟩ => ⟨(i 1).val, (i 1).isLt⟩
  | ⟨1, _⟩ => ⟨(i 2).val, (i 2).isLt⟩
theorem val_main_v42_apply (x1 : (⟨S2000x5, .f32⟩ : BufTy).Contents (Elt F)) (i : S1x2000x2.Idx) :
    val_main_v42 (F := F) x1 i = val_main_v41 (F := F) x1 (idx_main_v42 i) := by
  unfold val_main_v42
  generalize val_main_v41 (F := F) x1 = y
  exact broadcastInDim_apply _ bcast_S2000x2_S1x2000x2_1_2 y i (idx_main_v42 i) (fun a => match a with
    | ⟨0, _⟩ => by show (i 1).val = if (2000 : Nat) = 1 then 0 else (i 1).val; rw [if_neg (by decide)]
    | ⟨1, _⟩ => by show (i 2).val = if (2 : Nat) = 1 then 0 else (i 2).val; rw [if_neg (by decide)])

def val_main_v43 (x0 : (⟨S5000x6, .f32⟩ : BufTy).Contents (Elt F)) : (⟨S5000x2000x2, .f32⟩ : BufTy).Contents (Elt F) :=
  broadcastInDim S5000x2000x2 ![0, 1, 2] bcast_S5000x1x2_S5000x2000x2_0_1_2 (val_main_v40 (F := F) x0)
abbrev idx_main_v43 (i : S5000x2000x2.Idx) : S5000x1x2.Idx := fun a => match a with
  | ⟨0, _⟩ => ⟨(i 0).val, (i 0).isLt⟩
  | ⟨1, _⟩ => ⟨0, Nat.one_pos⟩
  | ⟨2, _⟩ => ⟨(i 2).val, (i 2).isLt⟩
theorem val_main_v43_apply (x0 : (⟨S5000x6, .f32⟩ : BufTy).Contents (Elt F)) (i : S5000x2000x2.Idx) :
    val_main_v43 (F := F) x0 i = val_main_v40 (F := F) x0 (idx_main_v43 i) := by
  unfold val_main_v43
  generalize val_main_v40 (F := F) x0 = y
  exact broadcastInDim_apply _ bcast_S5000x1x2_S5000x2000x2_0_1_2 y i (idx_main_v43 i) (fun a => match a with
    | ⟨0, _⟩ => by show (i 0).val = if (5000 : Nat) = 1 then 0 else (i 0).val; rw [if_neg (by decide)]
    | ⟨1, _⟩ => by show 0 = if (1 : Nat) = 1 then 0 else (i 1).val; rw [if_pos rfl]
    | ⟨2, _⟩ => by show (i 2).val = if (2 : Nat) = 1 then 0 else (i 2).val; rw [if_neg (by decide)])

def val_main_v44 (x1 : (⟨S2000x5, .f32⟩ : BufTy).Contents (Elt F)) : (⟨S5000x2000x2, .f32⟩ : BufTy).Contents (Elt F) :=
  broadcastInDim S5000x2000x2 ![0, 1, 2] bcast_S1x2000x2_S5000x2000x2_0_1_2 (val_main_v42 (F := F) x1)
abbrev idx_main_v44 (i : S5000x2000x2.Idx) : S1x2000x2.Idx := fun a => match a with
  | ⟨0, _⟩ => ⟨0, Nat.one_pos⟩
  | ⟨1, _⟩ => ⟨(i 1).val, (i 1).isLt⟩
  | ⟨2, _⟩ => ⟨(i 2).val, (i 2).isLt⟩
theorem val_main_v44_apply (x1 : (⟨S2000x5, .f32⟩ : BufTy).Contents (Elt F)) (i : S5000x2000x2.Idx) :
    val_main_v44 (F := F) x1 i = val_main_v42 (F := F) x1 (idx_main_v44 i) := by
  unfold val_main_v44
  generalize val_main_v42 (F := F) x1 = y
  exact broadcastInDim_apply _ bcast_S1x2000x2_S5000x2000x2_0_1_2 y i (idx_main_v44 i) (fun a => match a with
    | ⟨0, _⟩ => by show 0 = if (1 : Nat) = 1 then 0 else (i 0).val; rw [if_pos rfl]
    | ⟨1, _⟩ => by show (i 1).val = if (2000 : Nat) = 1 then 0 else (i 1).val; rw [if_neg (by decide)]
    | ⟨2, _⟩ => by show (i 2).val = if (2 : Nat) = 1 then 0 else (i 2).val; rw [if_neg (by decide)])

def val_main_v45 (x0 : (⟨S5000x6, .f32⟩ : BufTy).Contents (Elt F)) (x1 : (⟨S2000x5, .f32⟩ : BufTy).Contents (Elt F)) : (⟨S5000x2000x2, .f32⟩ : BufTy).Contents (Elt F) :=
  minimumf (val_main_v43 (F := F) x0) (val_main_v44 (F := F) x1)
theorem val_main_v45_apply (x0 : (⟨S5000x6, .f32⟩ : BufTy).Contents (Elt F)) (x1 : (⟨S2000x5, .f32⟩ : BufTy).Contents (Elt F)) (i : S5000x2000x2.Idx) :
    val_main_v45 (F := F) x0 x1 i = FloatOps.minimumf (val_main_v43 (F := F) x0 i) (val_main_v44 (F := F) x1 i) := rfl

def val_main_v46 (x0 : (⟨S5000x6, .f32⟩ : BufTy).Contents (Elt F)) (x1 : (⟨S2000x5, .f32⟩ : BufTy).Contents (Elt F)) : (⟨S5000x2000x2, .f32⟩ : BufTy).Contents (Elt F) :=
  subf (val_main_v45 (F := F) x0 x1) (val_main_v38 (F := F) x0 x1)
theorem val_main_v46_apply (x0 : (⟨S5000x6, .f32⟩ : BufTy).Contents (Elt F)) (x1 : (⟨S2000x5, .f32⟩ : BufTy).Contents (Elt F)) (i : S5000x2000x2.Idx) :
    val_main_v46 (F := F) x0 x1 i = FloatOps.subf (val_main_v45 (F := F) x0 x1 i) (val_main_v38 (F := F) x0 x1 i) := rfl

def val_main_cst : (⟨S_, .f32⟩ : BufTy).Contents (Elt F) :=
  constant S_ .f32 0x00000000#32
theorem val_main_cst_apply (i : S_.Idx) :
    val_main_cst (F := F) i = FloatOps.ofBits .f32 0x00000000#32 := rfl

def val_main_call0_v0 : (⟨S_, .f32⟩ : BufTy).Contents (Elt F) :=
  id (val_main_cst (F := F))
theorem val_main_call0_v0_apply (i : S_.Idx) :
    val_main_call0_v0 (F := F) i = (val_main_cst (F := F) i) := rfl

def val_main_call0_v1 : (⟨S5000x2000x2, .f32⟩ : BufTy).Contents (Elt F) :=
  broadcastInDim S5000x2000x2 ![] bcast_S_S5000x2000x2 (val_main_call0_v0 (F := F))
abbrev idx_main_call0_v1 (i : S5000x2000x2.Idx) : S_.Idx := fun a => a.elim0
theorem val_main_call0_v1_apply (i : S5000x2000x2.Idx) :
    val_main_call0_v1 (F := F) i = val_main_call0_v0 (F := F) (idx_main_call0_v1 i) := by
  unfold val_main_call0_v1
  generalize val_main_call0_v0 (F := F) = y
  exact broadcastInDim_apply _ bcast_S_S5000x2000x2 y i (idx_main_call0_v1 i) (fun a => a.elim0)

def val_main_v47 (x0 : (⟨S5000x6, .f32⟩ : BufTy).Contents (Elt F)) (x1 : (⟨S2000x5, .f32⟩ : BufTy).Contents (Elt F)) : (⟨S5000x2000x2, .f32⟩ : BufTy).Contents (Elt F) :=
  maximumf (val_main_call0_v1 (F := F)) (val_main_v46 (F := F) x0 x1)
theorem val_main_v47_apply (x0 : (⟨S5000x6, .f32⟩ : BufTy).Contents (Elt F)) (x1 : (⟨S2000x5, .f32⟩ : BufTy).Contents (Elt F)) (i : S5000x2000x2.Idx) :
    val_main_v47 (F := F) x0 x1 i = FloatOps.maximumf (val_main_call0_v1 (F := F) i) (val_main_v46 (F := F) x0 x1 i) := rfl

def val_main_v48 (x0 : (⟨S5000x6, .f32⟩ : BufTy).Contents (Elt F)) (x1 : (⟨S2000x5, .f32⟩ : BufTy).Contents (Elt F)) : (⟨S5000x2000x1, .f32⟩ : BufTy).Contents (Elt F) :=
  extractStridedSlice S5000x2000x1 ![0, 0, 0] (val_main_v47 (F := F) x0 x1) slices_S5000x2000x2_S5000x2000x1_0_0_0
abbrev idx_main_v48 (i : S5000x2000x1.Idx) : S5000x2000x2.Idx := fun a => match a with
  | ⟨0, _⟩ => ⟨(i 0).val, (i 0).isLt⟩
  | ⟨1, _⟩ => ⟨(i 1).val, (i 1).isLt⟩
  | ⟨2, _⟩ => ⟨(i 2).val, by have h2 : (i 2).val < 1 := (i 2).isLt; show (i 2).val < 2; omega⟩
theorem val_main_v48_apply (x0 : (⟨S5000x6, .f32⟩ : BufTy).Contents (Elt F)) (x1 : (⟨S2000x5, .f32⟩ : BufTy).Contents (Elt F)) (i : S5000x2000x1.Idx) :
    val_main_v48 (F := F) x0 x1 i = val_main_v47 (F := F) x0 x1 (idx_main_v48 i) := by
  unfold val_main_v48
  generalize val_main_v47 (F := F) x0 x1 = y
  exact extractStridedSlice_apply ![0, 0, 0] y slices_S5000x2000x2_S5000x2000x1_0_0_0 i (idx_main_v48 i) (fun a => match a with
    | ⟨0, _⟩ => by show (i 0).val = 0 + (i 0).val; omega
    | ⟨1, _⟩ => by show (i 1).val = 0 + (i 1).val; omega
    | ⟨2, _⟩ => by show (i 2).val = 0 + (i 2).val; omega)

def val_main_v49 (x0 : (⟨S5000x6, .f32⟩ : BufTy).Contents (Elt F)) (x1 : (⟨S2000x5, .f32⟩ : BufTy).Contents (Elt F)) : (⟨S5000x2000, .f32⟩ : BufTy).Contents (Elt F) :=
  shapeCast _ (val_main_v48 (F := F) x0 x1) shapeCasts_S5000x2000x1_S5000x2000
abbrev idx_main_v49 (i : S5000x2000.Idx) : S5000x2000x1.Idx := fun a => match a with
  | ⟨0, _⟩ => ⟨((i 0).val * 2000 + (i 1).val) / 2000, by have h0 : (i 0).val < 5000 := (i 0).isLt; have h1 : (i 1).val < 2000 := (i 1).isLt; show ((i 0).val * 2000 + (i 1).val) / 2000 < 5000; omega⟩
  | ⟨1, _⟩ => ⟨((i 0).val * 2000 + (i 1).val) / 1 % 2000, by have h0 : (i 0).val < 5000 := (i 0).isLt; have h1 : (i 1).val < 2000 := (i 1).isLt; show ((i 0).val * 2000 + (i 1).val) / 1 % 2000 < 2000; omega⟩
  | ⟨2, _⟩ => ⟨0, Nat.one_pos⟩
theorem val_main_v49_apply (x0 : (⟨S5000x6, .f32⟩ : BufTy).Contents (Elt F)) (x1 : (⟨S2000x5, .f32⟩ : BufTy).Contents (Elt F)) (i : S5000x2000.Idx) :
    val_main_v49 (F := F) x0 x1 i = val_main_v48 (F := F) x0 x1 (idx_main_v49 i) := by
  unfold val_main_v49
  generalize val_main_v48 (F := F) x0 x1 = y
  exact shapeCast_apply y shapeCasts_S5000x2000x1_S5000x2000 i (idx_main_v49 i)
    (by rewrite [Shape.rowMajor_val_three, Shape.rowMajor_val_two]; have h0 : (i 0).val < 5000 := (i 0).isLt; have h1 : (i 1).val < 2000 := (i 1).isLt; show (((i 0).val * 2000 + (i 1).val) / 2000 * 2000 + ((i 0).val * 2000 + (i 1).val) / 1 % 2000) * 1 + 0 = (i 0).val * 2000 + (i 1).val; omega)

def val_main_v50 (x0 : (⟨S5000x6, .f32⟩ : BufTy).Contents (Elt F)) (x1 : (⟨S2000x5, .f32⟩ : BufTy).Contents (Elt F)) : (⟨S5000x2000x1, .f32⟩ : BufTy).Contents (Elt F) :=
  extractStridedSlice S5000x2000x1 ![0, 0, 1] (val_main_v47 (F := F) x0 x1) slices_S5000x2000x2_S5000x2000x1_0_0_1
abbrev idx_main_v50 (i : S5000x2000x1.Idx) : S5000x2000x2.Idx := fun a => match a with
  | ⟨0, _⟩ => ⟨(i 0).val, (i 0).isLt⟩
  | ⟨1, _⟩ => ⟨(i 1).val, (i 1).isLt⟩
  | ⟨2, _⟩ => ⟨1 + (i 2).val, by have h2 : (i 2).val < 1 := (i 2).isLt; show 1 + (i 2).val < 2; omega⟩
theorem val_main_v50_apply (x0 : (⟨S5000x6, .f32⟩ : BufTy).Contents (Elt F)) (x1 : (⟨S2000x5, .f32⟩ : BufTy).Contents (Elt F)) (i : S5000x2000x1.Idx) :
    val_main_v50 (F := F) x0 x1 i = val_main_v47 (F := F) x0 x1 (idx_main_v50 i) := by
  unfold val_main_v50
  generalize val_main_v47 (F := F) x0 x1 = y
  exact extractStridedSlice_apply ![0, 0, 1] y slices_S5000x2000x2_S5000x2000x1_0_0_1 i (idx_main_v50 i) (fun a => match a with
    | ⟨0, _⟩ => by show (i 0).val = 0 + (i 0).val; omega
    | ⟨1, _⟩ => by show (i 1).val = 0 + (i 1).val; omega
    | ⟨2, _⟩ => by show 1 + (i 2).val = 1 + (i 2).val; omega)

def val_main_v51 (x0 : (⟨S5000x6, .f32⟩ : BufTy).Contents (Elt F)) (x1 : (⟨S2000x5, .f32⟩ : BufTy).Contents (Elt F)) : (⟨S5000x2000, .f32⟩ : BufTy).Contents (Elt F) :=
  shapeCast _ (val_main_v50 (F := F) x0 x1) shapeCasts_S5000x2000x1_S5000x2000
abbrev idx_main_v51 (i : S5000x2000.Idx) : S5000x2000x1.Idx := fun a => match a with
  | ⟨0, _⟩ => ⟨((i 0).val * 2000 + (i 1).val) / 2000, by have h0 : (i 0).val < 5000 := (i 0).isLt; have h1 : (i 1).val < 2000 := (i 1).isLt; show ((i 0).val * 2000 + (i 1).val) / 2000 < 5000; omega⟩
  | ⟨1, _⟩ => ⟨((i 0).val * 2000 + (i 1).val) / 1 % 2000, by have h0 : (i 0).val < 5000 := (i 0).isLt; have h1 : (i 1).val < 2000 := (i 1).isLt; show ((i 0).val * 2000 + (i 1).val) / 1 % 2000 < 2000; omega⟩
  | ⟨2, _⟩ => ⟨0, Nat.one_pos⟩
theorem val_main_v51_apply (x0 : (⟨S5000x6, .f32⟩ : BufTy).Contents (Elt F)) (x1 : (⟨S2000x5, .f32⟩ : BufTy).Contents (Elt F)) (i : S5000x2000.Idx) :
    val_main_v51 (F := F) x0 x1 i = val_main_v50 (F := F) x0 x1 (idx_main_v51 i) := by
  unfold val_main_v51
  generalize val_main_v50 (F := F) x0 x1 = y
  exact shapeCast_apply y shapeCasts_S5000x2000x1_S5000x2000 i (idx_main_v51 i)
    (by rewrite [Shape.rowMajor_val_three, Shape.rowMajor_val_two]; have h0 : (i 0).val < 5000 := (i 0).isLt; have h1 : (i 1).val < 2000 := (i 1).isLt; show (((i 0).val * 2000 + (i 1).val) / 2000 * 2000 + ((i 0).val * 2000 + (i 1).val) / 1 % 2000) * 1 + 0 = (i 0).val * 2000 + (i 1).val; omega)

def val_main_v52 (x0 : (⟨S5000x6, .f32⟩ : BufTy).Contents (Elt F)) (x1 : (⟨S2000x5, .f32⟩ : BufTy).Contents (Elt F)) : (⟨S5000x2000, .f32⟩ : BufTy).Contents (Elt F) :=
  mulf (val_main_v49 (F := F) x0 x1) (val_main_v51 (F := F) x0 x1)
theorem val_main_v52_apply (x0 : (⟨S5000x6, .f32⟩ : BufTy).Contents (Elt F)) (x1 : (⟨S2000x5, .f32⟩ : BufTy).Contents (Elt F)) (i : S5000x2000.Idx) :
    val_main_v52 (F := F) x0 x1 i = FloatOps.mulf (val_main_v49 (F := F) x0 x1 i) (val_main_v51 (F := F) x0 x1 i) := rfl

def val_main_v53 (x0 : (⟨S5000x6, .f32⟩ : BufTy).Contents (Elt F)) : (⟨S5000x1, .f32⟩ : BufTy).Contents (Elt F) :=
  broadcastInDim S5000x1 ![0] bcast_S5000_S5000x1_0 (val_main_v20 (F := F) x0)
abbrev idx_main_v53 (i : S5000x1.Idx) : S5000.Idx := fun a => match a with
  | ⟨0, _⟩ => ⟨(i 0).val, (i 0).isLt⟩
theorem val_main_v53_apply (x0 : (⟨S5000x6, .f32⟩ : BufTy).Contents (Elt F)) (i : S5000x1.Idx) :
    val_main_v53 (F := F) x0 i = val_main_v20 (F := F) x0 (idx_main_v53 i) := by
  unfold val_main_v53
  generalize val_main_v20 (F := F) x0 = y
  exact broadcastInDim_apply _ bcast_S5000_S5000x1_0 y i (idx_main_v53 i) (fun a => match a with
    | ⟨0, _⟩ => by show (i 0).val = if (5000 : Nat) = 1 then 0 else (i 0).val; rw [if_neg (by decide)])

def val_main_v54 (x1 : (⟨S2000x5, .f32⟩ : BufTy).Contents (Elt F)) : (⟨S1x2000, .f32⟩ : BufTy).Contents (Elt F) :=
  broadcastInDim S1x2000 ![1] bcast_S2000_S1x2000_1 (val_main_v31 (F := F) x1)
abbrev idx_main_v54 (i : S1x2000.Idx) : S2000.Idx := fun a => match a with
  | ⟨0, _⟩ => ⟨(i 1).val, (i 1).isLt⟩
theorem val_main_v54_apply (x1 : (⟨S2000x5, .f32⟩ : BufTy).Contents (Elt F)) (i : S1x2000.Idx) :
    val_main_v54 (F := F) x1 i = val_main_v31 (F := F) x1 (idx_main_v54 i) := by
  unfold val_main_v54
  generalize val_main_v31 (F := F) x1 = y
  exact broadcastInDim_apply _ bcast_S2000_S1x2000_1 y i (idx_main_v54 i) (fun a => match a with
    | ⟨0, _⟩ => by show (i 1).val = if (2000 : Nat) = 1 then 0 else (i 1).val; rw [if_neg (by decide)])

def val_main_v55 (x0 : (⟨S5000x6, .f32⟩ : BufTy).Contents (Elt F)) : (⟨S5000x2000, .f32⟩ : BufTy).Contents (Elt F) :=
  broadcastInDim S5000x2000 ![0, 1] bcast_S5000x1_S5000x2000_0_1 (val_main_v53 (F := F) x0)
abbrev idx_main_v55 (i : S5000x2000.Idx) : S5000x1.Idx := fun a => match a with
  | ⟨0, _⟩ => ⟨(i 0).val, (i 0).isLt⟩
  | ⟨1, _⟩ => ⟨0, Nat.one_pos⟩
theorem val_main_v55_apply (x0 : (⟨S5000x6, .f32⟩ : BufTy).Contents (Elt F)) (i : S5000x2000.Idx) :
    val_main_v55 (F := F) x0 i = val_main_v53 (F := F) x0 (idx_main_v55 i) := by
  unfold val_main_v55
  generalize val_main_v53 (F := F) x0 = y
  exact broadcastInDim_apply _ bcast_S5000x1_S5000x2000_0_1 y i (idx_main_v55 i) (fun a => match a with
    | ⟨0, _⟩ => by show (i 0).val = if (5000 : Nat) = 1 then 0 else (i 0).val; rw [if_neg (by decide)]
    | ⟨1, _⟩ => by show 0 = if (1 : Nat) = 1 then 0 else (i 1).val; rw [if_pos rfl])

def val_main_v56 (x1 : (⟨S2000x5, .f32⟩ : BufTy).Contents (Elt F)) : (⟨S5000x2000, .f32⟩ : BufTy).Contents (Elt F) :=
  broadcastInDim S5000x2000 ![0, 1] bcast_S1x2000_S5000x2000_0_1 (val_main_v54 (F := F) x1)
abbrev idx_main_v56 (i : S5000x2000.Idx) : S1x2000.Idx := fun a => match a with
  | ⟨0, _⟩ => ⟨0, Nat.one_pos⟩
  | ⟨1, _⟩ => ⟨(i 1).val, (i 1).isLt⟩
theorem val_main_v56_apply (x1 : (⟨S2000x5, .f32⟩ : BufTy).Contents (Elt F)) (i : S5000x2000.Idx) :
    val_main_v56 (F := F) x1 i = val_main_v54 (F := F) x1 (idx_main_v56 i) := by
  unfold val_main_v56
  generalize val_main_v54 (F := F) x1 = y
  exact broadcastInDim_apply _ bcast_S1x2000_S5000x2000_0_1 y i (idx_main_v56 i) (fun a => match a with
    | ⟨0, _⟩ => by show 0 = if (1 : Nat) = 1 then 0 else (i 0).val; rw [if_pos rfl]
    | ⟨1, _⟩ => by show (i 1).val = if (2000 : Nat) = 1 then 0 else (i 1).val; rw [if_neg (by decide)])

def val_main_v57 (x0 : (⟨S5000x6, .f32⟩ : BufTy).Contents (Elt F)) (x1 : (⟨S2000x5, .f32⟩ : BufTy).Contents (Elt F)) : (⟨S5000x2000, .f32⟩ : BufTy).Contents (Elt F) :=
  addf (val_main_v55 (F := F) x0) (val_main_v56 (F := F) x1)
theorem val_main_v57_apply (x0 : (⟨S5000x6, .f32⟩ : BufTy).Contents (Elt F)) (x1 : (⟨S2000x5, .f32⟩ : BufTy).Contents (Elt F)) (i : S5000x2000.Idx) :
    val_main_v57 (F := F) x0 x1 i = FloatOps.addf (val_main_v55 (F := F) x0 i) (val_main_v56 (F := F) x1 i) := rfl

def val_main_v58 (x0 : (⟨S5000x6, .f32⟩ : BufTy).Contents (Elt F)) (x1 : (⟨S2000x5, .f32⟩ : BufTy).Contents (Elt F)) : (⟨S5000x2000, .f32⟩ : BufTy).Contents (Elt F) :=
  subf (val_main_v57 (F := F) x0 x1) (val_main_v52 (F := F) x0 x1)
theorem val_main_v58_apply (x0 : (⟨S5000x6, .f32⟩ : BufTy).Contents (Elt F)) (x1 : (⟨S2000x5, .f32⟩ : BufTy).Contents (Elt F)) (i : S5000x2000.Idx) :
    val_main_v58 (F := F) x0 x1 i = FloatOps.subf (val_main_v57 (F := F) x0 x1 i) (val_main_v52 (F := F) x0 x1 i) := rfl

def val_main_cst_0 : (⟨S_, .f32⟩ : BufTy).Contents (Elt F) :=
  constant S_ .f32 0x33D6BF95#32
theorem val_main_cst_0_apply (i : S_.Idx) :
    val_main_cst_0 (F := F) i = FloatOps.ofBits .f32 0x33D6BF95#32 := rfl

def val_main_v59 : (⟨S5000x2000, .f32⟩ : BufTy).Contents (Elt F) :=
  broadcastInDim S5000x2000 ![] bcast_S_S5000x2000 (val_main_cst_0 (F := F))
abbrev idx_main_v59 (i : S5000x2000.Idx) : S_.Idx := fun a => a.elim0
theorem val_main_v59_apply (i : S5000x2000.Idx) :
    val_main_v59 (F := F) i = val_main_cst_0 (F := F) (idx_main_v59 i) := by
  unfold val_main_v59
  generalize val_main_cst_0 (F := F) = y
  exact broadcastInDim_apply _ bcast_S_S5000x2000 y i (idx_main_v59 i) (fun a => a.elim0)

def val_main_v60 (x0 : (⟨S5000x6, .f32⟩ : BufTy).Contents (Elt F)) (x1 : (⟨S2000x5, .f32⟩ : BufTy).Contents (Elt F)) : (⟨S5000x2000, .f32⟩ : BufTy).Contents (Elt F) :=
  addf (val_main_v58 (F := F) x0 x1) (val_main_v59 (F := F))
theorem val_main_v60_apply (x0 : (⟨S5000x6, .f32⟩ : BufTy).Contents (Elt F)) (x1 : (⟨S2000x5, .f32⟩ : BufTy).Contents (Elt F)) (i : S5000x2000.Idx) :
    val_main_v60 (F := F) x0 x1 i = FloatOps.addf (val_main_v58 (F := F) x0 x1 i) (val_main_v59 (F := F) i) := rfl

def val_main_v61 (x0 : (⟨S5000x6, .f32⟩ : BufTy).Contents (Elt F)) (x1 : (⟨S2000x5, .f32⟩ : BufTy).Contents (Elt F)) : (⟨S5000x2000, .f32⟩ : BufTy).Contents (Elt F) :=
  Host.divf (val_main_v52 (F := F) x0 x1) (val_main_v60 (F := F) x0 x1)
theorem val_main_v61_apply (x0 : (⟨S5000x6, .f32⟩ : BufTy).Contents (Elt F)) (x1 : (⟨S2000x5, .f32⟩ : BufTy).Contents (Elt F)) (i : S5000x2000.Idx) :
    val_main_v61 (F := F) x0 x1 i = FloatOps.hostDivf (val_main_v52 (F := F) x0 x1 i) (val_main_v60 (F := F) x0 x1 i) := rfl

def val_main_cst_1 : (⟨S_, .f32⟩ : BufTy).Contents (Elt F) :=
  constant S_ .f32 0xFF800000#32
theorem val_main_cst_1_apply (i : S_.Idx) :
    val_main_cst_1 (F := F) i = FloatOps.ofBits .f32 0xFF800000#32 := rfl

def val_main_v62 (x0 : (⟨S5000x6, .f32⟩ : BufTy).Contents (Elt F)) (x1 : (⟨S2000x5, .f32⟩ : BufTy).Contents (Elt F)) : (⟨S5000, .f32⟩ : BufTy).Contents (Elt F) :=
  Host.reduce FloatOps.maximumf (val_main_v61 (F := F) x0 x1) (val_main_cst_1 (F := F)) reducesTo_S5000x2000_S5000_d1 h_S_

def val_main_call1_v0 : (⟨S5000x2000, .i32⟩ : BufTy).Contents (Elt F) :=
  iotaInDim S5000x2000 32 1
theorem val_main_call1_v0_apply (i : S5000x2000.Idx) :
    val_main_call1_v0 (F := F) i = BitVec.ofNat 32 (i 1).val := rfl

def val_main_call1_cst : (⟨S_, .f32⟩ : BufTy).Contents (Elt F) :=
  constant S_ .f32 0xFF800000#32
theorem val_main_call1_cst_apply (i : S_.Idx) :
    val_main_call1_cst (F := F) i = FloatOps.ofBits .f32 0xFF800000#32 := rfl

def val_main_call1_c : (⟨S_, .i32⟩ : BufTy).Contents (Elt F) :=
  constantI S_ 32 0#32
theorem val_main_call1_c_apply (i : S_.Idx) :
    val_main_call1_c (F := F) i = 0#32 := rfl

def val_main_call1_v1_0 (x0 : (⟨S5000x6, .f32⟩ : BufTy).Contents (Elt F)) (x1 : (⟨S2000x5, .f32⟩ : BufTy).Contents (Elt F)) : (⟨S5000, .f32⟩ : BufTy).Contents (Elt F) :=
  (fun j => (Host.argReduce reducer_argmax_f32_i32 (val_main_v61 (F := F) x0 x1) (val_main_call1_v0 (F := F)) (val_main_call1_cst (F := F)) (val_main_call1_c (F := F)) reducesTo_S5000x2000_S5000_d1 h_S_ j).1)

def val_main_v63 (x0 : (⟨S5000x6, .f32⟩ : BufTy).Contents (Elt F)) (x1 : (⟨S2000x5, .f32⟩ : BufTy).Contents (Elt F)) : (⟨S5000, .i32⟩ : BufTy).Contents (Elt F) :=
  (fun j => (Host.argReduce reducer_argmax_f32_i32 (val_main_v61 (F := F) x0 x1) (val_main_call1_v0 (F := F)) (val_main_call1_cst (F := F)) (val_main_call1_c (F := F)) reducesTo_S5000x2000_S5000_d1 h_S_ j).2)

def val_main_cst_2 : (⟨S_, .f32⟩ : BufTy).Contents (Elt F) :=
  constant S_ .f32 0x3EE66666#32
theorem val_main_cst_2_apply (i : S_.Idx) :
    val_main_cst_2 (F := F) i = FloatOps.ofBits .f32 0x3EE66666#32 := rfl

def val_main_v64 : (⟨S5000, .f32⟩ : BufTy).Contents (Elt F) :=
  broadcastInDim S5000 ![] bcast_S_S5000 (val_main_cst_2 (F := F))
abbrev idx_main_v64 (i : S5000.Idx) : S_.Idx := fun a => a.elim0
theorem val_main_v64_apply (i : S5000.Idx) :
    val_main_v64 (F := F) i = val_main_cst_2 (F := F) (idx_main_v64 i) := by
  unfold val_main_v64
  generalize val_main_cst_2 (F := F) = y
  exact broadcastInDim_apply _ bcast_S_S5000 y i (idx_main_v64 i) (fun a => a.elim0)

def val_main_v65 (x0 : (⟨S5000x6, .f32⟩ : BufTy).Contents (Elt F)) (x1 : (⟨S2000x5, .f32⟩ : BufTy).Contents (Elt F)) : (⟨S5000, .i1⟩ : BufTy).Contents (Elt F) :=
  cmpf .ogt (val_main_v62 (F := F) x0 x1) (val_main_v64 (F := F))
theorem val_main_v65_apply (x0 : (⟨S5000x6, .f32⟩ : BufTy).Contents (Elt F)) (x1 : (⟨S2000x5, .f32⟩ : BufTy).Contents (Elt F)) (i : S5000.Idx) :
    val_main_v65 (F := F) x0 x1 i = FloatOps.cmpf .ogt (val_main_v62 (F := F) x0 x1 i) (val_main_v64 (F := F) i) := rfl

def val_main_v66 (x0 : (⟨S5000x6, .f32⟩ : BufTy).Contents (Elt F)) (x1 : (⟨S2000x5, .f32⟩ : BufTy).Contents (Elt F)) : (⟨S5000, .f32⟩ : BufTy).Contents (Elt F) :=
  uitofp .f32 (val_main_v65 (F := F) x0 x1)
theorem val_main_v66_apply (x0 : (⟨S5000x6, .f32⟩ : BufTy).Contents (Elt F)) (x1 : (⟨S2000x5, .f32⟩ : BufTy).Contents (Elt F)) (i : S5000.Idx) :
    val_main_v66 (F := F) x0 x1 i = FloatOps.uitofp .f32 (val_main_v65 (F := F) x0 x1 i) := rfl

def val_main_cst_3 : (⟨S_, .f32⟩ : BufTy).Contents (Elt F) :=
  constant S_ .f32 0x00000000#32
theorem val_main_cst_3_apply (i : S_.Idx) :
    val_main_cst_3 (F := F) i = FloatOps.ofBits .f32 0x00000000#32 := rfl

def val_main_v67 (x0 : (⟨S5000x6, .f32⟩ : BufTy).Contents (Elt F)) (x1 : (⟨S2000x5, .f32⟩ : BufTy).Contents (Elt F)) : (⟨S_, .f32⟩ : BufTy).Contents (Elt F) :=
  Host.reduceAdd (val_main_v66 (F := F) x0 x1) (val_main_cst_3 (F := F)) reducesTo_S5000_S_d0 h_S_
/-- Stated at `F := Ideal`, where the host's float sum is this sum; at a bit-exact instance it is an opaque function of its operand. -/
theorem val_main_v67_apply (x0 : (⟨S5000x6, .f32⟩ : BufTy).Contents (Elt Ideal)) (x1 : (⟨S2000x5, .f32⟩ : BufTy).Contents (Elt Ideal)) (i : S_.Idx) :
    val_main_v67 (F := Ideal) x0 x1 i = (val_main_cst_3 (F := Ideal)) (Shape.Idx.first h_S_) + ∑ j : S5000.Idx, (val_main_v66 (F := Ideal) x0 x1) j := by
  unfold val_main_v67
  generalize val_main_v66 (F := Ideal) x0 x1 = y0
  simp only [Host.reduceAdd, Ideal.hostReduceAdd_def]
  exact Ideal.hostReduceAdd_total reducesTo_S5000_S_d0 (fun b => b.elim0) y0 _ i

def val_main_cst_4 : (⟨S_, .f32⟩ : BufTy).Contents (Elt F) :=
  constant S_ .f32 0x3F800000#32
theorem val_main_cst_4_apply (i : S_.Idx) :
    val_main_cst_4 (F := F) i = FloatOps.ofBits .f32 0x3F800000#32 := rfl

def val_main_v68 (x0 : (⟨S5000x6, .f32⟩ : BufTy).Contents (Elt F)) (x1 : (⟨S2000x5, .f32⟩ : BufTy).Contents (Elt F)) : (⟨S_, .f32⟩ : BufTy).Contents (Elt F) :=
  maximumf (val_main_v67 (F := F) x0 x1) (val_main_cst_4 (F := F))
theorem val_main_v68_apply (x0 : (⟨S5000x6, .f32⟩ : BufTy).Contents (Elt F)) (x1 : (⟨S2000x5, .f32⟩ : BufTy).Contents (Elt F)) (i : S_.Idx) :
    val_main_v68 (F := F) x0 x1 i = FloatOps.maximumf (val_main_v67 (F := F) x0 x1 i) (val_main_cst_4 (F := F) i) := rfl

def val_main_c : (⟨S_, .i32⟩ : BufTy).Contents (Elt F) :=
  constantI S_ 32 0#32
theorem val_main_c_apply (i : S_.Idx) :
    val_main_c (F := F) i = 0#32 := rfl

def val_main_v69 : (⟨S5000, .i32⟩ : BufTy).Contents (Elt F) :=
  broadcastInDim S5000 ![] bcast_S_S5000 (val_main_c (F := F))
abbrev idx_main_v69 (i : S5000.Idx) : S_.Idx := fun a => a.elim0
theorem val_main_v69_apply (i : S5000.Idx) :
    val_main_v69 (F := F) i = val_main_c (F := F) (idx_main_v69 i) := by
  unfold val_main_v69
  generalize val_main_c (F := F) = y
  exact broadcastInDim_apply _ bcast_S_S5000 y i (idx_main_v69 i) (fun a => a.elim0)

def val_main_v70 (x0 : (⟨S5000x6, .f32⟩ : BufTy).Contents (Elt F)) (x1 : (⟨S2000x5, .f32⟩ : BufTy).Contents (Elt F)) : (⟨S5000, .i1⟩ : BufTy).Contents (Elt F) :=
  cmpi .slt (val_main_v63 (F := F) x0 x1) (val_main_v69 (F := F))
theorem val_main_v70_apply (x0 : (⟨S5000x6, .f32⟩ : BufTy).Contents (Elt F)) (x1 : (⟨S2000x5, .f32⟩ : BufTy).Contents (Elt F)) (i : S5000.Idx) :
    val_main_v70 (F := F) x0 x1 i = IntOp.cmpi .slt (val_main_v63 (F := F) x0 x1 i) (val_main_v69 (F := F) i) := rfl

def val_main_c_5 : (⟨S_, .i32⟩ : BufTy).Contents (Elt F) :=
  constantI S_ 32 2000#32
theorem val_main_c_5_apply (i : S_.Idx) :
    val_main_c_5 (F := F) i = 2000#32 := rfl

def val_main_v71 : (⟨S5000, .i32⟩ : BufTy).Contents (Elt F) :=
  broadcastInDim S5000 ![] bcast_S_S5000 (val_main_c_5 (F := F))
abbrev idx_main_v71 (i : S5000.Idx) : S_.Idx := fun a => a.elim0
theorem val_main_v71_apply (i : S5000.Idx) :
    val_main_v71 (F := F) i = val_main_c_5 (F := F) (idx_main_v71 i) := by
  unfold val_main_v71
  generalize val_main_c_5 (F := F) = y
  exact broadcastInDim_apply _ bcast_S_S5000 y i (idx_main_v71 i) (fun a => a.elim0)

def val_main_v72 (x0 : (⟨S5000x6, .f32⟩ : BufTy).Contents (Elt F)) (x1 : (⟨S2000x5, .f32⟩ : BufTy).Contents (Elt F)) : (⟨S5000, .i32⟩ : BufTy).Contents (Elt F) :=
  addi (val_main_v63 (F := F) x0 x1) (val_main_v71 (F := F))
theorem val_main_v72_apply (x0 : (⟨S5000x6, .f32⟩ : BufTy).Contents (Elt F)) (x1 : (⟨S2000x5, .f32⟩ : BufTy).Contents (Elt F)) (i : S5000.Idx) :
    val_main_v72 (F := F) x0 x1 i = IntOp.addi (val_main_v63 (F := F) x0 x1 i) (val_main_v71 (F := F) i) := rfl

def val_main_v73 (x0 : (⟨S5000x6, .f32⟩ : BufTy).Contents (Elt F)) (x1 : (⟨S2000x5, .f32⟩ : BufTy).Contents (Elt F)) : (⟨S5000, .i32⟩ : BufTy).Contents (Elt F) :=
  select (val_main_v70 (F := F) x0 x1) (val_main_v72 (F := F) x0 x1) (val_main_v63 (F := F) x0 x1)
theorem val_main_v73_apply (x0 : (⟨S5000x6, .f32⟩ : BufTy).Contents (Elt F)) (x1 : (⟨S2000x5, .f32⟩ : BufTy).Contents (Elt F)) (i : S5000.Idx) :
    val_main_v73 (F := F) x0 x1 i = Scalar.select (val_main_v70 (F := F) x0 x1 i) (val_main_v72 (F := F) x0 x1 i) (val_main_v63 (F := F) x0 x1 i) := rfl

def val_main_v74 (x0 : (⟨S5000x6, .f32⟩ : BufTy).Contents (Elt F)) (x1 : (⟨S2000x5, .f32⟩ : BufTy).Contents (Elt F)) : (⟨S5000x1, .i32⟩ : BufTy).Contents (Elt F) :=
  broadcastInDim S5000x1 ![0] bcast_S5000_S5000x1_0 (val_main_v73 (F := F) x0 x1)
abbrev idx_main_v74 (i : S5000x1.Idx) : S5000.Idx := fun a => match a with
  | ⟨0, _⟩ => ⟨(i 0).val, (i 0).isLt⟩
theorem val_main_v74_apply (x0 : (⟨S5000x6, .f32⟩ : BufTy).Contents (Elt F)) (x1 : (⟨S2000x5, .f32⟩ : BufTy).Contents (Elt F)) (i : S5000x1.Idx) :
    val_main_v74 (F := F) x0 x1 i = val_main_v73 (F := F) x0 x1 (idx_main_v74 i) := by
  unfold val_main_v74
  generalize val_main_v73 (F := F) x0 x1 = y
  exact broadcastInDim_apply _ bcast_S5000_S5000x1_0 y i (idx_main_v74 i) (fun a => match a with
    | ⟨0, _⟩ => by show (i 0).val = if (5000 : Nat) = 1 then 0 else (i 0).val; rw [if_neg (by decide)])

end Cert.ReferenceIdeal.Read

end

end
-- ==== Proof.RefReadB.lean ====
/- The reference one operation at a time (second part), and its result buffer as the last of these values. -/
module

public import proofs.«01_k».proof.Proof.RefReadA
public import proofs.«01_k».proof.Proof.RefRun

@[expose] public section

set_option Elab.async false

noncomputable section

namespace Cert.ReferenceIdeal.Read

open Cert.ReferenceIdeal Cert.ReferenceIdeal.Gen Idealize.ShloMosaic Idealize.ShloMosaic.TcCoe Idealize.SL.Sem Idealize.ShloMosaic.StableHlo Cert.ReferenceIdeal.Value

variable {F : FTy → Type} [FloatOps F]

def val_main_v75 (x0 : (⟨S5000x6, .f32⟩ : BufTy).Contents (Elt F)) (x1 : (⟨S2000x5, .f32⟩ : BufTy).Contents (Elt F)) : (⟨S5000x4, .f32⟩ : BufTy).Contents (Elt F) :=
  Host.gather gather_S2000x4_S5000x1_S5000x4_1_0_n_n_0_1_14 (val_main_v6 (F := F) x1) (val_main_v74 (F := F) x0 x1)

def val_main_c_6 : (⟨S_, .i32⟩ : BufTy).Contents (Elt F) :=
  constantI S_ 32 0#32
theorem val_main_c_6_apply (i : S_.Idx) :
    val_main_c_6 (F := F) i = 0#32 := rfl

def val_main_v76 : (⟨S5000, .i32⟩ : BufTy).Contents (Elt F) :=
  broadcastInDim S5000 ![] bcast_S_S5000 (val_main_c_6 (F := F))
abbrev idx_main_v76 (i : S5000.Idx) : S_.Idx := fun a => a.elim0
theorem val_main_v76_apply (i : S5000.Idx) :
    val_main_v76 (F := F) i = val_main_c_6 (F := F) (idx_main_v76 i) := by
  unfold val_main_v76
  generalize val_main_c_6 (F := F) = y
  exact broadcastInDim_apply _ bcast_S_S5000 y i (idx_main_v76 i) (fun a => a.elim0)

def val_main_v77 (x0 : (⟨S5000x6, .f32⟩ : BufTy).Contents (Elt F)) (x1 : (⟨S2000x5, .f32⟩ : BufTy).Contents (Elt F)) : (⟨S5000, .i1⟩ : BufTy).Contents (Elt F) :=
  cmpi .slt (val_main_v63 (F := F) x0 x1) (val_main_v76 (F := F))
theorem val_main_v77_apply (x0 : (⟨S5000x6, .f32⟩ : BufTy).Contents (Elt F)) (x1 : (⟨S2000x5, .f32⟩ : BufTy).Contents (Elt F)) (i : S5000.Idx) :
    val_main_v77 (F := F) x0 x1 i = IntOp.cmpi .slt (val_main_v63 (F := F) x0 x1 i) (val_main_v76 (F := F) i) := rfl

def val_main_c_7 : (⟨S_, .i32⟩ : BufTy).Contents (Elt F) :=
  constantI S_ 32 2000#32
theorem val_main_c_7_apply (i : S_.Idx) :
    val_main_c_7 (F := F) i = 2000#32 := rfl

def val_main_v78 : (⟨S5000, .i32⟩ : BufTy).Contents (Elt F) :=
  broadcastInDim S5000 ![] bcast_S_S5000 (val_main_c_7 (F := F))
abbrev idx_main_v78 (i : S5000.Idx) : S_.Idx := fun a => a.elim0
theorem val_main_v78_apply (i : S5000.Idx) :
    val_main_v78 (F := F) i = val_main_c_7 (F := F) (idx_main_v78 i) := by
  unfold val_main_v78
  generalize val_main_c_7 (F := F) = y
  exact broadcastInDim_apply _ bcast_S_S5000 y i (idx_main_v78 i) (fun a => a.elim0)

def val_main_v79 (x0 : (⟨S5000x6, .f32⟩ : BufTy).Contents (Elt F)) (x1 : (⟨S2000x5, .f32⟩ : BufTy).Contents (Elt F)) : (⟨S5000, .i32⟩ : BufTy).Contents (Elt F) :=
  addi (val_main_v63 (F := F) x0 x1) (val_main_v78 (F := F))
theorem val_main_v79_apply (x0 : (⟨S5000x6, .f32⟩ : BufTy).Contents (Elt F)) (x1 : (⟨S2000x5, .f32⟩ : BufTy).Contents (Elt F)) (i : S5000.Idx) :
    val_main_v79 (F := F) x0 x1 i = IntOp.addi (val_main_v63 (F := F) x0 x1 i) (val_main_v78 (F := F) i) := rfl

def val_main_v80 (x0 : (⟨S5000x6, .f32⟩ : BufTy).Contents (Elt F)) (x1 : (⟨S2000x5, .f32⟩ : BufTy).Contents (Elt F)) : (⟨S5000, .i32⟩ : BufTy).Contents (Elt F) :=
  select (val_main_v77 (F := F) x0 x1) (val_main_v79 (F := F) x0 x1) (val_main_v63 (F := F) x0 x1)
theorem val_main_v80_apply (x0 : (⟨S5000x6, .f32⟩ : BufTy).Contents (Elt F)) (x1 : (⟨S2000x5, .f32⟩ : BufTy).Contents (Elt F)) (i : S5000.Idx) :
    val_main_v80 (F := F) x0 x1 i = Scalar.select (val_main_v77 (F := F) x0 x1 i) (val_main_v79 (F := F) x0 x1 i) (val_main_v63 (F := F) x0 x1 i) := rfl

def val_main_v81 (x0 : (⟨S5000x6, .f32⟩ : BufTy).Contents (Elt F)) (x1 : (⟨S2000x5, .f32⟩ : BufTy).Contents (Elt F)) : (⟨S5000x1, .i32⟩ : BufTy).Contents (Elt F) :=
  broadcastInDim S5000x1 ![0] bcast_S5000_S5000x1_0 (val_main_v80 (F := F) x0 x1)
abbrev idx_main_v81 (i : S5000x1.Idx) : S5000.Idx := fun a => match a with
  | ⟨0, _⟩ => ⟨(i 0).val, (i 0).isLt⟩
theorem val_main_v81_apply (x0 : (⟨S5000x6, .f32⟩ : BufTy).Contents (Elt F)) (x1 : (⟨S2000x5, .f32⟩ : BufTy).Contents (Elt F)) (i : S5000x1.Idx) :
    val_main_v81 (F := F) x0 x1 i = val_main_v80 (F := F) x0 x1 (idx_main_v81 i) := by
  unfold val_main_v81
  generalize val_main_v80 (F := F) x0 x1 = y
  exact broadcastInDim_apply _ bcast_S5000_S5000x1_0 y i (idx_main_v81 i) (fun a => match a with
    | ⟨0, _⟩ => by show (i 0).val = if (5000 : Nat) = 1 then 0 else (i 0).val; rw [if_neg (by decide)])

def val_main_v82 (x0 : (⟨S5000x6, .f32⟩ : BufTy).Contents (Elt F)) (x1 : (⟨S2000x5, .f32⟩ : BufTy).Contents (Elt F)) : (⟨S5000, .i32⟩ : BufTy).Contents (Elt F) :=
  Host.gather gather_S2000_S5000x1_S5000_n_0_n_n_0_1_1 (val_main_v9 (F := F) x1) (val_main_v81 (F := F) x0 x1)

def val_main_v83 : (⟨S5000, .i32⟩ : BufTy).Contents (Elt F) :=
  iotaInDim S5000 32 0
theorem val_main_v83_apply (i : S5000.Idx) :
    val_main_v83 (F := F) i = BitVec.ofNat 32 (i 0).val := rfl

def val_main_cst_8 : (⟨S_, .f32⟩ : BufTy).Contents (Elt F) :=
  constant S_ .f32 0x00000000#32
theorem val_main_cst_8_apply (i : S_.Idx) :
    val_main_cst_8 (F := F) i = FloatOps.ofBits .f32 0x00000000#32 := rfl

def val_main_v84 : (⟨S5000x80, .f32⟩ : BufTy).Contents (Elt F) :=
  broadcastInDim S5000x80 ![] bcast_S_S5000x80 (val_main_cst_8 (F := F))
abbrev idx_main_v84 (i : S5000x80.Idx) : S_.Idx := fun a => a.elim0
theorem val_main_v84_apply (i : S5000x80.Idx) :
    val_main_v84 (F := F) i = val_main_cst_8 (F := F) (idx_main_v84 i) := by
  unfold val_main_v84
  generalize val_main_cst_8 (F := F) = y
  exact broadcastInDim_apply _ bcast_S_S5000x80 y i (idx_main_v84 i) (fun a => a.elim0)

def val_main_v85 (x0 : (⟨S5000x6, .f32⟩ : BufTy).Contents (Elt F)) (x1 : (⟨S2000x5, .f32⟩ : BufTy).Contents (Elt F)) : (⟨S5000, .f32⟩ : BufTy).Contents (Elt F) :=
  mulf (val_main_v2 (F := F) x0) (val_main_v66 (F := F) x0 x1)
theorem val_main_v85_apply (x0 : (⟨S5000x6, .f32⟩ : BufTy).Contents (Elt F)) (x1 : (⟨S2000x5, .f32⟩ : BufTy).Contents (Elt F)) (i : S5000.Idx) :
    val_main_v85 (F := F) x0 x1 i = FloatOps.mulf (val_main_v2 (F := F) x0 i) (val_main_v66 (F := F) x0 x1 i) := rfl

def val_main_c_9 : (⟨S_, .i32⟩ : BufTy).Contents (Elt F) :=
  constantI S_ 32 0#32
theorem val_main_c_9_apply (i : S_.Idx) :
    val_main_c_9 (F := F) i = 0#32 := rfl

def val_main_v86 : (⟨S5000, .i32⟩ : BufTy).Contents (Elt F) :=
  broadcastInDim S5000 ![] bcast_S_S5000 (val_main_c_9 (F := F))
abbrev idx_main_v86 (i : S5000.Idx) : S_.Idx := fun a => a.elim0
theorem val_main_v86_apply (i : S5000.Idx) :
    val_main_v86 (F := F) i = val_main_c_9 (F := F) (idx_main_v86 i) := by
  unfold val_main_v86
  generalize val_main_c_9 (F := F) = y
  exact broadcastInDim_apply _ bcast_S_S5000 y i (idx_main_v86 i) (fun a => a.elim0)

def val_main_v87 : (⟨S5000, .i1⟩ : BufTy).Contents (Elt F) :=
  cmpi .slt (val_main_v83 (F := F)) (val_main_v86 (F := F))
theorem val_main_v87_apply (i : S5000.Idx) :
    val_main_v87 (F := F) i = IntOp.cmpi .slt (val_main_v83 (F := F) i) (val_main_v86 (F := F) i) := rfl

def val_main_c_10 : (⟨S_, .i32⟩ : BufTy).Contents (Elt F) :=
  constantI S_ 32 5000#32
theorem val_main_c_10_apply (i : S_.Idx) :
    val_main_c_10 (F := F) i = 5000#32 := rfl

def val_main_v88 : (⟨S5000, .i32⟩ : BufTy).Contents (Elt F) :=
  broadcastInDim S5000 ![] bcast_S_S5000 (val_main_c_10 (F := F))
abbrev idx_main_v88 (i : S5000.Idx) : S_.Idx := fun a => a.elim0
theorem val_main_v88_apply (i : S5000.Idx) :
    val_main_v88 (F := F) i = val_main_c_10 (F := F) (idx_main_v88 i) := by
  unfold val_main_v88
  generalize val_main_c_10 (F := F) = y
  exact broadcastInDim_apply _ bcast_S_S5000 y i (idx_main_v88 i) (fun a => a.elim0)

def val_main_v89 : (⟨S5000, .i32⟩ : BufTy).Contents (Elt F) :=
  addi (val_main_v83 (F := F)) (val_main_v88 (F := F))
theorem val_main_v89_apply (i : S5000.Idx) :
    val_main_v89 (F := F) i = IntOp.addi (val_main_v83 (F := F) i) (val_main_v88 (F := F) i) := rfl

def val_main_v90 : (⟨S5000, .i32⟩ : BufTy).Contents (Elt F) :=
  select (val_main_v87 (F := F)) (val_main_v89 (F := F)) (val_main_v83 (F := F))
theorem val_main_v90_apply (i : S5000.Idx) :
    val_main_v90 (F := F) i = Scalar.select (val_main_v87 (F := F) i) (val_main_v89 (F := F) i) (val_main_v83 (F := F) i) := rfl

def val_main_c_11 : (⟨S_, .i32⟩ : BufTy).Contents (Elt F) :=
  constantI S_ 32 0#32
theorem val_main_c_11_apply (i : S_.Idx) :
    val_main_c_11 (F := F) i = 0#32 := rfl

def val_main_v91 : (⟨S5000, .i32⟩ : BufTy).Contents (Elt F) :=
  broadcastInDim S5000 ![] bcast_S_S5000 (val_main_c_11 (F := F))
abbrev idx_main_v91 (i : S5000.Idx) : S_.Idx := fun a => a.elim0
theorem val_main_v91_apply (i : S5000.Idx) :
    val_main_v91 (F := F) i = val_main_c_11 (F := F) (idx_main_v91 i) := by
  unfold val_main_v91
  generalize val_main_c_11 (F := F) = y
  exact broadcastInDim_apply _ bcast_S_S5000 y i (idx_main_v91 i) (fun a => a.elim0)

def val_main_v92 (x0 : (⟨S5000x6, .f32⟩ : BufTy).Contents (Elt F)) : (⟨S5000, .i1⟩ : BufTy).Contents (Elt F) :=
  cmpi .slt (val_main_v5 (F := F) x0) (val_main_v91 (F := F))
theorem val_main_v92_apply (x0 : (⟨S5000x6, .f32⟩ : BufTy).Contents (Elt F)) (i : S5000.Idx) :
    val_main_v92 (F := F) x0 i = IntOp.cmpi .slt (val_main_v5 (F := F) x0 i) (val_main_v91 (F := F) i) := rfl

def val_main_c_12 : (⟨S_, .i32⟩ : BufTy).Contents (Elt F) :=
  constantI S_ 32 80#32
theorem val_main_c_12_apply (i : S_.Idx) :
    val_main_c_12 (F := F) i = 80#32 := rfl

def val_main_v93 : (⟨S5000, .i32⟩ : BufTy).Contents (Elt F) :=
  broadcastInDim S5000 ![] bcast_S_S5000 (val_main_c_12 (F := F))
abbrev idx_main_v93 (i : S5000.Idx) : S_.Idx := fun a => a.elim0
theorem val_main_v93_apply (i : S5000.Idx) :
    val_main_v93 (F := F) i = val_main_c_12 (F := F) (idx_main_v93 i) := by
  unfold val_main_v93
  generalize val_main_c_12 (F := F) = y
  exact broadcastInDim_apply _ bcast_S_S5000 y i (idx_main_v93 i) (fun a => a.elim0)

def val_main_v94 (x0 : (⟨S5000x6, .f32⟩ : BufTy).Contents (Elt F)) : (⟨S5000, .i32⟩ : BufTy).Contents (Elt F) :=
  addi (val_main_v5 (F := F) x0) (val_main_v93 (F := F))
theorem val_main_v94_apply (x0 : (⟨S5000x6, .f32⟩ : BufTy).Contents (Elt F)) (i : S5000.Idx) :
    val_main_v94 (F := F) x0 i = IntOp.addi (val_main_v5 (F := F) x0 i) (val_main_v93 (F := F) i) := rfl

def val_main_v95 (x0 : (⟨S5000x6, .f32⟩ : BufTy).Contents (Elt F)) : (⟨S5000, .i32⟩ : BufTy).Contents (Elt F) :=
  select (val_main_v92 (F := F) x0) (val_main_v94 (F := F) x0) (val_main_v5 (F := F) x0)
theorem val_main_v95_apply (x0 : (⟨S5000x6, .f32⟩ : BufTy).Contents (Elt F)) (i : S5000.Idx) :
    val_main_v95 (F := F) x0 i = Scalar.select (val_main_v92 (F := F) x0 i) (val_main_v94 (F := F) x0 i) (val_main_v5 (F := F) x0 i) := rfl

def val_main_v96 : (⟨S5000x1, .i32⟩ : BufTy).Contents (Elt F) :=
  broadcastInDim S5000x1 ![0] bcast_S5000_S5000x1_0 (val_main_v90 (F := F))
abbrev idx_main_v96 (i : S5000x1.Idx) : S5000.Idx := fun a => match a with
  | ⟨0, _⟩ => ⟨(i 0).val, (i 0).isLt⟩
theorem val_main_v96_apply (i : S5000x1.Idx) :
    val_main_v96 (F := F) i = val_main_v90 (F := F) (idx_main_v96 i) := by
  unfold val_main_v96
  generalize val_main_v90 (F := F) = y
  exact broadcastInDim_apply _ bcast_S5000_S5000x1_0 y i (idx_main_v96 i) (fun a => match a with
    | ⟨0, _⟩ => by show (i 0).val = if (5000 : Nat) = 1 then 0 else (i 0).val; rw [if_neg (by decide)])

def val_main_v97 (x0 : (⟨S5000x6, .f32⟩ : BufTy).Contents (Elt F)) : (⟨S5000x1, .i32⟩ : BufTy).Contents (Elt F) :=
  broadcastInDim S5000x1 ![0] bcast_S5000_S5000x1_0 (val_main_v95 (F := F) x0)
abbrev idx_main_v97 (i : S5000x1.Idx) : S5000.Idx := fun a => match a with
  | ⟨0, _⟩ => ⟨(i 0).val, (i 0).isLt⟩
theorem val_main_v97_apply (x0 : (⟨S5000x6, .f32⟩ : BufTy).Contents (Elt F)) (i : S5000x1.Idx) :
    val_main_v97 (F := F) x0 i = val_main_v95 (F := F) x0 (idx_main_v97 i) := by
  unfold val_main_v97
  generalize val_main_v95 (F := F) x0 = y
  exact broadcastInDim_apply _ bcast_S5000_S5000x1_0 y i (idx_main_v97 i) (fun a => match a with
    | ⟨0, _⟩ => by show (i 0).val = if (5000 : Nat) = 1 then 0 else (i 0).val; rw [if_neg (by decide)])

def val_main_v98 (x0 : (⟨S5000x6, .f32⟩ : BufTy).Contents (Elt F)) : (⟨S5000x2, .i32⟩ : BufTy).Contents (Elt F) :=
  concatenate S5000x2 1 [⟨S5000x1, (val_main_v96 (F := F))⟩, ⟨S5000x1, (val_main_v97 (F := F) x0)⟩] concatenates_S5000x1_S5000x1_S5000x2_d1

def val_main_v99 (x0 : (⟨S5000x6, .f32⟩ : BufTy).Contents (Elt F)) (x1 : (⟨S2000x5, .f32⟩ : BufTy).Contents (Elt F)) : (⟨S5000x80, .f32⟩ : BufTy).Contents (Elt F) :=
  Host.scatter scatter_S5000x80_S5000x2_S5000_n_01_01_1 (fun _ b => b) (val_main_v84 (F := F)) (val_main_v98 (F := F) x0) (val_main_v85 (F := F) x0 x1)

def val_main_cst_13 : (⟨S_, .f32⟩ : BufTy).Contents (Elt F) :=
  constant S_ .f32 0x00000000#32
theorem val_main_cst_13_apply (i : S_.Idx) :
    val_main_cst_13 (F := F) i = FloatOps.ofBits .f32 0x00000000#32 := rfl

def val_main_v100 : (⟨S5000x80, .f32⟩ : BufTy).Contents (Elt F) :=
  broadcastInDim S5000x80 ![] bcast_S_S5000x80 (val_main_cst_13 (F := F))
abbrev idx_main_v100 (i : S5000x80.Idx) : S_.Idx := fun a => a.elim0
theorem val_main_v100_apply (i : S5000x80.Idx) :
    val_main_v100 (F := F) i = val_main_cst_13 (F := F) (idx_main_v100 i) := by
  unfold val_main_v100
  generalize val_main_cst_13 (F := F) = y
  exact broadcastInDim_apply _ bcast_S_S5000x80 y i (idx_main_v100 i) (fun a => a.elim0)

def val_main_c_14 : (⟨S_, .i32⟩ : BufTy).Contents (Elt F) :=
  constantI S_ 32 0#32
theorem val_main_c_14_apply (i : S_.Idx) :
    val_main_c_14 (F := F) i = 0#32 := rfl

def val_main_v101 : (⟨S5000, .i32⟩ : BufTy).Contents (Elt F) :=
  broadcastInDim S5000 ![] bcast_S_S5000 (val_main_c_14 (F := F))
abbrev idx_main_v101 (i : S5000.Idx) : S_.Idx := fun a => a.elim0
theorem val_main_v101_apply (i : S5000.Idx) :
    val_main_v101 (F := F) i = val_main_c_14 (F := F) (idx_main_v101 i) := by
  unfold val_main_v101
  generalize val_main_c_14 (F := F) = y
  exact broadcastInDim_apply _ bcast_S_S5000 y i (idx_main_v101 i) (fun a => a.elim0)

def val_main_v102 : (⟨S5000, .i1⟩ : BufTy).Contents (Elt F) :=
  cmpi .slt (val_main_v83 (F := F)) (val_main_v101 (F := F))
theorem val_main_v102_apply (i : S5000.Idx) :
    val_main_v102 (F := F) i = IntOp.cmpi .slt (val_main_v83 (F := F) i) (val_main_v101 (F := F) i) := rfl

def val_main_c_15 : (⟨S_, .i32⟩ : BufTy).Contents (Elt F) :=
  constantI S_ 32 5000#32
theorem val_main_c_15_apply (i : S_.Idx) :
    val_main_c_15 (F := F) i = 5000#32 := rfl

def val_main_v103 : (⟨S5000, .i32⟩ : BufTy).Contents (Elt F) :=
  broadcastInDim S5000 ![] bcast_S_S5000 (val_main_c_15 (F := F))
abbrev idx_main_v103 (i : S5000.Idx) : S_.Idx := fun a => a.elim0
theorem val_main_v103_apply (i : S5000.Idx) :
    val_main_v103 (F := F) i = val_main_c_15 (F := F) (idx_main_v103 i) := by
  unfold val_main_v103
  generalize val_main_c_15 (F := F) = y
  exact broadcastInDim_apply _ bcast_S_S5000 y i (idx_main_v103 i) (fun a => a.elim0)

def val_main_v104 : (⟨S5000, .i32⟩ : BufTy).Contents (Elt F) :=
  addi (val_main_v83 (F := F)) (val_main_v103 (F := F))
theorem val_main_v104_apply (i : S5000.Idx) :
    val_main_v104 (F := F) i = IntOp.addi (val_main_v83 (F := F) i) (val_main_v103 (F := F) i) := rfl

def val_main_v105 : (⟨S5000, .i32⟩ : BufTy).Contents (Elt F) :=
  select (val_main_v102 (F := F)) (val_main_v104 (F := F)) (val_main_v83 (F := F))
theorem val_main_v105_apply (i : S5000.Idx) :
    val_main_v105 (F := F) i = Scalar.select (val_main_v102 (F := F) i) (val_main_v104 (F := F) i) (val_main_v83 (F := F) i) := rfl

def val_main_c_16 : (⟨S_, .i32⟩ : BufTy).Contents (Elt F) :=
  constantI S_ 32 0#32
theorem val_main_c_16_apply (i : S_.Idx) :
    val_main_c_16 (F := F) i = 0#32 := rfl

def val_main_v106 : (⟨S5000, .i32⟩ : BufTy).Contents (Elt F) :=
  broadcastInDim S5000 ![] bcast_S_S5000 (val_main_c_16 (F := F))
abbrev idx_main_v106 (i : S5000.Idx) : S_.Idx := fun a => a.elim0
theorem val_main_v106_apply (i : S5000.Idx) :
    val_main_v106 (F := F) i = val_main_c_16 (F := F) (idx_main_v106 i) := by
  unfold val_main_v106
  generalize val_main_c_16 (F := F) = y
  exact broadcastInDim_apply _ bcast_S_S5000 y i (idx_main_v106 i) (fun a => a.elim0)

def val_main_v107 (x0 : (⟨S5000x6, .f32⟩ : BufTy).Contents (Elt F)) (x1 : (⟨S2000x5, .f32⟩ : BufTy).Contents (Elt F)) : (⟨S5000, .i1⟩ : BufTy).Contents (Elt F) :=
  cmpi .slt (val_main_v82 (F := F) x0 x1) (val_main_v106 (F := F))
theorem val_main_v107_apply (x0 : (⟨S5000x6, .f32⟩ : BufTy).Contents (Elt F)) (x1 : (⟨S2000x5, .f32⟩ : BufTy).Contents (Elt F)) (i : S5000.Idx) :
    val_main_v107 (F := F) x0 x1 i = IntOp.cmpi .slt (val_main_v82 (F := F) x0 x1 i) (val_main_v106 (F := F) i) := rfl

def val_main_c_17 : (⟨S_, .i32⟩ : BufTy).Contents (Elt F) :=
  constantI S_ 32 80#32
theorem val_main_c_17_apply (i : S_.Idx) :
    val_main_c_17 (F := F) i = 80#32 := rfl

def val_main_v108 : (⟨S5000, .i32⟩ : BufTy).Contents (Elt F) :=
  broadcastInDim S5000 ![] bcast_S_S5000 (val_main_c_17 (F := F))
abbrev idx_main_v108 (i : S5000.Idx) : S_.Idx := fun a => a.elim0
theorem val_main_v108_apply (i : S5000.Idx) :
    val_main_v108 (F := F) i = val_main_c_17 (F := F) (idx_main_v108 i) := by
  unfold val_main_v108
  generalize val_main_c_17 (F := F) = y
  exact broadcastInDim_apply _ bcast_S_S5000 y i (idx_main_v108 i) (fun a => a.elim0)

def val_main_v109 (x0 : (⟨S5000x6, .f32⟩ : BufTy).Contents (Elt F)) (x1 : (⟨S2000x5, .f32⟩ : BufTy).Contents (Elt F)) : (⟨S5000, .i32⟩ : BufTy).Contents (Elt F) :=
  addi (val_main_v82 (F := F) x0 x1) (val_main_v108 (F := F))
theorem val_main_v109_apply (x0 : (⟨S5000x6, .f32⟩ : BufTy).Contents (Elt F)) (x1 : (⟨S2000x5, .f32⟩ : BufTy).Contents (Elt F)) (i : S5000.Idx) :
    val_main_v109 (F := F) x0 x1 i = IntOp.addi (val_main_v82 (F := F) x0 x1 i) (val_main_v108 (F := F) i) := rfl

def val_main_v110 (x0 : (⟨S5000x6, .f32⟩ : BufTy).Contents (Elt F)) (x1 : (⟨S2000x5, .f32⟩ : BufTy).Contents (Elt F)) : (⟨S5000, .i32⟩ : BufTy).Contents (Elt F) :=
  select (val_main_v107 (F := F) x0 x1) (val_main_v109 (F := F) x0 x1) (val_main_v82 (F := F) x0 x1)
theorem val_main_v110_apply (x0 : (⟨S5000x6, .f32⟩ : BufTy).Contents (Elt F)) (x1 : (⟨S2000x5, .f32⟩ : BufTy).Contents (Elt F)) (i : S5000.Idx) :
    val_main_v110 (F := F) x0 x1 i = Scalar.select (val_main_v107 (F := F) x0 x1 i) (val_main_v109 (F := F) x0 x1 i) (val_main_v82 (F := F) x0 x1 i) := rfl

def val_main_v111 : (⟨S5000x1, .i32⟩ : BufTy).Contents (Elt F) :=
  broadcastInDim S5000x1 ![0] bcast_S5000_S5000x1_0 (val_main_v105 (F := F))
abbrev idx_main_v111 (i : S5000x1.Idx) : S5000.Idx := fun a => match a with
  | ⟨0, _⟩ => ⟨(i 0).val, (i 0).isLt⟩
theorem val_main_v111_apply (i : S5000x1.Idx) :
    val_main_v111 (F := F) i = val_main_v105 (F := F) (idx_main_v111 i) := by
  unfold val_main_v111
  generalize val_main_v105 (F := F) = y
  exact broadcastInDim_apply _ bcast_S5000_S5000x1_0 y i (idx_main_v111 i) (fun a => match a with
    | ⟨0, _⟩ => by show (i 0).val = if (5000 : Nat) = 1 then 0 else (i 0).val; rw [if_neg (by decide)])

def val_main_v112 (x0 : (⟨S5000x6, .f32⟩ : BufTy).Contents (Elt F)) (x1 : (⟨S2000x5, .f32⟩ : BufTy).Contents (Elt F)) : (⟨S5000x1, .i32⟩ : BufTy).Contents (Elt F) :=
  broadcastInDim S5000x1 ![0] bcast_S5000_S5000x1_0 (val_main_v110 (F := F) x0 x1)
abbrev idx_main_v112 (i : S5000x1.Idx) : S5000.Idx := fun a => match a with
  | ⟨0, _⟩ => ⟨(i 0).val, (i 0).isLt⟩
theorem val_main_v112_apply (x0 : (⟨S5000x6, .f32⟩ : BufTy).Contents (Elt F)) (x1 : (⟨S2000x5, .f32⟩ : BufTy).Contents (Elt F)) (i : S5000x1.Idx) :
    val_main_v112 (F := F) x0 x1 i = val_main_v110 (F := F) x0 x1 (idx_main_v112 i) := by
  unfold val_main_v112
  generalize val_main_v110 (F := F) x0 x1 = y
  exact broadcastInDim_apply _ bcast_S5000_S5000x1_0 y i (idx_main_v112 i) (fun a => match a with
    | ⟨0, _⟩ => by show (i 0).val = if (5000 : Nat) = 1 then 0 else (i 0).val; rw [if_neg (by decide)])

def val_main_v113 (x0 : (⟨S5000x6, .f32⟩ : BufTy).Contents (Elt F)) (x1 : (⟨S2000x5, .f32⟩ : BufTy).Contents (Elt F)) : (⟨S5000x2, .i32⟩ : BufTy).Contents (Elt F) :=
  concatenate S5000x2 1 [⟨S5000x1, (val_main_v111 (F := F))⟩, ⟨S5000x1, (val_main_v112 (F := F) x0 x1)⟩] concatenates_S5000x1_S5000x1_S5000x2_d1

def val_main_v114 (x0 : (⟨S5000x6, .f32⟩ : BufTy).Contents (Elt F)) (x1 : (⟨S2000x5, .f32⟩ : BufTy).Contents (Elt F)) : (⟨S5000x80, .f32⟩ : BufTy).Contents (Elt F) :=
  Host.scatter scatter_S5000x80_S5000x2_S5000_n_01_01_1 (fun _ b => b) (val_main_v100 (F := F)) (val_main_v113 (F := F) x0 x1) (val_main_v66 (F := F) x0 x1)

def val_main_cst_18 : (⟨S_, .f32⟩ : BufTy).Contents (Elt F) :=
  constant S_ .f32 0x00000000#32
theorem val_main_cst_18_apply (i : S_.Idx) :
    val_main_cst_18 (F := F) i = FloatOps.ofBits .f32 0x00000000#32 := rfl

def val_main_v115 : (⟨S5000x80, .f32⟩ : BufTy).Contents (Elt F) :=
  broadcastInDim S5000x80 ![] bcast_S_S5000x80 (val_main_cst_18 (F := F))
abbrev idx_main_v115 (i : S5000x80.Idx) : S_.Idx := fun a => a.elim0
theorem val_main_v115_apply (i : S5000x80.Idx) :
    val_main_v115 (F := F) i = val_main_cst_18 (F := F) (idx_main_v115 i) := by
  unfold val_main_v115
  generalize val_main_cst_18 (F := F) = y
  exact broadcastInDim_apply _ bcast_S_S5000x80 y i (idx_main_v115 i) (fun a => a.elim0)

def val_main_v116 (x0 : (⟨S5000x6, .f32⟩ : BufTy).Contents (Elt F)) (x1 : (⟨S2000x5, .f32⟩ : BufTy).Contents (Elt F)) : (⟨S5000x80, .i1⟩ : BufTy).Contents (Elt F) :=
  cmpf .ogt (val_main_v99 (F := F) x0 x1) (val_main_v115 (F := F))
theorem val_main_v116_apply (x0 : (⟨S5000x6, .f32⟩ : BufTy).Contents (Elt F)) (x1 : (⟨S2000x5, .f32⟩ : BufTy).Contents (Elt F)) (i : S5000x80.Idx) :
    val_main_v116 (F := F) x0 x1 i = FloatOps.cmpf .ogt (val_main_v99 (F := F) x0 x1 i) (val_main_v115 (F := F) i) := rfl

def val_main_cst_19 : (⟨S_, .f32⟩ : BufTy).Contents (Elt F) :=
  constant S_ .f32 0x3F800000#32
theorem val_main_cst_19_apply (i : S_.Idx) :
    val_main_cst_19 (F := F) i = FloatOps.ofBits .f32 0x3F800000#32 := rfl

def val_main_call2_v0 : (⟨S_, .f32⟩ : BufTy).Contents (Elt F) :=
  id (val_main_cst_19 (F := F))
theorem val_main_call2_v0_apply (i : S_.Idx) :
    val_main_call2_v0 (F := F) i = (val_main_cst_19 (F := F) i) := rfl

def val_main_call2_v1 : (⟨S5000x80, .f32⟩ : BufTy).Contents (Elt F) :=
  broadcastInDim S5000x80 ![] bcast_S_S5000x80 (val_main_call2_v0 (F := F))
abbrev idx_main_call2_v1 (i : S5000x80.Idx) : S_.Idx := fun a => a.elim0
theorem val_main_call2_v1_apply (i : S5000x80.Idx) :
    val_main_call2_v1 (F := F) i = val_main_call2_v0 (F := F) (idx_main_call2_v1 i) := by
  unfold val_main_call2_v1
  generalize val_main_call2_v0 (F := F) = y
  exact broadcastInDim_apply _ bcast_S_S5000x80 y i (idx_main_call2_v1 i) (fun a => a.elim0)

def val_main_v117 (x0 : (⟨S5000x6, .f32⟩ : BufTy).Contents (Elt F)) (x1 : (⟨S2000x5, .f32⟩ : BufTy).Contents (Elt F)) : (⟨S5000x80, .f32⟩ : BufTy).Contents (Elt F) :=
  select (val_main_v116 (F := F) x0 x1) (val_main_v99 (F := F) x0 x1) (val_main_call2_v1 (F := F))
theorem val_main_v117_apply (x0 : (⟨S5000x6, .f32⟩ : BufTy).Contents (Elt F)) (x1 : (⟨S2000x5, .f32⟩ : BufTy).Contents (Elt F)) (i : S5000x80.Idx) :
    val_main_v117 (F := F) x0 x1 i = Scalar.select (val_main_v116 (F := F) x0 x1 i) (val_main_v99 (F := F) x0 x1 i) (val_main_call2_v1 (F := F) i) := rfl

def val_main_cst_20 : (⟨S_, .f32⟩ : BufTy).Contents (Elt F) :=
  constant S_ .f32 0x00000000#32
theorem val_main_cst_20_apply (i : S_.Idx) :
    val_main_cst_20 (F := F) i = FloatOps.ofBits .f32 0x00000000#32 := rfl

def val_main_v118 : (⟨S5000x80, .f32⟩ : BufTy).Contents (Elt F) :=
  broadcastInDim S5000x80 ![] bcast_S_S5000x80 (val_main_cst_20 (F := F))
abbrev idx_main_v118 (i : S5000x80.Idx) : S_.Idx := fun a => a.elim0
theorem val_main_v118_apply (i : S5000x80.Idx) :
    val_main_v118 (F := F) i = val_main_cst_20 (F := F) (idx_main_v118 i) := by
  unfold val_main_v118
  generalize val_main_cst_20 (F := F) = y
  exact broadcastInDim_apply _ bcast_S_S5000x80 y i (idx_main_v118 i) (fun a => a.elim0)

def val_main_v119 (x0 : (⟨S5000x6, .f32⟩ : BufTy).Contents (Elt F)) (x1 : (⟨S2000x5, .f32⟩ : BufTy).Contents (Elt F)) : (⟨S5000x80, .i1⟩ : BufTy).Contents (Elt F) :=
  cmpf .ogt (val_main_v99 (F := F) x0 x1) (val_main_v118 (F := F))
theorem val_main_v119_apply (x0 : (⟨S5000x6, .f32⟩ : BufTy).Contents (Elt F)) (x1 : (⟨S2000x5, .f32⟩ : BufTy).Contents (Elt F)) (i : S5000x80.Idx) :
    val_main_v119 (F := F) x0 x1 i = FloatOps.cmpf .ogt (val_main_v99 (F := F) x0 x1 i) (val_main_v118 (F := F) i) := rfl

def val_main_v120 (x0 : (⟨S5000x6, .f32⟩ : BufTy).Contents (Elt F)) (x1 : (⟨S2000x5, .f32⟩ : BufTy).Contents (Elt F)) : (⟨S5000x80, .f32⟩ : BufTy).Contents (Elt F) :=
  Host.log (val_main_v117 (F := F) x0 x1)
theorem val_main_v120_apply (x0 : (⟨S5000x6, .f32⟩ : BufTy).Contents (Elt F)) (x1 : (⟨S2000x5, .f32⟩ : BufTy).Contents (Elt F)) (i : S5000x80.Idx) :
    val_main_v120 (F := F) x0 x1 i = FloatOps.hostUnary .log (val_main_v117 (F := F) x0 x1 i) := rfl

def val_main_cst_21 : (⟨S_, .f32⟩ : BufTy).Contents (Elt F) :=
  constant S_ .f32 0xC2C80000#32
theorem val_main_cst_21_apply (i : S_.Idx) :
    val_main_cst_21 (F := F) i = FloatOps.ofBits .f32 0xC2C80000#32 := rfl

def val_main_call3_v0 : (⟨S_, .f32⟩ : BufTy).Contents (Elt F) :=
  id (val_main_cst_21 (F := F))
theorem val_main_call3_v0_apply (i : S_.Idx) :
    val_main_call3_v0 (F := F) i = (val_main_cst_21 (F := F) i) := rfl

def val_main_call3_v1 : (⟨S5000x80, .f32⟩ : BufTy).Contents (Elt F) :=
  broadcastInDim S5000x80 ![] bcast_S_S5000x80 (val_main_call3_v0 (F := F))
abbrev idx_main_call3_v1 (i : S5000x80.Idx) : S_.Idx := fun a => a.elim0
theorem val_main_call3_v1_apply (i : S5000x80.Idx) :
    val_main_call3_v1 (F := F) i = val_main_call3_v0 (F := F) (idx_main_call3_v1 i) := by
  unfold val_main_call3_v1
  generalize val_main_call3_v0 (F := F) = y
  exact broadcastInDim_apply _ bcast_S_S5000x80 y i (idx_main_call3_v1 i) (fun a => a.elim0)

def val_main_v121 (x0 : (⟨S5000x6, .f32⟩ : BufTy).Contents (Elt F)) (x1 : (⟨S2000x5, .f32⟩ : BufTy).Contents (Elt F)) : (⟨S5000x80, .f32⟩ : BufTy).Contents (Elt F) :=
  select (val_main_v119 (F := F) x0 x1) (val_main_v120 (F := F) x0 x1) (val_main_call3_v1 (F := F))
theorem val_main_v121_apply (x0 : (⟨S5000x6, .f32⟩ : BufTy).Contents (Elt F)) (x1 : (⟨S2000x5, .f32⟩ : BufTy).Contents (Elt F)) (i : S5000x80.Idx) :
    val_main_v121 (F := F) x0 x1 i = Scalar.select (val_main_v119 (F := F) x0 x1 i) (val_main_v120 (F := F) x0 x1 i) (val_main_call3_v1 (F := F) i) := rfl

def val_main_v122 (x0 : (⟨S5000x6, .f32⟩ : BufTy).Contents (Elt F)) (x1 : (⟨S2000x5, .f32⟩ : BufTy).Contents (Elt F)) : (⟨S5000x80, .f32⟩ : BufTy).Contents (Elt F) :=
  Host.negf (val_main_v99 (F := F) x0 x1)
theorem val_main_v122_apply (x0 : (⟨S5000x6, .f32⟩ : BufTy).Contents (Elt F)) (x1 : (⟨S2000x5, .f32⟩ : BufTy).Contents (Elt F)) (i : S5000x80.Idx) :
    val_main_v122 (F := F) x0 x1 i = FloatOps.hostNegf (val_main_v99 (F := F) x0 x1 i) := rfl

def val_main_v123 (x0 : (⟨S5000x6, .f32⟩ : BufTy).Contents (Elt F)) (x1 : (⟨S2000x5, .f32⟩ : BufTy).Contents (Elt F)) : (⟨S5000x80, .f32⟩ : BufTy).Contents (Elt F) :=
  Host.log1p (val_main_v122 (F := F) x0 x1)
theorem val_main_v123_apply (x0 : (⟨S5000x6, .f32⟩ : BufTy).Contents (Elt F)) (x1 : (⟨S2000x5, .f32⟩ : BufTy).Contents (Elt F)) (i : S5000x80.Idx) :
    val_main_v123 (F := F) x0 x1 i = FloatOps.hostUnary .log1p (val_main_v122 (F := F) x0 x1 i) := rfl

def val_main_cst_22 : (⟨S_, .f32⟩ : BufTy).Contents (Elt F) :=
  constant S_ .f32 0xC2C80000#32
theorem val_main_cst_22_apply (i : S_.Idx) :
    val_main_cst_22 (F := F) i = FloatOps.ofBits .f32 0xC2C80000#32 := rfl

def val_main_v124 : (⟨S5000x80, .f32⟩ : BufTy).Contents (Elt F) :=
  broadcastInDim S5000x80 ![] bcast_S_S5000x80 (val_main_cst_22 (F := F))
abbrev idx_main_v124 (i : S5000x80.Idx) : S_.Idx := fun a => a.elim0
theorem val_main_v124_apply (i : S5000x80.Idx) :
    val_main_v124 (F := F) i = val_main_cst_22 (F := F) (idx_main_v124 i) := by
  unfold val_main_v124
  generalize val_main_cst_22 (F := F) = y
  exact broadcastInDim_apply _ bcast_S_S5000x80 y i (idx_main_v124 i) (fun a => a.elim0)

def val_main_v125 (x0 : (⟨S5000x6, .f32⟩ : BufTy).Contents (Elt F)) (x1 : (⟨S2000x5, .f32⟩ : BufTy).Contents (Elt F)) : (⟨S5000x80, .f32⟩ : BufTy).Contents (Elt F) :=
  maximumf (val_main_v123 (F := F) x0 x1) (val_main_v124 (F := F))
theorem val_main_v125_apply (x0 : (⟨S5000x6, .f32⟩ : BufTy).Contents (Elt F)) (x1 : (⟨S2000x5, .f32⟩ : BufTy).Contents (Elt F)) (i : S5000x80.Idx) :
    val_main_v125 (F := F) x0 x1 i = FloatOps.maximumf (val_main_v123 (F := F) x0 x1 i) (val_main_v124 (F := F) i) := rfl

def val_main_v126 (x0 : (⟨S5000x6, .f32⟩ : BufTy).Contents (Elt F)) (x1 : (⟨S2000x5, .f32⟩ : BufTy).Contents (Elt F)) : (⟨S5000x80, .f32⟩ : BufTy).Contents (Elt F) :=
  mulf (val_main_v114 (F := F) x0 x1) (val_main_v121 (F := F) x0 x1)
theorem val_main_v126_apply (x0 : (⟨S5000x6, .f32⟩ : BufTy).Contents (Elt F)) (x1 : (⟨S2000x5, .f32⟩ : BufTy).Contents (Elt F)) (i : S5000x80.Idx) :
    val_main_v126 (F := F) x0 x1 i = FloatOps.mulf (val_main_v114 (F := F) x0 x1 i) (val_main_v121 (F := F) x0 x1 i) := rfl

def val_main_cst_23 : (⟨S_, .f32⟩ : BufTy).Contents (Elt F) :=
  constant S_ .f32 0x3F800000#32
theorem val_main_cst_23_apply (i : S_.Idx) :
    val_main_cst_23 (F := F) i = FloatOps.ofBits .f32 0x3F800000#32 := rfl

def val_main_v127 : (⟨S5000x80, .f32⟩ : BufTy).Contents (Elt F) :=
  broadcastInDim S5000x80 ![] bcast_S_S5000x80 (val_main_cst_23 (F := F))
abbrev idx_main_v127 (i : S5000x80.Idx) : S_.Idx := fun a => a.elim0
theorem val_main_v127_apply (i : S5000x80.Idx) :
    val_main_v127 (F := F) i = val_main_cst_23 (F := F) (idx_main_v127 i) := by
  unfold val_main_v127
  generalize val_main_cst_23 (F := F) = y
  exact broadcastInDim_apply _ bcast_S_S5000x80 y i (idx_main_v127 i) (fun a => a.elim0)

def val_main_v128 (x0 : (⟨S5000x6, .f32⟩ : BufTy).Contents (Elt F)) (x1 : (⟨S2000x5, .f32⟩ : BufTy).Contents (Elt F)) : (⟨S5000x80, .f32⟩ : BufTy).Contents (Elt F) :=
  subf (val_main_v127 (F := F)) (val_main_v114 (F := F) x0 x1)
theorem val_main_v128_apply (x0 : (⟨S5000x6, .f32⟩ : BufTy).Contents (Elt F)) (x1 : (⟨S2000x5, .f32⟩ : BufTy).Contents (Elt F)) (i : S5000x80.Idx) :
    val_main_v128 (F := F) x0 x1 i = FloatOps.subf (val_main_v127 (F := F) i) (val_main_v114 (F := F) x0 x1 i) := rfl

def val_main_v129 (x0 : (⟨S5000x6, .f32⟩ : BufTy).Contents (Elt F)) (x1 : (⟨S2000x5, .f32⟩ : BufTy).Contents (Elt F)) : (⟨S5000x80, .f32⟩ : BufTy).Contents (Elt F) :=
  mulf (val_main_v128 (F := F) x0 x1) (val_main_v125 (F := F) x0 x1)
theorem val_main_v129_apply (x0 : (⟨S5000x6, .f32⟩ : BufTy).Contents (Elt F)) (x1 : (⟨S2000x5, .f32⟩ : BufTy).Contents (Elt F)) (i : S5000x80.Idx) :
    val_main_v129 (F := F) x0 x1 i = FloatOps.mulf (val_main_v128 (F := F) x0 x1 i) (val_main_v125 (F := F) x0 x1 i) := rfl

def val_main_v130 (x0 : (⟨S5000x6, .f32⟩ : BufTy).Contents (Elt F)) (x1 : (⟨S2000x5, .f32⟩ : BufTy).Contents (Elt F)) : (⟨S5000x80, .f32⟩ : BufTy).Contents (Elt F) :=
  addf (val_main_v126 (F := F) x0 x1) (val_main_v129 (F := F) x0 x1)
theorem val_main_v130_apply (x0 : (⟨S5000x6, .f32⟩ : BufTy).Contents (Elt F)) (x1 : (⟨S2000x5, .f32⟩ : BufTy).Contents (Elt F)) (i : S5000x80.Idx) :
    val_main_v130 (F := F) x0 x1 i = FloatOps.addf (val_main_v126 (F := F) x0 x1 i) (val_main_v129 (F := F) x0 x1 i) := rfl

def val_main_v131 (x0 : (⟨S5000x6, .f32⟩ : BufTy).Contents (Elt F)) (x1 : (⟨S2000x5, .f32⟩ : BufTy).Contents (Elt F)) : (⟨S5000x80, .f32⟩ : BufTy).Contents (Elt F) :=
  Host.negf (val_main_v130 (F := F) x0 x1)
theorem val_main_v131_apply (x0 : (⟨S5000x6, .f32⟩ : BufTy).Contents (Elt F)) (x1 : (⟨S2000x5, .f32⟩ : BufTy).Contents (Elt F)) (i : S5000x80.Idx) :
    val_main_v131 (F := F) x0 x1 i = FloatOps.hostNegf (val_main_v130 (F := F) x0 x1 i) := rfl

def val_main_cst_24 : (⟨S_, .f32⟩ : BufTy).Contents (Elt F) :=
  constant S_ .f32 0x00000000#32
theorem val_main_cst_24_apply (i : S_.Idx) :
    val_main_cst_24 (F := F) i = FloatOps.ofBits .f32 0x00000000#32 := rfl

def val_main_v132 (x0 : (⟨S5000x6, .f32⟩ : BufTy).Contents (Elt F)) (x1 : (⟨S2000x5, .f32⟩ : BufTy).Contents (Elt F)) : (⟨S_, .f32⟩ : BufTy).Contents (Elt F) :=
  Host.reduceAdd (val_main_v131 (F := F) x0 x1) (val_main_cst_24 (F := F)) reducesTo_S5000x80_S_d0_1 h_S_
/-- Stated at `F := Ideal`, where the host's float sum is this sum; at a bit-exact instance it is an opaque function of its operand. -/
theorem val_main_v132_apply (x0 : (⟨S5000x6, .f32⟩ : BufTy).Contents (Elt Ideal)) (x1 : (⟨S2000x5, .f32⟩ : BufTy).Contents (Elt Ideal)) (i : S_.Idx) :
    val_main_v132 (F := Ideal) x0 x1 i = (val_main_cst_24 (F := Ideal)) (Shape.Idx.first h_S_) + ∑ j : S5000x80.Idx, (val_main_v131 (F := Ideal) x0 x1) j := by
  unfold val_main_v132
  generalize val_main_v131 (F := Ideal) x0 x1 = y0
  simp only [Host.reduceAdd, Ideal.hostReduceAdd_def]
  exact Ideal.hostReduceAdd_total reducesTo_S5000x80_S_d0_1 (fun b => b.elim0) y0 _ i

def val_main_cst_25 : (⟨S_, .f32⟩ : BufTy).Contents (Elt F) :=
  constant S_ .f32 0x42A00000#32
theorem val_main_cst_25_apply (i : S_.Idx) :
    val_main_cst_25 (F := F) i = FloatOps.ofBits .f32 0x42A00000#32 := rfl

def val_main_v133 (x0 : (⟨S5000x6, .f32⟩ : BufTy).Contents (Elt F)) (x1 : (⟨S2000x5, .f32⟩ : BufTy).Contents (Elt F)) : (⟨S_, .f32⟩ : BufTy).Contents (Elt F) :=
  mulf (val_main_v68 (F := F) x0 x1) (val_main_cst_25 (F := F))
theorem val_main_v133_apply (x0 : (⟨S5000x6, .f32⟩ : BufTy).Contents (Elt F)) (x1 : (⟨S2000x5, .f32⟩ : BufTy).Contents (Elt F)) (i : S_.Idx) :
    val_main_v133 (F := F) x0 x1 i = FloatOps.mulf (val_main_v68 (F := F) x0 x1 i) (val_main_cst_25 (F := F) i) := rfl

def val_main_v134 (x0 : (⟨S5000x6, .f32⟩ : BufTy).Contents (Elt F)) (x1 : (⟨S2000x5, .f32⟩ : BufTy).Contents (Elt F)) : (⟨S_, .f32⟩ : BufTy).Contents (Elt F) :=
  Host.divf (val_main_v132 (F := F) x0 x1) (val_main_v133 (F := F) x0 x1)
theorem val_main_v134_apply (x0 : (⟨S5000x6, .f32⟩ : BufTy).Contents (Elt F)) (x1 : (⟨S2000x5, .f32⟩ : BufTy).Contents (Elt F)) (i : S_.Idx) :
    val_main_v134 (F := F) x0 x1 i = FloatOps.hostDivf (val_main_v132 (F := F) x0 x1 i) (val_main_v133 (F := F) x0 x1 i) := rfl

def val_main_v135 (x0 : (⟨S5000x6, .f32⟩ : BufTy).Contents (Elt F)) (x1 : (⟨S2000x5, .f32⟩ : BufTy).Contents (Elt F)) : (⟨S5000, .i1⟩ : BufTy).Contents (Elt F) :=
  noti (val_main_v65 (F := F) x0 x1)
theorem val_main_v135_apply (x0 : (⟨S5000x6, .f32⟩ : BufTy).Contents (Elt F)) (x1 : (⟨S2000x5, .f32⟩ : BufTy).Contents (Elt F)) (i : S5000.Idx) :
    val_main_v135 (F := F) x0 x1 i = ~~~(val_main_v65 (F := F) x0 x1 i) := rfl

def val_main_v136 (x0 : (⟨S5000x6, .f32⟩ : BufTy).Contents (Elt F)) : (⟨S5000, .f32⟩ : BufTy).Contents (Elt F) :=
  Host.log (val_main_v2 (F := F) x0)
theorem val_main_v136_apply (x0 : (⟨S5000x6, .f32⟩ : BufTy).Contents (Elt F)) (i : S5000.Idx) :
    val_main_v136 (F := F) x0 i = FloatOps.hostUnary .log (val_main_v2 (F := F) x0 i) := rfl

def val_main_cst_26 : (⟨S_, .f32⟩ : BufTy).Contents (Elt F) :=
  constant S_ .f32 0x00000000#32
theorem val_main_cst_26_apply (i : S_.Idx) :
    val_main_cst_26 (F := F) i = FloatOps.ofBits .f32 0x00000000#32 := rfl

def val_main_call4_v0 : (⟨S_, .f32⟩ : BufTy).Contents (Elt F) :=
  id (val_main_cst_26 (F := F))
theorem val_main_call4_v0_apply (i : S_.Idx) :
    val_main_call4_v0 (F := F) i = (val_main_cst_26 (F := F) i) := rfl

def val_main_call4_v1 : (⟨S5000, .f32⟩ : BufTy).Contents (Elt F) :=
  broadcastInDim S5000 ![] bcast_S_S5000 (val_main_call4_v0 (F := F))
abbrev idx_main_call4_v1 (i : S5000.Idx) : S_.Idx := fun a => a.elim0
theorem val_main_call4_v1_apply (i : S5000.Idx) :
    val_main_call4_v1 (F := F) i = val_main_call4_v0 (F := F) (idx_main_call4_v1 i) := by
  unfold val_main_call4_v1
  generalize val_main_call4_v0 (F := F) = y
  exact broadcastInDim_apply _ bcast_S_S5000 y i (idx_main_call4_v1 i) (fun a => a.elim0)

def val_main_v137 (x0 : (⟨S5000x6, .f32⟩ : BufTy).Contents (Elt F)) (x1 : (⟨S2000x5, .f32⟩ : BufTy).Contents (Elt F)) : (⟨S5000, .f32⟩ : BufTy).Contents (Elt F) :=
  select (val_main_v135 (F := F) x0 x1) (val_main_v136 (F := F) x0) (val_main_call4_v1 (F := F))
theorem val_main_v137_apply (x0 : (⟨S5000x6, .f32⟩ : BufTy).Contents (Elt F)) (x1 : (⟨S2000x5, .f32⟩ : BufTy).Contents (Elt F)) (i : S5000.Idx) :
    val_main_v137 (F := F) x0 x1 i = Scalar.select (val_main_v135 (F := F) x0 x1 i) (val_main_v136 (F := F) x0 i) (val_main_call4_v1 (F := F) i) := rfl

def val_main_cst_27 : (⟨S_, .f32⟩ : BufTy).Contents (Elt F) :=
  constant S_ .f32 0x00000000#32
theorem val_main_cst_27_apply (i : S_.Idx) :
    val_main_cst_27 (F := F) i = FloatOps.ofBits .f32 0x00000000#32 := rfl

def val_main_v138 (x0 : (⟨S5000x6, .f32⟩ : BufTy).Contents (Elt F)) (x1 : (⟨S2000x5, .f32⟩ : BufTy).Contents (Elt F)) : (⟨S_, .f32⟩ : BufTy).Contents (Elt F) :=
  Host.reduceAdd (val_main_v137 (F := F) x0 x1) (val_main_cst_27 (F := F)) reducesTo_S5000_S_d0 h_S_
/-- Stated at `F := Ideal`, where the host's float sum is this sum; at a bit-exact instance it is an opaque function of its operand. -/
theorem val_main_v138_apply (x0 : (⟨S5000x6, .f32⟩ : BufTy).Contents (Elt Ideal)) (x1 : (⟨S2000x5, .f32⟩ : BufTy).Contents (Elt Ideal)) (i : S_.Idx) :
    val_main_v138 (F := Ideal) x0 x1 i = (val_main_cst_27 (F := Ideal)) (Shape.Idx.first h_S_) + ∑ j : S5000.Idx, (val_main_v137 (F := Ideal) x0 x1) j := by
  unfold val_main_v138
  generalize val_main_v137 (F := Ideal) x0 x1 = y0
  simp only [Host.reduceAdd, Ideal.hostReduceAdd_def]
  exact Ideal.hostReduceAdd_total reducesTo_S5000_S_d0 (fun b => b.elim0) y0 _ i

def val_main_v139 (x0 : (⟨S5000x6, .f32⟩ : BufTy).Contents (Elt F)) (x1 : (⟨S2000x5, .f32⟩ : BufTy).Contents (Elt F)) : (⟨S_, .f32⟩ : BufTy).Contents (Elt F) :=
  subf (val_main_v134 (F := F) x0 x1) (val_main_v138 (F := F) x0 x1)
theorem val_main_v139_apply (x0 : (⟨S5000x6, .f32⟩ : BufTy).Contents (Elt F)) (x1 : (⟨S2000x5, .f32⟩ : BufTy).Contents (Elt F)) (i : S_.Idx) :
    val_main_v139 (F := F) x0 x1 i = FloatOps.subf (val_main_v134 (F := F) x0 x1 i) (val_main_v138 (F := F) x0 x1 i) := rfl

def val_main_cst_28 : (⟨S_, .f32⟩ : BufTy).Contents (Elt F) :=
  constant S_ .f32 0x00000000#32
theorem val_main_cst_28_apply (i : S_.Idx) :
    val_main_cst_28 (F := F) i = FloatOps.ofBits .f32 0x00000000#32 := rfl

def val_main_v140 : (⟨S2000, .f32⟩ : BufTy).Contents (Elt F) :=
  broadcastInDim S2000 ![] bcast_S_S2000 (val_main_cst_28 (F := F))
abbrev idx_main_v140 (i : S2000.Idx) : S_.Idx := fun a => a.elim0
theorem val_main_v140_apply (i : S2000.Idx) :
    val_main_v140 (F := F) i = val_main_cst_28 (F := F) (idx_main_v140 i) := by
  unfold val_main_v140
  generalize val_main_cst_28 (F := F) = y
  exact broadcastInDim_apply _ bcast_S_S2000 y i (idx_main_v140 i) (fun a => a.elim0)

def val_main_c_29 : (⟨S_, .i32⟩ : BufTy).Contents (Elt F) :=
  constantI S_ 32 0#32
theorem val_main_c_29_apply (i : S_.Idx) :
    val_main_c_29 (F := F) i = 0#32 := rfl

def val_main_v141 : (⟨S5000, .i32⟩ : BufTy).Contents (Elt F) :=
  broadcastInDim S5000 ![] bcast_S_S5000 (val_main_c_29 (F := F))
abbrev idx_main_v141 (i : S5000.Idx) : S_.Idx := fun a => a.elim0
theorem val_main_v141_apply (i : S5000.Idx) :
    val_main_v141 (F := F) i = val_main_c_29 (F := F) (idx_main_v141 i) := by
  unfold val_main_v141
  generalize val_main_c_29 (F := F) = y
  exact broadcastInDim_apply _ bcast_S_S5000 y i (idx_main_v141 i) (fun a => a.elim0)

def val_main_v142 (x0 : (⟨S5000x6, .f32⟩ : BufTy).Contents (Elt F)) (x1 : (⟨S2000x5, .f32⟩ : BufTy).Contents (Elt F)) : (⟨S5000, .i1⟩ : BufTy).Contents (Elt F) :=
  cmpi .slt (val_main_v63 (F := F) x0 x1) (val_main_v141 (F := F))
theorem val_main_v142_apply (x0 : (⟨S5000x6, .f32⟩ : BufTy).Contents (Elt F)) (x1 : (⟨S2000x5, .f32⟩ : BufTy).Contents (Elt F)) (i : S5000.Idx) :
    val_main_v142 (F := F) x0 x1 i = IntOp.cmpi .slt (val_main_v63 (F := F) x0 x1 i) (val_main_v141 (F := F) i) := rfl

def val_main_c_30 : (⟨S_, .i32⟩ : BufTy).Contents (Elt F) :=
  constantI S_ 32 2000#32
theorem val_main_c_30_apply (i : S_.Idx) :
    val_main_c_30 (F := F) i = 2000#32 := rfl

def val_main_v143 : (⟨S5000, .i32⟩ : BufTy).Contents (Elt F) :=
  broadcastInDim S5000 ![] bcast_S_S5000 (val_main_c_30 (F := F))
abbrev idx_main_v143 (i : S5000.Idx) : S_.Idx := fun a => a.elim0
theorem val_main_v143_apply (i : S5000.Idx) :
    val_main_v143 (F := F) i = val_main_c_30 (F := F) (idx_main_v143 i) := by
  unfold val_main_v143
  generalize val_main_c_30 (F := F) = y
  exact broadcastInDim_apply _ bcast_S_S5000 y i (idx_main_v143 i) (fun a => a.elim0)

def val_main_v144 (x0 : (⟨S5000x6, .f32⟩ : BufTy).Contents (Elt F)) (x1 : (⟨S2000x5, .f32⟩ : BufTy).Contents (Elt F)) : (⟨S5000, .i32⟩ : BufTy).Contents (Elt F) :=
  addi (val_main_v63 (F := F) x0 x1) (val_main_v143 (F := F))
theorem val_main_v144_apply (x0 : (⟨S5000x6, .f32⟩ : BufTy).Contents (Elt F)) (x1 : (⟨S2000x5, .f32⟩ : BufTy).Contents (Elt F)) (i : S5000.Idx) :
    val_main_v144 (F := F) x0 x1 i = IntOp.addi (val_main_v63 (F := F) x0 x1 i) (val_main_v143 (F := F) i) := rfl

def val_main_v145 (x0 : (⟨S5000x6, .f32⟩ : BufTy).Contents (Elt F)) (x1 : (⟨S2000x5, .f32⟩ : BufTy).Contents (Elt F)) : (⟨S5000, .i32⟩ : BufTy).Contents (Elt F) :=
  select (val_main_v142 (F := F) x0 x1) (val_main_v144 (F := F) x0 x1) (val_main_v63 (F := F) x0 x1)
theorem val_main_v145_apply (x0 : (⟨S5000x6, .f32⟩ : BufTy).Contents (Elt F)) (x1 : (⟨S2000x5, .f32⟩ : BufTy).Contents (Elt F)) (i : S5000.Idx) :
    val_main_v145 (F := F) x0 x1 i = Scalar.select (val_main_v142 (F := F) x0 x1 i) (val_main_v144 (F := F) x0 x1 i) (val_main_v63 (F := F) x0 x1 i) := rfl

def val_main_v146 (x0 : (⟨S5000x6, .f32⟩ : BufTy).Contents (Elt F)) (x1 : (⟨S2000x5, .f32⟩ : BufTy).Contents (Elt F)) : (⟨S5000x1, .i32⟩ : BufTy).Contents (Elt F) :=
  broadcastInDim S5000x1 ![0] bcast_S5000_S5000x1_0 (val_main_v145 (F := F) x0 x1)
abbrev idx_main_v146 (i : S5000x1.Idx) : S5000.Idx := fun a => match a with
  | ⟨0, _⟩ => ⟨(i 0).val, (i 0).isLt⟩
theorem val_main_v146_apply (x0 : (⟨S5000x6, .f32⟩ : BufTy).Contents (Elt F)) (x1 : (⟨S2000x5, .f32⟩ : BufTy).Contents (Elt F)) (i : S5000x1.Idx) :
    val_main_v146 (F := F) x0 x1 i = val_main_v145 (F := F) x0 x1 (idx_main_v146 i) := by
  unfold val_main_v146
  generalize val_main_v145 (F := F) x0 x1 = y
  exact broadcastInDim_apply _ bcast_S5000_S5000x1_0 y i (idx_main_v146 i) (fun a => match a with
    | ⟨0, _⟩ => by show (i 0).val = if (5000 : Nat) = 1 then 0 else (i 0).val; rw [if_neg (by decide)])

def val_main_v147 (x0 : (⟨S5000x6, .f32⟩ : BufTy).Contents (Elt F)) (x1 : (⟨S2000x5, .f32⟩ : BufTy).Contents (Elt F)) : (⟨S2000, .f32⟩ : BufTy).Contents (Elt F) :=
  Host.scatterAdd scatter_S2000_S5000x1_S5000_n_0_0_1 (val_main_v140 (F := F)) (val_main_v146 (F := F) x0 x1) (val_main_v66 (F := F) x0 x1)

def val_main_cst_31 : (⟨S_, .f32⟩ : BufTy).Contents (Elt F) :=
  constant S_ .f32 0x00000000#32
theorem val_main_cst_31_apply (i : S_.Idx) :
    val_main_cst_31 (F := F) i = FloatOps.ofBits .f32 0x00000000#32 := rfl

def val_main_v148 : (⟨S2000, .f32⟩ : BufTy).Contents (Elt F) :=
  broadcastInDim S2000 ![] bcast_S_S2000 (val_main_cst_31 (F := F))
abbrev idx_main_v148 (i : S2000.Idx) : S_.Idx := fun a => a.elim0
theorem val_main_v148_apply (i : S2000.Idx) :
    val_main_v148 (F := F) i = val_main_cst_31 (F := F) (idx_main_v148 i) := by
  unfold val_main_v148
  generalize val_main_cst_31 (F := F) = y
  exact broadcastInDim_apply _ bcast_S_S2000 y i (idx_main_v148 i) (fun a => a.elim0)

def val_main_v149 (x0 : (⟨S5000x6, .f32⟩ : BufTy).Contents (Elt F)) (x1 : (⟨S2000x5, .f32⟩ : BufTy).Contents (Elt F)) : (⟨S2000, .i1⟩ : BufTy).Contents (Elt F) :=
  cmpf .ogt (val_main_v147 (F := F) x0 x1) (val_main_v148 (F := F))
theorem val_main_v149_apply (x0 : (⟨S5000x6, .f32⟩ : BufTy).Contents (Elt F)) (x1 : (⟨S2000x5, .f32⟩ : BufTy).Contents (Elt F)) (i : S2000.Idx) :
    val_main_v149 (F := F) x0 x1 i = FloatOps.cmpf .ogt (val_main_v147 (F := F) x0 x1 i) (val_main_v148 (F := F) i) := rfl

def val_main_v150 (x0 : (⟨S5000x6, .f32⟩ : BufTy).Contents (Elt F)) (x1 : (⟨S2000x5, .f32⟩ : BufTy).Contents (Elt F)) : (⟨S2000, .i32⟩ : BufTy).Contents (Elt F) :=
  extui 32 (val_main_v149 (F := F) x0 x1) natLt_1_32
theorem val_main_v150_apply (x0 : (⟨S5000x6, .f32⟩ : BufTy).Contents (Elt F)) (x1 : (⟨S2000x5, .f32⟩ : BufTy).Contents (Elt F)) (i : S2000.Idx) :
    val_main_v150 (F := F) x0 x1 i = (val_main_v149 (F := F) x0 x1 i).setWidth 32 := rfl

def val_main_c_32 : (⟨S_, .i32⟩ : BufTy).Contents (Elt F) :=
  constantI S_ 32 0#32
theorem val_main_c_32_apply (i : S_.Idx) :
    val_main_c_32 (F := F) i = 0#32 := rfl

def val_main_v151 (x0 : (⟨S5000x6, .f32⟩ : BufTy).Contents (Elt F)) (x1 : (⟨S2000x5, .f32⟩ : BufTy).Contents (Elt F)) : (⟨S_, .i32⟩ : BufTy).Contents (Elt F) :=
  Host.reduce IntOp.addi (val_main_v150 (F := F) x0 x1) (val_main_c_32 (F := F)) reducesTo_S2000_S_d0 h_S_

def val_main_c_33 : (⟨S_, .i32⟩ : BufTy).Contents (Elt F) :=
  constantI S_ 32 2000#32
theorem val_main_c_33_apply (i : S_.Idx) :
    val_main_c_33 (F := F) i = 2000#32 := rfl

def val_main_v152 (x0 : (⟨S5000x6, .f32⟩ : BufTy).Contents (Elt F)) (x1 : (⟨S2000x5, .f32⟩ : BufTy).Contents (Elt F)) : (⟨S_, .i32⟩ : BufTy).Contents (Elt F) :=
  subi (val_main_c_33 (F := F)) (val_main_v151 (F := F) x0 x1)
theorem val_main_v152_apply (x0 : (⟨S5000x6, .f32⟩ : BufTy).Contents (Elt F)) (x1 : (⟨S2000x5, .f32⟩ : BufTy).Contents (Elt F)) (i : S_.Idx) :
    val_main_v152 (F := F) x0 x1 i = IntOp.subi (val_main_c_33 (F := F) i) (val_main_v151 (F := F) x0 x1 i) := rfl

def val_main_v153 (x0 : (⟨S5000x6, .f32⟩ : BufTy).Contents (Elt F)) (x1 : (⟨S2000x5, .f32⟩ : BufTy).Contents (Elt F)) : (⟨S_, .f32⟩ : BufTy).Contents (Elt F) :=
  sitofp .f32 (val_main_v152 (F := F) x0 x1)
theorem val_main_v153_apply (x0 : (⟨S5000x6, .f32⟩ : BufTy).Contents (Elt F)) (x1 : (⟨S2000x5, .f32⟩ : BufTy).Contents (Elt F)) (i : S_.Idx) :
    val_main_v153 (F := F) x0 x1 i = FloatOps.sitofp .f32 (val_main_v152 (F := F) x0 x1 i) := rfl

def val_main_v154 (x0 : (⟨S5000x6, .f32⟩ : BufTy).Contents (Elt F)) (x1 : (⟨S2000x5, .f32⟩ : BufTy).Contents (Elt F)) : (⟨S_, .f32⟩ : BufTy).Contents (Elt F) :=
  addf (val_main_v139 (F := F) x0 x1) (val_main_v153 (F := F) x0 x1)
theorem val_main_v154_apply (x0 : (⟨S5000x6, .f32⟩ : BufTy).Contents (Elt F)) (x1 : (⟨S2000x5, .f32⟩ : BufTy).Contents (Elt F)) (i : S_.Idx) :
    val_main_v154 (F := F) x0 x1 i = FloatOps.addf (val_main_v139 (F := F) x0 x1 i) (val_main_v153 (F := F) x0 x1 i) := rfl

def val_main_v155 (x0 : (⟨S5000x6, .f32⟩ : BufTy).Contents (Elt F)) : (⟨S5000x1, .f32⟩ : BufTy).Contents (Elt F) :=
  extractStridedSlice S5000x1 ![0, 0] (val_main_v0 (F := F) x0) slices_S5000x4_S5000x1_0_0
abbrev idx_main_v155 (i : S5000x1.Idx) : S5000x4.Idx := fun a => match a with
  | ⟨0, _⟩ => ⟨(i 0).val, (i 0).isLt⟩
  | ⟨1, _⟩ => ⟨(i 1).val, by have h1 : (i 1).val < 1 := (i 1).isLt; show (i 1).val < 4; omega⟩
theorem val_main_v155_apply (x0 : (⟨S5000x6, .f32⟩ : BufTy).Contents (Elt F)) (i : S5000x1.Idx) :
    val_main_v155 (F := F) x0 i = val_main_v0 (F := F) x0 (idx_main_v155 i) := by
  unfold val_main_v155
  generalize val_main_v0 (F := F) x0 = y
  exact extractStridedSlice_apply ![0, 0] y slices_S5000x4_S5000x1_0_0 i (idx_main_v155 i) (fun a => match a with
    | ⟨0, _⟩ => by show (i 0).val = 0 + (i 0).val; omega
    | ⟨1, _⟩ => by show (i 1).val = 0 + (i 1).val; omega)

def val_main_v156 (x0 : (⟨S5000x6, .f32⟩ : BufTy).Contents (Elt F)) : (⟨S5000, .f32⟩ : BufTy).Contents (Elt F) :=
  shapeCast _ (val_main_v155 (F := F) x0) shapeCasts_S5000x1_S5000
abbrev idx_main_v156 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v156_apply (x0 : (⟨S5000x6, .f32⟩ : BufTy).Contents (Elt F)) (i : S5000.Idx) :
    val_main_v156 (F := F) x0 i = val_main_v155 (F := F) x0 (idx_main_v156 i) := by
  unfold val_main_v156
  generalize val_main_v155 (F := F) x0 = y
  exact shapeCast_apply y shapeCasts_S5000x1_S5000 i (idx_main_v156 i)
    (by rewrite [Shape.rowMajor_val_two, Shape.rowMajor_val_one]; have h0 : (i 0).val < 5000 := (i 0).isLt; show ((i 0).val) / 1 * 1 + 0 = (i 0).val; omega)

def val_main_v157 (x0 : (⟨S5000x6, .f32⟩ : BufTy).Contents (Elt F)) : (⟨S5000x1, .f32⟩ : BufTy).Contents (Elt F) :=
  extractStridedSlice S5000x1 ![0, 1] (val_main_v0 (F := F) x0) slices_S5000x4_S5000x1_0_1
abbrev idx_main_v157 (i : S5000x1.Idx) : S5000x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
theorem val_main_v157_apply (x0 : (⟨S5000x6, .f32⟩ : BufTy).Contents (Elt F)) (i : S5000x1.Idx) :
    val_main_v157 (F := F) x0 i = val_main_v0 (F := F) x0 (idx_main_v157 i) := by
  unfold val_main_v157
  generalize val_main_v0 (F := F) x0 = y
  exact extractStridedSlice_apply ![0, 1] y slices_S5000x4_S5000x1_0_1 i (idx_main_v157 i) (fun a => match a with
    | ⟨0, _⟩ => by show (i 0).val = 0 + (i 0).val; omega
    | ⟨1, _⟩ => by show 1 + (i 1).val = 1 + (i 1).val; omega)

def val_main_v158 (x0 : (⟨S5000x6, .f32⟩ : BufTy).Contents (Elt F)) : (⟨S5000, .f32⟩ : BufTy).Contents (Elt F) :=
  shapeCast _ (val_main_v157 (F := F) x0) shapeCasts_S5000x1_S5000
abbrev idx_main_v158 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v158_apply (x0 : (⟨S5000x6, .f32⟩ : BufTy).Contents (Elt F)) (i : S5000.Idx) :
    val_main_v158 (F := F) x0 i = val_main_v157 (F := F) x0 (idx_main_v158 i) := by
  unfold val_main_v158
  generalize val_main_v157 (F := F) x0 = y
  exact shapeCast_apply y shapeCasts_S5000x1_S5000 i (idx_main_v158 i)
    (by rewrite [Shape.rowMajor_val_two, Shape.rowMajor_val_one]; have h0 : (i 0).val < 5000 := (i 0).isLt; show ((i 0).val) / 1 * 1 + 0 = (i 0).val; omega)

def val_main_v159 (x0 : (⟨S5000x6, .f32⟩ : BufTy).Contents (Elt F)) : (⟨S5000x1, .f32⟩ : BufTy).Contents (Elt F) :=
  extractStridedSlice S5000x1 ![0, 2] (val_main_v0 (F := F) x0) slices_S5000x4_S5000x1_0_2
abbrev idx_main_v159 (i : S5000x1.Idx) : S5000x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
theorem val_main_v159_apply (x0 : (⟨S5000x6, .f32⟩ : BufTy).Contents (Elt F)) (i : S5000x1.Idx) :
    val_main_v159 (F := F) x0 i = val_main_v0 (F := F) x0 (idx_main_v159 i) := by
  unfold val_main_v159
  generalize val_main_v0 (F := F) x0 = y
  exact extractStridedSlice_apply ![0, 2] y slices_S5000x4_S5000x1_0_2 i (idx_main_v159 i) (fun a => match a with
    | ⟨0, _⟩ => by show (i 0).val = 0 + (i 0).val; omega
    | ⟨1, _⟩ => by show 2 + (i 1).val = 2 + (i 1).val; omega)

def val_main_v160 (x0 : (⟨S5000x6, .f32⟩ : BufTy).Contents (Elt F)) : (⟨S5000, .f32⟩ : BufTy).Contents (Elt F) :=
  shapeCast _ (val_main_v159 (F := F) x0) shapeCasts_S5000x1_S5000
abbrev idx_main_v160 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v160_apply (x0 : (⟨S5000x6, .f32⟩ : BufTy).Contents (Elt F)) (i : S5000.Idx) :
    val_main_v160 (F := F) x0 i = val_main_v159 (F := F) x0 (idx_main_v160 i) := by
  unfold val_main_v160
  generalize val_main_v159 (F := F) x0 = y
  exact shapeCast_apply y shapeCasts_S5000x1_S5000 i (idx_main_v160 i)
    (by rewrite [Shape.rowMajor_val_two, Shape.rowMajor_val_one]; have h0 : (i 0).val < 5000 := (i 0).isLt; show ((i 0).val) / 1 * 1 + 0 = (i 0).val; omega)

def val_main_v161 (x0 : (⟨S5000x6, .f32⟩ : BufTy).Contents (Elt F)) : (⟨S5000x1, .f32⟩ : BufTy).Contents (Elt F) :=
  extractStridedSlice S5000x1 ![0, 3] (val_main_v0 (F := F) x0) slices_S5000x4_S5000x1_0_3
abbrev idx_main_v161 (i : S5000x1.Idx) : S5000x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
theorem val_main_v161_apply (x0 : (⟨S5000x6, .f32⟩ : BufTy).Contents (Elt F)) (i : S5000x1.Idx) :
    val_main_v161 (F := F) x0 i = val_main_v0 (F := F) x0 (idx_main_v161 i) := by
  unfold val_main_v161
  generalize val_main_v0 (F := F) x0 = y
  exact extractStridedSlice_apply ![0, 3] y slices_S5000x4_S5000x1_0_3 i (idx_main_v161 i) (fun a => match a with
    | ⟨0, _⟩ => by show (i 0).val = 0 + (i 0).val; omega
    | ⟨1, _⟩ => by show 3 + (i 1).val = 3 + (i 1).val; omega)

def val_main_v162 (x0 : (⟨S5000x6, .f32⟩ : BufTy).Contents (Elt F)) : (⟨S5000, .f32⟩ : BufTy).Contents (Elt F) :=
  shapeCast _ (val_main_v161 (F := F) x0) shapeCasts_S5000x1_S5000
abbrev idx_main_v162 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v162_apply (x0 : (⟨S5000x6, .f32⟩ : BufTy).Contents (Elt F)) (i : S5000.Idx) :
    val_main_v162 (F := F) x0 i = val_main_v161 (F := F) x0 (idx_main_v162 i) := by
  unfold val_main_v162
  generalize val_main_v161 (F := F) x0 = y
  exact shapeCast_apply y shapeCasts_S5000x1_S5000 i (idx_main_v162 i)
    (by rewrite [Shape.rowMajor_val_two, Shape.rowMajor_val_one]; have h0 : (i 0).val < 5000 := (i 0).isLt; show ((i 0).val) / 1 * 1 + 0 = (i 0).val; omega)

def val_main_v163 (x0 : (⟨S5000x6, .f32⟩ : BufTy).Contents (Elt F)) (x1 : (⟨S2000x5, .f32⟩ : BufTy).Contents (Elt F)) : (⟨S5000x1, .f32⟩ : BufTy).Contents (Elt F) :=
  extractStridedSlice S5000x1 ![0, 0] (val_main_v75 (F := F) x0 x1) slices_S5000x4_S5000x1_0_0
abbrev idx_main_v163 (i : S5000x1.Idx) : S5000x4.Idx := fun a => match a with
  | ⟨0, _⟩ => ⟨(i 0).val, (i 0).isLt⟩
  | ⟨1, _⟩ => ⟨(i 1).val, by have h1 : (i 1).val < 1 := (i 1).isLt; show (i 1).val < 4; omega⟩
theorem val_main_v163_apply (x0 : (⟨S5000x6, .f32⟩ : BufTy).Contents (Elt F)) (x1 : (⟨S2000x5, .f32⟩ : BufTy).Contents (Elt F)) (i : S5000x1.Idx) :
    val_main_v163 (F := F) x0 x1 i = val_main_v75 (F := F) x0 x1 (idx_main_v163 i) := by
  unfold val_main_v163
  generalize val_main_v75 (F := F) x0 x1 = y
  exact extractStridedSlice_apply ![0, 0] y slices_S5000x4_S5000x1_0_0 i (idx_main_v163 i) (fun a => match a with
    | ⟨0, _⟩ => by show (i 0).val = 0 + (i 0).val; omega
    | ⟨1, _⟩ => by show (i 1).val = 0 + (i 1).val; omega)

def val_main_v164 (x0 : (⟨S5000x6, .f32⟩ : BufTy).Contents (Elt F)) (x1 : (⟨S2000x5, .f32⟩ : BufTy).Contents (Elt F)) : (⟨S5000, .f32⟩ : BufTy).Contents (Elt F) :=
  shapeCast _ (val_main_v163 (F := F) x0 x1) shapeCasts_S5000x1_S5000
abbrev idx_main_v164 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v164_apply (x0 : (⟨S5000x6, .f32⟩ : BufTy).Contents (Elt F)) (x1 : (⟨S2000x5, .f32⟩ : BufTy).Contents (Elt F)) (i : S5000.Idx) :
    val_main_v164 (F := F) x0 x1 i = val_main_v163 (F := F) x0 x1 (idx_main_v164 i) := by
  unfold val_main_v164
  generalize val_main_v163 (F := F) x0 x1 = y
  exact shapeCast_apply y shapeCasts_S5000x1_S5000 i (idx_main_v164 i)
    (by rewrite [Shape.rowMajor_val_two, Shape.rowMajor_val_one]; have h0 : (i 0).val < 5000 := (i 0).isLt; show ((i 0).val) / 1 * 1 + 0 = (i 0).val; omega)

def val_main_v165 (x0 : (⟨S5000x6, .f32⟩ : BufTy).Contents (Elt F)) (x1 : (⟨S2000x5, .f32⟩ : BufTy).Contents (Elt F)) : (⟨S5000x1, .f32⟩ : BufTy).Contents (Elt F) :=
  extractStridedSlice S5000x1 ![0, 1] (val_main_v75 (F := F) x0 x1) slices_S5000x4_S5000x1_0_1
abbrev idx_main_v165 (i : S5000x1.Idx) : S5000x4.Idx := fun a => match a with
  | ⟨0, _⟩ => ⟨(i 0).val, (i 0).isLt⟩
  | ⟨1, _⟩ => ⟨1 + (i 1).val, by have h1 : (i 1).val < 1 := (i 1).isLt; show 1 + (i 1).val < 4; omega⟩
theorem val_main_v165_apply (x0 : (⟨S5000x6, .f32⟩ : BufTy).Contents (Elt F)) (x1 : (⟨S2000x5, .f32⟩ : BufTy).Contents (Elt F)) (i : S5000x1.Idx) :
    val_main_v165 (F := F) x0 x1 i = val_main_v75 (F := F) x0 x1 (idx_main_v165 i) := by
  unfold val_main_v165
  generalize val_main_v75 (F := F) x0 x1 = y
  exact extractStridedSlice_apply ![0, 1] y slices_S5000x4_S5000x1_0_1 i (idx_main_v165 i) (fun a => match a with
    | ⟨0, _⟩ => by show (i 0).val = 0 + (i 0).val; omega
    | ⟨1, _⟩ => by show 1 + (i 1).val = 1 + (i 1).val; omega)

def val_main_v166 (x0 : (⟨S5000x6, .f32⟩ : BufTy).Contents (Elt F)) (x1 : (⟨S2000x5, .f32⟩ : BufTy).Contents (Elt F)) : (⟨S5000, .f32⟩ : BufTy).Contents (Elt F) :=
  shapeCast _ (val_main_v165 (F := F) x0 x1) shapeCasts_S5000x1_S5000
abbrev idx_main_v166 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v166_apply (x0 : (⟨S5000x6, .f32⟩ : BufTy).Contents (Elt F)) (x1 : (⟨S2000x5, .f32⟩ : BufTy).Contents (Elt F)) (i : S5000.Idx) :
    val_main_v166 (F := F) x0 x1 i = val_main_v165 (F := F) x0 x1 (idx_main_v166 i) := by
  unfold val_main_v166
  generalize val_main_v165 (F := F) x0 x1 = y
  exact shapeCast_apply y shapeCasts_S5000x1_S5000 i (idx_main_v166 i)
    (by rewrite [Shape.rowMajor_val_two, Shape.rowMajor_val_one]; have h0 : (i 0).val < 5000 := (i 0).isLt; show ((i 0).val) / 1 * 1 + 0 = (i 0).val; omega)

def val_main_v167 (x0 : (⟨S5000x6, .f32⟩ : BufTy).Contents (Elt F)) (x1 : (⟨S2000x5, .f32⟩ : BufTy).Contents (Elt F)) : (⟨S5000x1, .f32⟩ : BufTy).Contents (Elt F) :=
  extractStridedSlice S5000x1 ![0, 2] (val_main_v75 (F := F) x0 x1) slices_S5000x4_S5000x1_0_2
abbrev idx_main_v167 (i : S5000x1.Idx) : S5000x4.Idx := fun a => match a with
  | ⟨0, _⟩ => ⟨(i 0).val, (i 0).isLt⟩
  | ⟨1, _⟩ => ⟨2 + (i 1).val, by have h1 : (i 1).val < 1 := (i 1).isLt; show 2 + (i 1).val < 4; omega⟩
theorem val_main_v167_apply (x0 : (⟨S5000x6, .f32⟩ : BufTy).Contents (Elt F)) (x1 : (⟨S2000x5, .f32⟩ : BufTy).Contents (Elt F)) (i : S5000x1.Idx) :
    val_main_v167 (F := F) x0 x1 i = val_main_v75 (F := F) x0 x1 (idx_main_v167 i) := by
  unfold val_main_v167
  generalize val_main_v75 (F := F) x0 x1 = y
  exact extractStridedSlice_apply ![0, 2] y slices_S5000x4_S5000x1_0_2 i (idx_main_v167 i) (fun a => match a with
    | ⟨0, _⟩ => by show (i 0).val = 0 + (i 0).val; omega
    | ⟨1, _⟩ => by show 2 + (i 1).val = 2 + (i 1).val; omega)

def val_main_v168 (x0 : (⟨S5000x6, .f32⟩ : BufTy).Contents (Elt F)) (x1 : (⟨S2000x5, .f32⟩ : BufTy).Contents (Elt F)) : (⟨S5000, .f32⟩ : BufTy).Contents (Elt F) :=
  shapeCast _ (val_main_v167 (F := F) x0 x1) shapeCasts_S5000x1_S5000
abbrev idx_main_v168 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v168_apply (x0 : (⟨S5000x6, .f32⟩ : BufTy).Contents (Elt F)) (x1 : (⟨S2000x5, .f32⟩ : BufTy).Contents (Elt F)) (i : S5000.Idx) :
    val_main_v168 (F := F) x0 x1 i = val_main_v167 (F := F) x0 x1 (idx_main_v168 i) := by
  unfold val_main_v168
  generalize val_main_v167 (F := F) x0 x1 = y
  exact shapeCast_apply y shapeCasts_S5000x1_S5000 i (idx_main_v168 i)
    (by rewrite [Shape.rowMajor_val_two, Shape.rowMajor_val_one]; have h0 : (i 0).val < 5000 := (i 0).isLt; show ((i 0).val) / 1 * 1 + 0 = (i 0).val; omega)

def val_main_v169 (x0 : (⟨S5000x6, .f32⟩ : BufTy).Contents (Elt F)) (x1 : (⟨S2000x5, .f32⟩ : BufTy).Contents (Elt F)) : (⟨S5000x1, .f32⟩ : BufTy).Contents (Elt F) :=
  extractStridedSlice S5000x1 ![0, 3] (val_main_v75 (F := F) x0 x1) slices_S5000x4_S5000x1_0_3
abbrev idx_main_v169 (i : S5000x1.Idx) : S5000x4.Idx := fun a => match a with
  | ⟨0, _⟩ => ⟨(i 0).val, (i 0).isLt⟩
  | ⟨1, _⟩ => ⟨3 + (i 1).val, by have h1 : (i 1).val < 1 := (i 1).isLt; show 3 + (i 1).val < 4; omega⟩
theorem val_main_v169_apply (x0 : (⟨S5000x6, .f32⟩ : BufTy).Contents (Elt F)) (x1 : (⟨S2000x5, .f32⟩ : BufTy).Contents (Elt F)) (i : S5000x1.Idx) :
    val_main_v169 (F := F) x0 x1 i = val_main_v75 (F := F) x0 x1 (idx_main_v169 i) := by
  unfold val_main_v169
  generalize val_main_v75 (F := F) x0 x1 = y
  exact extractStridedSlice_apply ![0, 3] y slices_S5000x4_S5000x1_0_3 i (idx_main_v169 i) (fun a => match a with
    | ⟨0, _⟩ => by show (i 0).val = 0 + (i 0).val; omega
    | ⟨1, _⟩ => by show 3 + (i 1).val = 3 + (i 1).val; omega)

def val_main_v170 (x0 : (⟨S5000x6, .f32⟩ : BufTy).Contents (Elt F)) (x1 : (⟨S2000x5, .f32⟩ : BufTy).Contents (Elt F)) : (⟨S5000, .f32⟩ : BufTy).Contents (Elt F) :=
  shapeCast _ (val_main_v169 (F := F) x0 x1) shapeCasts_S5000x1_S5000
abbrev idx_main_v170 (i : S5000.Idx) : S5000x1.Idx := fun a => match a with
  | ⟨0, _⟩ => ⟨((i 0).val) / 1, by have h0 : (i 0).val < 5000 := (i 0).isLt; show ((i 0).val) / 1 < 5000; omega⟩
  | ⟨1, _⟩ => ⟨0, Nat.one_pos⟩
theorem val_main_v170_apply (x0 : (⟨S5000x6, .f32⟩ : BufTy).Contents (Elt F)) (x1 : (⟨S2000x5, .f32⟩ : BufTy).Contents (Elt F)) (i : S5000.Idx) :
    val_main_v170 (F := F) x0 x1 i = val_main_v169 (F := F) x0 x1 (idx_main_v170 i) := by
  unfold val_main_v170
  generalize val_main_v169 (F := F) x0 x1 = y
  exact shapeCast_apply y shapeCasts_S5000x1_S5000 i (idx_main_v170 i)
    (by rewrite [Shape.rowMajor_val_two, Shape.rowMajor_val_one]; have h0 : (i 0).val < 5000 := (i 0).isLt; show ((i 0).val) / 1 * 1 + 0 = (i 0).val; omega)

def val_main_v171 (x0 : (⟨S5000x6, .f32⟩ : BufTy).Contents (Elt F)) : (⟨S5000, .f32⟩ : BufTy).Contents (Elt F) :=
  subf (val_main_v160 (F := F) x0) (val_main_v156 (F := F) x0)
theorem val_main_v171_apply (x0 : (⟨S5000x6, .f32⟩ : BufTy).Contents (Elt F)) (i : S5000.Idx) :
    val_main_v171 (F := F) x0 i = FloatOps.subf (val_main_v160 (F := F) x0 i) (val_main_v156 (F := F) x0 i) := rfl

def val_main_v172 (x0 : (⟨S5000x6, .f32⟩ : BufTy).Contents (Elt F)) : (⟨S5000, .f32⟩ : BufTy).Contents (Elt F) :=
  subf (val_main_v162 (F := F) x0) (val_main_v158 (F := F) x0)
theorem val_main_v172_apply (x0 : (⟨S5000x6, .f32⟩ : BufTy).Contents (Elt F)) (i : S5000.Idx) :
    val_main_v172 (F := F) x0 i = FloatOps.subf (val_main_v162 (F := F) x0 i) (val_main_v158 (F := F) x0 i) := rfl

def val_main_cst_34 : (⟨S_, .f32⟩ : BufTy).Contents (Elt F) :=
  constant S_ .f32 0x33D6BF95#32
theorem val_main_cst_34_apply (i : S_.Idx) :
    val_main_cst_34 (F := F) i = FloatOps.ofBits .f32 0x33D6BF95#32 := rfl

def val_main_v173 : (⟨S5000, .f32⟩ : BufTy).Contents (Elt F) :=
  broadcastInDim S5000 ![] bcast_S_S5000 (val_main_cst_34 (F := F))
abbrev idx_main_v173 (i : S5000.Idx) : S_.Idx := fun a => a.elim0
theorem val_main_v173_apply (i : S5000.Idx) :
    val_main_v173 (F := F) i = val_main_cst_34 (F := F) (idx_main_v173 i) := by
  unfold val_main_v173
  generalize val_main_cst_34 (F := F) = y
  exact broadcastInDim_apply _ bcast_S_S5000 y i (idx_main_v173 i) (fun a => a.elim0)

def val_main_v174 (x0 : (⟨S5000x6, .f32⟩ : BufTy).Contents (Elt F)) : (⟨S5000, .f32⟩ : BufTy).Contents (Elt F) :=
  addf (val_main_v172 (F := F) x0) (val_main_v173 (F := F))
theorem val_main_v174_apply (x0 : (⟨S5000x6, .f32⟩ : BufTy).Contents (Elt F)) (i : S5000.Idx) :
    val_main_v174 (F := F) x0 i = FloatOps.addf (val_main_v172 (F := F) x0 i) (val_main_v173 (F := F) i) := rfl

def val_main_v175 (x0 : (⟨S5000x6, .f32⟩ : BufTy).Contents (Elt F)) (x1 : (⟨S2000x5, .f32⟩ : BufTy).Contents (Elt F)) : (⟨S5000, .f32⟩ : BufTy).Contents (Elt F) :=
  subf (val_main_v168 (F := F) x0 x1) (val_main_v164 (F := F) x0 x1)
theorem val_main_v175_apply (x0 : (⟨S5000x6, .f32⟩ : BufTy).Contents (Elt F)) (x1 : (⟨S2000x5, .f32⟩ : BufTy).Contents (Elt F)) (i : S5000.Idx) :
    val_main_v175 (F := F) x0 x1 i = FloatOps.subf (val_main_v168 (F := F) x0 x1 i) (val_main_v164 (F := F) x0 x1 i) := rfl

def val_main_v176 (x0 : (⟨S5000x6, .f32⟩ : BufTy).Contents (Elt F)) (x1 : (⟨S2000x5, .f32⟩ : BufTy).Contents (Elt F)) : (⟨S5000, .f32⟩ : BufTy).Contents (Elt F) :=
  subf (val_main_v170 (F := F) x0 x1) (val_main_v166 (F := F) x0 x1)
theorem val_main_v176_apply (x0 : (⟨S5000x6, .f32⟩ : BufTy).Contents (Elt F)) (x1 : (⟨S2000x5, .f32⟩ : BufTy).Contents (Elt F)) (i : S5000.Idx) :
    val_main_v176 (F := F) x0 x1 i = FloatOps.subf (val_main_v170 (F := F) x0 x1 i) (val_main_v166 (F := F) x0 x1 i) := rfl

def val_main_cst_35 : (⟨S_, .f32⟩ : BufTy).Contents (Elt F) :=
  constant S_ .f32 0x33D6BF95#32
theorem val_main_cst_35_apply (i : S_.Idx) :
    val_main_cst_35 (F := F) i = FloatOps.ofBits .f32 0x33D6BF95#32 := rfl

def val_main_v177 : (⟨S5000, .f32⟩ : BufTy).Contents (Elt F) :=
  broadcastInDim S5000 ![] bcast_S_S5000 (val_main_cst_35 (F := F))
abbrev idx_main_v177 (i : S5000.Idx) : S_.Idx := fun a => a.elim0
theorem val_main_v177_apply (i : S5000.Idx) :
    val_main_v177 (F := F) i = val_main_cst_35 (F := F) (idx_main_v177 i) := by
  unfold val_main_v177
  generalize val_main_cst_35 (F := F) = y
  exact broadcastInDim_apply _ bcast_S_S5000 y i (idx_main_v177 i) (fun a => a.elim0)

def val_main_v178 (x0 : (⟨S5000x6, .f32⟩ : BufTy).Contents (Elt F)) (x1 : (⟨S2000x5, .f32⟩ : BufTy).Contents (Elt F)) : (⟨S5000, .f32⟩ : BufTy).Contents (Elt F) :=
  addf (val_main_v176 (F := F) x0 x1) (val_main_v177 (F := F))
theorem val_main_v178_apply (x0 : (⟨S5000x6, .f32⟩ : BufTy).Contents (Elt F)) (x1 : (⟨S2000x5, .f32⟩ : BufTy).Contents (Elt F)) (i : S5000.Idx) :
    val_main_v178 (F := F) x0 x1 i = FloatOps.addf (val_main_v176 (F := F) x0 x1 i) (val_main_v177 (F := F) i) := rfl

def val_main_v179 (x0 : (⟨S5000x6, .f32⟩ : BufTy).Contents (Elt F)) (x1 : (⟨S2000x5, .f32⟩ : BufTy).Contents (Elt F)) : (⟨S5000, .f32⟩ : BufTy).Contents (Elt F) :=
  minimumf (val_main_v160 (F := F) x0) (val_main_v168 (F := F) x0 x1)
theorem val_main_v179_apply (x0 : (⟨S5000x6, .f32⟩ : BufTy).Contents (Elt F)) (x1 : (⟨S2000x5, .f32⟩ : BufTy).Contents (Elt F)) (i : S5000.Idx) :
    val_main_v179 (F := F) x0 x1 i = FloatOps.minimumf (val_main_v160 (F := F) x0 i) (val_main_v168 (F := F) x0 x1 i) := rfl

def val_main_v180 (x0 : (⟨S5000x6, .f32⟩ : BufTy).Contents (Elt F)) (x1 : (⟨S2000x5, .f32⟩ : BufTy).Contents (Elt F)) : (⟨S5000, .f32⟩ : BufTy).Contents (Elt F) :=
  maximumf (val_main_v156 (F := F) x0) (val_main_v164 (F := F) x0 x1)
theorem val_main_v180_apply (x0 : (⟨S5000x6, .f32⟩ : BufTy).Contents (Elt F)) (x1 : (⟨S2000x5, .f32⟩ : BufTy).Contents (Elt F)) (i : S5000.Idx) :
    val_main_v180 (F := F) x0 x1 i = FloatOps.maximumf (val_main_v156 (F := F) x0 i) (val_main_v164 (F := F) x0 x1 i) := rfl

def val_main_v181 (x0 : (⟨S5000x6, .f32⟩ : BufTy).Contents (Elt F)) (x1 : (⟨S2000x5, .f32⟩ : BufTy).Contents (Elt F)) : (⟨S5000, .f32⟩ : BufTy).Contents (Elt F) :=
  subf (val_main_v179 (F := F) x0 x1) (val_main_v180 (F := F) x0 x1)
theorem val_main_v181_apply (x0 : (⟨S5000x6, .f32⟩ : BufTy).Contents (Elt F)) (x1 : (⟨S2000x5, .f32⟩ : BufTy).Contents (Elt F)) (i : S5000.Idx) :
    val_main_v181 (F := F) x0 x1 i = FloatOps.subf (val_main_v179 (F := F) x0 x1 i) (val_main_v180 (F := F) x0 x1 i) := rfl

def val_main_cst_36 : (⟨S_, .f32⟩ : BufTy).Contents (Elt F) :=
  constant S_ .f32 0x00000000#32
theorem val_main_cst_36_apply (i : S_.Idx) :
    val_main_cst_36 (F := F) i = FloatOps.ofBits .f32 0x00000000#32 := rfl

def val_main_call5_v0 : (⟨S_, .f32⟩ : BufTy).Contents (Elt F) :=
  id (val_main_cst_36 (F := F))
theorem val_main_call5_v0_apply (i : S_.Idx) :
    val_main_call5_v0 (F := F) i = (val_main_cst_36 (F := F) i) := rfl

def val_main_call5_v1 : (⟨S5000, .f32⟩ : BufTy).Contents (Elt F) :=
  broadcastInDim S5000 ![] bcast_S_S5000 (val_main_call5_v0 (F := F))
abbrev idx_main_call5_v1 (i : S5000.Idx) : S_.Idx := fun a => a.elim0
theorem val_main_call5_v1_apply (i : S5000.Idx) :
    val_main_call5_v1 (F := F) i = val_main_call5_v0 (F := F) (idx_main_call5_v1 i) := by
  unfold val_main_call5_v1
  generalize val_main_call5_v0 (F := F) = y
  exact broadcastInDim_apply _ bcast_S_S5000 y i (idx_main_call5_v1 i) (fun a => a.elim0)

def val_main_v182 (x0 : (⟨S5000x6, .f32⟩ : BufTy).Contents (Elt F)) (x1 : (⟨S2000x5, .f32⟩ : BufTy).Contents (Elt F)) : (⟨S5000, .f32⟩ : BufTy).Contents (Elt F) :=
  maximumf (val_main_call5_v1 (F := F)) (val_main_v181 (F := F) x0 x1)
theorem val_main_v182_apply (x0 : (⟨S5000x6, .f32⟩ : BufTy).Contents (Elt F)) (x1 : (⟨S2000x5, .f32⟩ : BufTy).Contents (Elt F)) (i : S5000.Idx) :
    val_main_v182 (F := F) x0 x1 i = FloatOps.maximumf (val_main_call5_v1 (F := F) i) (val_main_v181 (F := F) x0 x1 i) := rfl

def val_main_v183 (x0 : (⟨S5000x6, .f32⟩ : BufTy).Contents (Elt F)) (x1 : (⟨S2000x5, .f32⟩ : BufTy).Contents (Elt F)) : (⟨S5000, .f32⟩ : BufTy).Contents (Elt F) :=
  minimumf (val_main_v162 (F := F) x0) (val_main_v170 (F := F) x0 x1)
theorem val_main_v183_apply (x0 : (⟨S5000x6, .f32⟩ : BufTy).Contents (Elt F)) (x1 : (⟨S2000x5, .f32⟩ : BufTy).Contents (Elt F)) (i : S5000.Idx) :
    val_main_v183 (F := F) x0 x1 i = FloatOps.minimumf (val_main_v162 (F := F) x0 i) (val_main_v170 (F := F) x0 x1 i) := rfl

def val_main_v184 (x0 : (⟨S5000x6, .f32⟩ : BufTy).Contents (Elt F)) (x1 : (⟨S2000x5, .f32⟩ : BufTy).Contents (Elt F)) : (⟨S5000, .f32⟩ : BufTy).Contents (Elt F) :=
  maximumf (val_main_v158 (F := F) x0) (val_main_v166 (F := F) x0 x1)
theorem val_main_v184_apply (x0 : (⟨S5000x6, .f32⟩ : BufTy).Contents (Elt F)) (x1 : (⟨S2000x5, .f32⟩ : BufTy).Contents (Elt F)) (i : S5000.Idx) :
    val_main_v184 (F := F) x0 x1 i = FloatOps.maximumf (val_main_v158 (F := F) x0 i) (val_main_v166 (F := F) x0 x1 i) := rfl

def val_main_v185 (x0 : (⟨S5000x6, .f32⟩ : BufTy).Contents (Elt F)) (x1 : (⟨S2000x5, .f32⟩ : BufTy).Contents (Elt F)) : (⟨S5000, .f32⟩ : BufTy).Contents (Elt F) :=
  subf (val_main_v183 (F := F) x0 x1) (val_main_v184 (F := F) x0 x1)
theorem val_main_v185_apply (x0 : (⟨S5000x6, .f32⟩ : BufTy).Contents (Elt F)) (x1 : (⟨S2000x5, .f32⟩ : BufTy).Contents (Elt F)) (i : S5000.Idx) :
    val_main_v185 (F := F) x0 x1 i = FloatOps.subf (val_main_v183 (F := F) x0 x1 i) (val_main_v184 (F := F) x0 x1 i) := rfl

def val_main_cst_37 : (⟨S_, .f32⟩ : BufTy).Contents (Elt F) :=
  constant S_ .f32 0x00000000#32
theorem val_main_cst_37_apply (i : S_.Idx) :
    val_main_cst_37 (F := F) i = FloatOps.ofBits .f32 0x00000000#32 := rfl

def val_main_call6_v0 : (⟨S_, .f32⟩ : BufTy).Contents (Elt F) :=
  id (val_main_cst_37 (F := F))
theorem val_main_call6_v0_apply (i : S_.Idx) :
    val_main_call6_v0 (F := F) i = (val_main_cst_37 (F := F) i) := rfl

def val_main_call6_v1 : (⟨S5000, .f32⟩ : BufTy).Contents (Elt F) :=
  broadcastInDim S5000 ![] bcast_S_S5000 (val_main_call6_v0 (F := F))
abbrev idx_main_call6_v1 (i : S5000.Idx) : S_.Idx := fun a => a.elim0
theorem val_main_call6_v1_apply (i : S5000.Idx) :
    val_main_call6_v1 (F := F) i = val_main_call6_v0 (F := F) (idx_main_call6_v1 i) := by
  unfold val_main_call6_v1
  generalize val_main_call6_v0 (F := F) = y
  exact broadcastInDim_apply _ bcast_S_S5000 y i (idx_main_call6_v1 i) (fun a => a.elim0)

def val_main_v186 (x0 : (⟨S5000x6, .f32⟩ : BufTy).Contents (Elt F)) (x1 : (⟨S2000x5, .f32⟩ : BufTy).Contents (Elt F)) : (⟨S5000, .f32⟩ : BufTy).Contents (Elt F) :=
  maximumf (val_main_call6_v1 (F := F)) (val_main_v185 (F := F) x0 x1)
theorem val_main_v186_apply (x0 : (⟨S5000x6, .f32⟩ : BufTy).Contents (Elt F)) (x1 : (⟨S2000x5, .f32⟩ : BufTy).Contents (Elt F)) (i : S5000.Idx) :
    val_main_v186 (F := F) x0 x1 i = FloatOps.maximumf (val_main_call6_v1 (F := F) i) (val_main_v185 (F := F) x0 x1 i) := rfl

def val_main_v187 (x0 : (⟨S5000x6, .f32⟩ : BufTy).Contents (Elt F)) (x1 : (⟨S2000x5, .f32⟩ : BufTy).Contents (Elt F)) : (⟨S5000, .f32⟩ : BufTy).Contents (Elt F) :=
  mulf (val_main_v182 (F := F) x0 x1) (val_main_v186 (F := F) x0 x1)
theorem val_main_v187_apply (x0 : (⟨S5000x6, .f32⟩ : BufTy).Contents (Elt F)) (x1 : (⟨S2000x5, .f32⟩ : BufTy).Contents (Elt F)) (i : S5000.Idx) :
    val_main_v187 (F := F) x0 x1 i = FloatOps.mulf (val_main_v182 (F := F) x0 x1 i) (val_main_v186 (F := F) x0 x1 i) := rfl

def val_main_v188 (x0 : (⟨S5000x6, .f32⟩ : BufTy).Contents (Elt F)) : (⟨S5000, .f32⟩ : BufTy).Contents (Elt F) :=
  mulf (val_main_v171 (F := F) x0) (val_main_v174 (F := F) x0)
theorem val_main_v188_apply (x0 : (⟨S5000x6, .f32⟩ : BufTy).Contents (Elt F)) (i : S5000.Idx) :
    val_main_v188 (F := F) x0 i = FloatOps.mulf (val_main_v171 (F := F) x0 i) (val_main_v174 (F := F) x0 i) := rfl

def val_main_v189 (x0 : (⟨S5000x6, .f32⟩ : BufTy).Contents (Elt F)) (x1 : (⟨S2000x5, .f32⟩ : BufTy).Contents (Elt F)) : (⟨S5000, .f32⟩ : BufTy).Contents (Elt F) :=
  mulf (val_main_v175 (F := F) x0 x1) (val_main_v178 (F := F) x0 x1)
theorem val_main_v189_apply (x0 : (⟨S5000x6, .f32⟩ : BufTy).Contents (Elt F)) (x1 : (⟨S2000x5, .f32⟩ : BufTy).Contents (Elt F)) (i : S5000.Idx) :
    val_main_v189 (F := F) x0 x1 i = FloatOps.mulf (val_main_v175 (F := F) x0 x1 i) (val_main_v178 (F := F) x0 x1 i) := rfl

def val_main_v190 (x0 : (⟨S5000x6, .f32⟩ : BufTy).Contents (Elt F)) (x1 : (⟨S2000x5, .f32⟩ : BufTy).Contents (Elt F)) : (⟨S5000, .f32⟩ : BufTy).Contents (Elt F) :=
  addf (val_main_v188 (F := F) x0) (val_main_v189 (F := F) x0 x1)
theorem val_main_v190_apply (x0 : (⟨S5000x6, .f32⟩ : BufTy).Contents (Elt F)) (x1 : (⟨S2000x5, .f32⟩ : BufTy).Contents (Elt F)) (i : S5000.Idx) :
    val_main_v190 (F := F) x0 x1 i = FloatOps.addf (val_main_v188 (F := F) x0 i) (val_main_v189 (F := F) x0 x1 i) := rfl

def val_main_v191 (x0 : (⟨S5000x6, .f32⟩ : BufTy).Contents (Elt F)) (x1 : (⟨S2000x5, .f32⟩ : BufTy).Contents (Elt F)) : (⟨S5000, .f32⟩ : BufTy).Contents (Elt F) :=
  subf (val_main_v190 (F := F) x0 x1) (val_main_v187 (F := F) x0 x1)
theorem val_main_v191_apply (x0 : (⟨S5000x6, .f32⟩ : BufTy).Contents (Elt F)) (x1 : (⟨S2000x5, .f32⟩ : BufTy).Contents (Elt F)) (i : S5000.Idx) :
    val_main_v191 (F := F) x0 x1 i = FloatOps.subf (val_main_v190 (F := F) x0 x1 i) (val_main_v187 (F := F) x0 x1 i) := rfl

def val_main_cst_38 : (⟨S_, .f32⟩ : BufTy).Contents (Elt F) :=
  constant S_ .f32 0x33D6BF95#32
theorem val_main_cst_38_apply (i : S_.Idx) :
    val_main_cst_38 (F := F) i = FloatOps.ofBits .f32 0x33D6BF95#32 := rfl

def val_main_v192 : (⟨S5000, .f32⟩ : BufTy).Contents (Elt F) :=
  broadcastInDim S5000 ![] bcast_S_S5000 (val_main_cst_38 (F := F))
abbrev idx_main_v192 (i : S5000.Idx) : S_.Idx := fun a => a.elim0
theorem val_main_v192_apply (i : S5000.Idx) :
    val_main_v192 (F := F) i = val_main_cst_38 (F := F) (idx_main_v192 i) := by
  unfold val_main_v192
  generalize val_main_cst_38 (F := F) = y
  exact broadcastInDim_apply _ bcast_S_S5000 y i (idx_main_v192 i) (fun a => a.elim0)

def val_main_v193 (x0 : (⟨S5000x6, .f32⟩ : BufTy).Contents (Elt F)) (x1 : (⟨S2000x5, .f32⟩ : BufTy).Contents (Elt F)) : (⟨S5000, .f32⟩ : BufTy).Contents (Elt F) :=
  addf (val_main_v191 (F := F) x0 x1) (val_main_v192 (F := F))
theorem val_main_v193_apply (x0 : (⟨S5000x6, .f32⟩ : BufTy).Contents (Elt F)) (x1 : (⟨S2000x5, .f32⟩ : BufTy).Contents (Elt F)) (i : S5000.Idx) :
    val_main_v193 (F := F) x0 x1 i = FloatOps.addf (val_main_v191 (F := F) x0 x1 i) (val_main_v192 (F := F) i) := rfl

def val_main_v194 (x0 : (⟨S5000x6, .f32⟩ : BufTy).Contents (Elt F)) (x1 : (⟨S2000x5, .f32⟩ : BufTy).Contents (Elt F)) : (⟨S5000, .f32⟩ : BufTy).Contents (Elt F) :=
  Host.divf (val_main_v187 (F := F) x0 x1) (val_main_v193 (F := F) x0 x1)
theorem val_main_v194_apply (x0 : (⟨S5000x6, .f32⟩ : BufTy).Contents (Elt F)) (x1 : (⟨S2000x5, .f32⟩ : BufTy).Contents (Elt F)) (i : S5000.Idx) :
    val_main_v194 (F := F) x0 x1 i = FloatOps.hostDivf (val_main_v187 (F := F) x0 x1 i) (val_main_v193 (F := F) x0 x1 i) := rfl

def val_main_v195 (x0 : (⟨S5000x6, .f32⟩ : BufTy).Contents (Elt F)) (x1 : (⟨S2000x5, .f32⟩ : BufTy).Contents (Elt F)) : (⟨S5000, .f32⟩ : BufTy).Contents (Elt F) :=
  maximumf (val_main_v160 (F := F) x0) (val_main_v168 (F := F) x0 x1)
theorem val_main_v195_apply (x0 : (⟨S5000x6, .f32⟩ : BufTy).Contents (Elt F)) (x1 : (⟨S2000x5, .f32⟩ : BufTy).Contents (Elt F)) (i : S5000.Idx) :
    val_main_v195 (F := F) x0 x1 i = FloatOps.maximumf (val_main_v160 (F := F) x0 i) (val_main_v168 (F := F) x0 x1 i) := rfl

def val_main_v196 (x0 : (⟨S5000x6, .f32⟩ : BufTy).Contents (Elt F)) (x1 : (⟨S2000x5, .f32⟩ : BufTy).Contents (Elt F)) : (⟨S5000, .f32⟩ : BufTy).Contents (Elt F) :=
  minimumf (val_main_v156 (F := F) x0) (val_main_v164 (F := F) x0 x1)
theorem val_main_v196_apply (x0 : (⟨S5000x6, .f32⟩ : BufTy).Contents (Elt F)) (x1 : (⟨S2000x5, .f32⟩ : BufTy).Contents (Elt F)) (i : S5000.Idx) :
    val_main_v196 (F := F) x0 x1 i = FloatOps.minimumf (val_main_v156 (F := F) x0 i) (val_main_v164 (F := F) x0 x1 i) := rfl

def val_main_v197 (x0 : (⟨S5000x6, .f32⟩ : BufTy).Contents (Elt F)) (x1 : (⟨S2000x5, .f32⟩ : BufTy).Contents (Elt F)) : (⟨S5000, .f32⟩ : BufTy).Contents (Elt F) :=
  subf (val_main_v195 (F := F) x0 x1) (val_main_v196 (F := F) x0 x1)
theorem val_main_v197_apply (x0 : (⟨S5000x6, .f32⟩ : BufTy).Contents (Elt F)) (x1 : (⟨S2000x5, .f32⟩ : BufTy).Contents (Elt F)) (i : S5000.Idx) :
    val_main_v197 (F := F) x0 x1 i = FloatOps.subf (val_main_v195 (F := F) x0 x1 i) (val_main_v196 (F := F) x0 x1 i) := rfl

def val_main_v198 (x0 : (⟨S5000x6, .f32⟩ : BufTy).Contents (Elt F)) (x1 : (⟨S2000x5, .f32⟩ : BufTy).Contents (Elt F)) : (⟨S5000, .f32⟩ : BufTy).Contents (Elt F) :=
  maximumf (val_main_v162 (F := F) x0) (val_main_v170 (F := F) x0 x1)
theorem val_main_v198_apply (x0 : (⟨S5000x6, .f32⟩ : BufTy).Contents (Elt F)) (x1 : (⟨S2000x5, .f32⟩ : BufTy).Contents (Elt F)) (i : S5000.Idx) :
    val_main_v198 (F := F) x0 x1 i = FloatOps.maximumf (val_main_v162 (F := F) x0 i) (val_main_v170 (F := F) x0 x1 i) := rfl

def val_main_v199 (x0 : (⟨S5000x6, .f32⟩ : BufTy).Contents (Elt F)) (x1 : (⟨S2000x5, .f32⟩ : BufTy).Contents (Elt F)) : (⟨S5000, .f32⟩ : BufTy).Contents (Elt F) :=
  minimumf (val_main_v158 (F := F) x0) (val_main_v166 (F := F) x0 x1)
theorem val_main_v199_apply (x0 : (⟨S5000x6, .f32⟩ : BufTy).Contents (Elt F)) (x1 : (⟨S2000x5, .f32⟩ : BufTy).Contents (Elt F)) (i : S5000.Idx) :
    val_main_v199 (F := F) x0 x1 i = FloatOps.minimumf (val_main_v158 (F := F) x0 i) (val_main_v166 (F := F) x0 x1 i) := rfl

def val_main_v200 (x0 : (⟨S5000x6, .f32⟩ : BufTy).Contents (Elt F)) (x1 : (⟨S2000x5, .f32⟩ : BufTy).Contents (Elt F)) : (⟨S5000, .f32⟩ : BufTy).Contents (Elt F) :=
  subf (val_main_v198 (F := F) x0 x1) (val_main_v199 (F := F) x0 x1)
theorem val_main_v200_apply (x0 : (⟨S5000x6, .f32⟩ : BufTy).Contents (Elt F)) (x1 : (⟨S2000x5, .f32⟩ : BufTy).Contents (Elt F)) (i : S5000.Idx) :
    val_main_v200 (F := F) x0 x1 i = FloatOps.subf (val_main_v198 (F := F) x0 x1 i) (val_main_v199 (F := F) x0 x1 i) := rfl

def val_main_v201 (x0 : (⟨S5000x6, .f32⟩ : BufTy).Contents (Elt F)) (x1 : (⟨S2000x5, .f32⟩ : BufTy).Contents (Elt F)) : (⟨S5000, .f32⟩ : BufTy).Contents (Elt F) :=
  mulf (val_main_v197 (F := F) x0 x1) (val_main_v197 (F := F) x0 x1)
theorem val_main_v201_apply (x0 : (⟨S5000x6, .f32⟩ : BufTy).Contents (Elt F)) (x1 : (⟨S2000x5, .f32⟩ : BufTy).Contents (Elt F)) (i : S5000.Idx) :
    val_main_v201 (F := F) x0 x1 i = FloatOps.mulf (val_main_v197 (F := F) x0 x1 i) (val_main_v197 (F := F) x0 x1 i) := rfl

def val_main_v202 (x0 : (⟨S5000x6, .f32⟩ : BufTy).Contents (Elt F)) (x1 : (⟨S2000x5, .f32⟩ : BufTy).Contents (Elt F)) : (⟨S5000, .f32⟩ : BufTy).Contents (Elt F) :=
  mulf (val_main_v200 (F := F) x0 x1) (val_main_v200 (F := F) x0 x1)
theorem val_main_v202_apply (x0 : (⟨S5000x6, .f32⟩ : BufTy).Contents (Elt F)) (x1 : (⟨S2000x5, .f32⟩ : BufTy).Contents (Elt F)) (i : S5000.Idx) :
    val_main_v202 (F := F) x0 x1 i = FloatOps.mulf (val_main_v200 (F := F) x0 x1 i) (val_main_v200 (F := F) x0 x1 i) := rfl

def val_main_v203 (x0 : (⟨S5000x6, .f32⟩ : BufTy).Contents (Elt F)) (x1 : (⟨S2000x5, .f32⟩ : BufTy).Contents (Elt F)) : (⟨S5000, .f32⟩ : BufTy).Contents (Elt F) :=
  addf (val_main_v201 (F := F) x0 x1) (val_main_v202 (F := F) x0 x1)
theorem val_main_v203_apply (x0 : (⟨S5000x6, .f32⟩ : BufTy).Contents (Elt F)) (x1 : (⟨S2000x5, .f32⟩ : BufTy).Contents (Elt F)) (i : S5000.Idx) :
    val_main_v203 (F := F) x0 x1 i = FloatOps.addf (val_main_v201 (F := F) x0 x1 i) (val_main_v202 (F := F) x0 x1 i) := rfl

def val_main_cst_39 : (⟨S_, .f32⟩ : BufTy).Contents (Elt F) :=
  constant S_ .f32 0x33D6BF95#32
theorem val_main_cst_39_apply (i : S_.Idx) :
    val_main_cst_39 (F := F) i = FloatOps.ofBits .f32 0x33D6BF95#32 := rfl

def val_main_v204 : (⟨S5000, .f32⟩ : BufTy).Contents (Elt F) :=
  broadcastInDim S5000 ![] bcast_S_S5000 (val_main_cst_39 (F := F))
abbrev idx_main_v204 (i : S5000.Idx) : S_.Idx := fun a => a.elim0
theorem val_main_v204_apply (i : S5000.Idx) :
    val_main_v204 (F := F) i = val_main_cst_39 (F := F) (idx_main_v204 i) := by
  unfold val_main_v204
  generalize val_main_cst_39 (F := F) = y
  exact broadcastInDim_apply _ bcast_S_S5000 y i (idx_main_v204 i) (fun a => a.elim0)

def val_main_v205 (x0 : (⟨S5000x6, .f32⟩ : BufTy).Contents (Elt F)) (x1 : (⟨S2000x5, .f32⟩ : BufTy).Contents (Elt F)) : (⟨S5000, .f32⟩ : BufTy).Contents (Elt F) :=
  addf (val_main_v203 (F := F) x0 x1) (val_main_v204 (F := F))
theorem val_main_v205_apply (x0 : (⟨S5000x6, .f32⟩ : BufTy).Contents (Elt F)) (x1 : (⟨S2000x5, .f32⟩ : BufTy).Contents (Elt F)) (i : S5000.Idx) :
    val_main_v205 (F := F) x0 x1 i = FloatOps.addf (val_main_v203 (F := F) x0 x1 i) (val_main_v204 (F := F) i) := rfl

def val_main_v206 (x0 : (⟨S5000x6, .f32⟩ : BufTy).Contents (Elt F)) (x1 : (⟨S2000x5, .f32⟩ : BufTy).Contents (Elt F)) : (⟨S5000, .f32⟩ : BufTy).Contents (Elt F) :=
  addf (val_main_v164 (F := F) x0 x1) (val_main_v168 (F := F) x0 x1)
theorem val_main_v206_apply (x0 : (⟨S5000x6, .f32⟩ : BufTy).Contents (Elt F)) (x1 : (⟨S2000x5, .f32⟩ : BufTy).Contents (Elt F)) (i : S5000.Idx) :
    val_main_v206 (F := F) x0 x1 i = FloatOps.addf (val_main_v164 (F := F) x0 x1 i) (val_main_v168 (F := F) x0 x1 i) := rfl

def val_main_v207 (x0 : (⟨S5000x6, .f32⟩ : BufTy).Contents (Elt F)) (x1 : (⟨S2000x5, .f32⟩ : BufTy).Contents (Elt F)) : (⟨S5000, .f32⟩ : BufTy).Contents (Elt F) :=
  subf (val_main_v206 (F := F) x0 x1) (val_main_v156 (F := F) x0)
theorem val_main_v207_apply (x0 : (⟨S5000x6, .f32⟩ : BufTy).Contents (Elt F)) (x1 : (⟨S2000x5, .f32⟩ : BufTy).Contents (Elt F)) (i : S5000.Idx) :
    val_main_v207 (F := F) x0 x1 i = FloatOps.subf (val_main_v206 (F := F) x0 x1 i) (val_main_v156 (F := F) x0 i) := rfl

def val_main_v208 (x0 : (⟨S5000x6, .f32⟩ : BufTy).Contents (Elt F)) (x1 : (⟨S2000x5, .f32⟩ : BufTy).Contents (Elt F)) : (⟨S5000, .f32⟩ : BufTy).Contents (Elt F) :=
  subf (val_main_v207 (F := F) x0 x1) (val_main_v160 (F := F) x0)
theorem val_main_v208_apply (x0 : (⟨S5000x6, .f32⟩ : BufTy).Contents (Elt F)) (x1 : (⟨S2000x5, .f32⟩ : BufTy).Contents (Elt F)) (i : S5000.Idx) :
    val_main_v208 (F := F) x0 x1 i = FloatOps.subf (val_main_v207 (F := F) x0 x1 i) (val_main_v160 (F := F) x0 i) := rfl

def val_main_v209 (x0 : (⟨S5000x6, .f32⟩ : BufTy).Contents (Elt F)) (x1 : (⟨S2000x5, .f32⟩ : BufTy).Contents (Elt F)) : (⟨S5000, .f32⟩ : BufTy).Contents (Elt F) :=
  mulf (val_main_v208 (F := F) x0 x1) (val_main_v208 (F := F) x0 x1)
theorem val_main_v209_apply (x0 : (⟨S5000x6, .f32⟩ : BufTy).Contents (Elt F)) (x1 : (⟨S2000x5, .f32⟩ : BufTy).Contents (Elt F)) (i : S5000.Idx) :
    val_main_v209 (F := F) x0 x1 i = FloatOps.mulf (val_main_v208 (F := F) x0 x1 i) (val_main_v208 (F := F) x0 x1 i) := rfl

def val_main_v210 (x0 : (⟨S5000x6, .f32⟩ : BufTy).Contents (Elt F)) (x1 : (⟨S2000x5, .f32⟩ : BufTy).Contents (Elt F)) : (⟨S5000, .f32⟩ : BufTy).Contents (Elt F) :=
  addf (val_main_v166 (F := F) x0 x1) (val_main_v170 (F := F) x0 x1)
theorem val_main_v210_apply (x0 : (⟨S5000x6, .f32⟩ : BufTy).Contents (Elt F)) (x1 : (⟨S2000x5, .f32⟩ : BufTy).Contents (Elt F)) (i : S5000.Idx) :
    val_main_v210 (F := F) x0 x1 i = FloatOps.addf (val_main_v166 (F := F) x0 x1 i) (val_main_v170 (F := F) x0 x1 i) := rfl

def val_main_v211 (x0 : (⟨S5000x6, .f32⟩ : BufTy).Contents (Elt F)) (x1 : (⟨S2000x5, .f32⟩ : BufTy).Contents (Elt F)) : (⟨S5000, .f32⟩ : BufTy).Contents (Elt F) :=
  subf (val_main_v210 (F := F) x0 x1) (val_main_v158 (F := F) x0)
theorem val_main_v211_apply (x0 : (⟨S5000x6, .f32⟩ : BufTy).Contents (Elt F)) (x1 : (⟨S2000x5, .f32⟩ : BufTy).Contents (Elt F)) (i : S5000.Idx) :
    val_main_v211 (F := F) x0 x1 i = FloatOps.subf (val_main_v210 (F := F) x0 x1 i) (val_main_v158 (F := F) x0 i) := rfl

def val_main_v212 (x0 : (⟨S5000x6, .f32⟩ : BufTy).Contents (Elt F)) (x1 : (⟨S2000x5, .f32⟩ : BufTy).Contents (Elt F)) : (⟨S5000, .f32⟩ : BufTy).Contents (Elt F) :=
  subf (val_main_v211 (F := F) x0 x1) (val_main_v162 (F := F) x0)
theorem val_main_v212_apply (x0 : (⟨S5000x6, .f32⟩ : BufTy).Contents (Elt F)) (x1 : (⟨S2000x5, .f32⟩ : BufTy).Contents (Elt F)) (i : S5000.Idx) :
    val_main_v212 (F := F) x0 x1 i = FloatOps.subf (val_main_v211 (F := F) x0 x1 i) (val_main_v162 (F := F) x0 i) := rfl

def val_main_v213 (x0 : (⟨S5000x6, .f32⟩ : BufTy).Contents (Elt F)) (x1 : (⟨S2000x5, .f32⟩ : BufTy).Contents (Elt F)) : (⟨S5000, .f32⟩ : BufTy).Contents (Elt F) :=
  mulf (val_main_v212 (F := F) x0 x1) (val_main_v212 (F := F) x0 x1)
theorem val_main_v213_apply (x0 : (⟨S5000x6, .f32⟩ : BufTy).Contents (Elt F)) (x1 : (⟨S2000x5, .f32⟩ : BufTy).Contents (Elt F)) (i : S5000.Idx) :
    val_main_v213 (F := F) x0 x1 i = FloatOps.mulf (val_main_v212 (F := F) x0 x1 i) (val_main_v212 (F := F) x0 x1 i) := rfl

def val_main_v214 (x0 : (⟨S5000x6, .f32⟩ : BufTy).Contents (Elt F)) (x1 : (⟨S2000x5, .f32⟩ : BufTy).Contents (Elt F)) : (⟨S5000, .f32⟩ : BufTy).Contents (Elt F) :=
  addf (val_main_v209 (F := F) x0 x1) (val_main_v213 (F := F) x0 x1)
theorem val_main_v214_apply (x0 : (⟨S5000x6, .f32⟩ : BufTy).Contents (Elt F)) (x1 : (⟨S2000x5, .f32⟩ : BufTy).Contents (Elt F)) (i : S5000.Idx) :
    val_main_v214 (F := F) x0 x1 i = FloatOps.addf (val_main_v209 (F := F) x0 x1 i) (val_main_v213 (F := F) x0 x1 i) := rfl

def val_main_cst_40 : (⟨S_, .f32⟩ : BufTy).Contents (Elt F) :=
  constant S_ .f32 0x40800000#32
theorem val_main_cst_40_apply (i : S_.Idx) :
    val_main_cst_40 (F := F) i = FloatOps.ofBits .f32 0x40800000#32 := rfl

def val_main_v215 : (⟨S5000, .f32⟩ : BufTy).Contents (Elt F) :=
  broadcastInDim S5000 ![] bcast_S_S5000 (val_main_cst_40 (F := F))
abbrev idx_main_v215 (i : S5000.Idx) : S_.Idx := fun a => a.elim0
theorem val_main_v215_apply (i : S5000.Idx) :
    val_main_v215 (F := F) i = val_main_cst_40 (F := F) (idx_main_v215 i) := by
  unfold val_main_v215
  generalize val_main_cst_40 (F := F) = y
  exact broadcastInDim_apply _ bcast_S_S5000 y i (idx_main_v215 i) (fun a => a.elim0)

def val_main_v216 (x0 : (⟨S5000x6, .f32⟩ : BufTy).Contents (Elt F)) (x1 : (⟨S2000x5, .f32⟩ : BufTy).Contents (Elt F)) : (⟨S5000, .f32⟩ : BufTy).Contents (Elt F) :=
  Host.divf (val_main_v214 (F := F) x0 x1) (val_main_v215 (F := F))
theorem val_main_v216_apply (x0 : (⟨S5000x6, .f32⟩ : BufTy).Contents (Elt F)) (x1 : (⟨S2000x5, .f32⟩ : BufTy).Contents (Elt F)) (i : S5000.Idx) :
    val_main_v216 (F := F) x0 x1 i = FloatOps.hostDivf (val_main_v214 (F := F) x0 x1 i) (val_main_v215 (F := F) i) := rfl

def val_main_v217 (x0 : (⟨S5000x6, .f32⟩ : BufTy).Contents (Elt F)) (x1 : (⟨S2000x5, .f32⟩ : BufTy).Contents (Elt F)) : (⟨S5000, .f32⟩ : BufTy).Contents (Elt F) :=
  Host.divf (val_main_v175 (F := F) x0 x1) (val_main_v178 (F := F) x0 x1)
theorem val_main_v217_apply (x0 : (⟨S5000x6, .f32⟩ : BufTy).Contents (Elt F)) (x1 : (⟨S2000x5, .f32⟩ : BufTy).Contents (Elt F)) (i : S5000.Idx) :
    val_main_v217 (F := F) x0 x1 i = FloatOps.hostDivf (val_main_v175 (F := F) x0 x1 i) (val_main_v178 (F := F) x0 x1 i) := rfl

def val_main_v218 (x0 : (⟨S5000x6, .f32⟩ : BufTy).Contents (Elt F)) (x1 : (⟨S2000x5, .f32⟩ : BufTy).Contents (Elt F)) : (⟨S5000, .f32⟩ : BufTy).Contents (Elt F) :=
  Host.atan (val_main_v217 (F := F) x0 x1)
theorem val_main_v218_apply (x0 : (⟨S5000x6, .f32⟩ : BufTy).Contents (Elt F)) (x1 : (⟨S2000x5, .f32⟩ : BufTy).Contents (Elt F)) (i : S5000.Idx) :
    val_main_v218 (F := F) x0 x1 i = FloatOps.hostUnary .atan (val_main_v217 (F := F) x0 x1 i) := rfl

def val_main_v219 (x0 : (⟨S5000x6, .f32⟩ : BufTy).Contents (Elt F)) : (⟨S5000, .f32⟩ : BufTy).Contents (Elt F) :=
  Host.divf (val_main_v171 (F := F) x0) (val_main_v174 (F := F) x0)
theorem val_main_v219_apply (x0 : (⟨S5000x6, .f32⟩ : BufTy).Contents (Elt F)) (i : S5000.Idx) :
    val_main_v219 (F := F) x0 i = FloatOps.hostDivf (val_main_v171 (F := F) x0 i) (val_main_v174 (F := F) x0 i) := rfl

def val_main_v220 (x0 : (⟨S5000x6, .f32⟩ : BufTy).Contents (Elt F)) : (⟨S5000, .f32⟩ : BufTy).Contents (Elt F) :=
  Host.atan (val_main_v219 (F := F) x0)
theorem val_main_v220_apply (x0 : (⟨S5000x6, .f32⟩ : BufTy).Contents (Elt F)) (i : S5000.Idx) :
    val_main_v220 (F := F) x0 i = FloatOps.hostUnary .atan (val_main_v219 (F := F) x0 i) := rfl

def val_main_v221 (x0 : (⟨S5000x6, .f32⟩ : BufTy).Contents (Elt F)) (x1 : (⟨S2000x5, .f32⟩ : BufTy).Contents (Elt F)) : (⟨S5000, .f32⟩ : BufTy).Contents (Elt F) :=
  subf (val_main_v218 (F := F) x0 x1) (val_main_v220 (F := F) x0)
theorem val_main_v221_apply (x0 : (⟨S5000x6, .f32⟩ : BufTy).Contents (Elt F)) (x1 : (⟨S2000x5, .f32⟩ : BufTy).Contents (Elt F)) (i : S5000.Idx) :
    val_main_v221 (F := F) x0 x1 i = FloatOps.subf (val_main_v218 (F := F) x0 x1 i) (val_main_v220 (F := F) x0 i) := rfl

def val_main_v222 (x0 : (⟨S5000x6, .f32⟩ : BufTy).Contents (Elt F)) (x1 : (⟨S2000x5, .f32⟩ : BufTy).Contents (Elt F)) : (⟨S5000, .f32⟩ : BufTy).Contents (Elt F) :=
  mulf (val_main_v221 (F := F) x0 x1) (val_main_v221 (F := F) x0 x1)
theorem val_main_v222_apply (x0 : (⟨S5000x6, .f32⟩ : BufTy).Contents (Elt F)) (x1 : (⟨S2000x5, .f32⟩ : BufTy).Contents (Elt F)) (i : S5000.Idx) :
    val_main_v222 (F := F) x0 x1 i = FloatOps.mulf (val_main_v221 (F := F) x0 x1 i) (val_main_v221 (F := F) x0 x1 i) := rfl

def val_main_cst_41 : (⟨S_, .f32⟩ : BufTy).Contents (Elt F) :=
  constant S_ .f32 0x3ECF817B#32
theorem val_main_cst_41_apply (i : S_.Idx) :
    val_main_cst_41 (F := F) i = FloatOps.ofBits .f32 0x3ECF817B#32 := rfl

def val_main_v223 : (⟨S5000, .f32⟩ : BufTy).Contents (Elt F) :=
  broadcastInDim S5000 ![] bcast_S_S5000 (val_main_cst_41 (F := F))
abbrev idx_main_v223 (i : S5000.Idx) : S_.Idx := fun a => a.elim0
theorem val_main_v223_apply (i : S5000.Idx) :
    val_main_v223 (F := F) i = val_main_cst_41 (F := F) (idx_main_v223 i) := by
  unfold val_main_v223
  generalize val_main_cst_41 (F := F) = y
  exact broadcastInDim_apply _ bcast_S_S5000 y i (idx_main_v223 i) (fun a => a.elim0)

def val_main_v224 (x0 : (⟨S5000x6, .f32⟩ : BufTy).Contents (Elt F)) (x1 : (⟨S2000x5, .f32⟩ : BufTy).Contents (Elt F)) : (⟨S5000, .f32⟩ : BufTy).Contents (Elt F) :=
  mulf (val_main_v223 (F := F)) (val_main_v222 (F := F) x0 x1)
theorem val_main_v224_apply (x0 : (⟨S5000x6, .f32⟩ : BufTy).Contents (Elt F)) (x1 : (⟨S2000x5, .f32⟩ : BufTy).Contents (Elt F)) (i : S5000.Idx) :
    val_main_v224 (F := F) x0 x1 i = FloatOps.mulf (val_main_v223 (F := F) i) (val_main_v222 (F := F) x0 x1 i) := rfl

def val_main_v225 (x0 : (⟨S5000x6, .f32⟩ : BufTy).Contents (Elt F)) (x1 : (⟨S2000x5, .f32⟩ : BufTy).Contents (Elt F)) : (⟨S5000, .f32⟩ : BufTy).Contents (Elt F) :=
  subf (val_main_v224 (F := F) x0 x1) (val_main_v194 (F := F) x0 x1)
theorem val_main_v225_apply (x0 : (⟨S5000x6, .f32⟩ : BufTy).Contents (Elt F)) (x1 : (⟨S2000x5, .f32⟩ : BufTy).Contents (Elt F)) (i : S5000.Idx) :
    val_main_v225 (F := F) x0 x1 i = FloatOps.subf (val_main_v224 (F := F) x0 x1 i) (val_main_v194 (F := F) x0 x1 i) := rfl

def val_main_cst_42 : (⟨S_, .f32⟩ : BufTy).Contents (Elt F) :=
  constant S_ .f32 0x3F800001#32
theorem val_main_cst_42_apply (i : S_.Idx) :
    val_main_cst_42 (F := F) i = FloatOps.ofBits .f32 0x3F800001#32 := rfl

def val_main_v226 : (⟨S5000, .f32⟩ : BufTy).Contents (Elt F) :=
  broadcastInDim S5000 ![] bcast_S_S5000 (val_main_cst_42 (F := F))
abbrev idx_main_v226 (i : S5000.Idx) : S_.Idx := fun a => a.elim0
theorem val_main_v226_apply (i : S5000.Idx) :
    val_main_v226 (F := F) i = val_main_cst_42 (F := F) (idx_main_v226 i) := by
  unfold val_main_v226
  generalize val_main_cst_42 (F := F) = y
  exact broadcastInDim_apply _ bcast_S_S5000 y i (idx_main_v226 i) (fun a => a.elim0)

def val_main_v227 (x0 : (⟨S5000x6, .f32⟩ : BufTy).Contents (Elt F)) (x1 : (⟨S2000x5, .f32⟩ : BufTy).Contents (Elt F)) : (⟨S5000, .f32⟩ : BufTy).Contents (Elt F) :=
  addf (val_main_v225 (F := F) x0 x1) (val_main_v226 (F := F))
theorem val_main_v227_apply (x0 : (⟨S5000x6, .f32⟩ : BufTy).Contents (Elt F)) (x1 : (⟨S2000x5, .f32⟩ : BufTy).Contents (Elt F)) (i : S5000.Idx) :
    val_main_v227 (F := F) x0 x1 i = FloatOps.addf (val_main_v225 (F := F) x0 x1 i) (val_main_v226 (F := F) i) := rfl

def val_main_v228 (x0 : (⟨S5000x6, .f32⟩ : BufTy).Contents (Elt F)) (x1 : (⟨S2000x5, .f32⟩ : BufTy).Contents (Elt F)) : (⟨S5000, .f32⟩ : BufTy).Contents (Elt F) :=
  Host.divf (val_main_v224 (F := F) x0 x1) (val_main_v227 (F := F) x0 x1)
theorem val_main_v228_apply (x0 : (⟨S5000x6, .f32⟩ : BufTy).Contents (Elt F)) (x1 : (⟨S2000x5, .f32⟩ : BufTy).Contents (Elt F)) (i : S5000.Idx) :
    val_main_v228 (F := F) x0 x1 i = FloatOps.hostDivf (val_main_v224 (F := F) x0 x1 i) (val_main_v227 (F := F) x0 x1 i) := rfl

def val_main_v229 (x0 : (⟨S5000x6, .f32⟩ : BufTy).Contents (Elt F)) (x1 : (⟨S2000x5, .f32⟩ : BufTy).Contents (Elt F)) : (⟨S5000, .f32⟩ : BufTy).Contents (Elt F) :=
  Host.divf (val_main_v216 (F := F) x0 x1) (val_main_v205 (F := F) x0 x1)
theorem val_main_v229_apply (x0 : (⟨S5000x6, .f32⟩ : BufTy).Contents (Elt F)) (x1 : (⟨S2000x5, .f32⟩ : BufTy).Contents (Elt F)) (i : S5000.Idx) :
    val_main_v229 (F := F) x0 x1 i = FloatOps.hostDivf (val_main_v216 (F := F) x0 x1 i) (val_main_v205 (F := F) x0 x1 i) := rfl

def val_main_v230 (x0 : (⟨S5000x6, .f32⟩ : BufTy).Contents (Elt F)) (x1 : (⟨S2000x5, .f32⟩ : BufTy).Contents (Elt F)) : (⟨S5000, .f32⟩ : BufTy).Contents (Elt F) :=
  mulf (val_main_v224 (F := F) x0 x1) (val_main_v228 (F := F) x0 x1)
theorem val_main_v230_apply (x0 : (⟨S5000x6, .f32⟩ : BufTy).Contents (Elt F)) (x1 : (⟨S2000x5, .f32⟩ : BufTy).Contents (Elt F)) (i : S5000.Idx) :
    val_main_v230 (F := F) x0 x1 i = FloatOps.mulf (val_main_v224 (F := F) x0 x1 i) (val_main_v228 (F := F) x0 x1 i) := rfl

def val_main_v231 (x0 : (⟨S5000x6, .f32⟩ : BufTy).Contents (Elt F)) (x1 : (⟨S2000x5, .f32⟩ : BufTy).Contents (Elt F)) : (⟨S5000, .f32⟩ : BufTy).Contents (Elt F) :=
  addf (val_main_v229 (F := F) x0 x1) (val_main_v230 (F := F) x0 x1)
theorem val_main_v231_apply (x0 : (⟨S5000x6, .f32⟩ : BufTy).Contents (Elt F)) (x1 : (⟨S2000x5, .f32⟩ : BufTy).Contents (Elt F)) (i : S5000.Idx) :
    val_main_v231 (F := F) x0 x1 i = FloatOps.addf (val_main_v229 (F := F) x0 x1 i) (val_main_v230 (F := F) x0 x1 i) := rfl

def val_main_v232 (x0 : (⟨S5000x6, .f32⟩ : BufTy).Contents (Elt F)) (x1 : (⟨S2000x5, .f32⟩ : BufTy).Contents (Elt F)) : (⟨S5000, .f32⟩ : BufTy).Contents (Elt F) :=
  subf (val_main_v194 (F := F) x0 x1) (val_main_v231 (F := F) x0 x1)
theorem val_main_v232_apply (x0 : (⟨S5000x6, .f32⟩ : BufTy).Contents (Elt F)) (x1 : (⟨S2000x5, .f32⟩ : BufTy).Contents (Elt F)) (i : S5000.Idx) :
    val_main_v232 (F := F) x0 x1 i = FloatOps.subf (val_main_v194 (F := F) x0 x1 i) (val_main_v231 (F := F) x0 x1 i) := rfl

def val_main_cst_43 : (⟨S_, .f32⟩ : BufTy).Contents (Elt F) :=
  constant S_ .f32 0x3F800000#32
theorem val_main_cst_43_apply (i : S_.Idx) :
    val_main_cst_43 (F := F) i = FloatOps.ofBits .f32 0x3F800000#32 := rfl

def val_main_v233 : (⟨S5000, .f32⟩ : BufTy).Contents (Elt F) :=
  broadcastInDim S5000 ![] bcast_S_S5000 (val_main_cst_43 (F := F))
abbrev idx_main_v233 (i : S5000.Idx) : S_.Idx := fun a => a.elim0
theorem val_main_v233_apply (i : S5000.Idx) :
    val_main_v233 (F := F) i = val_main_cst_43 (F := F) (idx_main_v233 i) := by
  unfold val_main_v233
  generalize val_main_cst_43 (F := F) = y
  exact broadcastInDim_apply _ bcast_S_S5000 y i (idx_main_v233 i) (fun a => a.elim0)

def val_main_v234 (x0 : (⟨S5000x6, .f32⟩ : BufTy).Contents (Elt F)) (x1 : (⟨S2000x5, .f32⟩ : BufTy).Contents (Elt F)) : (⟨S5000, .f32⟩ : BufTy).Contents (Elt F) :=
  subf (val_main_v233 (F := F)) (val_main_v232 (F := F) x0 x1)
theorem val_main_v234_apply (x0 : (⟨S5000x6, .f32⟩ : BufTy).Contents (Elt F)) (x1 : (⟨S2000x5, .f32⟩ : BufTy).Contents (Elt F)) (i : S5000.Idx) :
    val_main_v234 (F := F) x0 x1 i = FloatOps.subf (val_main_v233 (F := F) i) (val_main_v232 (F := F) x0 x1 i) := rfl

def val_main_v235 (x0 : (⟨S5000x6, .f32⟩ : BufTy).Contents (Elt F)) (x1 : (⟨S2000x5, .f32⟩ : BufTy).Contents (Elt F)) : (⟨S5000, .f32⟩ : BufTy).Contents (Elt F) :=
  mulf (val_main_v66 (F := F) x0 x1) (val_main_v234 (F := F) x0 x1)
theorem val_main_v235_apply (x0 : (⟨S5000x6, .f32⟩ : BufTy).Contents (Elt F)) (x1 : (⟨S2000x5, .f32⟩ : BufTy).Contents (Elt F)) (i : S5000.Idx) :
    val_main_v235 (F := F) x0 x1 i = FloatOps.mulf (val_main_v66 (F := F) x0 x1 i) (val_main_v234 (F := F) x0 x1 i) := rfl

def val_main_cst_44 : (⟨S_, .f32⟩ : BufTy).Contents (Elt F) :=
  constant S_ .f32 0x00000000#32
theorem val_main_cst_44_apply (i : S_.Idx) :
    val_main_cst_44 (F := F) i = FloatOps.ofBits .f32 0x00000000#32 := rfl

def val_main_v236 (x0 : (⟨S5000x6, .f32⟩ : BufTy).Contents (Elt F)) (x1 : (⟨S2000x5, .f32⟩ : BufTy).Contents (Elt F)) : (⟨S_, .f32⟩ : BufTy).Contents (Elt F) :=
  Host.reduceAdd (val_main_v235 (F := F) x0 x1) (val_main_cst_44 (F := F)) reducesTo_S5000_S_d0 h_S_
/-- Stated at `F := Ideal`, where the host's float sum is this sum; at a bit-exact instance it is an opaque function of its operand. -/
theorem val_main_v236_apply (x0 : (⟨S5000x6, .f32⟩ : BufTy).Contents (Elt Ideal)) (x1 : (⟨S2000x5, .f32⟩ : BufTy).Contents (Elt Ideal)) (i : S_.Idx) :
    val_main_v236 (F := Ideal) x0 x1 i = (val_main_cst_44 (F := Ideal)) (Shape.Idx.first h_S_) + ∑ j : S5000.Idx, (val_main_v235 (F := Ideal) x0 x1) j := by
  unfold val_main_v236
  generalize val_main_v235 (F := Ideal) x0 x1 = y0
  simp only [Host.reduceAdd, Ideal.hostReduceAdd_def]
  exact Ideal.hostReduceAdd_total reducesTo_S5000_S_d0 (fun b => b.elim0) y0 _ i

def val_main_v237 (x0 : (⟨S5000x6, .f32⟩ : BufTy).Contents (Elt F)) (x1 : (⟨S2000x5, .f32⟩ : BufTy).Contents (Elt F)) : (⟨S_, .f32⟩ : BufTy).Contents (Elt F) :=
  Host.divf (val_main_v236 (F := F) x0 x1) (val_main_v68 (F := F) x0 x1)
theorem val_main_v237_apply (x0 : (⟨S5000x6, .f32⟩ : BufTy).Contents (Elt F)) (x1 : (⟨S2000x5, .f32⟩ : BufTy).Contents (Elt F)) (i : S_.Idx) :
    val_main_v237 (F := F) x0 x1 i = FloatOps.hostDivf (val_main_v236 (F := F) x0 x1 i) (val_main_v68 (F := F) x0 x1 i) := rfl

def val_main_cst_45 : (⟨S_, .f32⟩ : BufTy).Contents (Elt F) :=
  constant S_ .f32 0x3F000000#32
theorem val_main_cst_45_apply (i : S_.Idx) :
    val_main_cst_45 (F := F) i = FloatOps.ofBits .f32 0x3F000000#32 := rfl

def val_main_v238 (x0 : (⟨S5000x6, .f32⟩ : BufTy).Contents (Elt F)) (x1 : (⟨S2000x5, .f32⟩ : BufTy).Contents (Elt F)) : (⟨S_, .f32⟩ : BufTy).Contents (Elt F) :=
  mulf (val_main_cst_45 (F := F)) (val_main_v154 (F := F) x0 x1)
theorem val_main_v238_apply (x0 : (⟨S5000x6, .f32⟩ : BufTy).Contents (Elt F)) (x1 : (⟨S2000x5, .f32⟩ : BufTy).Contents (Elt F)) (i : S_.Idx) :
    val_main_v238 (F := F) x0 x1 i = FloatOps.mulf (val_main_cst_45 (F := F) i) (val_main_v154 (F := F) x0 x1 i) := rfl

def val_main_cst_46 : (⟨S_, .f32⟩ : BufTy).Contents (Elt F) :=
  constant S_ .f32 0x40F00000#32
theorem val_main_cst_46_apply (i : S_.Idx) :
    val_main_cst_46 (F := F) i = FloatOps.ofBits .f32 0x40F00000#32 := rfl

def val_main_v239 (x0 : (⟨S5000x6, .f32⟩ : BufTy).Contents (Elt F)) (x1 : (⟨S2000x5, .f32⟩ : BufTy).Contents (Elt F)) : (⟨S_, .f32⟩ : BufTy).Contents (Elt F) :=
  mulf (val_main_cst_46 (F := F)) (val_main_v237 (F := F) x0 x1)
theorem val_main_v239_apply (x0 : (⟨S5000x6, .f32⟩ : BufTy).Contents (Elt F)) (x1 : (⟨S2000x5, .f32⟩ : BufTy).Contents (Elt F)) (i : S_.Idx) :
    val_main_v239 (F := F) x0 x1 i = FloatOps.mulf (val_main_cst_46 (F := F) i) (val_main_v237 (F := F) x0 x1 i) := rfl

def val_main_v240 (x0 : (⟨S5000x6, .f32⟩ : BufTy).Contents (Elt F)) (x1 : (⟨S2000x5, .f32⟩ : BufTy).Contents (Elt F)) : (⟨S_, .f32⟩ : BufTy).Contents (Elt F) :=
  addf (val_main_v238 (F := F) x0 x1) (val_main_v239 (F := F) x0 x1)
theorem val_main_v240_apply (x0 : (⟨S5000x6, .f32⟩ : BufTy).Contents (Elt F)) (x1 : (⟨S2000x5, .f32⟩ : BufTy).Contents (Elt F)) (i : S_.Idx) :
    val_main_v240 (F := F) x0 x1 i = FloatOps.addf (val_main_v238 (F := F) x0 x1 i) (val_main_v239 (F := F) x0 x1 i) := rfl

/-- The reference's result buffer after the whole list holds the last stage at the arguments. -/
theorem val5_result (V0 : Valuation τ sig (Elt F)) :
    Cert.ReferenceIdeal.Value.val5 V0 (Proc.devRef .tc main_v240)
      = val_main_v240 (F := F) (V0 (Proc.devRef .tc main_arg0)) (V0 (Proc.devRef .tc main_arg1)) :=
  (Cert.ReferenceIdeal.Value.val5_main_v240 V0).trans rfl

end Cert.ReferenceIdeal.Read

end

end
-- ==== Proof.RefWord.lean ====
/- The reference's index words, and its classification term at an element. -/
module

public import proofs.«01_k».proof.Proof.RefReadB
public import Idealize.ShloMosaic.Lib.Pointwise
public import proofs.«01_k».proof.Proof.Spec

@[expose] public section

noncomputable section

namespace Cert.ReferenceIdeal.Read

open Cert.Loss Cert.ReferenceIdeal Cert.ReferenceIdeal.Gen Idealize.ShloMosaic Idealize.ShloMosaic.TcCoe Cert.ReferenceIdeal.Value

variable (x0 : FVec Ideal S5000x6 .f32) (x1 : FVec Ideal S2000x5 .f32)

/-- The word of the matched target, as the reference wraps it. -/
theorem v74_at (i : Fin 5000) :
    val_main_v74 (F := Ideal) x0 x1 (ix2 i 0)
      = Scalar.select (IntOp.cmpi .slt (val_main_v63 (F := Ideal) x0 x1 (ix1 i)) 0#32) (IntOp.addi (val_main_v63 (F := Ideal) x0 x1 (ix1 i)) 2000#32) (val_main_v63 (F := Ideal) x0 x1 (ix1 i)) := by
  unfold val_main_v74 val_main_v73 val_main_v72 val_main_v71 val_main_c_5 val_main_v70 val_main_v69 val_main_c
  generalize val_main_v63 (F := Ideal) x0 x1 = y
  pointwise
/-- The same word, for the class. -/
theorem v81_at (i : Fin 5000) :
    val_main_v81 (F := Ideal) x0 x1 (ix2 i 0)
      = Scalar.select (IntOp.cmpi .slt (val_main_v63 (F := Ideal) x0 x1 (ix1 i)) 0#32) (IntOp.addi (val_main_v63 (F := Ideal) x0 x1 (ix1 i)) 2000#32) (val_main_v63 (F := Ideal) x0 x1 (ix1 i)) := by
  unfold val_main_v81 val_main_v80 val_main_v79 val_main_v78 val_main_c_7 val_main_v77 val_main_v76 val_main_c_6
  generalize val_main_v63 (F := Ideal) x0 x1 = y
  pointwise
/-- The same word, for the count. -/
theorem v146_at (i : Fin 5000) :
    val_main_v146 (F := Ideal) x0 x1 (ix2 i 0)
      = Scalar.select (IntOp.cmpi .slt (val_main_v63 (F := Ideal) x0 x1 (ix1 i)) 0#32) (IntOp.addi (val_main_v63 (F := Ideal) x0 x1 (ix1 i)) 2000#32) (val_main_v63 (F := Ideal) x0 x1 (ix1 i)) := by
  unfold val_main_v146 val_main_v145 val_main_v144 val_main_v143 val_main_c_30 val_main_v142 val_main_v141 val_main_c_29
  generalize val_main_v63 (F := Ideal) x0 x1 = y
  pointwise
/-- A box coordinate of a target. -/
theorem v6_at (j : Fin 2000) (k : Fin 4) : val_main_v6 (F := Ideal) x1 (ix2 j k) = x1 (ix2 j ⟨k.val, by omega⟩) := by
  unfold val_main_v6
  pointwise
/-- The class word of a target. -/
theorem v9_at (j : Fin 2000) : val_main_v9 (F := Ideal) x1 (ix1 j) = FloatOps.fptosi (F := Ideal) 32 (x1 (ix2 j 4)) := by
  unfold val_main_v9 val_main_v8 val_main_v7
  pointwise
/-- The first scatter's index pair: the row. -/
theorem v98_at0 (i : Fin 5000) : val_main_v98 (F := Ideal) x0 (ix2 i 0)
    = Scalar.select (IntOp.cmpi .slt (BitVec.ofNat 32 i.val) 0#32) (IntOp.addi (BitVec.ofNat 32 i.val) 5000#32) (BitVec.ofNat 32 i.val) := by
  unfold val_main_v98 val_main_v97 val_main_v96 val_main_v95 val_main_v94 val_main_v93 val_main_c_12 val_main_v92 val_main_v91 val_main_c_11 val_main_v90 val_main_v89 val_main_v88 val_main_c_10 val_main_v87 val_main_v86 val_main_c_9 val_main_v83 val_main_v5 val_main_v4 val_main_v3
  pointwise
/-- The first scatter's index pair: the class. -/
theorem v98_at1 (i : Fin 5000) : val_main_v98 (F := Ideal) x0 (ix2 i 1)
    = Scalar.select (IntOp.cmpi .slt (FloatOps.fptosi (F := Ideal) 32 (x0 (ix2 i 5))) 0#32) (IntOp.addi (FloatOps.fptosi (F := Ideal) 32 (x0 (ix2 i 5))) 80#32) (FloatOps.fptosi (F := Ideal) 32 (x0 (ix2 i 5))) := by
  unfold val_main_v98 val_main_v97 val_main_v96 val_main_v95 val_main_v94 val_main_v93 val_main_c_12 val_main_v92 val_main_v91 val_main_c_11 val_main_v90 val_main_v89 val_main_v88 val_main_c_10 val_main_v87 val_main_v86 val_main_c_9 val_main_v83 val_main_v5 val_main_v4 val_main_v3
  pointwise
/-- The second scatter's index pair: the row. -/
theorem v113_at0 (i : Fin 5000) : val_main_v113 (F := Ideal) x0 x1 (ix2 i 0)
    = Scalar.select (IntOp.cmpi .slt (BitVec.ofNat 32 i.val) 0#32) (IntOp.addi (BitVec.ofNat 32 i.val) 5000#32) (BitVec.ofNat 32 i.val) := by
  unfold val_main_v113 val_main_v112 val_main_v111 val_main_v110 val_main_v109 val_main_v108 val_main_c_17 val_main_v107 val_main_v106 val_main_c_16 val_main_v105 val_main_v104 val_main_v103 val_main_c_15 val_main_v102 val_main_v101 val_main_c_14 val_main_v83
  generalize val_main_v82 (F := Ideal) x0 x1 = y
  pointwise
/-- The second scatter's index pair: the class. -/
theorem v113_at1 (i : Fin 5000) : val_main_v113 (F := Ideal) x0 x1 (ix2 i 1)
    = Scalar.select (IntOp.cmpi .slt (val_main_v82 (F := Ideal) x0 x1 (ix1 i)) 0#32) (IntOp.addi (val_main_v82 (F := Ideal) x0 x1 (ix1 i)) 80#32) (val_main_v82 (F := Ideal) x0 x1 (ix1 i)) := by
  unfold val_main_v113 val_main_v112 val_main_v111 val_main_v110 val_main_v109 val_main_v108 val_main_c_17 val_main_v107 val_main_v106 val_main_c_16 val_main_v105 val_main_v104 val_main_v103 val_main_c_15 val_main_v102 val_main_v101 val_main_c_14 val_main_v83
  generalize val_main_v82 (F := Ideal) x0 x1 = y
  pointwise
/-- The score of a matched row, zero elsewhere. -/
theorem v85_at (i : Fin 5000) : val_main_v85 (F := Ideal) x0 x1 (ix1 i) = x0 (ix2 i 4) * val_main_v66 (F := Ideal) x0 x1 (ix1 i) := by
  unfold val_main_v85 val_main_v2 val_main_v1
  generalize val_main_v66 (F := Ideal) x0 x1 = y
  pointwise
/-- The classification term of an element, from its probability `a` and its label `l`. -/
def term (a l : EReal) : EReal :=
  -(l * Scalar.select (BitVec.ofBool (decide (0 < a))) (Ideal.log (Scalar.select (BitVec.ofBool (decide (0 < a))) a 1)) (Ideal.ofBits FTy.f32 0xC2C80000#32)
    + (1 - l) * max (Ideal.log1p (-a)) (Ideal.ofBits FTy.f32 0xC2C80000#32))
/-- The classification term of an element. -/
theorem v131_at (i : Fin 5000) (b : Fin 80) :
    val_main_v131 (F := Ideal) x0 x1 (ix2 i b) = term (val_main_v99 (F := Ideal) x0 x1 (ix2 i b)) (val_main_v114 (F := Ideal) x0 x1 (ix2 i b)) := by
  simp only [val_main_v131_apply, val_main_v130_apply, val_main_v129_apply, val_main_v128_apply, val_main_v127_apply, val_main_cst_23_apply, val_main_v126_apply, val_main_v125_apply, val_main_v124_apply, val_main_cst_22_apply, val_main_v123_apply, val_main_v122_apply, val_main_v121_apply, val_main_call3_v1_apply, val_main_call3_v0_apply, val_main_cst_21_apply, val_main_v120_apply, val_main_v119_apply, val_main_v118_apply, val_main_cst_20_apply, val_main_v117_apply, val_main_call2_v1_apply, val_main_call2_v0_apply, val_main_cst_19_apply, val_main_v116_apply, val_main_v115_apply, val_main_cst_18_apply]
  generalize val_main_v99 (F := Ideal) x0 x1 (ix2 i b) = a
  generalize val_main_v114 (F := Ideal) x0 x1 (ix2 i b) = l
  show -(l * Scalar.select (BitVec.ofBool (decide (Ideal.ofBits FTy.f32 0#32 < a))) (Ideal.log (Scalar.select (BitVec.ofBool (decide (Ideal.ofBits FTy.f32 0#32 < a))) a (Ideal.ofBits FTy.f32 0x3F800000#32))) (Ideal.ofBits FTy.f32 0xC2C80000#32)
    + (Ideal.ofBits FTy.f32 0x3F800000#32 - l) * max (Ideal.log1p (-a)) (Ideal.ofBits FTy.f32 0xC2C80000#32)) = _
  rw [Ideal.ofBits_zero_f32, Ideal.ofBits_one_f32]
  rfl

end Cert.ReferenceIdeal.Read
end
end
-- ==== Proof.PreRead.lean ====
/- What the precondition says: scores are positive, classes are whole numbers below eighty. -/
module

public import proofs.«01_k».proof.Proof.Gen.Pre_well_formed
public import Idealize.ShloMosaic.Lib.Pointwise
public import Idealize.ShloMosaic.Lib.IdealHost

@[expose] public section

noncomputable section

namespace Cert.Pre_well_formed.Gen

open Idealize.ShloMosaic Cert.Pre_well_formed

theorem andi_bit (a b : BitVec 1) : IntOp.andi a b = 1#1 ↔ a = 1#1 ∧ b = 1#1 := by
  revert a b; decide

/-- A conjunction of bits is set when each is. -/
theorem fold_bits {ι : Type} [DecidableEq ι] (f : ι → BitVec 1) (s : Finset ι) :
    Finset.fold IntOp.andi 1#1 f s = 1#1 → ∀ i ∈ s, f i = 1#1 := by
  induction s using Finset.induction_on with
  | empty => intro _ i hi; exact absurd hi (Finset.notMem_empty i)
  | insert a s ha ih =>
    rw [Finset.fold_insert ha, andi_bit]
    rintro ⟨h1, h2⟩ i hi
    rcases Finset.mem_insert.1 hi with rfl | hi
    · exact h1
    · exact ih h2 i hi

/-- A whole number below eighty. -/
def Class (x : EReal) : Prop := ∃ n : ℕ, n < 80 ∧ x = ((n : ℝ) : EReal)

theorem ofBits_eighty : Ideal.ofBits .f32 0x42A00000#32 = ((80 : ℝ) : EReal) := by
  simp [Ideal.ofBits, Ideal.ieee, -EReal.coe_mul]
  try norm_num

theorem class_of (x : EReal) (h0 : 0 ≤ x) (h1 : x < ((80 : ℝ) : EReal)) (h2 : Ideal.liftRound Int.floor x = x) : Class x := by
  induction x using EReal.rec with
  | bot => exact absurd h0 (by simp)
  | top => exact absurd h1 (by simp)
  | coe r =>
    have h0' : 0 ≤ r := by exact_mod_cast h0
    have h1' : r < 80 := by exact_mod_cast h1
    have h2' : ((⌊r⌋ : ℤ) : ℝ) = r := EReal.coe_eq_coe_iff.1 h2
    have hn : (0 : ℤ) ≤ ⌊r⌋ := Int.floor_nonneg.2 h0'
    have e : ((⌊r⌋.toNat : ℕ) : ℝ) = r := by
      refine Eq.trans ?_ h2'
      exact_mod_cast Int.toNat_of_nonneg hn
    refine ⟨⌊r⌋.toNat, ?_, by rw [e]⟩
    have : ((⌊r⌋.toNat : ℕ) : ℝ) < 80 := by rw [e]; exact h1'
    exact_mod_cast this

/-- A class rounds to itself. -/
theorem class_round (n : ℕ) : Ideal.liftRound Ideal.roundHalfEven ((n : ℝ) : EReal) = ((n : ℝ) : EReal) := by
  show (((Ideal.roundHalfEven (n : ℝ) : ℤ) : ℝ) : EReal) = _
  simp [Ideal.roundHalfEven]
/-- Its word. -/
theorem class_word (n : ℕ) (h : n < 80) : FloatOps.fptosi (F := Ideal) (φ := .f32) 32 ((n : ℝ) : EReal) = BitVec.ofNat 32 n := by
  show Ideal.fptosi 32 ((n : ℝ) : EReal) = _
  unfold Ideal.fptosi
  rw [Ideal.toIntClamped_coe, if_pos (Nat.cast_nonneg n), Int.floor_natCast]
  have e : max (-((2 ^ (32 - 1) : ℕ) : ℤ)) (min (((2 ^ (32 - 1) : ℕ) : ℤ) - 1) (n : ℤ)) = (n : ℤ) := by
    norm_num
    omega
  rw [e, BitVec.ofInt_natCast]

theorem bit_of (p : Prop) [Decidable p] (h : BitVec.ofBool (decide p) = 1#1) : p := by
  by_contra q
  rw [decide_eq_false q] at h
  exact absurd h (by decide)

variable [Facts]

theorem reads (x0 : FVec Ideal S5000x6 .f32) (x1 : FVec Ideal S2000x5 .f32) (h : Cert.Pre_well_formed.fn (F := Ideal) x0 x1 = fun _ => 1#1) :
    (∀ i : Fin 5000, (0 : EReal) < x0 (ix2 i 4)) ∧ (∀ i : Fin 5000, Class (x0 (ix2 i 5))) ∧ ∀ j : Fin 2000, Class (x1 (ix2 j 4)) := by
  have h' := congrFun h ix0
  simp only [Cert.Pre_well_formed.fn, Cert.Pre_well_formed.fn_part1] at h'
  revert h'
  pointwise
  intro h'
  rw [andi_bit, andi_bit] at h'
  obtain ⟨⟨hs, hp⟩, ht⟩ := h'
  refine ⟨fun i => ?_, fun i => ?_, fun j => ?_⟩
  · have := fold_bits _ _ hs i (Finset.mem_univ i)
    exact bit_of _ this
  · have := fold_bits _ _ hp i (Finset.mem_univ i)
    rw [andi_bit, andi_bit, ofBits_eighty] at this
    exact class_of _ (bit_of _ this.1.1) (bit_of _ this.1.2) (bit_of _ this.2)
  · have := fold_bits _ _ ht j (Finset.mem_univ j)
    rw [andi_bit, andi_bit, ofBits_eighty] at this
    exact class_of _ (bit_of _ this.1.1) (bit_of _ this.1.2) (bit_of _ this.2)

end Cert.Pre_well_formed.Gen
end
end
-- ==== Proof.Rows.lean ====
/- Row by row, the kernel's terms and the reference's. -/
module

public import proofs.«01_k».proof.Proof.Angle
public import proofs.«01_k».proof.Proof.KOut1
public import proofs.«01_k».proof.Proof.RefWord
public import proofs.«01_k».proof.Proof.PreRead
public import Idealize.ShloMosaic.Lib.StableHlo.Predicate

@[expose] public section

noncomputable section

namespace Cert.Loss

open Idealize.ShloMosaic Cert.KernelIdeal.Gen Cert.ReferenceIdeal.Read

theorem ofBits_hundred : Ideal.ofBits FTy.f32 0x42C80000#32 = ((100 : ℝ) : EReal) := by
  simp [Ideal.ofBits, Ideal.ieee, -EReal.coe_mul]
  try norm_num
theorem ofBits_neg_hundred : Ideal.ofBits FTy.f32 0xC2C80000#32 = ((-100 : ℝ) : EReal) := by
  simp [Ideal.ofBits, Ideal.ieee, -EReal.coe_mul]
  try norm_num

theorem select_true {α : Type} (p : Prop) [Decidable p] (h : p) (a b : α) : Scalar.select (BitVec.ofBool (decide p)) a b = a := by
  rw [decide_eq_true h]; rfl
theorem select_false {α : Type} (p : Prop) [Decidable p] (h : ¬ p) (a b : α) : Scalar.select (BitVec.ofBool (decide p)) a b = b := by
  rw [decide_eq_false h]; rfl

theorem log1p_zero : Ideal.log1p (-0 : EReal) = 0 := by
  unfold Ideal.log1p
  rw [neg_zero, add_zero]
  show ((if (1 : ℝ) ≤ 0 then ⊥ else ((Real.log 1 : ℝ) : EReal)) : EReal) = 0
  rw [if_neg (by norm_num), Real.log_one, EReal.coe_zero]

theorem neg_hundred_lt : ((-100 : ℝ) : EReal) ≤ 0 := by exact_mod_cast (by norm_num : (-100 : ℝ) ≤ 0)

theorem term_zero : term 0 0 = 0 := by
  unfold term
  rw [ofBits_neg_hundred, log1p_zero, max_eq_left neg_hundred_lt]
  simp
theorem term_hit (s : EReal) (hs : 0 < s) : term s 1 = -Ideal.log s := by
  unfold term
  rw [select_true _ hs, select_true _ hs]
  have : (1 : EReal) - 1 = 0 := by
    show ((1 : ℝ) : EReal) - ((1 : ℝ) : EReal) = 0
    rw [← EReal.coe_sub]; simp
  rw [this, zero_mul, add_zero, one_mul]
theorem term_label : term 0 1 = ((100 : ℝ) : EReal) := by
  unfold term
  rw [select_false _ (lt_irrefl _), ofBits_neg_hundred]
  have : (1 : EReal) - 1 = 0 := by
    show ((1 : ℝ) : EReal) - ((1 : ℝ) : EReal) = 0
    rw [← EReal.coe_sub]; simp
  rw [this, zero_mul, add_zero, one_mul, ← EReal.coe_neg]
  norm_num
theorem term_score (s : EReal) : term s 0 = -max (Ideal.log1p (-s)) ((-100 : ℝ) : EReal) := by
  unfold term
  rw [ofBits_neg_hundred, zero_mul, zero_add, sub_zero, one_mul]

/-- A matched row's classification terms. -/
theorem bce_one (s : EReal) (hs : 0 < s) (p t : Fin 80) :
    ∑ c : Fin 80, term (if p.val = c.val then s * 1 else 0) (if t.val = c.val then 1 else 0) = bceRow s ((p.val : ℝ) : EReal) ((t.val : ℝ) : EReal) 1 := by
  unfold bceRow
  rw [Cert.Pre_well_formed.Gen.class_round, one_mul, select_true _ (zero_lt_one), ofBits_hundred, ofBits_neg_hundred, mul_one, zero_sub, zero_sub]
  by_cases h : p = t
  · subst h
    rw [select_true _ rfl, Finset.sum_eq_single p]
    · rw [if_pos rfl, if_pos rfl, term_hit s hs]
    · intro c _ hc
      have hn : ¬ p.val = c.val := fun q => hc (Fin.ext q.symm)
      rw [if_neg hn, if_neg hn, term_zero]
    · exact fun q => absurd (Finset.mem_univ _) q
  · have hn : ¬ (((p.val : ℝ) : EReal) = ((t.val : ℝ) : EReal)) := fun q => h (Fin.ext (by exact_mod_cast q))
    have hv : ¬ p.val = t.val := fun q => h (Fin.ext q)
    rw [select_false _ hn, ← Finset.add_sum_erase _ _ (Finset.mem_univ t),
      ← Finset.add_sum_erase _ _ (Finset.mem_erase.2 ⟨h, Finset.mem_univ p⟩), Finset.sum_eq_zero, add_zero]
    · rw [if_neg hv, if_pos rfl, if_pos rfl, if_neg fun q => hv q.symm, term_label, term_score, sub_eq_add_neg]
    · intro c hc
      have h1 := Finset.mem_erase.1 hc
      have h2 := (Finset.mem_erase.1 h1.2).1
      rw [if_neg fun q => h1.1 (Fin.ext q.symm), if_neg fun q => h2 (Fin.ext q.symm), term_zero]

/-- An unmatched row has none. -/
theorem bce_none (s : EReal) (p t : ℕ) :
    ∑ c : Fin 80, term (if p = c.val then s * 0 else 0) (if t = c.val then 0 else 0) = 0 := by
  refine Finset.sum_eq_zero fun c _ => ?_
  rw [mul_zero, ite_self, ite_self, term_zero]

theorem bceRow_zero (s p t : EReal) : bceRow s p t 0 = 0 := by
  unfold bceRow
  rw [zero_mul]

theorem boxRow_zero (p0 p1 p2 p3 g0 g1 g2 g3 : EReal) : boxRow p0 p1 p2 p3 g0 g1 g2 g3 0 = 0 := by
  unfold boxRow
  rw [zero_mul]

/-- A matched row's box term. -/
theorem box_one (p0 p1 p2 p3 g0 g1 g2 g3 : EReal) (h : thr < iou p0 p1 p2 p3 g0 g1 g2 g3) :
    1 * box (Ideal.atan (Ideal.div (g2 - g0) (g3 - g1 + eps))) (Ideal.atan (Ideal.div (p2 - p0) (p3 - p1 + eps))) p0 p1 p2 p3 g0 g1 g2 g3
      = boxRow p0 p1 p2 p3 g0 g1 g2 g3 1 := by
  obtain ⟨h1, h2, h3, h4⟩ := matched h
  unfold boxRow
  rw [angle h1 h2, angle h3 h4]

theorem missRow_pad (s k : EReal) : missRow 0#1 s k = 0 := by
  unfold missRow
  have : ∀ x : BitVec 1, IntOp.andi 0#1 x = 0#1 := by decide
  rw [this]
  rfl
theorem missRow_one (s : EReal) : missRow 1#1 s 1 = 0 := by
  unfold missRow
  rw [decide_eq_true zero_lt_one]
  rfl
theorem missRow_zero (s : EReal) : missRow 1#1 s 0 = Ideal.log s := by
  unfold missRow
  rw [decide_eq_false (lt_irrefl (0 : EReal))]
  rfl

/-- The rows past the predictions add nothing. -/
theorem sum_rows (F : ℕ → EReal) (h : ∀ r, 5000 ≤ r → r < 5120 → F r = 0) : ∑ r : Fin 5120, F r.val = ∑ i : Fin 5000, F i.val := by
  rw [Fin.sum_univ_eq_sum_range, Fin.sum_univ_eq_sum_range]
  symm
  refine Finset.sum_subset (Finset.range_subset_range.2 (by norm_num)) fun r hr hn => h r ?_ (Finset.mem_range.1 hr)
  exact not_lt.1 fun q => hn (Finset.mem_range.2 q)
/-- Nor do the columns past the targets. -/
theorem sum_cols (F : ℕ → EReal) (h : ∀ r, 2000 ≤ r → r < 2048 → F r = 0) : ∑ r : Fin 2048, F r.val = ∑ i : Fin 2000, F i.val := by
  rw [Fin.sum_univ_eq_sum_range, Fin.sum_univ_eq_sum_range]
  symm
  refine Finset.sum_subset (Finset.range_subset_range.2 (by norm_num)) fun r hr hn => h r ?_ (Finset.mem_range.1 hr)
  exact not_lt.1 fun q => hn (Finset.mem_range.2 q)

theorem ofBits_count : Ideal.ofBits FTy.f32 0x44FA0000#32 = ((2000 : ℝ) : EReal) := by
  simp [Ideal.ofBits, Ideal.ieee, -EReal.coe_mul]
  try norm_num

/-- Counting the targets left out, in whole words or in numbers. -/
theorem left_out (p : Fin 2000 → Prop) [DecidablePred p] :
    FloatOps.sitofp (F := Ideal) .f32 (IntOp.subi 2000#32 (Finset.fold IntOp.addi 0#32 (fun j : Fin 2000 => BitVec.setWidth 32 (BitVec.ofBool (decide (p j)))) Finset.univ))
      = Ideal.ofBits FTy.f32 0x44FA0000#32 - ∑ j : Fin 2000, (if p j then (1 : EReal) else 0) := by
  have hbit : ∀ j, (BitVec.setWidth 32 (BitVec.ofBool (decide (p j)))).toNat = if p j then 1 else 0 := by
    intro j
    by_cases h : p j <;> simp [h]
  have hle : ∑ j : Fin 2000, (if p j then 1 else 0) ≤ 2000 := by
    refine (Finset.sum_le_card_nsmul Finset.univ _ 1 fun j _ => ?_).trans (by simp)
    split_ifs <;> norm_num
  have hN := StableHlo.Predicate.toNat_fold_addi Finset.univ (fun j : Fin 2000 => BitVec.setWidth 32 (BitVec.ofBool (decide (p j))))
    (by simp only [hbit]; omega)
  simp only [hbit] at hN
  generalize Finset.fold IntOp.addi 0#32 (fun j : Fin 2000 => BitVec.setWidth 32 (BitVec.ofBool (decide (p j)))) Finset.univ = N at hN
  have hs : ∑ j : Fin 2000, (if p j then (1 : EReal) else 0) = (((∑ j : Fin 2000, (if p j then 1 else 0) : ℕ) : ℝ) : EReal) := by
    push_cast
    refine Eq.trans (Finset.sum_congr rfl fun j _ => ?_)
      (map_sum (⟨⟨fun x : ℝ => (x : EReal), EReal.coe_zero⟩, EReal.coe_add⟩ : ℝ →+ EReal) (fun j : Fin 2000 => if p j then (1 : ℝ) else 0) Finset.univ).symm
    show _ = ((if p j then (1 : ℝ) else 0 : ℝ) : EReal)
    split_ifs <;> simp
  generalize (∑ j : Fin 2000, (if p j then 1 else 0) : ℕ) = n at hN hle hs
  have hI : (IntOp.subi 2000#32 N).toInt = 2000 - (n : ℤ) := by
    have e : (IntOp.subi 2000#32 N) = BitVec.ofNat 32 (2000 - n) := by
      apply BitVec.eq_of_toNat_eq
      show (2000#32 - N).toNat = _
      rw [BitVec.toNat_sub, hN, BitVec.toNat_ofNat, BitVec.toNat_ofNat]
      omega
    rw [e, toInt_small _ (by omega)]
    omega
  rw [ofBits_count, hs, ← EReal.coe_sub]
  show (((IntOp.subi 2000#32 N).toInt : ℝ) : EReal) = _
  rw [hI]
  push_cast
  rfl

/-- A factor moves out of a division. -/
theorem div_scale (a x y : EReal) (h : 1 ≤ y) : Ideal.div (a * x) y = a * Ideal.div x y := by
  have hy : y ≠ 0 := fun q => by rw [q] at h; exact absurd h (by simp)
  unfold Ideal.div
  rw [if_neg hy, if_neg hy, mul_assoc]

end Cert.Loss
end
end
-- ==== Proof.KPay0.lean ====
/- The dense pass's block values read at an index. -/
module

public import proofs.«01_k».proof.Proof.Gen.KernelIdeal.Skeleton
public import Idealize.ShloMosaic.Lib.Pipeline.Value
public import Idealize.ShloMosaic.PureOps.Ideal.Laws
public import Idealize.ShloMosaic.Lib.Pointwise

@[expose] public section

noncomputable section

namespace Cert.KernelIdeal.Gen

open Idealize.ShloMosaic

/-- A prediction's area. -/
theorem pay11_at (v0 v2 v4 v6 : FVec Ideal S512x1 .f32) (a : Fin 512) (b : Fin 1) :
    k0_pay11 v0 v2 v4 v6 (ix2 a b)
      = (v4 (ix2 a b) - v0 (ix2 a b)) * (v6 (ix2 a b) - v2 (ix2 a b)) := by
  unfold k0_pay11 k0_pay3 k0_pay4 k0_pay5 k0_pay6
  pointwise

/-- A target's area. -/
theorem pay12_at (v8 v10 v12 v14 : FVec Ideal S1x2048 .f32) (a : Fin 1) (b : Fin 2048) :
    k0_pay12 v8 v10 v12 v14 (ix2 a b)
      = (v12 (ix2 a b) - v8 (ix2 a b)) * (v14 (ix2 a b) - v10 (ix2 a b)) := by
  unfold k0_pay12 k0_pay7 k0_pay8 k0_pay9 k0_pay10
  pointwise

/-- The area of the intersection. -/
theorem pay13_at (v0 v2 v4 v6 : FVec Ideal S512x1 .f32) (v8 v10 v12 v14 : FVec Ideal S1x2048 .f32) (a : Fin 512) (b : Fin 2048) :
    k0_pay13 v0 v2 v4 v6 v8 v10 v12 v14 (ix2 a b)
      = max (min (v4 (ix2 a 0)) (v12 (ix2 0 b)) - max (v0 (ix2 a 0)) (v8 (ix2 0 b))) 0
        * max (min (v6 (ix2 a 0)) (v14 (ix2 0 b)) - max (v2 (ix2 a 0)) (v10 (ix2 0 b))) 0 := by
  unfold k0_pay13 k0_pay3 k0_pay4 k0_pay5 k0_pay6 k0_pay7 k0_pay8 k0_pay9 k0_pay10
  pointwise

/-- The intersection over union of a row and a column. -/
theorem pay14_at (v18 : FVec Ideal S512x1 .f32) (v21 : FVec Ideal S1x2048 .f32) (v40 : FVec Ideal S512x2048 .f32) (a : Fin 512) (b : Fin 2048) :
    k0_pay14 v18 v21 v40 (ix2 a b)
      = Ideal.div (v40 (ix2 a b)) (v18 (ix2 a 0) + v21 (ix2 0 b) - v40 (ix2 a b) + Ideal.ofBits FTy.f32 0x33D6BF95#32) := by
  unfold k0_pay14
  pointwise

/-- The row's best intersection over union. -/
theorem pay15_at (v18 : FVec Ideal S512x1 .f32) (v21 : FVec Ideal S1x2048 .f32) (v40 : FVec Ideal S512x2048 .f32) (a : Fin 512) (b : Fin 1) :
    k0_pay15 v18 v21 v40 (ix2 a b)
      = Finset.fold max (Ideal.ofBits FTy.f32 0xFF800000#32) (fun x : Fin 2048 => k0_pay14 v18 v21 v40 (ix2 a x)) Finset.univ := by
  unfold k0_pay15
  pointwise

/-- Whether the row is matched, as a number. -/
theorem pay16_at (a0 : BitVec 32) (v18 : FVec Ideal S512x1 .f32) (v21 : FVec Ideal S1x2048 .f32) (v40 : FVec Ideal S512x2048 .f32) (a : Fin 512) (b : Fin 1) :
    k0_pay16 a0 v18 v21 v40 (ix2 a b)
      = FloatOps.sitofp (F := Ideal) FTy.f32 (BitVec.setWidth 32
        (IntOp.andi (BitVec.ofBool (decide (Ideal.ofBits FTy.f32 0x3EE66666#32 < k0_pay15 v18 v21 v40 (ix2 a b))))
          (IntOp.cmpi CmpIPredicate.slt (IntOp.addi (Scalar.muli a0 512#32) (BitVec.ofNat 32 a.val)) 5000#32))) := by
  unfold k0_pay16
  pointwise

/-- The one-hot row of the first best column, zero where the row is not matched. -/
theorem pay17_at (a0 : BitVec 32) (v18 : FVec Ideal S512x1 .f32) (v21 : FVec Ideal S1x2048 .f32) (v40 : FVec Ideal S512x2048 .f32) (a : Fin 512) (b : Fin 2048) :
    k0_pay17 a0 v18 v21 v40 (ix2 a b)
      = FloatOps.sitofp (F := Ideal) FTy.f32 (BitVec.setWidth 32
        (IntOp.cmpi CmpIPredicate.eq (BitVec.ofNat 32 b.val)
          (Finset.fold IntOp.minsi (2147483647#32)
            (fun x : Fin 2048 => if k0_pay14 v18 v21 v40 (ix2 a x) = k0_pay15 v18 v21 v40 (ix2 a 0) then BitVec.ofNat 32 x.val else 1073741824#32)
            Finset.univ)))
        * k0_pay16 a0 v18 v21 v40 (ix2 a 0) := by
  unfold k0_pay17
  pointwise

/-- A column's number of matched rows. -/
theorem pay18_at (a0 : BitVec 32) (v18 : FVec Ideal S512x1 .f32) (v21 : FVec Ideal S1x2048 .f32) (v40 : FVec Ideal S512x2048 .f32) (a : Fin 1) (b : Fin 2048) :
    k0_pay18 a0 v18 v21 v40 (ix2 a b)
      = ∑ x : Fin 512, k0_pay17 a0 v18 v21 v40 (ix2 x b) := by
  unfold k0_pay18
  pointwise

/-- A row of the dense pass's output: the matched target, the best value, the flag, zero. -/
theorem pay19_at (a0 : BitVec 32) (v18 : FVec Ideal S512x1 .f32) (v21 : FVec Ideal S1x2048 .f32) (v40 : FVec Ideal S512x2048 .f32) (v74 : FVec Ideal S2048x8 .f32) (a : Fin 512) (b : Fin 8) :
    k0_pay19 a0 v18 v21 v40 v74 (ix2 a b)
      = if b.val < 5 then ∑ x : Fin 2048, k0_pay17 a0 v18 v21 v40 (ix2 a x) * v74 (ix2 x b)
        else if b.val - 5 < 1 then k0_pay15 v18 v21 v40 (ix2 a 0)
        else if b.val - 5 - 1 < 1 then k0_pay16 a0 v18 v21 v40 (ix2 a 0) else 0 := by
  unfold k0_pay19
  pointwise
  have e : ∀ c : Fin 1, c = 0 := fun c => Subsingleton.elim _ _
  split_ifs <;> simp only [e]

end Cert.KernelIdeal.Gen
end
end
-- ==== Proof.KOut0.lean ====
/- What the dense pass leaves at a grid point, as the block values over the point's blocks. -/
module

public import proofs.«01_k».proof.Proof.Gen.KernelIdeal.Frame
public import proofs.«01_k».proof.Proof.KPay0
public import proofs.«01_k».proof.Proof.Spec
public import Idealize.ShloMosaic.Lib.Pointwise
public import Idealize.ShloMosaic.Lib.Pipeline.ValueKit
public import Idealize.ShloMosaic.Lib.Pipeline.ReadBack
public import Idealize.ShloMosaic.Lib.WritesUnit

@[expose] public section

set_option maxRecDepth 16384

noncomputable section

namespace Cert.KernelIdeal.Gen

open Idealize.ShloMosaic Idealize.ShloMosaic.TcCoe
open Idealize.ShloMosaic.Pipeline (Dat)
open Cert.Loss

/-- The predictions' areas in a block. -/
def areaP (A : FVec Ideal S512x8 .f32) : FVec Ideal S512x1 .f32 :=
  k0_pay11 (View.ld (Val := Elt Ideal) (e' := .f32) A (Rect.unit (s := S512x8) ![0, 0] ![512, 1] inb_S512x8_S512x1_0_0))
    (View.ld (Val := Elt Ideal) (e' := .f32) A (Rect.unit (s := S512x8) ![0, 1] ![512, 1] inb_S512x8_S512x1_0_1))
    (View.ld (Val := Elt Ideal) (e' := .f32) A (Rect.unit (s := S512x8) ![0, 2] ![512, 1] inb_S512x8_S512x1_0_2))
    (View.ld (Val := Elt Ideal) (e' := .f32) A (Rect.unit (s := S512x8) ![0, 3] ![512, 1] inb_S512x8_S512x1_0_3))
/-- The targets' areas. -/
def areaT (B : FVec Ideal S8x2048 .f32) : FVec Ideal S1x2048 .f32 :=
  k0_pay12 (View.ld (Val := Elt Ideal) (e' := .f32) B (Rect.unit (s := S8x2048) ![0, 0] ![1, 2048] inb_S8x2048_S1x2048_0_0))
    (View.ld (Val := Elt Ideal) (e' := .f32) B (Rect.unit (s := S8x2048) ![1, 0] ![1, 2048] inb_S8x2048_S1x2048_1_0))
    (View.ld (Val := Elt Ideal) (e' := .f32) B (Rect.unit (s := S8x2048) ![2, 0] ![1, 2048] inb_S8x2048_S1x2048_2_0))
    (View.ld (Val := Elt Ideal) (e' := .f32) B (Rect.unit (s := S8x2048) ![3, 0] ![1, 2048] inb_S8x2048_S1x2048_3_0))
/-- The shared areas. -/
def shared (A : FVec Ideal S512x8 .f32) (B : FVec Ideal S8x2048 .f32) : FVec Ideal S512x2048 .f32 :=
  k0_pay13 (View.ld (Val := Elt Ideal) (e' := .f32) A (Rect.unit (s := S512x8) ![0, 0] ![512, 1] inb_S512x8_S512x1_0_0))
    (View.ld (Val := Elt Ideal) (e' := .f32) A (Rect.unit (s := S512x8) ![0, 1] ![512, 1] inb_S512x8_S512x1_0_1))
    (View.ld (Val := Elt Ideal) (e' := .f32) A (Rect.unit (s := S512x8) ![0, 2] ![512, 1] inb_S512x8_S512x1_0_2))
    (View.ld (Val := Elt Ideal) (e' := .f32) A (Rect.unit (s := S512x8) ![0, 3] ![512, 1] inb_S512x8_S512x1_0_3))
    (View.ld (Val := Elt Ideal) (e' := .f32) B (Rect.unit (s := S8x2048) ![0, 0] ![1, 2048] inb_S8x2048_S1x2048_0_0))
    (View.ld (Val := Elt Ideal) (e' := .f32) B (Rect.unit (s := S8x2048) ![1, 0] ![1, 2048] inb_S8x2048_S1x2048_1_0))
    (View.ld (Val := Elt Ideal) (e' := .f32) B (Rect.unit (s := S8x2048) ![2, 0] ![1, 2048] inb_S8x2048_S1x2048_2_0))
    (View.ld (Val := Elt Ideal) (e' := .f32) B (Rect.unit (s := S8x2048) ![3, 0] ![1, 2048] inb_S8x2048_S1x2048_3_0))

/-- A pair's intersection over union, over the blocks. -/
theorem pair_at (A : FVec Ideal S512x8 .f32) (B : FVec Ideal S8x2048 .f32) (a : Fin 512) (b : Fin 2048) :
    k0_pay14 (areaP A) (areaT B) (shared A B) (ix2 a b)
      = iou (A (ix2 a 0)) (A (ix2 a 1)) (A (ix2 a 2)) (A (ix2 a 3))
          (B (ix2 0 b)) (B (ix2 1 b)) (B (ix2 2 b)) (B (ix2 3 b)) := by
  rw [pay14_at]
  unfold areaP areaT shared
  rw [pay11_at, pay12_at, pay13_at]
  unfold iou inter
  pointwise

variable (V : (c : Dev nD) → (b : Ref sig .tc) → Buf (Elt Ideal) ((c : Thread nD τ).loc b))

theorem outRow (c : Dev nD) (t : Fin cfg0.N) : (outsAt0 V c t.val t.isLt).1
    = k0_pay19 (BitVec.ofNat 32 (grid0.coords t 0).val) (areaP (iblk0 V c 0 t)) (areaT (iblk0 V c 1 t))
        (shared (iblk0 V c 0 t) (iblk0 V c 1 t)) (iblk0 V c 2 t) := by
  by_cases h0 : t.val % 10 = 0
  · rw [outsAt0_A V c t h0]
    frame_out
    rfl
  · rw [outsAt0_B V c t h0]
    frame_out
    rfl

/-- The column sums a grid point adds. -/
def part (c : Dev nD) (t : Fin cfg0.N) : FVec Ideal S1x2048 .f32 :=
  k0_pay18 (BitVec.ofNat 32 (grid0.coords t 0).val) (areaP (iblk0 V c 0 t)) (areaT (iblk0 V c 1 t))
    (shared (iblk0 V c 0 t) (iblk0 V c 1 t))

theorem row_emb (j : Fin 2048) :
    (Rect.unit (s := S8x2048) ![0, 0] ![1, 2048] inb_S8x2048_S1x2048_0_0).emb (ix2 0 j) = (ix2 0 j : S8x2048.Idx) := by
  refine funext fun a => Fin.ext ?_
  match a with
  | ⟨0, _⟩ => rfl
  | ⟨1, _⟩ => show 0 + 1 * j.val = j.val; omega

theorem pay2_at (x y : FVec Ideal S1x2048 .f32) (j : Fin 2048) :
    k0_pay2 x y (ix2 0 j) = y (ix2 0 j) + x (ix2 0 j) := by
  unfold k0_pay2
  pointwise

theorem accA (c : Dev nD) (t : Fin cfg0.N) (h0 : t.val % 10 = 0) (j : Fin 2048) :
    (outsAt0 V c t.val t.isLt).2 (ix2 0 j) = (0 : EReal) + part V c t (ix2 0 j) := by
  rw [outsAt0_A V c t h0]
  frame_out
  refine (congrArg _ (row_emb j).symm).trans ?_
  rw [View.canon_cons_emb]
  rw [pay2_at]
  refine congrArg₂ (· + ·) ?_ rfl
  have hz : (![0, 0] : Fin S8x2048.rank → Nat) = fun _ => 0 := by funext a; fin_cases a <;> rfl
  rw [View.readCov_eq_canon _ _ _ (fun y => ⟨_, List.mem_cons_self, View.mem_set_unit_zero hz inb_S8x2048_S8x2048_0_0 _⟩)]
  rw [View.canon_cons_unit_zero hz]
  unfold k0_pay1
  pointwise

theorem accB (c : Dev nD) (t : Fin cfg0.N) (h0 : ¬ t.val % 10 = 0) (j : Fin 2048) :
    (outsAt0 V c t.val t.isLt).2 (ix2 0 j)
      = (outsAt0 V c (t.val - 1) (Nat.lt_of_le_of_lt (Nat.sub_le _ _) t.isLt)).2 (ix2 0 j) + part V c t (ix2 0 j) := by
  rw [outsAt0_B V c t h0]
  frame_out
  refine (congrArg _ (row_emb j).symm).trans ?_
  rw [View.read_writes_cons_emb]
  rw [pay2_at]
  refine congrArg₂ (· + ·) ?_ rfl
  generalize (outsAt0 V c (t.val - 1) _).2 = X
  pointwise

end Cert.KernelIdeal.Gen
end
end
-- ==== Proof.KHost.lean ====
/- The padded arrays the host program hands to the kernels: zero outside the argument they are filled from. -/
module

public import proofs.«01_k».proof.Proof.Gen.KernelIdeal.Frame
public import Idealize.ShloMosaic.Lib.Pointwise
public import Idealize.ShloMosaic.Lib.Routing.OpsSet
public import Idealize.ShloMosaic.Lib.StableHlo.RunRead

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ) (ρ : Dev nD → PrngReg)

/-- A matrix read at any pair of numbers, zero outside. -/
def pad {R C : ℕ} (x : FVec Ideal ⟨2, ![R, C]⟩ .f32) (r c : ℕ) : EReal := if h : r < R ∧ c < C then x (ix2 ⟨r, h.1⟩ ⟨c, h.2⟩) else 0

/-- A matrix written whole at the corner of a matrix of zeros. -/
theorem corner {R C R' C' w : ℕ} {si : Shape} (hR : R ≤ R') (hC : C ≤ C') (d : ScatterDims ⟨2, ![R', C']⟩ si ⟨2, ![R, C]⟩) (idx : IVec si w)
    (hidx : ∀ k a, d.start k idx a = 0) (hwin : ∀ k a, d.window k a = (k a).val) (z : FVec Ideal ⟨2, ![R', C']⟩ .f32) (hz : ∀ i, z i = 0)
    (x : FVec Ideal ⟨2, ![R, C]⟩ .f32) (r : Fin R') (c : Fin C') :
    Host.scatter d (fun _ b => b) z idx x (ix2 r c) = pad x r.val c.val := by
  have lands : ∀ k : Shape.Idx ⟨2, ![R, C]⟩, d.resultIdx? k idx = some (ix2 r c) ↔ (k 0).val = r.val ∧ (k 1).val = c.val := by
    intro k
    rw [Routing.resultIdx?_eq_some]
    constructor
    · intro h
      have h0 := h 0
      have h1 := h 1
      rw [hidx, hwin] at h0 h1
      have e0 : ((ix2 r c : Shape.Idx ⟨2, ![R', C']⟩) 0).val = r.val := rfl
      have e1 : ((ix2 r c : Shape.Idx ⟨2, ![R', C']⟩) 1).val = c.val := rfl
      omega
    · rintro ⟨h0, h1⟩ a
      rw [hidx, hwin]
      match a with
      | ⟨0, _⟩ => show (0 : Int) + ((k 0).val : Int) = (r.val : Int); omega
      | ⟨1, _⟩ => show (0 : Int) + ((k 1).val : Int) = (c.val : Int); omega
  unfold pad
  split
  · next h =>
    refine Routing.scatter_set_hit d z idx x (ix2 r c) _ (fun k hk => ?_) (ix2 ⟨r.val, h.1⟩ ⟨c.val, h.2⟩) ((lands _).2 ⟨rfl, rfl⟩)
    obtain ⟨e0, e1⟩ := (lands k).1 hk
    refine congrArg x (funext fun a => Fin.ext ?_)
    match a with
    | ⟨0, _⟩ => exact e0
    | ⟨1, _⟩ => exact e1
  · next h =>
    rw [Routing.scatter_set_miss d z idx x (ix2 r c) fun k hk => h ?_]
    · exact hz _
    · obtain ⟨e0, e1⟩ := (lands k).1 hk
      exact ⟨e0 ▸ (k 0).isLt, e1 ▸ (k 1).isLt⟩

/-- The pair of zero words the corner is written at. -/
def words : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0
theorem words_at (i : S2.Idx) : words i = 0#32 := by
  obtain ⟨a, rfl⟩ : ∃ a : Fin 2, i = ix1 a := ⟨i 0, funext fun a => by match a with | ⟨0, _⟩ => rfl⟩
  unfold words
  match a with
  | ⟨0, _⟩ => rfl
  | ⟨1, _⟩ => rfl
/-- Its start is the corner. -/
theorem start_zero {s u : Shape} (d : ScatterDims s S2 u) (k : u.Idx) (a : Fin s.rank) : d.start k words a = 0 := by
  unfold ScatterDims.start
  split
  · rw [words_at]
    rfl
  · rfl
/-- A transposed matrix, padded. -/
theorem pad_flip {R C : ℕ} (y : FVec Ideal ⟨2, ![C, R]⟩ .f32) (x : FVec Ideal ⟨2, ![R, C]⟩ .f32) (h : ∀ a b, y (ix2 a b) = x (ix2 b a)) (r c : ℕ) :
    pad y c r = pad x r c := by
  unfold pad
  by_cases q : r < R ∧ c < C
  · rw [dif_pos q, dif_pos q.symm, h]
  · rw [dif_neg q, dif_neg fun e => q e.symm]

/-- The array, at a position. -/
theorem W1_v4 (c : Dev nD) (r : Fin 5120) (k : Fin 8) :
    (W1 (F := Ideal) m ρ c (Proc.devRef .tc main_v4) : FVec Ideal S5120x8 .f32) (ix2 r k) = pad (R := 5000) (C := 6) (m ((c : Thread nD τ).loc main_arg0)) r.val k.val := by
  have e : (W1 (F := Ideal) m ρ c (Proc.devRef .tc main_v4) : FVec Ideal S5120x8 .f32)
      = Host.scatter scatter_S5120x8_S2_S5000x6_01_n_01_0 (fun _ b => b) (broadcastInDim S5120x8 ![] bcast_S_S5120x8 (constant (F := Ideal) S_ FTy.f32 0#32))
        words (m ((c : Thread nD τ).loc main_arg0)) := by
    unfold W1
    after_results
    rfl
  rw [e]
  exact corner (by decide) (by decide) _ _ (fun k a => start_zero _ k a) (fun k a => by match a with
    | ⟨0, _⟩ => rfl
    | ⟨1, _⟩ => rfl) _ (fun _ => Ideal.ofBits_zero_f32) _ r k

/-- The array, at a position. -/
theorem W1_v10 (c : Dev nD) (k : Fin 8) (r : Fin 5120) :
    (W1 (F := Ideal) m ρ c (Proc.devRef .tc main_v10) : FVec Ideal S8x5120 .f32) (ix2 k r) = pad (R := 5000) (C := 6) (m ((c : Thread nD τ).loc main_arg0)) r.val k.val := by
  have e : (W1 (F := Ideal) m ρ c (Proc.devRef .tc main_v10) : FVec Ideal S8x5120 .f32)
      = Host.scatter scatter_S8x5120_S2_S6x5000_01_n_01_0 (fun _ b => b) (broadcastInDim S8x5120 ![] bcast_S_S8x5120 (constant (F := Ideal) S_ FTy.f32 0#32))
        words (transpose S6x5000 [1, 0] (m ((c : Thread nD τ).loc main_arg0)) transposes_S5000x6_S6x5000_1_0) := by
    unfold W1
    after_results
    rfl
  rw [e]
  refine (corner (by decide) (by decide) _ _ (fun k a => start_zero _ k a) (fun k a => by match a with
    | ⟨0, _⟩ => rfl
    | ⟨1, _⟩ => rfl) _ (fun _ => Ideal.ofBits_zero_f32) _ k r).trans ?_
  exact pad_flip _ _ (fun _ _ => by pointwise) _ _

/-- The array, at a position. -/
theorem W1_v16 (c : Dev nD) (k : Fin 8) (r : Fin 2048) :
    (W1 (F := Ideal) m ρ c (Proc.devRef .tc main_v16) : FVec Ideal S8x2048 .f32) (ix2 k r) = pad (R := 2000) (C := 5) (m ((c : Thread nD τ).loc main_arg1)) r.val k.val := by
  have e : (W1 (F := Ideal) m ρ c (Proc.devRef .tc main_v16) : FVec Ideal S8x2048 .f32)
      = Host.scatter scatter_S8x2048_S2_S5x2000_01_n_01_0 (fun _ b => b) (broadcastInDim S8x2048 ![] bcast_S_S8x2048 (constant (F := Ideal) S_ FTy.f32 0#32))
        words (transpose S5x2000 [1, 0] (m ((c : Thread nD τ).loc main_arg1)) transposes_S2000x5_S5x2000_1_0) := by
    unfold W1
    after_results
    rfl
  rw [e]
  refine (corner (by decide) (by decide) _ _ (fun k a => start_zero _ k a) (fun k a => by match a with
    | ⟨0, _⟩ => rfl
    | ⟨1, _⟩ => rfl) _ (fun _ => Ideal.ofBits_zero_f32) _ k r).trans ?_
  exact pad_flip _ _ (fun _ _ => by pointwise) _ _

/-- The array, at a position. -/
theorem W1_v21 (c : Dev nD) (r : Fin 2048) (k : Fin 8) :
    (W1 (F := Ideal) m ρ c (Proc.devRef .tc main_v21) : FVec Ideal S2048x8 .f32) (ix2 r k) = pad (R := 2000) (C := 5) (m ((c : Thread nD τ).loc main_arg1)) r.val k.val := by
  have e : (W1 (F := Ideal) m ρ c (Proc.devRef .tc main_v21) : FVec Ideal S2048x8 .f32)
      = Host.scatter scatter_S2048x8_S2_S2000x5_01_n_01_0 (fun _ b => b) (broadcastInDim S2048x8 ![] bcast_S_S2048x8 (constant (F := Ideal) S_ FTy.f32 0#32))
        words (m ((c : Thread nD τ).loc main_arg1)) := by
    unfold W1
    after_results
    rfl
  rw [e]
  exact corner (by decide) (by decide) _ _ (fun k a => start_zero _ k a) (fun k a => by match a with
    | ⟨0, _⟩ => rfl
    | ⟨1, _⟩ => rfl) _ (fun _ => Ideal.ofBits_zero_f32) _ r k

end Cert.KernelIdeal.Gen
end
end
-- ==== Proof.KRow.lean ====
/- A block of the dense pass, row by row: which target a prediction is matched to, and what its row is given. -/
module

public import proofs.«01_k».proof.Proof.KOut0
public import proofs.«01_k».proof.Proof.KHost
public import proofs.«01_k».proof.Proof.Pair

@[expose] public section

set_option maxRecDepth 16384

noncomputable section

namespace Cert.KernelIdeal.Gen

open Idealize.ShloMosaic Idealize.ShloMosaic.TcCoe
open Cert.Loss

/-- The intersection over union of prediction `i` and target `j`. -/
def pairIou (x0 : FVec Ideal ⟨2, ![5000, 6]⟩ .f32) (x1 : FVec Ideal ⟨2, ![2000, 5]⟩ .f32) (i : Fin 5000) (j : Fin 2000) : EReal :=
  iou (x0 (ix2 i 0)) (x0 (ix2 i 1)) (x0 (ix2 i 2)) (x0 (ix2 i 3)) (x1 (ix2 j 0)) (x1 (ix2 j 1)) (x1 (ix2 j 2)) (x1 (ix2 j 3))

/-- `b` names each prediction's first best target. -/
def Best (x0 : FVec Ideal ⟨2, ![5000, 6]⟩ .f32) (x1 : FVec Ideal ⟨2, ![2000, 5]⟩ .f32) (b : Fin 5000 → Fin 2000) : Prop :=
  ∀ i j, pairIou x0 x1 i j ≤ pairIou x0 x1 i (b i) ∧ (pairIou x0 x1 i j = pairIou x0 x1 i (b i) → (b i).val ≤ j.val)

/-- Row `r` is a prediction that is matched. -/
def Kept (x0 : FVec Ideal ⟨2, ![5000, 6]⟩ .f32) (x1 : FVec Ideal ⟨2, ![2000, 5]⟩ .f32) (b : Fin 5000 → Fin 2000) (r : ℕ) : Prop :=
  ∃ h : r < 5000, thr < pairIou x0 x1 ⟨r, h⟩ (b ⟨r, h⟩)

open Classical in
/-- The same as a number. -/
def flag (x0 : FVec Ideal ⟨2, ![5000, 6]⟩ .f32) (x1 : FVec Ideal ⟨2, ![2000, 5]⟩ .f32) (b : Fin 5000 → Fin 2000) (r : ℕ) : EReal :=
  if Kept x0 x1 b r then 1 else 0

open Classical in
/-- Whether row `r` is matched to target `j`, as a number. -/
def hit (x0 : FVec Ideal ⟨2, ![5000, 6]⟩ .f32) (x1 : FVec Ideal ⟨2, ![2000, 5]⟩ .f32) (b : Fin 5000 → Fin 2000) (r j : ℕ) : EReal :=
  if Kept x0 x1 b r ∧ ∃ h : r < 5000, (b ⟨r, h⟩).val = j then 1 else 0

theorem pad_in {R C : ℕ} (x : FVec Ideal ⟨2, ![R, C]⟩ .f32) (r : Fin R) (c : Fin C) : pad x r.val c.val = x (ix2 r c) :=
  dif_pos ⟨r.isLt, c.isLt⟩
theorem pad_out {R C : ℕ} (x : FVec Ideal ⟨2, ![R, C]⟩ .f32) (r c : ℕ) (h : R ≤ r) : pad x r c = 0 :=
  dif_neg fun h' => by omega

theorem sitofp_bit (p : Prop) [Decidable p] :
    (FloatOps.sitofp (F := Ideal) FTy.f32 (BitVec.setWidth 32 (BitVec.ofBool (decide p))) : EReal) = if p then 1 else 0 := by
  by_cases h : p
  · rw [if_pos h, decide_eq_true h]
    show (((BitVec.setWidth 32 (1#1 : BitVec 1)).toInt : ℝ) : EReal) = 1
    simp
  · rw [if_neg h, decide_eq_false h]
    show (((BitVec.setWidth 32 (0#1 : BitVec 1)).toInt : ℝ) : EReal) = 0
    simp

theorem and_bit (p q : Prop) [Decidable p] [Decidable q] :
    IntOp.andi (BitVec.ofBool (decide p)) (BitVec.ofBool (decide q)) = BitVec.ofBool (decide (p ∧ q)) := by
  by_cases hp : p <;> by_cases hq : q <;> simp [hp, hq, IntOp.andi]

/-- The word test that a row is a prediction. -/
theorem slt_row (r : ℕ) (h : r < 5120) : IntOp.cmpi CmpIPredicate.slt (BitVec.ofNat 32 r) 5000#32 = BitVec.ofBool (decide (r < 5000)) := by
  show BitVec.ofBool ((BitVec.ofNat 32 r).slt 5000#32) = _
  congr 1
  unfold BitVec.slt
  rw [toInt_small r (by omega), toInt_small 5000 (by norm_num)]
  simp

theorem row_word (t a : ℕ) : IntOp.addi (Scalar.muli (BitVec.ofNat 32 t) 512#32) (BitVec.ofNat 32 a) = BitVec.ofNat 32 (512 * t + a) := by
  show BitVec.ofNat 32 t * BitVec.ofNat 32 512 + BitVec.ofNat 32 a = _
  rw [BitVec.ofNat_add, BitVec.ofNat_mul, BitVec.mul_comm]

theorem eq_word (i j : ℕ) (hi : i < 2 ^ 32) (hj : j < 2 ^ 32) :
    IntOp.cmpi CmpIPredicate.eq (BitVec.ofNat 32 i) (BitVec.ofNat 32 j) = BitVec.ofBool (decide (i = j)) := by
  show BitVec.ofBool (BitVec.ofNat 32 i == BitVec.ofNat 32 j) = _
  congr 1
  rw [Bool.eq_iff_iff, beq_iff_eq, decide_eq_true_iff]
  constructor
  · intro h
    have := congrArg BitVec.toNat h
    rwa [BitVec.toNat_ofNat, BitVec.toNat_ofNat, Nat.mod_eq_of_lt hi, Nat.mod_eq_of_lt hj] at this
  · rintro rfl
    rfl

section
variable {x0 : FVec Ideal ⟨2, ![5000, 6]⟩ .f32} {x1 : FVec Ideal ⟨2, ![2000, 5]⟩ .f32} {b : Fin 5000 → Fin 2000}
  {A : FVec Ideal S512x8 .f32} {B : FVec Ideal S8x2048 .f32} {C : FVec Ideal S2048x8 .f32} {t : ℕ}

theorem row_of (hb : Best x0 x1 b) (hA : ∀ a k, A (ix2 a k) = pad x0 (512 * t + a.val) k.val) (hB : ∀ k j, B (ix2 k j) = pad x1 j.val k.val)
    (a : Fin 512) (hr : 512 * t + a.val < 5000) :
    Row (pairIou x0 x1 ⟨512 * t + a.val, hr⟩) (fun j => k0_pay14 (areaP A) (areaT B) (shared A B) (ix2 a j)) (b ⟨512 * t + a.val, hr⟩) := by
  refine ⟨fun j => ?_, fun j hj => ?_, fun j => (hb _ j).1, fun j => (hb _ j).2⟩
  · rw [pair_at]
    simp only [hA, hB]
    unfold pairIou
    have e0 := fun k : Fin 6 => pad_in x0 ⟨512 * t + a.val, hr⟩ k
    have e1 := fun k : Fin 5 => pad_in x1 j k
    rw [← e0 0, ← e0 1, ← e0 2, ← e0 3, ← e1 0, ← e1 1, ← e1 2, ← e1 3]
    rfl
  · show k0_pay14 (areaP A) (areaT B) (shared A B) (ix2 a j) ≤ 0
    rw [pair_at]
    simp only [hB, pad_out x1 j.val _ hj]
    exact iou_zero _ _ _ _

open Classical in
/-- A row's flag. -/
theorem flag_at (hb : Best x0 x1 b) (hA : ∀ a k, A (ix2 a k) = pad x0 (512 * t + a.val) k.val) (hB : ∀ k j, B (ix2 k j) = pad x1 j.val k.val)
    (ht : t < 10) (a : Fin 512) :
    k0_pay16 (BitVec.ofNat 32 t) (areaP A) (areaT B) (shared A B) (ix2 a 0) = flag x0 x1 b (512 * t + a.val) := by
  have ha := a.isLt
  rw [pay16_at, row_word, slt_row _ (by omega), and_bit, sitofp_bit, pay15_at]
  unfold flag
  refine if_congr ?_ rfl rfl
  constructor
  · rintro ⟨h, hr⟩
    exact ⟨hr, (row_of hb hA hB a hr).passes.1 h⟩
  · rintro ⟨hr, h⟩
    exact ⟨(row_of hb hA hB a hr).passes.2 h, hr⟩

open Classical in
/-- A row's one-hot entry. -/
theorem hit_at (hb : Best x0 x1 b) (hA : ∀ a k, A (ix2 a k) = pad x0 (512 * t + a.val) k.val) (hB : ∀ k j, B (ix2 k j) = pad x1 j.val k.val)
    (ht : t < 10) (a : Fin 512) (j : Fin 2048) :
    k0_pay17 (BitVec.ofNat 32 t) (areaP A) (areaT B) (shared A B) (ix2 a j) = hit x0 x1 b (512 * t + a.val) j.val := by
  have hj := j.isLt
  rw [pay17_at, flag_at hb hA hB ht a]
  unfold hit flag
  by_cases hk : Kept x0 x1 b (512 * t + a.val)
  · obtain ⟨hr, h⟩ := hk
    have hbl := (b ⟨512 * t + a.val, hr⟩).isLt
    rw [if_pos ⟨hr, h⟩, mul_one, pay15_at, (row_of hb hA hB a hr).arg_eq h, eq_word _ _ (by omega) (by omega), sitofp_bit]
    refine if_congr ?_ rfl rfl
    constructor
    · exact fun e => ⟨⟨hr, h⟩, hr, e.symm⟩
    · rintro ⟨-, _, e⟩
      exact e.symm
  · rw [if_neg hk, mul_zero, if_neg fun h => hk h.1]

open Classical in
/-- The matched target's entries: a row is given its target's, or zeros. -/
theorem pick_sum (hC : ∀ j k, C (ix2 j k) = pad x1 j.val k.val) (r : ℕ) (k : Fin 8) :
    ∑ x : Fin 2048, hit x0 x1 b r x.val * C (ix2 x k)
      = if h : Kept x0 x1 b r then pad x1 (b ⟨r, h.1⟩).val k.val else 0 := by
  split_ifs with h
  · have hbl := (b ⟨r, h.1⟩).isLt
    rw [Finset.sum_eq_single (⟨(b ⟨r, h.1⟩).val, by omega⟩ : Fin 2048)]
    · unfold hit
      rw [if_pos ⟨h, h.1, rfl⟩, one_mul, hC]
    · intro x _ hx
      unfold hit
      rw [if_neg, zero_mul]
      rintro ⟨-, _, e⟩
      exact hx (Fin.ext e.symm)
    · exact fun h => absurd (Finset.mem_univ _) h
  · refine Finset.sum_eq_zero fun x _ => ?_
    unfold hit
    rw [if_neg fun h' => h h'.1, zero_mul]

end

end Cert.KernelIdeal.Gen
end
end
-- ==== Proof.KArr0.lean ====
/- The arrays the dense pass leaves. -/
module

public import proofs.«01_k».proof.Proof.KOut0

@[expose] public section

set_option maxRecDepth 16384

noncomputable section

namespace Cert.KernelIdeal.Gen

open Idealize.ShloMosaic Idealize.ShloMosaic.TcCoe
open Idealize.ShloMosaic.Pipeline (Dat)
open Cert.Loss

theorem idx0 : ∀ t : Fin cfg0.N, (grid0.coords t 0).val = t.val
    ∧ (cfg0.win 0).index t = ![t.val, 0] ∧ (cfg0.win 1).index t = ![0, 0]
    ∧ (cfg0.win 2).index t = ![0, 0] ∧ (cfg0.win 3).index t = ![t.val, 0] ∧ (cfg0.win 4).index t = ![0, 0] := by
  decide +kernel

variable (V : (c : Dev nD) → (b : Ref sig .tc) → Buf (Elt Ideal) ((c : Thread nD τ).loc b))

/-- Row `a` of block `t` is row `512 t + a` of the predictions. -/
theorem blkP (c : Dev nD) (t : Fin cfg0.N) (a : Fin 512) (k : Fin 8) (r : Fin 5120) (hr : r.val = 512 * t.val + a.val) :
    (iblk0 V c 0 t : FVec Ideal S512x8 .f32) (ix2 a k) = (V c main_v4 : FVec Ideal S5120x8 .f32) (ix2 r k) := by
  blk_ext [iblk0, (idx0 t).2.1]

theorem blkT (c : Dev nD) (t : Fin cfg0.N) :
    (iblk0 V c 1 t : FVec Ideal S8x2048 .f32) = (V c main_v16 : FVec Ideal S8x2048 .f32) := by
  funext y
  blk_ext [iblk0, (idx0 t).2.2.1]

theorem blkF (c : Dev nD) (t : Fin cfg0.N) :
    (iblk0 V c 2 t : FVec Ideal S2048x8 .f32) = (V c main_v21 : FVec Ideal S2048x8 .f32) := by
  funext y
  blk_ext [iblk0, (idx0 t).2.2.2.1]

theorem outs_congr (c : Dev nD) {n n' : ℕ} {hn : n < cfg0.N} {hn' : n' < cfg0.N} {y y' : S512x8.Idx} (h : n = n') (hy : y = y') :
    (outsAt0 V c n hn).1 y = (outsAt0 V c n' hn').1 y' := by
  subst h
  subst hy
  rfl

/-- What row `r` of the predictions is given. -/
def rowOut (c : Dev nD) (i : S5120x8.Idx) : EReal :=
  (outsAt0 V c ((i 0).val / 512) (by have h := (i 0).isLt; have : cfg0.N = 10 := N_0; have : (i 0).val < 5120 := h; omega)).1
    (ix2 ⟨(i 0).val % 512, Nat.mod_lt _ (by norm_num)⟩ (i 1))

theorem arr3 (c : Dev nD) : ((dat0 V c).arrAt 3 cfg0.N : FVec Ideal S5120x8 .f32) = rowOut V c := by
  refine (dat0 V c).arrAt_eq_of_covers 3 _ (by decide +kernel) fun t hf y => ?_
  blk_simp
  rw [after0_3]
  have hy0 : (y 0).val < 512 := (y 0).isLt
  have e0 : ((win0_3.blk t).view.emb y 0).val = t.val * 512 + (y 0).val := by
    blk_simp [(idx0 t).2.2.2.2.1]
  have e1 : ((win0_3.blk t).view.emb y 1).val = (y 1).val := by
    blk_simp [(idx0 t).2.2.2.2.1]
  unfold rowOut
  refine outs_congr V c (by omega) ?_
  refine funext fun a => Fin.ext ?_
  match a with
  | ⟨0, _⟩ => show (y 0).val = ((win0_3.blk t).view.emb y 0).val % 512; omega
  | ⟨1, _⟩ => exact e1.symm

theorem arr4 (c : Dev nD) (j : Fin 2048) :
    ((dat0 V c).arrAt 4 cfg0.N : FVec Ideal S8x2048 .f32) (ix2 0 j) = ∑ t : Fin cfg0.N, part V c t (ix2 0 j) := by
  have e : ((dat0 V c).arrAt 4 cfg0.N : FVec Ideal S8x2048 .f32)
      = (outsAt0 V c 9 (by have : cfg0.N = 10 := N_0; omega)).2 := by
    refine (dat0 V c).arrAt_eq_of_after_last 4 t0_9 (by decide +kernel) _ fun j => ?_
    blk_simp
    rw [after0_4]
    rfl
  rw [e]
  have h := Pipeline.eq_sum_fin_of_reset_step_last (fun n h => (outsAt0 V c n h).2 (ix2 0 j)) 10 (0 : EReal)
    (fun t => part V c t (ix2 0 j)) (fun t h => accA V c t h j) (fun t h => accB V c t h j)
    (le_of_eq N_0) t0_9 rfl
  rw [zero_add] at h
  exact h

end Cert.KernelIdeal.Gen
end
end
-- ==== Proof.KWhole.lean ====
/- The kernel program's result as a function of its arguments' padded arrays. -/
module

public import proofs.«01_k».proof.Proof.KArr0
public import proofs.«01_k».proof.Proof.KOut1
public import proofs.«01_k».proof.Proof.KHost

@[expose] public section

set_option maxRecDepth 16384

noncomputable section

namespace Cert.KernelIdeal.Gen

open Idealize.ShloMosaic Idealize.ShloMosaic.TcCoe Idealize.ShloMosaic.Tactic
open Idealize.ShloMosaic.Pipeline (Dat)
open Cert.Loss

theorem idx1 : (cfg1.win 0).index t1_0 = ![0, 0] ∧ (cfg1.win 1).index t1_0 = ![0, 0] ∧ (cfg1.win 2).index t1_0 = ![0, 0]
    ∧ (cfg1.win 3).index t1_0 = ![0, 0] := by
  decide +kernel

section Pass
variable (V : (c : Dev nD) → (b : Ref sig .tc) → Buf (Elt Ideal) ((c : Thread nD τ).loc b))

theorem blk1_0 (c : Dev nD) : (iblk1 V c 0 t1_0 : FVec Ideal S8x5120 .f32) = (V c main_v10 : FVec Ideal S8x5120 .f32) := by
  funext y
  blk_ext [iblk1, idx1.1]
theorem blk1_1 (c : Dev nD) : (iblk1 V c 1 t1_0 : FVec Ideal S8x5120 .f32) = (V c main_v23 : FVec Ideal S8x5120 .f32) := by
  funext y
  blk_ext [iblk1, idx1.2.1]
theorem blk1_2 (c : Dev nD) : (iblk1 V c 2 t1_0 : FVec Ideal S8x2048 .f32) = (V c main_v22_1 : FVec Ideal S8x2048 .f32) := by
  funext y
  blk_ext [iblk1, idx1.2.2.1]

theorem arr1_3 (c : Dev nD) : ((dat1 V c).arrAt 3 cfg1.N : FVec Ideal S8x128 .f32)
    = out1_3 (F := Ideal) (V c main_v10 : FVec Ideal S8x5120 .f32) (V c main_v23 : FVec Ideal S8x5120 .f32) (V c main_v22_1 : FVec Ideal S8x2048 .f32) := by
  refine (dat1 V c).arrAt_eq_of_after_last 3 t1_0 (by decide +kernel) _ fun j => ?_
  blk_simp
  rw [after1_3, blk1_0, blk1_1, blk1_2]
end Pass

variable (m : (ℓ : Loc nD τ sig) → Buf (Elt Ideal) ℓ) (ρ : Dev nD → PrngReg)

theorem V3_v10 (c : Dev nD) (k : Fin 8) (r : Fin 5120) :
    (V3 m ρ c main_v10 : FVec Ideal S8x5120 .f32) (ix2 k r) = pad (R := 5000) (C := 6) (m ((c : Thread nD τ).loc main_arg0)) r.val k.val := by
  have e : V3 m ρ c main_v10 = W1 m ρ c (Proc.devRef .tc main_v10) :=
    (W3_of m ρ c main_v10 (by decide)).trans (W2_of m ρ c main_v10 (by decide +kernel))
  exact (congrFun e _).trans (W1_v10 m ρ c k r)

theorem V3_v23 (c : Dev nD) (k : Fin 8) (r : Fin 5120) :
    (V3 m ρ c main_v23 : FVec Ideal S8x5120 .f32) (ix2 k r) = rowOut (V1 m ρ) c (ix2 r k) := by
  have e : (V3 m ρ c main_v23 : FVec Ideal S8x5120 .f32)
      = transpose S8x5120 [1, 0] (W2 m ρ c (Proc.devRef .tc main_v22_0) : FVec Ideal S5120x8 .f32) (by decide) := by
    show (W3 m ρ c (Proc.devRef .tc main_v23) : FVec Ideal S8x5120 .f32) = _
    unfold W3
    after_results
  have e2 : (W2 m ρ c (Proc.devRef .tc main_v22_0) : FVec Ideal S5120x8 .f32) = rowOut (V1 m ρ) c :=
    (W2_arr m ρ c 3).trans (arr3 (V1 m ρ) c)
  rw [e, e2]
  generalize rowOut (V1 m ρ) c = X
  pointwise

theorem V3_v22_1 (c : Dev nD) (j : Fin 2048) :
    (V3 m ρ c main_v22_1 : FVec Ideal S8x2048 .f32) (ix2 0 j) = ∑ t : Fin cfg0.N, part (V1 m ρ) c t (ix2 0 j) := by
  have e : (V3 m ρ c main_v22_1 : FVec Ideal S8x2048 .f32) = (dat0 (V1 m ρ) c).arrAt 4 cfg0.N :=
    (W3_of m ρ c main_v22_1 (by decide)).trans (W2_arr m ρ c 4)
  rw [e]
  exact arr4 (V1 m ρ) c j

theorem W5_v26 (c : Dev nD) : (W5 m ρ c (Proc.devRef .tc main_v26) : FVec Ideal S_ .f32) ix0
    = (out1_3 (F := Ideal) (V3 m ρ c main_v10 : FVec Ideal S8x5120 .f32) (V3 m ρ c main_v23 : FVec Ideal S8x5120 .f32) (V3 m ρ c main_v22_1 : FVec Ideal S8x2048 .f32) : FVec Ideal S8x128 .f32) (ix2 0 0) := by
  have e : (W4 m ρ c (Proc.devRef .tc main_v24) : FVec Ideal S8x128 .f32) = _ := (W4_arr m ρ c 3).trans (arr1_3 (V3 m ρ) c)
  rw [← e]
  have e5 : (W5 m ρ c (Proc.devRef .tc main_v26) : FVec Ideal S_ .f32)
      = shapeCast S_ (extractStridedSlice S1x1 ![0, 0] (W4 m ρ c (Proc.devRef .tc main_v24) : FVec Ideal S8x128 .f32) (by decide)) (by decide) := by
    unfold W5
    after_results
    rfl
  rw [e5]
  generalize (W4 m ρ c (Proc.devRef .tc main_v24) : FVec Ideal S8x128 .f32) = X
  pointwise

end Cert.KernelIdeal.Gen
end
end
-- ==== Proof.KTable.lean ====
/- The kernel program's result over the matching: its rows, its column counts, its total. -/
module

public import proofs.«01_k».proof.Proof.KRow
public import proofs.«01_k».proof.Proof.KWhole

@[expose] public section

set_option maxRecDepth 16384

noncomputable section

namespace Cert.KernelIdeal.Gen

open Idealize.ShloMosaic Idealize.ShloMosaic.TcCoe
open Cert.Loss

variable (m : (ℓ : Loc nD τ sig) → Buf (Elt Ideal) ℓ) (ρ : Dev nD → PrngReg)

section
variable (c : Dev nD) (t : Fin cfg0.N)

theorem blk_preds (a : Fin 512) (k : Fin 8) :
    (iblk0 (V1 m ρ) c 0 t : FVec Ideal S512x8 .f32) (ix2 a k) = pad (R := 5000) (C := 6) (m ((c : Thread nD τ).loc main_arg0)) (512 * t.val + a.val) k.val := by
  have ht : t.val < 10 := lt_of_lt_of_eq t.isLt (show cfg0.N = 10 from N_0)
  rw [blkP (V1 m ρ) c t a k ⟨512 * t.val + a.val, by omega⟩ rfl]
  exact W1_v4 m ρ c _ k
theorem blk_targets (k : Fin 8) (j : Fin 2048) :
    (iblk0 (V1 m ρ) c 1 t : FVec Ideal S8x2048 .f32) (ix2 k j) = pad (R := 2000) (C := 5) (m ((c : Thread nD τ).loc main_arg1)) j.val k.val := by
  rw [blkT]
  exact W1_v16 m ρ c k j
theorem blk_flip (j : Fin 2048) (k : Fin 8) :
    (iblk0 (V1 m ρ) c 2 t : FVec Ideal S2048x8 .f32) (ix2 j k) = pad (R := 2000) (C := 5) (m ((c : Thread nD τ).loc main_arg1)) j.val k.val := by
  rw [blkF]
  exact W1_v21 m ρ c j k
end

variable {b : Fin 5000 → Fin 2000} (c : Dev nD)
  (hb : Best (m ((c : Thread nD τ).loc main_arg0)) (m ((c : Thread nD τ).loc main_arg1)) b)
include hb

theorem part_at (t : Fin cfg0.N) (j : Fin 2048) :
    part (V1 m ρ) c t (ix2 0 j)
      = ∑ a : Fin 512, hit (m ((c : Thread nD τ).loc main_arg0)) (m ((c : Thread nD τ).loc main_arg1)) b (512 * t.val + a.val) j.val := by
  have ht : t.val < 10 := lt_of_lt_of_eq t.isLt (show cfg0.N = 10 from N_0)
  unfold part
  rw [pay18_at, (idx0 t).1]
  exact Finset.sum_congr rfl fun a _ => hit_at hb (blk_preds m ρ c t) (blk_targets m ρ c t) ht a j

theorem counts (j : Fin 2048) :
    (V3 m ρ c main_v22_1 : FVec Ideal S8x2048 .f32) (ix2 0 j)
      = ∑ r : Fin 5120, hit (m ((c : Thread nD τ).loc main_arg0)) (m ((c : Thread nD τ).loc main_arg1)) b r.val j.val := by
  rw [V3_v22_1]
  simp only [part_at m ρ c hb]
  generalize hit (m ((c : Thread nD τ).loc main_arg0)) (m ((c : Thread nD τ).loc main_arg1)) b = f
  show ∑ t : Fin 10, ∑ a : Fin 512, f (512 * t.val + a.val) j.val = ∑ r : Fin (10 * 512), f r.val j.val
  rw [Fin.sum_univ_eq_sum_range (fun r => f r j.val) (10 * 512), Finset.sum_range_mul_split,
    Fin.sum_univ_eq_sum_range (fun t => ∑ a : Fin 512, f (512 * t + a.val) j.val) 10]
  refine Finset.sum_congr rfl fun t _ => ?_
  rw [Fin.sum_univ_eq_sum_range (fun a => f (512 * t + a) j.val) 512]
  simp only [Nat.mul_comm]

theorem row_read (r : Fin 5120) (k : Fin 8) (h : r.val / 512 < cfg0.N) :
    (V3 m ρ c main_v23 : FVec Ideal S8x5120 .f32) (ix2 k r)
      = k0_pay19 (BitVec.ofNat 32 (r.val / 512)) (areaP (iblk0 (V1 m ρ) c 0 ⟨r.val / 512, h⟩)) (areaT (iblk0 (V1 m ρ) c 1 ⟨r.val / 512, h⟩))
        (shared (iblk0 (V1 m ρ) c 0 ⟨r.val / 512, h⟩) (iblk0 (V1 m ρ) c 1 ⟨r.val / 512, h⟩)) (iblk0 (V1 m ρ) c 2 ⟨r.val / 512, h⟩)
        (ix2 ⟨r.val % 512, Nat.mod_lt _ (by norm_num)⟩ k) := by
  rw [V3_v23]
  have e := outRow (V1 m ρ) c ⟨r.val / 512, h⟩
  rw [(idx0 _).1] at e
  exact congrFun e (ix2 ⟨r.val % 512, Nat.mod_lt _ (by norm_num)⟩ k)

/-- A row's flag. -/
theorem table_flag (r : Fin 5120) :
    (V3 m ρ c main_v23 : FVec Ideal S8x5120 .f32) (ix2 6 r)
      = flag (m ((c : Thread nD τ).loc main_arg0)) (m ((c : Thread nD τ).loc main_arg1)) b r.val := by
  have hr := r.isLt
  have h : r.val / 512 < cfg0.N := by have : cfg0.N = 10 := N_0; omega
  rw [row_read m ρ c hb r 6 h, pay19_at, if_neg (by decide), if_neg (by decide), if_pos (by decide)]
  refine (flag_at hb (blk_preds m ρ c ⟨r.val / 512, h⟩) (blk_targets m ρ c ⟨r.val / 512, h⟩) (by show r.val / 512 < 10; omega) _).trans ?_
  exact congrArg _ (Nat.div_add_mod r.val 512)

open Classical in
/-- A row's matched target. -/
theorem table_pick (r : Fin 5120) (k : Fin 8) (hk : k.val < 5) :
    (V3 m ρ c main_v23 : FVec Ideal S8x5120 .f32) (ix2 k r)
      = if h : Kept (m ((c : Thread nD τ).loc main_arg0)) (m ((c : Thread nD τ).loc main_arg1)) b r.val
        then pad (R := 2000) (C := 5) (m ((c : Thread nD τ).loc main_arg1)) (b ⟨r.val, h.1⟩).val k.val else 0 := by
  have hr := r.isLt
  have h : r.val / 512 < cfg0.N := by have : cfg0.N = 10 := N_0; omega
  refine (row_read m ρ c hb r k h).trans ?_
  refine Eq.trans ?_ (pick_sum (C := iblk0 (V1 m ρ) c 2 ⟨r.val / 512, h⟩) (blk_flip m ρ c ⟨r.val / 512, h⟩) r.val k)
  rw [pay19_at, if_pos hk]
  have e : 512 * (r.val / 512) + r.val % 512 = r.val := Nat.div_add_mod r.val 512
  have s := fun x : Fin 2048 => hit_at hb (blk_preds m ρ c ⟨r.val / 512, h⟩) (blk_targets m ρ c ⟨r.val / 512, h⟩)
    (by show r.val / 512 < 10; omega) ⟨r.val % 512, Nat.mod_lt _ (by norm_num)⟩ x
  simp only [e] at s
  simp only [s]

end Cert.KernelIdeal.Gen
end
end
-- ==== Proof.RefTop.lean ====
/- The reference's totals. -/
module

public import proofs.«01_k».proof.Proof.RefReadB
public import Idealize.ShloMosaic.Lib.Pointwise
public import proofs.«01_k».proof.Proof.Spec

@[expose] public section

noncomputable section

namespace Cert.ReferenceIdeal.Read

open Cert.Loss Cert.ReferenceIdeal Cert.ReferenceIdeal.Gen Idealize.ShloMosaic Idealize.ShloMosaic.TcCoe Cert.ReferenceIdeal.Value

variable (x0 : FVec Ideal S5000x6 .f32) (x1 : FVec Ideal S2000x5 .f32)

/-- The best overlap of a row. -/
theorem v62_at (i : Fin 5000) :
    val_main_v62 (F := Ideal) x0 x1 (ix1 i)
      = Finset.fold max (Ideal.ofBits FTy.f32 0xFF800000#32) (fun j : Fin 2000 => val_main_v61 (F := Ideal) x0 x1 (ix2 i j)) Finset.univ := by
  unfold val_main_v62 val_main_cst_1
  pointwise
/-- Whether a row is matched. -/
theorem v65_at (i : Fin 5000) :
    val_main_v65 (F := Ideal) x0 x1 (ix1 i) = BitVec.ofBool (decide (thr < val_main_v62 (F := Ideal) x0 x1 (ix1 i))) := by
  rw [val_main_v65_apply, val_main_v64_apply, val_main_cst_2_apply]
  generalize val_main_v62 (F := Ideal) x0 x1 (ix1 i) = y
  rfl
/-- The same as a number. -/
theorem v66_at (i : Fin 5000) :
    val_main_v66 (F := Ideal) x0 x1 (ix1 i) = if thr < val_main_v62 (F := Ideal) x0 x1 (ix1 i) then 1 else 0 := by
  rw [val_main_v66_apply, v65_at]
  generalize val_main_v62 (F := Ideal) x0 x1 (ix1 i) = y
  by_cases h : thr < y
  · rw [if_pos h, decide_eq_true h]
    show (((1#1 : BitVec 1).toNat : ℝ) : EReal) = 1
    simp
  · rw [if_neg h, decide_eq_false h]
    show (((0#1 : BitVec 1).toNat : ℝ) : EReal) = 0
    simp
/-- The number of matched rows, at least one. -/
theorem v68_at :
    val_main_v68 (F := Ideal) x0 x1 ix0 = max (∑ i : Fin 5000, val_main_v66 (F := Ideal) x0 x1 (ix1 i)) 1 := by
  unfold val_main_v68 val_main_cst_4 val_main_v67 val_main_cst_3
  generalize val_main_v66 (F := Ideal) x0 x1 = y
  pointwise
/-- The classification total. -/
theorem v132_at :
    val_main_v132 (F := Ideal) x0 x1 ix0 = ∑ i : Fin 5000, ∑ b : Fin 80, val_main_v131 (F := Ideal) x0 x1 (ix2 i b) := by
  unfold val_main_v132 val_main_cst_24
  generalize val_main_v131 (F := Ideal) x0 x1 = y
  pointwise
/-- The background total. -/
theorem v138_at :
    val_main_v138 (F := Ideal) x0 x1 ix0
      = ∑ i : Fin 5000, Scalar.select (~~~ val_main_v65 (F := Ideal) x0 x1 (ix1 i)) (Ideal.log (x0 (ix2 i 4))) 0 := by
  unfold val_main_v138 val_main_cst_27 val_main_v137 val_main_call4_v1 val_main_call4_v0 val_main_cst_26 val_main_v136 val_main_v135 val_main_v2 val_main_v1
  generalize val_main_v65 (F := Ideal) x0 x1 = y
  pointwise
  rw [show id (constant (F := Ideal) S_ .f32 0#32) ix0 = (0 : EReal) from Ideal.ofBits_zero_f32]
/-- The number of targets no row takes. -/
theorem v153_at :
    val_main_v153 (F := Ideal) x0 x1 ix0
      = FloatOps.sitofp (F := Ideal) .f32 (IntOp.subi 2000#32 (Finset.fold IntOp.addi 0#32 (fun j : Fin 2000 => val_main_v150 (F := Ideal) x0 x1 (ix1 j)) Finset.univ)) := by
  unfold val_main_v153 val_main_v152 val_main_c_33 val_main_v151 val_main_c_32
  generalize val_main_v150 (F := Ideal) x0 x1 = y
  pointwise
/-- Whether some row takes a target. -/
theorem v150_at (j : Fin 2000) :
    val_main_v150 (F := Ideal) x0 x1 (ix1 j)
      = BitVec.setWidth 32 (BitVec.ofBool (decide (0 < val_main_v147 (F := Ideal) x0 x1 (ix1 j)))) := by
  rw [val_main_v150_apply, val_main_v149_apply, val_main_v148_apply, val_main_cst_31_apply]
  generalize val_main_v147 (F := Ideal) x0 x1 (ix1 j) = y
  show BitVec.setWidth 32 (BitVec.ofBool (decide (Ideal.ofBits FTy.f32 0#32 < y))) = _
  rw [Ideal.ofBits_zero_f32]
/-- The box total. -/
theorem v236_at :
    val_main_v236 (F := Ideal) x0 x1 ix0 = ∑ i : Fin 5000, val_main_v235 (F := Ideal) x0 x1 (ix1 i) := by
  unfold val_main_v236 val_main_cst_44
  generalize val_main_v235 (F := Ideal) x0 x1 = y
  pointwise
/-- The loss. -/
theorem v240_at :
    val_main_v240 (F := Ideal) x0 x1 ix0
      = Ideal.ofBits FTy.f32 0x3F000000#32 * (Ideal.div (val_main_v132 (F := Ideal) x0 x1 ix0) (val_main_v68 (F := Ideal) x0 x1 ix0 * Ideal.ofBits FTy.f32 0x42A00000#32)
            - val_main_v138 (F := Ideal) x0 x1 ix0 + val_main_v153 (F := Ideal) x0 x1 ix0)
          + Ideal.ofBits FTy.f32 0x40F00000#32 * Ideal.div (val_main_v236 (F := Ideal) x0 x1 ix0) (val_main_v68 (F := Ideal) x0 x1 ix0) := by
  simp only [val_main_v240_apply, val_main_v239_apply, val_main_cst_46_apply, val_main_v238_apply, val_main_cst_45_apply, val_main_v237_apply, val_main_v154_apply, val_main_v139_apply, val_main_v134_apply, val_main_v133_apply, val_main_cst_25_apply]
  rfl

end Cert.ReferenceIdeal.Read
end
end
-- ==== Proof.RefTake.lean ====
/- The reference's takes and scatters read at a position. -/
module

public import proofs.«01_k».proof.Proof.RefWord
public import proofs.«01_k».proof.Proof.RefTop
public import Idealize.ShloMosaic.Lib.Routing.OpsPair
public import Idealize.ShloMosaic.Lib.Routing.OpsSet

@[expose] public section

noncomputable section

namespace Cert.ReferenceIdeal.Read

open Idealize.ShloMosaic Cert.ReferenceIdeal

/-- Rows taken from the table of boxes. -/
theorem take_rows {α : Type} (x : S2000x4.Idx → α) (idx : IVec S5000x1 32) (i : Fin 5000) (k : Fin 4) (b : Fin 2000)
    (hb : idx (ix2 i 0) = BitVec.ofNat 32 b.val) :
    Host.gather gather_S2000x4_S5000x1_S5000x4_1_0_n_n_0_1_14 x idx (ix2 i k) = x (ix2 b k) := by
  have hbl := b.isLt
  have hs : gather_S2000x4_S5000x1_S5000x4_1_0_n_n_0_1_14.siIdx (ix2 i k) ⟨0, by decide⟩ = (ix2 i 0 : S5000x1.Idx) := by
    funext a
    match a with
    | ⟨0, _⟩ => rfl
    | ⟨1, _⟩ => rfl
  have h0 : gather_S2000x4_S5000x1_S5000x4_1_0_n_n_0_1_14.start (ix2 i k) idx 0 = b.val := by
    unfold GatherDims.start
    rw [dif_pos (by decide)]
    show min (idx (gather_S2000x4_S5000x1_S5000x4_1_0_n_n_0_1_14.siIdx (ix2 i k) ⟨0, _⟩)).toInt.toNat (2000 - 1) = b.val
    rw [hs, hb, StableHlo.Predicate.toInt_ofNat_small _ (by omega)]
    omega
  refine congrArg x (funext fun a => Fin.ext ?_)
  match a with
  | ⟨0, _⟩ =>
    show gather_S2000x4_S5000x1_S5000x4_1_0_n_n_0_1_14.start (ix2 i k) idx 0 + 0 + 0 = b.val
    omega
  | ⟨1, _⟩ =>
    show 0 + 0 + k.val = k.val
    omega

theorem start_pair (idx : IVec S5000x2 32) (i : Fin 5000) (a : Fin 2) :
    scatter_S5000x80_S5000x2_S5000_n_01_01_1.start (ix1 i) idx a = (idx (ix2 i a)).toInt := by
  have hs : ∀ c : Fin 2, scatter_S5000x80_S5000x2_S5000_n_01_01_1.siIdx (ix1 i) c = (ix2 i c : S5000x2.Idx) := by
    intro c
    funext a
    match a with
    | ⟨0, _⟩ => rfl
    | ⟨1, _⟩ => rfl
  unfold ScatterDims.start
  match a with
  | ⟨0, _⟩ => exact (dif_pos (show (0 : Fin 2) ∈ [(0 : Fin 2), 1] by decide)).trans <| congrArg (fun z => (idx z).toInt) (hs 0)
  | ⟨1, _⟩ => exact (dif_pos (show (1 : Fin 2) ∈ [(0 : Fin 2), 1] by decide)).trans <| congrArg (fun z => (idx z).toInt) (hs 1)

/-- One entry set in each row: the row's at its class, zero elsewhere. -/
theorem set_class (z : FVec Ideal S5000x80 .f32) (hz : ∀ i, z i = 0) (idx : IVec S5000x2 32) (u : FVec Ideal S5000 .f32) (cls : Fin 5000 → ℕ)
    (h0 : ∀ i : Fin 5000, (idx (ix2 i 0)).toInt = i.val) (h1 : ∀ i : Fin 5000, (idx (ix2 i 1)).toInt = cls i) (i : Fin 5000) (c : Fin 80) :
    Host.scatter scatter_S5000x80_S5000x2_S5000_n_01_01_1 (fun _ b => b) z idx u (ix2 i c) = if cls i = c.val then u (ix1 i) else 0 := by
  have lands : ∀ k : S5000.Idx, scatter_S5000x80_S5000x2_S5000_n_01_01_1.resultIdx? k idx = some (ix2 i c) ↔ k = ix1 i ∧ cls i = c.val := by
    intro k
    obtain ⟨r, rfl⟩ : ∃ r : Fin 5000, k = ix1 r := ⟨k 0, funext fun a => by match a with | ⟨0, _⟩ => rfl⟩
    rw [Routing.resultIdx?_eq_some]
    have w : ∀ a, scatter_S5000x80_S5000x2_S5000_n_01_01_1.window (ix1 r) a = 0 := fun a => by
      match a with
      | ⟨0, _⟩ => rfl
      | ⟨1, _⟩ => rfl
    constructor
    · intro h
      have g0 := h 0
      have g1 := h 1
      rw [start_pair, w, h0] at g0
      rw [start_pair, w, h1] at g1
      have e0 : ((ix2 i c : S5000x80.Idx) 0).val = i.val := rfl
      have e1 : ((ix2 i c : S5000x80.Idx) 1).val = c.val := rfl
      have er : r = i := Fin.ext (by omega)
      subst er
      exact ⟨rfl, by omega⟩
    · rintro ⟨e, hc⟩ a
      have er : r = i := congrFun e 0
      subst er
      rw [start_pair, w]
      match a with
      | ⟨0, _⟩ => exact (congrArg (· + ((0 : ℕ) : Int)) (h0 r)).trans (by simp)
      | ⟨1, _⟩ => exact (congrArg (· + ((0 : ℕ) : Int)) (h1 r)).trans (by simp [hc])
  split
  · next h =>
    exact Routing.scatter_set_hit _ z idx u (ix2 i c) _ (fun k hk => congrArg u ((lands k).1 hk).1) (ix1 i) ((lands _).2 ⟨rfl, h⟩)
  · next h =>
    rw [Routing.scatter_set_miss _ z idx u (ix2 i c) fun k hk => h ((lands k).1 hk).2]
    exact hz _

/-- Entries added up by target: a target's is the sum over the rows it is best for. -/
theorem add_best (z : FVec Ideal S2000 .f32) (hz : ∀ i, z i = 0) (idx : IVec S5000x1 32) (u : FVec Ideal S5000 .f32) (bst : Fin 5000 → Fin 2000)
    (h0 : ∀ i : Fin 5000, (idx (ix2 i 0)).toInt = (bst i).val) (j : Fin 2000) :
    Host.scatterAdd scatter_S2000_S5000x1_S5000_n_0_0_1 z idx u (ix1 j) = ∑ i : Fin 5000, if bst i = j then u (ix1 i) else 0 := by
  have hs : ∀ r : Fin 5000, scatter_S2000_S5000x1_S5000_n_0_0_1.siIdx (ix1 r) ⟨0, by decide⟩ = (ix2 r 0 : S5000x1.Idx) := by
    intro r
    funext a
    match a with
    | ⟨0, _⟩ => rfl
    | ⟨1, _⟩ => rfl
  have st : ∀ r : Fin 5000, scatter_S2000_S5000x1_S5000_n_0_0_1.start (ix1 r) idx 0 = (bst r).val := by
    intro r
    unfold ScatterDims.start
    refine (dif_pos (show (0 : Fin 1) ∈ [(0 : Fin 1)] by decide)).trans ?_
    exact (congrArg (fun z => (idx z).toInt) (hs r)).trans (h0 r)
  have lands : ∀ r : Fin 5000, scatter_S2000_S5000x1_S5000_n_0_0_1.resultIdx? (ix1 r) idx = some (ix1 j) ↔ bst r = j := by
    intro r
    rw [Routing.resultIdx?_eq_some]
    constructor
    · intro h
      have g := h 0
      rw [st] at g
      have w : scatter_S2000_S5000x1_S5000_n_0_0_1.window (ix1 r) 0 = 0 := rfl
      rw [w] at g
      have e : ((ix1 j : S2000.Idx) 0).val = j.val := rfl
      exact Fin.ext (by omega)
    · rintro rfl a
      match a with
      | ⟨0, _⟩ => exact (congrArg (· + ((0 : ℕ) : Int)) (st r)).trans (by simp)
  have e : Host.scatterAdd scatter_S2000_S5000x1_S5000_n_0_0_1 z idx u (ix1 j)
      = z (ix1 j) + ∑ k ∈ Finset.univ.filter (fun k => scatter_S2000_S5000x1_S5000_n_0_0_1.resultIdx? k idx = some (ix1 j)), u k := by
    rfl
  rw [e, hz, zero_add, Finset.sum_filter]
  refine Fintype.sum_equiv ⟨fun k => k 0, fun r => ix1 r, fun k => funext fun a => by match a with | ⟨0, _⟩ => rfl, fun r => rfl⟩ _ _ fun k => ?_
  obtain ⟨r, rfl⟩ : ∃ r : Fin 5000, k = ix1 r := ⟨k 0, funext fun a => by match a with | ⟨0, _⟩ => rfl⟩
  show (if scatter_S2000_S5000x1_S5000_n_0_0_1.resultIdx? (ix1 r) idx = some (ix1 j) then u (ix1 r) else 0) = if bst r = j then u (ix1 r) else 0
  by_cases h : bst r = j
  · rw [if_pos h, if_pos ((lands r).2 h)]
  · rw [if_neg h, if_neg fun q => h ((lands r).1 q)]

end Cert.ReferenceIdeal.Read
end
end
-- ==== Proof.RefScat.lean ====
/- The reference's takes and scatters, given each row's best target and the classes. -/
module

public import proofs.«01_k».proof.Proof.RefTake

@[expose] public section

noncomputable section

namespace Cert.ReferenceIdeal.Read

open Idealize.ShloMosaic Cert.ReferenceIdeal Cert.ReferenceIdeal.Gen Cert.ReferenceIdeal.Value

/-- A small word is not wrapped. -/
theorem wrap_small (n : ℕ) (h : n < 2 ^ 31) (a : BitVec 32) :
    Scalar.select (IntOp.cmpi .slt (BitVec.ofNat 32 n) 0#32) (IntOp.addi (BitVec.ofNat 32 n) a) (BitVec.ofNat 32 n) = BitVec.ofNat 32 n :=
  Routing.wrap_of_lt _ _ (by rw [BitVec.toNat_ofNat]; omega)

variable (x0 : FVec Ideal S5000x6 .f32) (x1 : FVec Ideal S2000x5 .f32) (b : Fin 5000 → Fin 2000)
  (hw : ∀ i, val_main_v63 (F := Ideal) x0 x1 (ix1 i) = BitVec.ofNat 32 (b i).val)

include hw

/-- A row's matched box. -/
theorem v75_at (i : Fin 5000) (k : Fin 4) : val_main_v75 (F := Ideal) x0 x1 (ix2 i k) = x1 (ix2 (b i) ⟨k.val, by omega⟩) := by
  have hb := (b i).isLt
  have e : val_main_v74 (F := Ideal) x0 x1 (ix2 i 0) = BitVec.ofNat 32 (b i).val := by
    rw [v74_at, hw, wrap_small _ (by omega)]
  delta val_main_v75
  rw [take_rows _ _ i k (b i) e, v6_at]
/-- A row's matched class word. -/
theorem v82_at (i : Fin 5000) : val_main_v82 (F := Ideal) x0 x1 (ix1 i) = FloatOps.fptosi (F := Ideal) 32 (x1 (ix2 (b i) 4)) := by
  have hb := (b i).isLt
  have e : val_main_v81 (F := Ideal) x0 x1 (ix2 i 0) = BitVec.ofNat 32 (b i).val := by
    rw [v81_at, hw, wrap_small _ (by omega)]
  delta val_main_v82
  rw [← v9_at]
  exact Routing.gather_take1 (N := 2000) (n := 5000) gather_S2000_S5000x1_S5000_n_0_n_n_0_1_1 rfl rfl rfl rfl _ _ i (b i) e (by norm_num)
/-- How many kept rows a target is best for. -/
theorem v147_at (j : Fin 2000) :
    val_main_v147 (F := Ideal) x0 x1 (ix1 j) = ∑ i : Fin 5000, if b i = j then val_main_v66 (F := Ideal) x0 x1 (ix1 i) else 0 := by
  delta val_main_v147
  refine add_best _ (fun i => ?_) _ _ b (fun i => ?_) j
  · rw [val_main_v140_apply]
    exact Ideal.ofBits_zero_f32
  · have hb := (b i).isLt
    rw [v146_at, hw, wrap_small _ (by omega), StableHlo.Predicate.toInt_ofNat_small _ (by omega)]

omit hw

/-- The prediction's score, at its class. -/
theorem v99_at (pc : Fin 5000 → ℕ) (hp : ∀ i, pc i < 80) (hpc : ∀ i, FloatOps.fptosi (F := Ideal) 32 (x0 (ix2 i 5)) = BitVec.ofNat 32 (pc i))
    (i : Fin 5000) (c : Fin 80) :
    val_main_v99 (F := Ideal) x0 x1 (ix2 i c) = if pc i = c.val then x0 (ix2 i 4) * val_main_v66 (F := Ideal) x0 x1 (ix1 i) else 0 := by
  delta val_main_v99
  rw [← v85_at]
  refine set_class _ (fun i => ?_) _ _ pc (fun i => ?_) (fun i => ?_) i c
  · rw [val_main_v84_apply]
    exact Ideal.ofBits_zero_f32
  · have hb := i.isLt
    rw [v98_at0, wrap_small _ (by omega), StableHlo.Predicate.toInt_ofNat_small _ (by omega)]
  · have hb := hp i
    rw [v98_at1, hpc, wrap_small _ (by omega), StableHlo.Predicate.toInt_ofNat_small _ (by omega)]

include hw

/-- The label, at the matched class. -/
theorem v114_at (tc : Fin 2000 → ℕ) (ht : ∀ j, tc j < 80) (htc : ∀ j, FloatOps.fptosi (F := Ideal) 32 (x1 (ix2 j 4)) = BitVec.ofNat 32 (tc j))
    (i : Fin 5000) (c : Fin 80) :
    val_main_v114 (F := Ideal) x0 x1 (ix2 i c) = if tc (b i) = c.val then val_main_v66 (F := Ideal) x0 x1 (ix1 i) else 0 := by
  delta val_main_v114
  refine set_class _ (fun i => ?_) _ _ (fun i => tc (b i)) (fun i => ?_) (fun i => ?_) i c
  · rw [val_main_v100_apply]
    exact Ideal.ofBits_zero_f32
  · have hb := i.isLt
    rw [v113_at0, wrap_small _ (by omega), StableHlo.Predicate.toInt_ofNat_small _ (by omega)]
  · have hb := ht (b i)
    rw [v113_at1, v82_at x0 x1 b hw, htc, wrap_small _ (by omega), StableHlo.Predicate.toInt_ofNat_small _ (by omega)]

end Cert.ReferenceIdeal.Read
end
end
-- ==== Proof.RefIou.lean ====
/- The reference's table of overlaps, at a pair of boxes. -/
module

public import proofs.«01_k».proof.Proof.RefReadB
public import Idealize.ShloMosaic.Lib.Pointwise
public import proofs.«01_k».proof.Proof.Spec

@[expose] public section

noncomputable section

namespace Cert.ReferenceIdeal.Read

open Cert.Loss Cert.ReferenceIdeal Cert.ReferenceIdeal.Gen Idealize.ShloMosaic Idealize.ShloMosaic.TcCoe Cert.ReferenceIdeal.Value

variable (x0 : FVec Ideal S5000x6 .f32) (x1 : FVec Ideal S2000x5 .f32)

/-- The area of a prediction. -/
theorem v20_at (i : Fin 5000) :
    val_main_v20 (F := Ideal) x0 (ix1 i)
      = (x0 (ix2 i 2) - x0 (ix2 i 0)) * (x0 (ix2 i 3) - x0 (ix2 i 1)) := by
  unfold val_main_v20 val_main_v19 val_main_v18 val_main_v17 val_main_v16 val_main_v15 val_main_v14 val_main_v13 val_main_v12 val_main_v11 val_main_v10 val_main_v0
  pointwise
/-- The area of a target. -/
theorem v31_at (j : Fin 2000) :
    val_main_v31 (F := Ideal) x1 (ix1 j)
      = (x1 (ix2 j 2) - x1 (ix2 j 0)) * (x1 (ix2 j 3) - x1 (ix2 j 1)) := by
  unfold val_main_v31 val_main_v30 val_main_v29 val_main_v28 val_main_v27 val_main_v26 val_main_v25 val_main_v24 val_main_v23 val_main_v22 val_main_v21 val_main_v6
  pointwise
/-- The overlap along one axis. -/
theorem v49_at (i : Fin 5000) (j : Fin 2000) :
    val_main_v49 (F := Ideal) x0 x1 (ix2 i j)
      = max (min (x0 (ix2 i 2)) (x1 (ix2 j 2)) - max (x0 (ix2 i 0)) (x1 (ix2 j 0))) 0 := by
  unfold val_main_v49 val_main_v48 val_main_v47 val_main_call0_v1 val_main_call0_v0 val_main_cst val_main_v46 val_main_v45 val_main_v44 val_main_v43 val_main_v42 val_main_v41 val_main_v40 val_main_v39 val_main_v38 val_main_v37 val_main_v36 val_main_v35 val_main_v34 val_main_v33 val_main_v32 val_main_v6 val_main_v0
  pointwise
  rw [show id (constant (F := Ideal) S_ .f32 0#32) ix0 = (0 : EReal) from Ideal.ofBits_zero_f32]
  exact max_comm (α := EReal) _ _
/-- The overlap along one axis. -/
theorem v51_at (i : Fin 5000) (j : Fin 2000) :
    val_main_v51 (F := Ideal) x0 x1 (ix2 i j)
      = max (min (x0 (ix2 i 3)) (x1 (ix2 j 3)) - max (x0 (ix2 i 1)) (x1 (ix2 j 1))) 0 := by
  unfold val_main_v51 val_main_v50 val_main_v47 val_main_call0_v1 val_main_call0_v0 val_main_cst val_main_v46 val_main_v45 val_main_v44 val_main_v43 val_main_v42 val_main_v41 val_main_v40 val_main_v39 val_main_v38 val_main_v37 val_main_v36 val_main_v35 val_main_v34 val_main_v33 val_main_v32 val_main_v6 val_main_v0
  pointwise
  rw [show id (constant (F := Ideal) S_ .f32 0#32) ix0 = (0 : EReal) from Ideal.ofBits_zero_f32]
  exact max_comm (α := EReal) _ _
/-- The intersection over union of a pair. -/
theorem v61_at (i : Fin 5000) (j : Fin 2000) :
    val_main_v61 (F := Ideal) x0 x1 (ix2 i j)
      = iou (x0 (ix2 i 0)) (x0 (ix2 i 1)) (x0 (ix2 i 2)) (x0 (ix2 i 3)) (x1 (ix2 j 0)) (x1 (ix2 j 1)) (x1 (ix2 j 2)) (x1 (ix2 j 3)) := by
  have h57 : val_main_v57 (F := Ideal) x0 x1 (ix2 i j) = val_main_v20 (F := Ideal) x0 (ix1 i) + val_main_v31 (F := Ideal) x1 (ix1 j) := by
    unfold val_main_v57 val_main_v56 val_main_v55 val_main_v54 val_main_v53
    generalize val_main_v20 (F := Ideal) x0 = a
    generalize val_main_v31 (F := Ideal) x1 = b
    pointwise
  have h52 : val_main_v52 (F := Ideal) x0 x1 (ix2 i j)
      = inter (x0 (ix2 i 0)) (x0 (ix2 i 1)) (x0 (ix2 i 2)) (x0 (ix2 i 3)) (x1 (ix2 j 0)) (x1 (ix2 j 1)) (x1 (ix2 j 2)) (x1 (ix2 j 3)) := by
    rw [val_main_v52_apply, v49_at, v51_at]
    rfl
  rw [val_main_v61_apply, val_main_v60_apply, val_main_v58_apply, val_main_v59_apply, val_main_cst_0_apply, h57, h52, v20_at, v31_at]
  rfl

end Cert.ReferenceIdeal.Read
end
end
-- ==== Proof.RefBox.lean ====
/- The reference's box loss, at a row. -/
module

public import proofs.«01_k».proof.Proof.RefReadB
public import Idealize.ShloMosaic.Lib.Pointwise
public import proofs.«01_k».proof.Proof.Spec

@[expose] public section

noncomputable section

namespace Cert.ReferenceIdeal.Read

open Cert.Loss Cert.ReferenceIdeal Cert.ReferenceIdeal.Gen Idealize.ShloMosaic Idealize.ShloMosaic.TcCoe Cert.ReferenceIdeal.Value

variable (x0 : FVec Ideal S5000x6 .f32) (x1 : FVec Ideal S2000x5 .f32)

/-- A coordinate of a prediction. -/
theorem v156_at (i : Fin 5000) :
    val_main_v156 (F := Ideal) x0 (ix1 i)
      = x0 (ix2 i 0) := by
  unfold val_main_v156 val_main_v155 val_main_v0
  pointwise
/-- A coordinate of a prediction. -/
theorem v158_at (i : Fin 5000) :
    val_main_v158 (F := Ideal) x0 (ix1 i)
      = x0 (ix2 i 1) := by
  unfold val_main_v158 val_main_v157 val_main_v0
  pointwise
/-- A coordinate of a prediction. -/
theorem v160_at (i : Fin 5000) :
    val_main_v160 (F := Ideal) x0 (ix1 i)
      = x0 (ix2 i 2) := by
  unfold val_main_v160 val_main_v159 val_main_v0
  pointwise
/-- A coordinate of a prediction. -/
theorem v162_at (i : Fin 5000) :
    val_main_v162 (F := Ideal) x0 (ix1 i)
      = x0 (ix2 i 3) := by
  unfold val_main_v162 val_main_v161 val_main_v0
  pointwise
/-- A coordinate of the matched target. -/
theorem v164_at (i : Fin 5000) :
    val_main_v164 (F := Ideal) x0 x1 (ix1 i)
      = val_main_v75 (F := Ideal) x0 x1 (ix2 i 0) := by
  unfold val_main_v164 val_main_v163
  generalize val_main_v75 (F := Ideal) x0 x1 = y
  pointwise
/-- A coordinate of the matched target. -/
theorem v166_at (i : Fin 5000) :
    val_main_v166 (F := Ideal) x0 x1 (ix1 i)
      = val_main_v75 (F := Ideal) x0 x1 (ix2 i 1) := by
  unfold val_main_v166 val_main_v165
  generalize val_main_v75 (F := Ideal) x0 x1 = y
  pointwise
/-- A coordinate of the matched target. -/
theorem v168_at (i : Fin 5000) :
    val_main_v168 (F := Ideal) x0 x1 (ix1 i)
      = val_main_v75 (F := Ideal) x0 x1 (ix2 i 2) := by
  unfold val_main_v168 val_main_v167
  generalize val_main_v75 (F := Ideal) x0 x1 = y
  pointwise
/-- A coordinate of the matched target. -/
theorem v170_at (i : Fin 5000) :
    val_main_v170 (F := Ideal) x0 x1 (ix1 i)
      = val_main_v75 (F := Ideal) x0 x1 (ix2 i 3) := by
  unfold val_main_v170 val_main_v169
  generalize val_main_v75 (F := Ideal) x0 x1 = y
  pointwise
/-- The shared area. -/
theorem v187_at (i : Fin 5000) :
    val_main_v187 (F := Ideal) x0 x1 (ix1 i)
      = inter (x0 (ix2 i 0)) (x0 (ix2 i 1)) (x0 (ix2 i 2)) (x0 (ix2 i 3)) (val_main_v75 (F := Ideal) x0 x1 (ix2 i 0)) (val_main_v75 (F := Ideal) x0 x1 (ix2 i 1)) (val_main_v75 (F := Ideal) x0 x1 (ix2 i 2)) (val_main_v75 (F := Ideal) x0 x1 (ix2 i 3)) := by
  simp only [val_main_v187_apply, val_main_v186_apply, val_main_call6_v1_apply, val_main_call6_v0_apply, val_main_cst_37_apply, val_main_v185_apply, val_main_v184_apply, val_main_v183_apply, val_main_v182_apply, val_main_call5_v1_apply, val_main_call5_v0_apply, val_main_cst_36_apply, val_main_v181_apply, val_main_v180_apply, val_main_v179_apply, v156_at, v158_at, v160_at, v162_at, v164_at, v166_at, v168_at, v170_at]
  show max (Ideal.ofBits FTy.f32 0#32) _ * max (Ideal.ofBits FTy.f32 0#32) _ = _
  rw [Ideal.ofBits_zero_f32, max_comm 0, max_comm 0]
  rfl
/-- The guarded intersection over union. -/
theorem v194_at (i : Fin 5000) :
    val_main_v194 (F := Ideal) x0 x1 (ix1 i)
      = iou2 (x0 (ix2 i 0)) (x0 (ix2 i 1)) (x0 (ix2 i 2)) (x0 (ix2 i 3)) (val_main_v75 (F := Ideal) x0 x1 (ix2 i 0)) (val_main_v75 (F := Ideal) x0 x1 (ix2 i 1)) (val_main_v75 (F := Ideal) x0 x1 (ix2 i 2)) (val_main_v75 (F := Ideal) x0 x1 (ix2 i 3)) := by
  simp only [val_main_v194_apply, val_main_v193_apply, val_main_v192_apply, val_main_cst_38_apply, val_main_v191_apply, val_main_v190_apply, val_main_v189_apply, val_main_v188_apply, val_main_v178_apply, val_main_v177_apply, val_main_cst_35_apply, val_main_v176_apply, val_main_v175_apply, val_main_v174_apply, val_main_v173_apply, val_main_cst_34_apply, val_main_v172_apply, val_main_v171_apply, v187_at, v156_at, v158_at, v160_at, v162_at, v164_at, v166_at, v168_at, v170_at]
  rfl
/-- The distance penalty. -/
theorem v229_at (i : Fin 5000) :
    val_main_v229 (F := Ideal) x0 x1 (ix1 i)
      = apart (x0 (ix2 i 0)) (x0 (ix2 i 1)) (x0 (ix2 i 2)) (x0 (ix2 i 3)) (val_main_v75 (F := Ideal) x0 x1 (ix2 i 0)) (val_main_v75 (F := Ideal) x0 x1 (ix2 i 1)) (val_main_v75 (F := Ideal) x0 x1 (ix2 i 2)) (val_main_v75 (F := Ideal) x0 x1 (ix2 i 3)) := by
  simp only [val_main_v229_apply, val_main_v216_apply, val_main_v215_apply, val_main_cst_40_apply, val_main_v214_apply, val_main_v213_apply, val_main_v212_apply, val_main_v211_apply, val_main_v210_apply, val_main_v209_apply, val_main_v208_apply, val_main_v207_apply, val_main_v206_apply, val_main_v205_apply, val_main_v204_apply, val_main_cst_39_apply, val_main_v203_apply, val_main_v202_apply, val_main_v201_apply, val_main_v200_apply, val_main_v199_apply, val_main_v198_apply, val_main_v197_apply, val_main_v196_apply, val_main_v195_apply, v156_at, v158_at, v160_at, v162_at, v164_at, v166_at, v168_at, v170_at]
  rfl
/-- The aspect-ratio penalty. -/
theorem v224_at (i : Fin 5000) :
    val_main_v224 (F := Ideal) x0 x1 (ix1 i)
      = aspect (Ideal.atan (Ideal.div (val_main_v75 (F := Ideal) x0 x1 (ix2 i 2) - val_main_v75 (F := Ideal) x0 x1 (ix2 i 0)) (val_main_v75 (F := Ideal) x0 x1 (ix2 i 3) - val_main_v75 (F := Ideal) x0 x1 (ix2 i 1) + eps))) (Ideal.atan (Ideal.div (x0 (ix2 i 2) - x0 (ix2 i 0)) (x0 (ix2 i 3) - x0 (ix2 i 1) + eps))) := by
  simp only [val_main_v224_apply, val_main_v223_apply, val_main_cst_41_apply, val_main_v222_apply, val_main_v221_apply, val_main_v220_apply, val_main_v219_apply, val_main_v218_apply, val_main_v217_apply, val_main_v178_apply, val_main_v177_apply, val_main_cst_35_apply, val_main_v176_apply, val_main_v175_apply, val_main_v174_apply, val_main_v173_apply, val_main_cst_34_apply, val_main_v172_apply, val_main_v171_apply, v156_at, v158_at, v160_at, v162_at, v164_at, v166_at, v168_at, v170_at]
  rfl
/-- The box loss of a row, taken when it is matched. -/
theorem v235_at (i : Fin 5000) :
    val_main_v235 (F := Ideal) x0 x1 (ix1 i)
      = val_main_v66 (F := Ideal) x0 x1 (ix1 i) * box (Ideal.atan (Ideal.div (val_main_v75 (F := Ideal) x0 x1 (ix2 i 2) - val_main_v75 (F := Ideal) x0 x1 (ix2 i 0)) (val_main_v75 (F := Ideal) x0 x1 (ix2 i 3) - val_main_v75 (F := Ideal) x0 x1 (ix2 i 1) + eps))) (Ideal.atan (Ideal.div (x0 (ix2 i 2) - x0 (ix2 i 0)) (x0 (ix2 i 3) - x0 (ix2 i 1) + eps))) (x0 (ix2 i 0)) (x0 (ix2 i 1)) (x0 (ix2 i 2)) (x0 (ix2 i 3)) (val_main_v75 (F := Ideal) x0 x1 (ix2 i 0)) (val_main_v75 (F := Ideal) x0 x1 (ix2 i 1)) (val_main_v75 (F := Ideal) x0 x1 (ix2 i 2)) (val_main_v75 (F := Ideal) x0 x1 (ix2 i 3)) := by
  simp only [val_main_v235_apply, val_main_v234_apply, val_main_v233_apply, val_main_cst_43_apply, val_main_v232_apply, val_main_v231_apply, val_main_v230_apply, val_main_v228_apply, val_main_v227_apply, val_main_v226_apply, val_main_cst_42_apply, val_main_v225_apply, v194_at, v229_at, v224_at]
  show _ * (Ideal.ofBits FTy.f32 0x3F800000#32 - _) = _
  rw [Ideal.ofBits_one_f32]
  rfl

end Cert.ReferenceIdeal.Read
end
end
-- ==== Proof.RefArg.lean ====
/- The reference's arg-max: the first index at which a row is largest. -/
module

public import proofs.«01_k».proof.Proof.RefReadB
public import Idealize.ShloMosaic.Lib.Pointwise

@[expose] public section

noncomputable section

namespace Cert.ReferenceIdeal.Read

open Cert.ReferenceIdeal Cert.ReferenceIdeal.Gen Idealize.ShloMosaic Idealize.ShloMosaic.TcCoe Cert.ReferenceIdeal.Value

/-- A fold whose step keeps one of its two operands, the one above the other in a preorder, ends at a member above every member. -/
theorem foldl_best {α : Type} (R : α → α → Prop) (hr : ∀ a, R a a) (ht : ∀ a b c, R a b → R b c → R a c) (f : α → α → α)
    (hf : ∀ a b, (f a b = a ∨ f a b = b) ∧ R a (f a b) ∧ R b (f a b)) (l : List α) :
    ∀ a, (l.foldl f a = a ∨ l.foldl f a ∈ l) ∧ R a (l.foldl f a) ∧ ∀ b ∈ l, R b (l.foldl f a) := by
  induction l with
  | nil => exact fun a => ⟨Or.inl rfl, hr a, nofun⟩
  | cons b l ih =>
    intro a
    obtain ⟨h1, h2, h3⟩ := ih (f a b)
    obtain ⟨e, ha, hb⟩ := hf a b
    refine ⟨?_, ht _ _ _ ha h2, ?_⟩
    · rcases h1 with h | h
      · rcases e with e | e
        · exact Or.inl (h.trans e)
        · right
          show List.foldl f (f a b) l ∈ b :: l
          rw [h, e]
          exact List.mem_cons_self
      · exact Or.inr (List.mem_cons_of_mem _ h)
    · intro x hx
      rcases List.mem_cons.1 hx with rfl | hx
      · exact ht _ _ _ hb h2
      · exact h3 x hx

/-- The order the arg-max takes: a smaller value, or the same value at a later index, is below. -/
def Below (a b : EReal × BitVec 32) : Prop := a.1 < b.1 ∨ (a.1 = b.1 ∧ b.2.toInt ≤ a.2.toInt)

/-- The arg-max's body keeps the one above. -/
theorem reducer_above (a b : EReal × BitVec 32) :
    (reducer_argmax_f32_i32 (F := Ideal) a b = a ∨ reducer_argmax_f32_i32 (F := Ideal) a b = b)
      ∧ Below a (reducer_argmax_f32_i32 (F := Ideal) a b) ∧ Below b (reducer_argmax_f32_i32 (F := Ideal) a b) := by
  obtain ⟨x, i⟩ := a
  obtain ⟨y, j⟩ := b
  have e : reducer_argmax_f32_i32 (F := Ideal) (x, i) (y, j)
      = (Scalar.select (IntOp.ori (BitVec.ofBool (decide (y < x))) 0#1) x y,
         Scalar.select (IntOp.ori (IntOp.ori (BitVec.ofBool (decide (y < x))) 0#1) (IntOp.andi (BitVec.ofBool (decide (x = y))) (IntOp.cmpi .slt i j))) i j) := by
    have h : Ideal.cmp .une x x = 0#1 := by simp [Ideal.cmp]
    show (Scalar.select (IntOp.ori (Ideal.cmp .ogt x y) (Ideal.cmp .une x x)) x y,
      Scalar.select (IntOp.ori (IntOp.ori (Ideal.cmp .ogt x y) (Ideal.cmp .une x x)) (IntOp.andi (Ideal.cmp .oeq x y) (IntOp.cmpi .slt i j))) i j) = _
    rw [h]
    rfl
  rw [e]
  unfold Below
  rcases lt_trichotomy y x with h | h | h
  · simp [h, Scalar.select, IntOp.ori, IntOp.andi, h.ne']
  · subst h
    by_cases hs : i.slt j = true
    · have : i.toInt ≤ j.toInt := by
        have := BitVec.slt_iff_toInt_lt.1 hs
        omega
      simp [hs, Scalar.select, IntOp.ori, IntOp.andi, IntOp.cmpi, this]
    · have : j.toInt ≤ i.toInt := by
        rw [BitVec.slt_iff_toInt_lt] at hs
        omega
      simp [hs, Scalar.select, IntOp.ori, IntOp.andi, IntOp.cmpi, this]
  · simp [h, h.ne, not_lt_of_gt h, Scalar.select, IntOp.ori, IntOp.andi]

/-- The arg-max of a row of any matrix: the first column at which the row is largest. -/
theorem argmax_first {R C : ℕ} (hC : 0 < C) (hC' : C < 2 ^ 31) (h : (⟨2, ![R, C]⟩ : Shape).ReducesTo [1] (⟨1, ![R]⟩ : Shape)) {u : Shape}
    (hu : 0 < u.numel) (y : FVec Ideal ⟨2, ![R, C]⟩ .f32) (n : IVec ⟨2, ![R, C]⟩ 32) (hn : ∀ i j, n (ix2 i j) = BitVec.ofNat 32 j.val)
    (y0 : FVec Ideal u .f32) (hy0 : y0 (Shape.Idx.first hu) = (⊥ : EReal)) (n0 : IVec u 32) (hn0 : n0 (Shape.Idx.first hu) = 0#32) (i : Fin R) :
    ∃ b : Fin C, (Host.argReduce (reducer_argmax_f32_i32 (F := Ideal)) y n y0 n0 h hu (ix1 i)).2 = BitVec.ofNat 32 b.val
      ∧ ∀ j : Fin C, y (ix2 i j) ≤ y (ix2 i b) ∧ (y (ix2 i j) = y (ix2 i b) → b.val ≤ j.val) := by
  rw [Ideal.argReduce_eq_reduce2, Host.reduce2_eq_foldl_fiber]
  obtain ⟨hm, h0, hb⟩ := foldl_best Below (fun a => Or.inr ⟨rfl, le_rfl⟩)
    (fun a b c h1 h2 => by
      rcases h1 with h1 | ⟨h1, h1'⟩ <;> rcases h2 with h2 | ⟨h2, h2'⟩
      · exact Or.inl (h1.trans h2)
      · exact Or.inl (h2 ▸ h1)
      · exact Or.inl (h1 ▸ h2)
      · exact Or.inr ⟨h1.trans h2, h2'.trans h1'⟩) _ reducer_above
    (Host.argReduceFiber y n h (ix1 i)) (y0 (Shape.Idx.first hu), n0 (Shape.Idx.first hu))
  generalize List.foldl _ _ _ = r at hm h0 hb ⊢
  rw [hy0, hn0] at hm
  have hmem : ∀ j : Fin C, (y (ix2 i j), BitVec.ofNat 32 j.val) ∈ Host.argReduceFiber y n h (ix1 i) := by
    intro j
    refine List.mem_map.2 ⟨Shape.rowMajor _ (ix2 i j), List.mem_filter.2 ⟨List.mem_finRange _, ?_⟩, ?_⟩
    · rw [Equiv.symm_apply_apply]
      exact decide_eq_true ((Shape.ReducesTo.fiber_r2_a1 h (ix1 i) (ix2 i j)).2 ⟨j, rfl⟩)
    · rw [Equiv.symm_apply_apply, hn]
  have hlt : ∀ j : Fin C, (BitVec.ofNat 32 j.val).toInt = j.val := fun j => by
    rw [BitVec.toInt_ofNat', Int.bmod_eq_of_le_mul_two (by have := j.isLt; omega) (by have := j.isLt; omega)]
  have key : ∃ b : Fin C, r = (y (ix2 i b), BitVec.ofNat 32 b.val) := by
    rcases hm with e | e
    · refine ⟨⟨0, hC⟩, ?_⟩
      rcases hb _ (hmem ⟨0, hC⟩) with hc | ⟨hc, -⟩
      · rw [e] at hc
        exact absurd hc not_lt_bot
      · exact Prod.ext hc.symm (by rw [e])
    · obtain ⟨k, hk, e⟩ := List.mem_map.1 e
      obtain ⟨j, hj⟩ := (Shape.ReducesTo.fiber_r2_a1 h (ix1 i) _).1 (of_decide_eq_true (List.mem_filter.1 hk).2)
      refine ⟨j, ?_⟩
      rw [← e, ← hj]
      exact Prod.ext rfl (hn i j)
  obtain ⟨b, rfl⟩ := key
  refine ⟨b, rfl, fun j => ?_⟩
  rcases hb _ (hmem j) with e | ⟨e, e'⟩
  · exact ⟨le_of_lt e, fun q => absurd q (ne_of_lt e)⟩
  · refine ⟨le_of_eq e, fun _ => ?_⟩
    have e'' : (BitVec.ofNat 32 b.val).toInt ≤ (BitVec.ofNat 32 j.val).toInt := e'
    rw [hlt, hlt] at e''
    omega

end Cert.ReferenceIdeal.Read
end
end
-- ==== Proof.RefArg2.lean ====
/- The reference's arg-max word, read at a row. -/
module

public import proofs.«01_k».proof.Proof.RefReadB
public import proofs.«01_k».proof.Proof.RefArg
public import Idealize.ShloMosaic.Lib.Pointwise

@[expose] public section

noncomputable section

namespace Cert.ReferenceIdeal.Read

open Cert.ReferenceIdeal Cert.ReferenceIdeal.Gen Idealize.ShloMosaic Idealize.ShloMosaic.TcCoe Cert.ReferenceIdeal.Value

/-- The arg-max's starting value. -/
theorem call1_cst_first : val_main_call1_cst (F := Ideal) (Shape.Idx.first h_S_) = (⊥ : EReal) := by
  show Ideal.ofBits FTy.f32 0xFF800000#32 = ⊥
  simp [Ideal.ofBits, Ideal.ieee]
/-- Its starting index. -/
theorem call1_c_first : val_main_call1_c (F := Ideal) (Shape.Idx.first h_S_) = 0#32 := by unfold val_main_call1_c; rfl
/-- Its indices. -/
theorem call1_v0_at (i : Fin 5000) (j : Fin 2000) : val_main_call1_v0 (F := Ideal) (ix2 i j) = BitVec.ofNat 32 j.val := by
  unfold val_main_call1_v0
  pointwise
/-- The word of the arg-max of a table. -/
theorem argmax_table (y : FVec Ideal S5000x2000 .f32) (i : Fin 5000) :
    ∃ b : Fin 2000, (Host.argReduce (reducer_argmax_f32_i32 (F := Ideal)) y (val_main_call1_v0 (F := Ideal)) (val_main_call1_cst (F := Ideal)) (val_main_call1_c (F := Ideal))
        reducesTo_S5000x2000_S5000_d1 h_S_ (ix1 i)).2 = BitVec.ofNat 32 b.val
    ∧ ∀ j : Fin 2000, y (ix2 i j) ≤ y (ix2 i b) ∧ (y (ix2 i j) = y (ix2 i b) → b.val ≤ j.val) :=
  argmax_first (R := 5000) (C := 2000) (by norm_num) (by norm_num) reducesTo_S5000x2000_S5000_d1 h_S_ y (val_main_call1_v0 (F := Ideal)) call1_v0_at
    (val_main_call1_cst (F := Ideal)) call1_cst_first (val_main_call1_c (F := Ideal)) call1_c_first i
/-- The reference's word is that one of its table of overlaps. -/
theorem v63_eq (x0 : FVec Ideal S5000x6 .f32) (x1 : FVec Ideal S2000x5 .f32) :
    val_main_v63 (F := Ideal) x0 x1 = fun j => (Host.argReduce (reducer_argmax_f32_i32 (F := Ideal)) (val_main_v61 (F := Ideal) x0 x1) (val_main_call1_v0 (F := Ideal))
      (val_main_call1_cst (F := Ideal)) (val_main_call1_c (F := Ideal)) reducesTo_S5000x2000_S5000_d1 h_S_ j).2 := by
  delta val_main_v63
  rfl
/-- The word of the arg-max: the first target at which the row is largest. -/
theorem v63_at (x0 : FVec Ideal S5000x6 .f32) (x1 : FVec Ideal S2000x5 .f32) (i : Fin 5000) :
    ∃ b : Fin 2000, val_main_v63 (F := Ideal) x0 x1 (ix1 i) = BitVec.ofNat 32 b.val
    ∧ ∀ j : Fin 2000, val_main_v61 (F := Ideal) x0 x1 (ix2 i j) ≤ val_main_v61 (F := Ideal) x0 x1 (ix2 i b)
      ∧ (val_main_v61 (F := Ideal) x0 x1 (ix2 i j) = val_main_v61 (F := Ideal) x0 x1 (ix2 i b) → b.val ≤ j.val) := by
  rw [v63_eq]
  exact argmax_table (val_main_v61 (F := Ideal) x0 x1) i

end Cert.ReferenceIdeal.Read
end
end
-- ==== Proof.Total.lean ====
/- The kernel's total is the reference's. -/
module

public import proofs.«01_k».proof.Proof.Rows
public import proofs.«01_k».proof.Proof.KTable
public import proofs.«01_k».proof.Proof.RefScat
public import proofs.«01_k».proof.Proof.RefIou
public import proofs.«01_k».proof.Proof.RefBox
public import proofs.«01_k».proof.Proof.RefArg2

@[expose] public section

set_option maxRecDepth 16384

noncomputable section

namespace Cert.Loss

open Idealize.ShloMosaic Idealize.ShloMosaic.TcCoe Cert.KernelIdeal.Gen Cert.ReferenceIdeal.Read Cert.ReferenceIdeal.Value

section Match
variable (x0 : FVec Ideal ⟨2, ![5000, 6]⟩ .f32) (x1 : FVec Ideal ⟨2, ![2000, 5]⟩ .f32)

/-- The reference's words name each prediction's first best target. -/
theorem best_words : ∃ b : Fin 5000 → Fin 2000, Best x0 x1 b ∧ ∀ i, val_main_v63 (F := Ideal) x0 x1 (ix1 i) = BitVec.ofNat 32 (b i).val := by
  choose b hb using v63_at x0 x1
  refine ⟨b, fun i j => ?_, fun i => (hb i).1⟩
  have h := (hb i).2 j
  rw [v61_at, v61_at] at h
  exact h

variable {b : Fin 5000 → Fin 2000}

/-- The reference's row flag. -/
theorem v66_flag (hb : Best x0 x1 b) (i : Fin 5000) : val_main_v66 (F := Ideal) x0 x1 (ix1 i) = flag x0 x1 b i.val := by
  classical
  rw [v66_at]
  have e : thr < val_main_v62 (F := Ideal) x0 x1 (ix1 i) ↔ Kept x0 x1 b i.val := by
    rw [v62_at, low_eq, Finset.lt_fold_max]
    constructor
    · rintro (h | ⟨j, -, hj⟩)
      · exact absurd h not_lt_bot
      · rw [v61_at] at hj
        exact ⟨i.isLt, lt_of_lt_of_le hj (hb i j).1⟩
    · rintro ⟨h, hk⟩
      refine Or.inr ⟨b i, Finset.mem_univ _, ?_⟩
      rw [v61_at]
      exact hk
  unfold flag
  by_cases h : Kept x0 x1 b i.val
  · rw [if_pos h, if_pos (e.2 h)]
  · rw [if_neg h, if_neg fun q => h (e.1 q)]
/-- Its bit. -/
theorem v65_flag (hb : Best x0 x1 b) (i : Fin 5000) :
    val_main_v65 (F := Ideal) x0 x1 (ix1 i) = BitVec.ofBool (decide (0 < flag x0 x1 b i.val)) := by
  rw [← v66_flag x0 x1 hb, v66_at, v65_at]
  by_cases h : thr < val_main_v62 (F := Ideal) x0 x1 (ix1 i)
  · rw [if_pos h, decide_eq_true h, decide_eq_true zero_lt_one]
  · rw [if_neg h, decide_eq_false h, decide_eq_false (lt_irrefl _)]

theorem flag_out (r : ℕ) (h : 5000 ≤ r) : flag x0 x1 b r = 0 := if_neg fun ⟨q, _⟩ => by omega
theorem flag_cases (r : ℕ) : (Kept x0 x1 b r ∧ flag x0 x1 b r = 1) ∨ (¬ Kept x0 x1 b r ∧ flag x0 x1 b r = 0) := by
  by_cases h : Kept x0 x1 b r
  · exact Or.inl ⟨h, if_pos h⟩
  · exact Or.inr ⟨h, if_neg h⟩

open Classical in
/-- The matched target's entry of a row, as the kernel's table holds it. -/
def pick (b : Fin 5000 → Fin 2000) (r k : ℕ) : EReal := if h : Kept x0 x1 b r then pad x1 (b ⟨r, h.1⟩).val k else 0

theorem pick_in (i : Fin 5000) (k : Fin 5) (h : Kept x0 x1 b i.val) : pick x0 x1 b i.val k.val = x1 (ix2 (b i) k) :=
  (dif_pos h).trans (pad_in x1 (b i) k)

theorem hits (hb : Best x0 x1 b) (j : Fin 2000) :
    ∑ r : Fin 5120, hit x0 x1 b r.val j.val = ∑ i : Fin 5000, if b i = j then flag x0 x1 b i.val else 0 := by
  classical
  rw [sum_rows (fun r => hit x0 x1 b r j.val) fun r h _ => if_neg fun q => by have := q.1.1; omega]
  refine Finset.sum_congr rfl fun i _ => ?_
  unfold hit flag
  by_cases h : Kept x0 x1 b i.val
  · by_cases hj : b i = j
    · rw [if_pos ⟨h, i.isLt, congrArg Fin.val hj⟩, if_pos hj, if_pos h]
    · rw [if_neg fun q => hj (Fin.ext q.2.2), if_neg hj]
  · rw [if_neg fun q => h q.1, if_neg h, ite_self]
theorem hits_out (j : ℕ) (h : 2000 ≤ j) : ∑ r : Fin 5120, hit x0 x1 b r.val j = 0 := by
  classical
  refine Finset.sum_eq_zero fun r _ => if_neg fun ⟨_, hr, q⟩ => ?_
  have := (b ⟨r.val, hr⟩).isLt
  omega

variable (hb : Best x0 x1 b) (hw : ∀ i, val_main_v63 (F := Ideal) x0 x1 (ix1 i) = BitVec.ofNat 32 (b i).val)
  (hs : ∀ i : Fin 5000, (0 : EReal) < x0 (ix2 i 4)) (hp : ∀ i : Fin 5000, Cert.Pre_well_formed.Gen.Class (x0 (ix2 i 5)))
  (ht : ∀ j : Fin 2000, Cert.Pre_well_formed.Gen.Class (x1 (ix2 j 4)))

include hb hw hs hp ht in
/-- The classification sums. -/
theorem bce_sum : ∑ r : Fin 5120, bceRow (pad x0 r.val 4) (pad x0 r.val 5) (pick x0 x1 b r.val 4) (flag x0 x1 b r.val)
    = val_main_v132 (F := Ideal) x0 x1 ix0 := by
  rw [v132_at, sum_rows (fun r => bceRow (pad x0 r 4) (pad x0 r 5) (pick x0 x1 b r 4) (flag x0 x1 b r))
    fun r h _ => by rw [flag_out x0 x1 r h, bceRow_zero]]
  refine Finset.sum_congr rfl fun i _ => ?_
  choose pc hpl hpe using hp
  choose tc htl hte using ht
  have hpw : ∀ i, FloatOps.fptosi (F := Ideal) 32 (x0 (ix2 i 5)) = BitVec.ofNat 32 (pc i) := fun i => by
    rw [hpe]; exact Cert.Pre_well_formed.Gen.class_word _ (hpl i)
  have htw : ∀ j, FloatOps.fptosi (F := Ideal) 32 (x1 (ix2 j 4)) = BitVec.ofNat 32 (tc j) := fun j => by
    rw [hte]; exact Cert.Pre_well_formed.Gen.class_word _ (htl j)
  have e : ∀ c : Fin 80, val_main_v131 (F := Ideal) x0 x1 (ix2 i c)
      = term (if pc i = c.val then x0 (ix2 i 4) * flag x0 x1 b i.val else 0) (if tc (b i) = c.val then flag x0 x1 b i.val else 0) := by
    intro c
    rw [v131_at, v99_at x0 x1 pc hpl hpw, v114_at x0 x1 b hw tc htl htw, v66_flag x0 x1 hb]
  rw [Finset.sum_congr rfl fun c _ => e c]
  have p4 : pad x0 i.val 4 = x0 (ix2 i 4) := pad_in x0 i 4
  have p5 : pad x0 i.val 5 = x0 (ix2 i 5) := pad_in x0 i 5
  rcases flag_cases x0 x1 (b := b) i.val with ⟨h, f⟩ | ⟨h, f⟩
  · have q4 : pick x0 x1 b i.val 4 = x1 (ix2 (b i) 4) := pick_in x0 x1 i 4 h
    rw [f, p4, p5, q4, hpe, hte]
    exact (bce_one _ (hs i) ⟨pc i, hpl i⟩ ⟨tc (b i), htl (b i)⟩).symm
  · rw [f, bceRow_zero]
    exact (bce_none _ _ _).symm

include hb in
/-- The unmatched rows' sums. -/
theorem miss_sum : ∑ r : Fin 5120, missRow (IntOp.cmpi CmpIPredicate.slt (BitVec.ofNat 32 r.val) 5000#32) (pad x0 r.val 4) (flag x0 x1 b r.val)
    = val_main_v138 (F := Ideal) x0 x1 ix0 := by
  rw [v138_at, sum_rows (fun r => missRow (IntOp.cmpi CmpIPredicate.slt (BitVec.ofNat 32 r) 5000#32) (pad x0 r 4) (flag x0 x1 b r))
    fun r h h' => by rw [slt_row r h', decide_eq_false (not_lt.2 h)]; exact missRow_pad _ _]
  refine Finset.sum_congr rfl fun i _ => ?_
  have hi := i.isLt
  have p4 : pad x0 i.val 4 = x0 (ix2 i 4) := pad_in x0 i 4
  rw [slt_row _ (by omega), decide_eq_true hi, p4, v65_flag x0 x1 hb]
  rcases flag_cases x0 x1 (b := b) i.val with ⟨h, f⟩ | ⟨h, f⟩
  · rw [f, decide_eq_true zero_lt_one]
    exact missRow_one _
  · rw [f, decide_eq_false (lt_irrefl (0 : EReal))]
    exact missRow_zero _

include hb hw in
/-- The box sums. -/
theorem box_sum : ∑ r : Fin 5120, boxRow (pad x0 r.val 0) (pad x0 r.val 1) (pad x0 r.val 2) (pad x0 r.val 3)
      (pick x0 x1 b r.val 0) (pick x0 x1 b r.val 1) (pick x0 x1 b r.val 2) (pick x0 x1 b r.val 3) (flag x0 x1 b r.val)
    = val_main_v236 (F := Ideal) x0 x1 ix0 := by
  rw [v236_at, sum_rows (fun r => boxRow (pad x0 r 0) (pad x0 r 1) (pad x0 r 2) (pad x0 r 3)
      (pick x0 x1 b r 0) (pick x0 x1 b r 1) (pick x0 x1 b r 2) (pick x0 x1 b r 3) (flag x0 x1 b r))
    fun r h _ => by rw [flag_out x0 x1 r h, boxRow_zero]]
  refine Finset.sum_congr rfl fun i _ => ?_
  rw [v235_at, v66_flag x0 x1 hb]
  rcases flag_cases x0 x1 (b := b) i.val with ⟨h, f⟩ | ⟨h, f⟩
  · have p0 : pad x0 i.val 0 = x0 (ix2 i 0) := pad_in x0 i 0
    have p1 : pad x0 i.val 1 = x0 (ix2 i 1) := pad_in x0 i 1
    have p2 : pad x0 i.val 2 = x0 (ix2 i 2) := pad_in x0 i 2
    have p3 : pad x0 i.val 3 = x0 (ix2 i 3) := pad_in x0 i 3
    have q0 : pick x0 x1 b i.val 0 = x1 (ix2 (b i) 0) := pick_in x0 x1 i 0 h
    have q1 : pick x0 x1 b i.val 1 = x1 (ix2 (b i) 1) := pick_in x0 x1 i 1 h
    have q2 : pick x0 x1 b i.val 2 = x1 (ix2 (b i) 2) := pick_in x0 x1 i 2 h
    have q3 : pick x0 x1 b i.val 3 = x1 (ix2 (b i) 3) := pick_in x0 x1 i 3 h
    have g0 : val_main_v75 (F := Ideal) x0 x1 (ix2 i 0) = x1 (ix2 (b i) 0) := v75_at x0 x1 b hw i 0
    have g1 : val_main_v75 (F := Ideal) x0 x1 (ix2 i 1) = x1 (ix2 (b i) 1) := v75_at x0 x1 b hw i 1
    have g2 : val_main_v75 (F := Ideal) x0 x1 (ix2 i 2) = x1 (ix2 (b i) 2) := v75_at x0 x1 b hw i 2
    have g3 : val_main_v75 (F := Ideal) x0 x1 (ix2 i 3) = x1 (ix2 (b i) 3) := v75_at x0 x1 b hw i 3
    rw [f, p0, p1, p2, p3, q0, q1, q2, q3, g0, g1, g2, g3]
    exact (box_one _ _ _ _ _ _ _ _ h.2).symm
  · rw [f, boxRow_zero, zero_mul]

include hb hw in
/-- The targets left out. -/
theorem miss_count : Ideal.ofBits FTy.f32 0x44FA0000#32
      - ∑ j : Fin 2048, (FloatOps.sitofp (F := Ideal) FTy.f32 (BitVec.setWidth 32 (BitVec.ofBool (decide (0 < ∑ r : Fin 5120, hit x0 x1 b r.val j.val)))) : EReal)
    = val_main_v153 (F := Ideal) x0 x1 ix0 := by
  have e : ∀ j : Fin 2000, val_main_v150 (F := Ideal) x0 x1 (ix1 j)
      = BitVec.setWidth 32 (BitVec.ofBool (decide (0 < ∑ r : Fin 5120, hit x0 x1 b r.val j.val))) := by
    intro j
    rw [v150_at, v147_at x0 x1 b hw, hits x0 x1 hb]
    simp only [v66_flag x0 x1 hb]
  rw [v153_at]
  simp only [e, sitofp_bit]
  rw [left_out, sum_cols (fun j => if 0 < ∑ r : Fin 5120, hit x0 x1 b r.val j then (1 : EReal) else 0)
    fun j h _ => by rw [hits_out x0 x1 j h, if_neg (lt_irrefl _)]]

include hb in
theorem kept_sum : ∑ r : Fin 5120, flag x0 x1 b r.val = ∑ i : Fin 5000, val_main_v66 (F := Ideal) x0 x1 (ix1 i) := by
  rw [sum_rows (fun r => flag x0 x1 b r) fun r h _ => flag_out x0 x1 r h]
  exact Finset.sum_congr rfl fun i _ => (v66_flag x0 x1 hb i).symm

end Match

variable (m : (ℓ : Loc Cert.KernelIdeal.nD Cert.KernelIdeal.τ Cert.KernelIdeal.sig) → Buf (Elt Ideal) ℓ) (ρ : Dev Cert.KernelIdeal.nD → PrngReg)

/-- The kernel's total is the reference's. -/
theorem total_eq [Cert.Pre_well_formed.Facts] (c : Dev Cert.KernelIdeal.nD)
    (h : Cert.Pre_well_formed.fn (F := Ideal) (m ((c : Thread Cert.KernelIdeal.nD Cert.KernelIdeal.τ).loc Cert.KernelIdeal.main_arg0))
      (m ((c : Thread Cert.KernelIdeal.nD Cert.KernelIdeal.τ).loc Cert.KernelIdeal.main_arg1)) = fun _ => 1#1) :
    (W5 m ρ c (Proc.devRef .tc Cert.KernelIdeal.main_v26) : FVec Ideal Cert.KernelIdeal.S_ .f32)
      = val_main_v240 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg1)) := by
  obtain ⟨hs, hp, ht⟩ := Cert.Pre_well_formed.Gen.reads _ _ h
  obtain ⟨b, hb, hw⟩ := best_words (m ((c : Thread Cert.KernelIdeal.nD Cert.KernelIdeal.τ).loc Cert.KernelIdeal.main_arg0))
    (m ((c : Thread Cert.KernelIdeal.nD Cert.KernelIdeal.τ).loc Cert.KernelIdeal.main_arg1))
  funext z
  obtain rfl : z = ix0 := funext fun a => a.elim0
  have e := (W5_v26 m ρ c).trans (out1_at _ _ _)
  have tp : ∀ (r : Fin 5120) (k : Fin 8), k.val < 5 →
      (V3 m ρ c Cert.KernelIdeal.main_v23 : FVec Ideal Cert.KernelIdeal.S8x5120 .f32) (ix2 k r) = pick _ _ b r.val k.val :=
    fun r k hk => table_pick m ρ c hb r k hk
  have t0 : ∀ r : Fin 5120, (V3 m ρ c Cert.KernelIdeal.main_v23 : FVec Ideal Cert.KernelIdeal.S8x5120 .f32) (ix2 0 r) = pick _ _ b r.val 0 :=
    fun r => tp r 0 (by decide)
  have t1 : ∀ r : Fin 5120, (V3 m ρ c Cert.KernelIdeal.main_v23 : FVec Ideal Cert.KernelIdeal.S8x5120 .f32) (ix2 1 r) = pick _ _ b r.val 1 :=
    fun r => tp r 1 (by decide)
  have t2 : ∀ r : Fin 5120, (V3 m ρ c Cert.KernelIdeal.main_v23 : FVec Ideal Cert.KernelIdeal.S8x5120 .f32) (ix2 2 r) = pick _ _ b r.val 2 :=
    fun r => tp r 2 (by decide)
  have t3 : ∀ r : Fin 5120, (V3 m ρ c Cert.KernelIdeal.main_v23 : FVec Ideal Cert.KernelIdeal.S8x5120 .f32) (ix2 3 r) = pick _ _ b r.val 3 :=
    fun r => tp r 3 (by decide)
  have t4 : ∀ r : Fin 5120, (V3 m ρ c Cert.KernelIdeal.main_v23 : FVec Ideal Cert.KernelIdeal.S8x5120 .f32) (ix2 4 r) = pick _ _ b r.val 4 :=
    fun r => tp r 4 (by decide)
  have s0 : ∀ r : Fin 5120, (V3 m ρ c Cert.KernelIdeal.main_v10 : FVec Ideal Cert.KernelIdeal.S8x5120 .f32) (ix2 0 r) = pad (R := 5000) (C := 6) _ r.val 0 :=
    fun r => V3_v10 m ρ c 0 r
  have s1 : ∀ r : Fin 5120, (V3 m ρ c Cert.KernelIdeal.main_v10 : FVec Ideal Cert.KernelIdeal.S8x5120 .f32) (ix2 1 r) = pad (R := 5000) (C := 6) _ r.val 1 :=
    fun r => V3_v10 m ρ c 1 r
  have s2 : ∀ r : Fin 5120, (V3 m ρ c Cert.KernelIdeal.main_v10 : FVec Ideal Cert.KernelIdeal.S8x5120 .f32) (ix2 2 r) = pad (R := 5000) (C := 6) _ r.val 2 :=
    fun r => V3_v10 m ρ c 2 r
  have s3 : ∀ r : Fin 5120, (V3 m ρ c Cert.KernelIdeal.main_v10 : FVec Ideal Cert.KernelIdeal.S8x5120 .f32) (ix2 3 r) = pad (R := 5000) (C := 6) _ r.val 3 :=
    fun r => V3_v10 m ρ c 3 r
  have s4 : ∀ r : Fin 5120, (V3 m ρ c Cert.KernelIdeal.main_v10 : FVec Ideal Cert.KernelIdeal.S8x5120 .f32) (ix2 4 r) = pad (R := 5000) (C := 6) _ r.val 4 :=
    fun r => V3_v10 m ρ c 4 r
  have s5 : ∀ r : Fin 5120, (V3 m ρ c Cert.KernelIdeal.main_v10 : FVec Ideal Cert.KernelIdeal.S8x5120 .f32) (ix2 5 r) = pad (R := 5000) (C := 6) _ r.val 5 :=
    fun r => V3_v10 m ρ c 5 r
  simp only [s0, s1, s2, s3, s4, s5, table_flag m ρ c hb, t0, t1, t2, t3, t4, counts m ρ c hb] at e
  refine e.trans (Eq.trans ?_ (v240_at _ _).symm)
  clear e
  unfold total
  have hk := kept_sum _ _ hb
  have h1 := bce_sum _ _ hb hw hs hp ht
  have h2 := miss_sum _ _ hb
  have h3 := box_sum _ _ hb hw
  have h4 := miss_count _ _ hb hw
  rw [v68_at, ← hk, ← h1, ← h2, ← h3, ← h4, div_scale _ _ _ (le_max_right _ _)]

end Cert.Loss
end
end
-- ==== Proof.lean ====
/- The proof of the claim: the three programs run and leave the machine quiet, and the kernel's loss is the reference's. -/
module

public import proofs.«01_k».proof.Defs
public import proofs.«01_k».proof.Proof.Gen.Kernel.Frame
public import proofs.«01_k».proof.Proof.KRun
public import proofs.«01_k».proof.Proof.RefRun
public import proofs.«01_k».proof.Proof.Total

@[expose] public section

noncomputable section

namespace Cert.Proof

open Idealize.ShloMosaic Idealize.ShloMosaic.TcCoe Idealize.SL.Sem

/-- The reference leaves its arguments alone and every semaphore at zero. -/
theorem reference_quiet (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
        ∧ r.2.sem = fun _ => 0) :=
  (θ_run _ _ _).mono (fun _ h => ⟨fun c => (h.1 c).2, h.2⟩) (Cert.ReferenceIdeal.Value.run m ρ)

/-- The reference's loss, of its arguments. -/
theorem reference_loss (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v240)
          = Cert.ReferenceIdeal.Read.val_main_v240 (F := Ideal) (m ((c.tc : Thread Cert.ReferenceIdeal.nD Cert.ReferenceIdeal.τ).loc Cert.ReferenceIdeal.main_arg0))
            (m ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) :=
  (θ_run _ _ _).mono (fun _ h c => ⟨(h.1 c).1.trans (Cert.ReferenceIdeal.Read.val5_result _), (h.1 c).2⟩) (Cert.ReferenceIdeal.Value.run m ρ)

/-- Equal arguments, equal losses. -/
theorem same_loss : Cert.algebraic_KernelIdeal_ReferenceIdeal_pre_well_formed
    (hKernelIdeal := Cert.KernelIdeal.Gen.facts) (hReferenceIdeal := Cert.ReferenceIdeal.Gen.facts) (hPre_well_formed := Cert.Pre_well_formed.Gen.facts) := by
  intro m g m' g' hpre hargs
  refine ⟨fun c => Cert.KernelIdeal.Gen.W5 m g c (Proc.devRef .tc Cert.KernelIdeal.main_v26), ?_, ?_⟩
  · exact (θ_run _ _ _).mono (fun _ h => h.1) (Cert.KernelIdeal.Gen.run m g)
  · refine (θ_run _ _ _).mono (fun r h c => ⟨(h c).1.trans ?_, (h c).2⟩) (reference_loss m' g')
    refine Eq.trans ?_ (Cert.Loss.total_eq m g c (hpre c)).symm
    exact congrArg₂ (Cert.ReferenceIdeal.Read.val_main_v240 (F := Ideal)) (hargs c).1 (hargs c).2

theorem claim : Cert.Claim :=
  ⟨Cert.Kernel.Gen.facts, Cert.KernelIdeal.Gen.facts, Cert.ReferenceIdeal.Gen.facts, Cert.Pre_well_formed.Gen.facts,
    fun m ρ _ => Cert.Kernel.Gen.frame m ρ,
    fun m ρ _ => Cert.KernelIdeal.Gen.frame m ρ,
    fun m ρ _ => Cert.KernelIdeal.Gen.frame m ρ,
    fun m ρ _ => reference_quiet m ρ,
    fun m ρ _ => reference_quiet m ρ,
    trivial,
    same_loss⟩

end Cert.Proof

end
